-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v11_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_9) = v0 c
          ∧ r.2.mem ((c.tc : Thread Cert.ReferenceIdeal.nD Cert.ReferenceIdeal.τ).loc Cert.ReferenceIdeal.main_v10_10) = v1 c
          ∧ r.2.mem ((c.tc : Thread Cert.ReferenceIdeal.nD Cert.ReferenceIdeal.τ).loc Cert.ReferenceIdeal.main_v10_11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S100x32x64 : Shape := ⟨3, ![100, 32, 64]⟩
abbrev S100x32x1 : Shape := ⟨3, ![100, 32, 1]⟩
abbrev S32x1024 : Shape := ⟨2, ![32, 1024]⟩
abbrev S1024x1024 : Shape := ⟨2, ![1024, 1024]⟩
abbrev S1024 : Shape := ⟨1, ![1024]⟩
abbrev S_ : Shape := ⟨0, ![]⟩

class Facts : Prop where
  bcast_S_S100x32x64 : S_.BroadcastsInDim S100x32x64 (![] : Fin 0 → Fin S100x32x64.rank)
  reducesTo_S100x32x64_S_d0_1_2 : S100x32x64.ReducesTo [0, 1, 2] S_
  h_S_ : 0 < S_.numel

variable [Facts]

def fn {F : FTy → Type} [FloatOps F] (main_arg0 : IVec S100x32x64 32) (main_arg1 : IVec S100x32x1 32) (main_arg2 : FVec F S32x1024 .f32) (main_arg3 : FVec F S1024x1024 .f32) (main_arg4 : FVec F S1024 .f32) (main_arg5 : FVec F S1024 .f32) : IVec S_ 1 :=
  let main_c : IVec S_ 32 := constantI S_ 32 0#32
  let main_v0 : IVec S100x32x64 32 := broadcastInDim S100x32x64 ![] bcast_S_S100x32x64 main_c
  let main_v1 : IVec S100x32x64 1 := cmpi .sge main_arg0 main_v0
  let main_c_0 : IVec S_ 32 := constantI S_ 32 1024#32
  let main_v2 : IVec S100x32x64 32 := broadcastInDim S100x32x64 ![] bcast_S_S100x32x64 main_c_0
  let main_v3 : IVec S100x32x64 1 := cmpi .slt main_arg0 main_v2
  let main_v4 : IVec S100x32x64 1 := andi main_v1 main_v3
  let main_c_1 : IVec S_ 1 := constantI S_ 1 1#1
  let main_v5 : IVec S_ 1 := (fun x v => Host.reduce IntOp.andi x v reducesTo_S100x32x64_S_d0_1_2 h_S_) main_v4 main_c_1
  main_v5
-- ==== Kernel.lean ====
abbrev S100x32x64 : Shape := ⟨3, ![100, 32, 64]⟩
abbrev S100x32x1 : Shape := ⟨3, ![100, 32, 1]⟩
abbrev S32x1024 : Shape := ⟨2, ![32, 1024]⟩
abbrev S1024x1024 : Shape := ⟨2, ![1024, 1024]⟩
abbrev S1024 : Shape := ⟨1, ![1024]⟩
abbrev S64 : Shape := ⟨1, ![64]⟩
abbrev S1x1x64 : Shape := ⟨3, ![1, 1, 64]⟩
abbrev S_ : Shape := ⟨0, ![]⟩
abbrev S3200x64 : Shape := ⟨2, ![3200, 64]⟩
abbrev S3328x64 : Shape := ⟨2, ![3328, 64]⟩
abbrev S3328x1024 : Shape := ⟨2, ![3328, 1024]⟩
abbrev S104x64 : Shape := ⟨2, ![104, 64]⟩
abbrev S104x1024 : Shape := ⟨2, ![104, 1024]⟩
abbrev S16 : Shape := ⟨1, ![16]⟩
abbrev S1x16 : Shape := ⟨2, ![1, 16]⟩
abbrev S1x1024 : Shape := ⟨2, ![1, 1024]⟩
abbrev S56x1024 : Shape := ⟨2, ![56, 1024]⟩
abbrev S48x1024 : Shape := ⟨2, ![48, 1024]⟩
abbrev S100x32x1024 : Shape := ⟨3, ![100, 32, 1024]⟩
abbrev S3328x72 : Shape := ⟨2, ![3328, 72]⟩
abbrev S800x1024 : Shape := ⟨2, ![800, 1024]⟩
abbrev S25x32x1024 : Shape := ⟨3, ![25, 32, 1024]⟩
abbrev S800x72 : Shape := ⟨2, ![800, 72]⟩
abbrev S1x32x1024 : Shape := ⟨3, ![1, 32, 1024]⟩
abbrev S800x64 : Shape := ⟨2, ![800, 64]⟩
abbrev S800 : Shape := ⟨1, ![800]⟩
abbrev S800x1 : Shape := ⟨2, ![800, 1]⟩
abbrev S800x7 : Shape := ⟨2, ![800, 7]⟩
abbrev S3328x1 : Shape := ⟨2, ![3328, 1]⟩
abbrev S3328 : Shape := ⟨1, ![3328]⟩
abbrev S32x104 : Shape := ⟨2, ![32, 104]⟩
abbrev S32x128 : Shape := ⟨2, ![32, 128]⟩
abbrev S3200x128 : Shape := ⟨2, ![3200, 128]⟩
abbrev S104x72 : Shape := ⟨2, ![104, 72]⟩
abbrev S128 : Shape := ⟨1, ![128]⟩
abbrev S104x128 : Shape := ⟨2, ![104, 128]⟩
abbrev S1x128 : Shape := ⟨2, ![1, 128]⟩
abbrev S80x128 : Shape := ⟨2, ![80, 128]⟩
abbrev S100x32x128 : Shape := ⟨3, ![100, 32, 128]⟩
abbrev S3200 : Shape := ⟨1, ![3200]⟩

abbrev nBuf : Table → Nat
  | .hbm => 37
  | .local .tc .vmem => 13
  | .local .scVector .vmem => 6
  | _ => 0

abbrev bufTy : (tb : Table) → Fin (nBuf tb) → BufTy
  | .hbm, ⟨0, _⟩ => ⟨S100x32x64, .i32⟩
  | .hbm, ⟨1, _⟩ => ⟨S100x32x1, .i32⟩
  | .hbm, ⟨2, _⟩ => ⟨S32x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S64, .i32⟩
  | .hbm, ⟨7, _⟩ => ⟨S1x1x64, .i32⟩
  | .hbm, ⟨8, _⟩ => ⟨S100x32x64, .i32⟩
  | .hbm, ⟨9, _⟩ => ⟨S100x32x64, .i32⟩
  | .hbm, ⟨10, _⟩ => ⟨S100x32x64, .i1⟩
  | .hbm, ⟨11, _⟩ => ⟨S_, .i32⟩
  | .hbm, ⟨12, _⟩ => ⟨S_, .i32⟩
  | .hbm, ⟨13, _⟩ => ⟨S100x32x64, .i32⟩
  | .hbm, ⟨14, _⟩ => ⟨S100x32x64, .i32⟩
  | .hbm, ⟨15, _⟩ => ⟨S3200x64, .i32⟩
  | .hbm, ⟨16, _⟩ => ⟨S_, .i32⟩
  | .hbm, ⟨17, _⟩ => ⟨S_, .i32⟩
  | .hbm, ⟨18, _⟩ => ⟨S3328x64, .i32⟩
  | .hbm, ⟨19, _⟩ => ⟨S3328x1024, .f32⟩
  | .hbm, ⟨20, _⟩ => ⟨S1x1024, .f32⟩
  | .hbm, ⟨21, _⟩ => ⟨S1x1024, .f32⟩
  | .hbm, ⟨22, _⟩ => ⟨S100x32x1024, .f32⟩
  | .hbm, ⟨23, _⟩ => ⟨S3328x72, .i32⟩
  | .hbm, ⟨24, _⟩ => ⟨S3328x1, .i32⟩
  | .hbm, ⟨25, _⟩ => ⟨S3328, .i32⟩
  | .hbm, ⟨26, _⟩ => ⟨S32x104, .i32⟩
  | .hbm, ⟨27, _⟩ => ⟨S_, .i32⟩
  | .hbm, ⟨28, _⟩ => ⟨S_, .i32⟩
  | .hbm, ⟨29, _⟩ => ⟨S32x128, .i32⟩
  | .hbm, ⟨30, _⟩ => ⟨S3200x128, .i32⟩
  | .hbm, ⟨31, _⟩ => ⟨S32x128, .i32⟩
  | .hbm, ⟨32, _⟩ => ⟨S100x32x128, .i32⟩
  | .hbm, ⟨33, _⟩ => ⟨S32x104, .i32⟩
  | .hbm, ⟨34, _⟩ => ⟨S3328, .i32⟩
  | .hbm, ⟨35, _⟩ => ⟨S3200, .i32⟩
  | .hbm, ⟨36, _⟩ => ⟨S100x32x1, .i32⟩
  | .local .tc .vmem, ⟨0, _⟩ => ⟨S800x1024, .f32⟩
  | .local .tc .vmem, ⟨1, _⟩ => ⟨S800x1024, .f32⟩
  | .local .tc .vmem, ⟨2, _⟩ => ⟨S1024x1024, .f32⟩
  | .local .tc .vmem, ⟨3, _⟩ => ⟨S32x1024, .f32⟩
  | .local .tc .vmem, ⟨4, _⟩ => ⟨S1x1024, .f32⟩
  | .local .tc .vmem, ⟨5, _⟩ => ⟨S1x1024, .f32⟩
  | .local .tc .vmem, ⟨6, _⟩ => ⟨S25x32x1024, .f32⟩
  | .local .tc .vmem, ⟨7, _⟩ => ⟨S25x32x1024, .f32⟩
  | .local .tc .vmem, ⟨8, _⟩ => ⟨S800x72, .i32⟩
  | .local .tc .vmem, ⟨9, _⟩ => ⟨S800x72, .i32⟩
  | .local .tc .vmem, ⟨10, _⟩ => ⟨S32x1024, .f32⟩
  | .local .tc .vmem, ⟨11, _⟩ => ⟨S800x1024, .f32⟩
  | .local .tc .vmem, ⟨12, _⟩ => ⟨S800x1024, .i32⟩
  | .local .scVector .vmem, ⟨0, _⟩ => ⟨S104x64, .i32⟩
  | .local .scVector .vmem, ⟨1, _⟩ => ⟨S104x1024, .f32⟩
  | .local .scVector .vmem, ⟨2, _⟩ => ⟨S104x72, .i32⟩
  | .local .scVector .vmem, ⟨3, _⟩ => ⟨S128, .i32⟩
  | .local .scVector .vmem, ⟨4, _⟩ => ⟨S104x128, .i32⟩
  | .local .scVector .vmem, ⟨5, _⟩ => ⟨S128, .i32⟩
  | _, _ => ⟨S100x32x64, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_call2_v0 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v7_scv : Ref sig .scVector := ⟨.hbm, 18, rfl⟩
abbrev main_v8_scv : Ref sig .scVector := ⟨.hbm, 19, rfl⟩
abbrev main_v11_1_scv : Ref sig .scVector := ⟨.hbm, 23, rfl⟩
abbrev main_v15_scv : Ref sig .scVector := ⟨.hbm, 29, rfl⟩
abbrev main_v16_0_scv : Ref sig .scVector := ⟨.hbm, 30, rfl⟩
abbrev main_v16_1_scv : Ref sig .scVector := ⟨.hbm, 31, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc1_stg6_0 : Ref sig .tc := ⟨.vmem, 8, rfl⟩
abbrev cc1_stg6_1 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc2_scratch2 : Ref sig .scVector := ⟨.vmem, 4, rfl⟩
abbrev cc2_scratch3 : Ref sig .scVector := ⟨.vmem, 5, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc1_sem6_0 : DmaSem sig := 11
abbrev cc1_sem6_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v2 : BitVec 32 := Scalar.muli v1 c104_i32
  let c0_i32_32_r0 : BitVec 32 := 0#32
  ![v2.toNat, 0]
@[reducible] def k0_t1_loop : Scf.Loop 32 :=
  let c0_i32_1 : BitVec 32 := 0#32
  let c56_i32 : BitVec 32 := 56#32
  let v6 : BitVec 32 := Scalar.addi c0_i32_1 c56_i32
  let c1_i32 : BitVec 32 := 1#32
  ⟨c0_i32_1, v6, c1_i32⟩
def k0_off2 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v27 : Index := Scalar.indexCast arg8
  let c0 : Index := 0#32
  ![v27.toNat, 0]
def k0_off3 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v29 : Index := Scalar.indexCast arg8
  let c16 : Index := 16#32
  ![v29.toNat, 16]
def k0_off4 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v31 : Index := Scalar.indexCast arg8
  let c32 : Index := 32#32
  ![v31.toNat, 32]
def k0_off5 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v33 : Index := Scalar.indexCast arg8
  let c48 : Index := 48#32
  ![v33.toNat, 48]
def k0_off6 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v35 : Index := Scalar.indexCast arg8
  let c64 : Index := 64#32
  ![v35.toNat, 64]
def k0_off7 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v37 : Index := Scalar.indexCast arg8
  let c80 : Index := 80#32
  ![v37.toNat, 80]
def k0_off8 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v39 : Index := Scalar.indexCast arg8
  let c96 : Index := 96#32
  ![v39.toNat, 96]
def k0_off9 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v41 : Index := Scalar.indexCast arg8
  let c112 : Index := 112#32
  ![v41.toNat, 112]
def k0_off10 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v43 : Index := Scalar.indexCast arg8
  let c128 : Index := 128#32
  ![v43.toNat, 128]
def k0_off11 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v45 : Index := Scalar.indexCast arg8
  let c144 : Index := 144#32
  ![v45.toNat, 144]
def k0_off12 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v47 : Index := Scalar.indexCast arg8
  let c160 : Index := 160#32
  ![v47.toNat, 160]
def k0_off13 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v49 : Index := Scalar.indexCast arg8
  let c176 : Index := 176#32
  ![v49.toNat, 176]
def k0_off14 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v51 : Index := Scalar.indexCast arg8
  let c192 : Index := 192#32
  ![v51.toNat, 192]
def k0_off15 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v53 : Index := Scalar.indexCast arg8
  let c208 : Index := 208#32
  ![v53.toNat, 208]
def k0_off16 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v55 : Index := Scalar.indexCast arg8
  let c224 : Index := 224#32
  ![v55.toNat, 224]
def k0_off17 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v57 : Index := Scalar.indexCast arg8
  let c240 : Index := 240#32
  ![v57.toNat, 240]
def k0_off18 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v59 : Index := Scalar.indexCast arg8
  let c256 : Index := 256#32
  ![v59.toNat, 256]
def k0_off19 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v61 : Index := Scalar.indexCast arg8
  let c272 : Index := 272#32
  ![v61.toNat, 272]
def k0_off20 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v63 : Index := Scalar.indexCast arg8
  let c288 : Index := 288#32
  ![v63.toNat, 288]
def k0_off21 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v65 : Index := Scalar.indexCast arg8
  let c304 : Index := 304#32
  ![v65.toNat, 304]
def k0_off22 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v67 : Index := Scalar.indexCast arg8
  let c320 : Index := 320#32
  ![v67.toNat, 320]
def k0_off23 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v69 : Index := Scalar.indexCast arg8
  let c336 : Index := 336#32
  ![v69.toNat, 336]
def k0_off24 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v71 : Index := Scalar.indexCast arg8
  let c352 : Index := 352#32
  ![v71.toNat, 352]
def k0_off25 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v73 : Index := Scalar.indexCast arg8
  let c368 : Index := 368#32
  ![v73.toNat, 368]
def k0_off26 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v75 : Index := Scalar.indexCast arg8
  let c384 : Index := 384#32
  ![v75.toNat, 384]
def k0_off27 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v77 : Index := Scalar.indexCast arg8
  let c400 : Index := 400#32
  ![v77.toNat, 400]
def k0_off28 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v79 : Index := Scalar.indexCast arg8
  let c416 : Index := 416#32
  ![v79.toNat, 416]
def k0_off29 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v81 : Index := Scalar.indexCast arg8
  let c432 : Index := 432#32
  ![v81.toNat, 432]
def k0_off30 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v83 : Index := Scalar.indexCast arg8
  let c448 : Index := 448#32
  ![v83.toNat, 448]
def k0_off31 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v85 : Index := Scalar.indexCast arg8
  let c464 : Index := 464#32
  ![v85.toNat, 464]
def k0_off32 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v87 : Index := Scalar.indexCast arg8
  let c480 : Index := 480#32
  ![v87.toNat, 480]
def k0_off33 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v89 : Index := Scalar.indexCast arg8
  let c496 : Index := 496#32
  ![v89.toNat, 496]
def k0_off34 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v91 : Index := Scalar.indexCast arg8
  let c512 : Index := 512#32
  ![v91.toNat, 512]
def k0_off35 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v93 : Index := Scalar.indexCast arg8
  let c528 : Index := 528#32
  ![v93.toNat, 528]
def k0_off36 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v95 : Index := Scalar.indexCast arg8
  let c544 : Index := 544#32
  ![v95.toNat, 544]
def k0_off37 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v97 : Index := Scalar.indexCast arg8
  let c560 : Index := 560#32
  ![v97.toNat, 560]
def k0_off38 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v99 : Index := Scalar.indexCast arg8
  let c576 : Index := 576#32
  ![v99.toNat, 576]
def k0_off39 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v101 : Index := Scalar.indexCast arg8
  let c592 : Index := 592#32
  ![v101.toNat, 592]
def k0_off40 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v103 : Index := Scalar.indexCast arg8
  let c608 : Index := 608#32
  ![v103.toNat, 608]
def k0_off41 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v105 : Index := Scalar.indexCast arg8
  let c624 : Index := 624#32
  ![v105.toNat, 624]
def k0_off42 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v107 : Index := Scalar.indexCast arg8
  let c640 : Index := 640#32
  ![v107.toNat, 640]
def k0_off43 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v109 : Index := Scalar.indexCast arg8
  let c656 : Index := 656#32
  ![v109.toNat, 656]
def k0_off44 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v111 : Index := Scalar.indexCast arg8
  let c672 : Index := 672#32
  ![v111.toNat, 672]
def k0_off45 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v113 : Index := Scalar.indexCast arg8
  let c688 : Index := 688#32
  ![v113.toNat, 688]
def k0_off46 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v115 : Index := Scalar.indexCast arg8
  let c704 : Index := 704#32
  ![v115.toNat, 704]
def k0_off47 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v117 : Index := Scalar.indexCast arg8
  let c720 : Index := 720#32
  ![v117.toNat, 720]
def k0_off48 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v119 : Index := Scalar.indexCast arg8
  let c736 : Index := 736#32
  ![v119.toNat, 736]
def k0_off49 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v121 : Index := Scalar.indexCast arg8
  let c752 : Index := 752#32
  ![v121.toNat, 752]
def k0_off50 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v123 : Index := Scalar.indexCast arg8
  let c768 : Index := 768#32
  ![v123.toNat, 768]
def k0_off51 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v125 : Index := Scalar.indexCast arg8
  let c784 : Index := 784#32
  ![v125.toNat, 784]
def k0_off52 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v127 : Index := Scalar.indexCast arg8
  let c800 : Index := 800#32
  ![v127.toNat, 800]
def k0_off53 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v129 : Index := Scalar.indexCast arg8
  let c816 : Index := 816#32
  ![v129.toNat, 816]
def k0_off54 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v131 : Index := Scalar.indexCast arg8
  let c832 : Index := 832#32
  ![v131.toNat, 832]
def k0_off55 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v133 : Index := Scalar.indexCast arg8
  let c848 : Index := 848#32
  ![v133.toNat, 848]
def k0_off56 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v135 : Index := Scalar.indexCast arg8
  let c864 : Index := 864#32
  ![v135.toNat, 864]
def k0_off57 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v137 : Index := Scalar.indexCast arg8
  let c880 : Index := 880#32
  ![v137.toNat, 880]
def k0_off58 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v139 : Index := Scalar.indexCast arg8
  let c896 : Index := 896#32
  ![v139.toNat, 896]
def k0_off59 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v141 : Index := Scalar.indexCast arg8
  let c912 : Index := 912#32
  ![v141.toNat, 912]
def k0_off60 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v143 : Index := Scalar.indexCast arg8
  let c928 : Index := 928#32
  ![v143.toNat, 928]
def k0_off61 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v145 : Index := Scalar.indexCast arg8
  let c944 : Index := 944#32
  ![v145.toNat, 944]
def k0_off62 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v147 : Index := Scalar.indexCast arg8
  let c960 : Index := 960#32
  ![v147.toNat, 960]
def k0_off63 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v149 : Index := Scalar.indexCast arg8
  let c976 : Index := 976#32
  ![v149.toNat, 976]
def k0_off64 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v151 : Index := Scalar.indexCast arg8
  let c992 : Index := 992#32
  ![v151.toNat, 992]
def k0_off65 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v153 : Index := Scalar.indexCast arg8
  let c1008 : Index := 1008#32
  ![v153.toNat, 1008]
def k0_off66 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v155 : Index := Scalar.indexCast arg8
  let c0_32 : Index := 0#32
  ![v155.toNat, 0]
def k0_off67 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c0_i32_33 : BitVec 32 := 0#32
  ![arg8.toNat, 0]

def k0_chk1 (v159 : IVec S16 32) : Prop :=
  (∀ a x, ((![v159] : Fin 1 → IVec S16 32) a x).toNat < S1024.size a)
theorem k0_idx1_inb : ∀ (v159 : IVec S16 32) (k0_hw1 : k0_chk1 v159), ∀ a x, ((![v159] : Fin 1 → IVec S16 32) a x).toNat < S1024.size a := fun v159 k0_hw1 => k0_hw1
def k0_off68 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v162 : Index := Scalar.indexCast arg8
  let c16_34 : Index := 16#32
  ![v162.toNat, 16]
def k0_off69 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c0_i32_36 : BitVec 32 := 0#32
  ![arg8.toNat, 0]

def k0_chk2 (v166 : IVec S16 32) : Prop :=
  (∀ a x, ((![v166] : Fin 1 → IVec S16 32) a x).toNat < S1024.size a)
theorem k0_idx2_inb : ∀ (v166 : IVec S16 32) (k0_hw2 : k0_chk2 v166), ∀ a x, ((![v166] : Fin 1 → IVec S16 32) a x).toNat < S1024.size a := fun v166 k0_hw2 => k0_hw2
def k0_off70 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v169 : Index := Scalar.indexCast arg8
  let c32_37 : Index := 32#32
  ![v169.toNat, 32]
def k0_off71 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c0_i32_39 : BitVec 32 := 0#32
  ![arg8.toNat, 0]

def k0_chk3 (v173 : IVec S16 32) : Prop :=
  (∀ a x, ((![v173] : Fin 1 → IVec S16 32) a x).toNat < S1024.size a)
theorem k0_idx3_inb : ∀ (v173 : IVec S16 32) (k0_hw3 : k0_chk3 v173), ∀ a x, ((![v173] : Fin 1 → IVec S16 32) a x).toNat < S1024.size a := fun v173 k0_hw3 => k0_hw3
def k0_off72 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let v176 : Index := Scalar.indexCast arg8
  let c48_40 : Index := 48#32
  ![v176.toNat, 48]
def k0_off73 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c0_i32_42 : BitVec 32 := 0#32
  ![arg8.toNat, 0]

def k0_chk4 (v180 : IVec S16 32) : Prop :=
  (∀ a x, ((![v180] : Fin 1 → IVec S16 32) a x).toNat < S1024.size a)
theorem k0_idx4_inb : ∀ (v180 : IVec S16 32) (k0_hw4 : k0_chk4 v180), ∀ a x, ((![v180] : Fin 1 → IVec S16 32) a x).toNat < S1024.size a := fun v180 k0_hw4 => k0_hw4
def k0_off74 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v2 : BitVec 32 := Scalar.muli v1 c104_i32
  let c0_i32_5 : BitVec 32 := 0#32
  ![v2.toNat, 0]
@[reducible] def k0_t2_loop : Scf.Loop 32 :=
  let c56_i32_10 : BitVec 32 := 56#32
  let c48_i32 : BitVec 32 := 48#32
  let v12 : BitVec 32 := Scalar.addi c56_i32_10 c48_i32
  let c1_i32_11 : BitVec 32 := 1#32
  ⟨c56_i32_10, v12, c1_i32_11⟩
def k0_off75 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v27 : Index := Scalar.indexCast arg8
  let c0 : Index := 0#32
  ![v27.toNat, 0]
def k0_off76 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v29 : Index := Scalar.indexCast arg8
  let c16 : Index := 16#32
  ![v29.toNat, 16]
def k0_off77 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v31 : Index := Scalar.indexCast arg8
  let c32 : Index := 32#32
  ![v31.toNat, 32]
def k0_off78 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v33 : Index := Scalar.indexCast arg8
  let c48 : Index := 48#32
  ![v33.toNat, 48]
def k0_off79 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v35 : Index := Scalar.indexCast arg8
  let c64 : Index := 64#32
  ![v35.toNat, 64]
def k0_off80 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v37 : Index := Scalar.indexCast arg8
  let c80 : Index := 80#32
  ![v37.toNat, 80]
def k0_off81 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v39 : Index := Scalar.indexCast arg8
  let c96 : Index := 96#32
  ![v39.toNat, 96]
def k0_off82 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v41 : Index := Scalar.indexCast arg8
  let c112 : Index := 112#32
  ![v41.toNat, 112]
def k0_off83 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v43 : Index := Scalar.indexCast arg8
  let c128 : Index := 128#32
  ![v43.toNat, 128]
def k0_off84 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v45 : Index := Scalar.indexCast arg8
  let c144 : Index := 144#32
  ![v45.toNat, 144]
def k0_off85 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v47 : Index := Scalar.indexCast arg8
  let c160 : Index := 160#32
  ![v47.toNat, 160]
def k0_off86 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v49 : Index := Scalar.indexCast arg8
  let c176 : Index := 176#32
  ![v49.toNat, 176]
def k0_off87 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v51 : Index := Scalar.indexCast arg8
  let c192 : Index := 192#32
  ![v51.toNat, 192]
def k0_off88 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v53 : Index := Scalar.indexCast arg8
  let c208 : Index := 208#32
  ![v53.toNat, 208]
def k0_off89 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v55 : Index := Scalar.indexCast arg8
  let c224 : Index := 224#32
  ![v55.toNat, 224]
def k0_off90 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v57 : Index := Scalar.indexCast arg8
  let c240 : Index := 240#32
  ![v57.toNat, 240]
def k0_off91 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v59 : Index := Scalar.indexCast arg8
  let c256 : Index := 256#32
  ![v59.toNat, 256]
def k0_off92 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v61 : Index := Scalar.indexCast arg8
  let c272 : Index := 272#32
  ![v61.toNat, 272]
def k0_off93 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v63 : Index := Scalar.indexCast arg8
  let c288 : Index := 288#32
  ![v63.toNat, 288]
def k0_off94 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v65 : Index := Scalar.indexCast arg8
  let c304 : Index := 304#32
  ![v65.toNat, 304]
def k0_off95 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v67 : Index := Scalar.indexCast arg8
  let c320 : Index := 320#32
  ![v67.toNat, 320]
def k0_off96 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v69 : Index := Scalar.indexCast arg8
  let c336 : Index := 336#32
  ![v69.toNat, 336]
def k0_off97 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v71 : Index := Scalar.indexCast arg8
  let c352 : Index := 352#32
  ![v71.toNat, 352]
def k0_off98 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v73 : Index := Scalar.indexCast arg8
  let c368 : Index := 368#32
  ![v73.toNat, 368]
def k0_off99 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v75 : Index := Scalar.indexCast arg8
  let c384 : Index := 384#32
  ![v75.toNat, 384]
def k0_off100 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v77 : Index := Scalar.indexCast arg8
  let c400 : Index := 400#32
  ![v77.toNat, 400]
def k0_off101 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v79 : Index := Scalar.indexCast arg8
  let c416 : Index := 416#32
  ![v79.toNat, 416]
def k0_off102 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v81 : Index := Scalar.indexCast arg8
  let c432 : Index := 432#32
  ![v81.toNat, 432]
def k0_off103 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v83 : Index := Scalar.indexCast arg8
  let c448 : Index := 448#32
  ![v83.toNat, 448]
def k0_off104 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v85 : Index := Scalar.indexCast arg8
  let c464 : Index := 464#32
  ![v85.toNat, 464]
def k0_off105 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v87 : Index := Scalar.indexCast arg8
  let c480 : Index := 480#32
  ![v87.toNat, 480]
def k0_off106 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v89 : Index := Scalar.indexCast arg8
  let c496 : Index := 496#32
  ![v89.toNat, 496]
def k0_off107 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v91 : Index := Scalar.indexCast arg8
  let c512 : Index := 512#32
  ![v91.toNat, 512]
def k0_off108 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v93 : Index := Scalar.indexCast arg8
  let c528 : Index := 528#32
  ![v93.toNat, 528]
def k0_off109 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v95 : Index := Scalar.indexCast arg8
  let c544 : Index := 544#32
  ![v95.toNat, 544]
def k0_off110 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v97 : Index := Scalar.indexCast arg8
  let c560 : Index := 560#32
  ![v97.toNat, 560]
def k0_off111 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v99 : Index := Scalar.indexCast arg8
  let c576 : Index := 576#32
  ![v99.toNat, 576]
def k0_off112 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v101 : Index := Scalar.indexCast arg8
  let c592 : Index := 592#32
  ![v101.toNat, 592]
def k0_off113 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v103 : Index := Scalar.indexCast arg8
  let c608 : Index := 608#32
  ![v103.toNat, 608]
def k0_off114 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v105 : Index := Scalar.indexCast arg8
  let c624 : Index := 624#32
  ![v105.toNat, 624]
def k0_off115 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v107 : Index := Scalar.indexCast arg8
  let c640 : Index := 640#32
  ![v107.toNat, 640]
def k0_off116 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v109 : Index := Scalar.indexCast arg8
  let c656 : Index := 656#32
  ![v109.toNat, 656]
def k0_off117 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v111 : Index := Scalar.indexCast arg8
  let c672 : Index := 672#32
  ![v111.toNat, 672]
def k0_off118 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v113 : Index := Scalar.indexCast arg8
  let c688 : Index := 688#32
  ![v113.toNat, 688]
def k0_off119 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v115 : Index := Scalar.indexCast arg8
  let c704 : Index := 704#32
  ![v115.toNat, 704]
def k0_off120 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v117 : Index := Scalar.indexCast arg8
  let c720 : Index := 720#32
  ![v117.toNat, 720]
def k0_off121 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v119 : Index := Scalar.indexCast arg8
  let c736 : Index := 736#32
  ![v119.toNat, 736]
def k0_off122 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v121 : Index := Scalar.indexCast arg8
  let c752 : Index := 752#32
  ![v121.toNat, 752]
def k0_off123 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v123 : Index := Scalar.indexCast arg8
  let c768 : Index := 768#32
  ![v123.toNat, 768]
def k0_off124 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v125 : Index := Scalar.indexCast arg8
  let c784 : Index := 784#32
  ![v125.toNat, 784]
def k0_off125 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v127 : Index := Scalar.indexCast arg8
  let c800 : Index := 800#32
  ![v127.toNat, 800]
def k0_off126 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v129 : Index := Scalar.indexCast arg8
  let c816 : Index := 816#32
  ![v129.toNat, 816]
def k0_off127 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v131 : Index := Scalar.indexCast arg8
  let c832 : Index := 832#32
  ![v131.toNat, 832]
def k0_off128 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v133 : Index := Scalar.indexCast arg8
  let c848 : Index := 848#32
  ![v133.toNat, 848]
def k0_off129 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v135 : Index := Scalar.indexCast arg8
  let c864 : Index := 864#32
  ![v135.toNat, 864]
def k0_off130 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v137 : Index := Scalar.indexCast arg8
  let c880 : Index := 880#32
  ![v137.toNat, 880]
def k0_off131 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v139 : Index := Scalar.indexCast arg8
  let c896 : Index := 896#32
  ![v139.toNat, 896]
def k0_off132 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v141 : Index := Scalar.indexCast arg8
  let c912 : Index := 912#32
  ![v141.toNat, 912]
def k0_off133 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v143 : Index := Scalar.indexCast arg8
  let c928 : Index := 928#32
  ![v143.toNat, 928]
def k0_off134 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v145 : Index := Scalar.indexCast arg8
  let c944 : Index := 944#32
  ![v145.toNat, 944]
def k0_off135 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v147 : Index := Scalar.indexCast arg8
  let c960 : Index := 960#32
  ![v147.toNat, 960]
def k0_off136 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v149 : Index := Scalar.indexCast arg8
  let c976 : Index := 976#32
  ![v149.toNat, 976]
def k0_off137 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v151 : Index := Scalar.indexCast arg8
  let c992 : Index := 992#32
  ![v151.toNat, 992]
def k0_off138 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v153 : Index := Scalar.indexCast arg8
  let c1008 : Index := 1008#32
  ![v153.toNat, 1008]
def k0_off139 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v155 : Index := Scalar.indexCast arg8
  let c0_32 : Index := 0#32
  ![v155.toNat, 0]
def k0_off140 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let c0_i32_33 : BitVec 32 := 0#32
  ![arg8.toNat, 0]

def k0_chk5 (v159 : IVec S16 32) : Prop :=
  (∀ a x, ((![v159] : Fin 1 → IVec S16 32) a x).toNat < S1024.size a)
theorem k0_idx5_inb : ∀ (v159 : IVec S16 32) (k0_hw5 : k0_chk5 v159), ∀ a x, ((![v159] : Fin 1 → IVec S16 32) a x).toNat < S1024.size a := fun v159 k0_hw5 => k0_hw5
def k0_off141 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v162 : Index := Scalar.indexCast arg8
  let c16_34 : Index := 16#32
  ![v162.toNat, 16]
def k0_off142 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let c0_i32_36 : BitVec 32 := 0#32
  ![arg8.toNat, 0]

def k0_chk6 (v166 : IVec S16 32) : Prop :=
  (∀ a x, ((![v166] : Fin 1 → IVec S16 32) a x).toNat < S1024.size a)
theorem k0_idx6_inb : ∀ (v166 : IVec S16 32) (k0_hw6 : k0_chk6 v166), ∀ a x, ((![v166] : Fin 1 → IVec S16 32) a x).toNat < S1024.size a := fun v166 k0_hw6 => k0_hw6
def k0_off143 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v169 : Index := Scalar.indexCast arg8
  let c32_37 : Index := 32#32
  ![v169.toNat, 32]
def k0_off144 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let c0_i32_39 : BitVec 32 := 0#32
  ![arg8.toNat, 0]

def k0_chk7 (v173 : IVec S16 32) : Prop :=
  (∀ a x, ((![v173] : Fin 1 → IVec S16 32) a x).toNat < S1024.size a)
theorem k0_idx7_inb : ∀ (v173 : IVec S16 32) (k0_hw7 : k0_chk7 v173), ∀ a x, ((![v173] : Fin 1 → IVec S16 32) a x).toNat < S1024.size a := fun v173 k0_hw7 => k0_hw7
def k0_off145 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let v176 : Index := Scalar.indexCast arg8
  let c48_40 : Index := 48#32
  ![v176.toNat, 48]
def k0_off146 (k0_t2 : Fin k0_t2_loop.trips) : Fin 2 → Nat :=
  let c56_i32_10 : BitVec 32 := 56#32
  let c1_i32_11 : BitVec 32 := 1#32
  let arg8 : BitVec 32 := Scf.iv c56_i32_10 c1_i32_11 k0_t2
  let c0_i32_42 : BitVec 32 := 0#32
  ![arg8.toNat, 0]

def k0_chk8 (v180 : IVec S16 32) : Prop :=
  (∀ a x, ((![v180] : Fin 1 → IVec S16 32) a x).toNat < S1024.size a)
theorem k0_idx8_inb : ∀ (v180 : IVec S16 32) (k0_hw8 : k0_chk8 v180), ∀ a x, ((![v180] : Fin 1 → IVec S16 32) a x).toNat < S1024.size a := fun v180 k0_hw8 => k0_hw8
def k0_off147 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v2 : BitVec 32 := Scalar.muli v1 c104_i32
  let c56_i32_13 : BitVec 32 := 56#32
  let v14 : BitVec 32 := Scalar.addi v2 c56_i32_13
  let c0_i32_16 : BitVec 32 := 0#32
  ![v14.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S800x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S25x32x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S800x72 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v2 : BitVec 32 := Scalar.muli v1 c104_i32
  let c0_i32_11_r0 : BitVec 32 := 0#32
  ![v2.toNat, 0]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11_r1 : BitVec 32 := 0#32
  ![v1.toNat, 0]
@[reducible] def k2_t1_loop : Scf.Loop 32 :=
  let c0_i32_1 : BitVec 32 := 0#32
  let c104_i32_2 : BitVec 32 := 104#32
  let v4 : BitVec 32 := Scalar.addi c0_i32_1 c104_i32_2
  let c1_i32 : BitVec 32 := 1#32
  ⟨c0_i32_1, v4, c1_i32⟩
def k2_off3 (k2_t1 : Fin k2_t1_loop.trips) : Fin 2 → Nat :=
  let c0_i32_1 : BitVec 32 := 0#32
  let c1_i32 : BitVec 32 := 1#32
  let arg10 : BitVec 32 := Scf.iv c0_i32_1 c1_i32 k2_t1
  let v15 : Index := Scalar.indexCast arg10
  let c0 : Index := 0#32
  ![v15.toNat, 0]
def k2_off4 (k2_t1 : Fin k2_t1_loop.trips) : Fin 2 → Nat :=
  let c0_i32_1 : BitVec 32 := 0#32
  let c1_i32 : BitVec 32 := 1#32
  let arg10 : BitVec 32 := Scf.iv c0_i32_1 c1_i32 k2_t1
  let v17 : Index := Scalar.indexCast arg10
  let c16 : Index := 16#32
  ![v17.toNat, 16]
def k2_off5 (k2_t1 : Fin k2_t1_loop.trips) : Fin 2 → Nat :=
  let c0_i32_1 : BitVec 32 := 0#32
  let c1_i32 : BitVec 32 := 1#32
  let arg10 : BitVec 32 := Scf.iv c0_i32_1 c1_i32 k2_t1
  let v19 : Index := Scalar.indexCast arg10
  let c32 : Index := 32#32
  ![v19.toNat, 32]
def k2_off6 (k2_t1 : Fin k2_t1_loop.trips) : Fin 2 → Nat :=
  let c0_i32_1 : BitVec 32 := 0#32
  let c1_i32 : BitVec 32 := 1#32
  let arg10 : BitVec 32 := Scf.iv c0_i32_1 c1_i32 k2_t1
  let v21 : Index := Scalar.indexCast arg10
  let c48 : Index := 48#32
  ![v21.toNat, 48]
def k2_off7 (k2_t1 : Fin k2_t1_loop.trips) : Fin 2 → Nat :=
  let c0_i32_1 : BitVec 32 := 0#32
  let c1_i32 : BitVec 32 := 1#32
  let arg10 : BitVec 32 := Scf.iv c0_i32_1 c1_i32 k2_t1
  let v23 : Index := Scalar.indexCast arg10
  let c64 : Index := 64#32
  ![v23.toNat, 64]
def k2_off8 (k2_t1 : Fin k2_t1_loop.trips) : Fin 2 → Nat :=
  let c0_i32_1 : BitVec 32 := 0#32
  let c1_i32 : BitVec 32 := 1#32
  let arg10 : BitVec 32 := Scf.iv c0_i32_1 c1_i32 k2_t1
  let v25 : Index := Scalar.indexCast arg10
  let c80 : Index := 80#32
  ![v25.toNat, 80]
def k2_off9 (k2_t1 : Fin k2_t1_loop.trips) : Fin 2 → Nat :=
  let c0_i32_1 : BitVec 32 := 0#32
  let c1_i32 : BitVec 32 := 1#32
  let arg10 : BitVec 32 := Scf.iv c0_i32_1 c1_i32 k2_t1
  let v27 : Index := Scalar.indexCast arg10
  let c96 : Index := 96#32
  ![v27.toNat, 96]
def k2_off10 (k2_t1 : Fin k2_t1_loop.trips) : Fin 2 → Nat :=
  let c0_i32_1 : BitVec 32 := 0#32
  let c1_i32 : BitVec 32 := 1#32
  let arg10 : BitVec 32 := Scf.iv c0_i32_1 c1_i32 k2_t1
  let v29 : Index := Scalar.indexCast arg10
  let c112 : Index := 112#32
  ![v29.toNat, 112]
@[reducible] def k2_t2_loop : Scf.Loop 32 :=
  let c0_i32_5 : BitVec 32 := 0#32
  let c7_i32 : BitVec 32 := 7#32
  let v7 : BitVec 32 := Scalar.addi c0_i32_5 c7_i32
  let c1_i32_6 : BitVec 32 := 1#32
  ⟨c0_i32_5, v7, c1_i32_6⟩
def k2_off11 (k2_t2 : Fin k2_t2_loop.trips) : Fin 1 → Nat :=
  let c0_i32_5 : BitVec 32 := 0#32
  let c1_i32_6 : BitVec 32 := 1#32
  let arg10 : BitVec 32 := Scf.iv c0_i32_5 c1_i32_6 k2_t2
  let c16_i32_11 : BitVec 32 := 16#32
  let v18 : BitVec 32 := Scalar.muli arg10 c16_i32_11
  let v19 : Index := Scalar.indexCast v18
  ![v19.toNat]
@[reducible] def k2_t3_loop : Scf.Loop 32 :=
  let c0_i32_19 : BitVec 32 := 0#32
  let c16_i32_20 : BitVec 32 := 16#32
  let v44 : BitVec 32 := Scalar.addi c0_i32_19 c16_i32_20
  let c1_i32_21 : BitVec 32 := 1#32
  ⟨c0_i32_19, v44, c1_i32_21⟩
@[reducible] def k2_t4_loop : Scf.Loop 32 :=
  let c0_i32_31 : BitVec 32 := 0#32
  let c16_i32_32 : BitVec 32 := 16#32
  let v61 : BitVec 32 := Scalar.addi c0_i32_31 c16_i32_32
  let c1_i32_33 : BitVec 32 := 1#32
  ⟨c0_i32_31, v61, c1_i32_33⟩
def k2_off12 (k2_t2 : Fin k2_t2_loop.trips) (k2_t3 : Fin k2_t3_loop.trips) : Fin 2 → Nat :=
  let c0_i32_5 : BitVec 32 := 0#32
  let c1_i32_6 : BitVec 32 := 1#32
  let arg10 : BitVec 32 := Scf.iv c0_i32_5 c1_i32_6 k2_t2
  let c16_i32_23 : BitVec 32 := 16#32
  let v46 : BitVec 32 := Scalar.muli arg10 c16_i32_23
  let c0_i32_19 : BitVec 32 := 0#32
  let c1_i32_21 : BitVec 32 := 1#32
  let arg12 : BitVec 32 := Scf.iv c0_i32_19 c1_i32_21 k2_t3
  let v47 : BitVec 32 := Scalar.addi v46 arg12
  let v63 : Index := Scalar.indexCast v47
  let c0 : Index := 0#32
  ![v63.toNat, 0]
def k2_cond1 (v40 : BitVec 32) : BitVec 1 :=
  let c0_i32_15 : BitVec 32 := 0#32
  let v41 : BitVec 1 := Scalar.cmpi .sgt v40 c0_i32_15
  let v42 : BitVec 32 := Scalar.extui v41
  let c0_i32_16 : BitVec 32 := 0#32
  let v43 : BitVec 1 := Scalar.cmpi .ne v42 c0_i32_16
  v43

def k2_cond2 (v57 : BitVec 32) : BitVec 1 :=
  let c0_i32_27 : BitVec 32 := 0#32
  let v58 : BitVec 1 := Scalar.cmpi .sgt v57 c0_i32_27
  let v59 : BitVec 32 := Scalar.extui v58
  let c0_i32_28 : BitVec 32 := 0#32
  let v60 : BitVec 1 := Scalar.cmpi .ne v59 c0_i32_28
  v60

def k2_chk2 (v40 : BitVec 32) (v57 : BitVec 32) (v84 : IVec S16 32) (v88 : IVec S16 32) : Prop :=
  (∀ (k2_h1 : k2_cond1 v40 = 1#1), ∀ (k2_h2 : k2_cond2 v57 = 1#1), ∀ a x, ((![v84, v88] : Fin 2 → IVec S16 32) a x).toNat < S104x128.size a)
theorem k2_idx1_inb : ∀ (v40 : BitVec 32) (v57 : BitVec 32) (v84 : IVec S16 32) (v88 : IVec S16 32) (k2_hw2 : k2_chk2 v40 v57 v84 v88), ∀ (k2_h1 : k2_cond1 v40 = 1#1), ∀ (k2_h2 : k2_cond2 v57 = 1#1), ∀ a x, ((![v84, v88] : Fin 2 → IVec S16 32) a x).toNat < S104x128.size a := fun v40 v57 v84 v88 k2_hw2 k2_h1 k2_h2 => k2_hw2 k2_h1 k2_h2
def k2_off13 (k2_t2 : Fin k2_t2_loop.trips) (k2_t3 : Fin k2_t3_loop.trips) : Fin 2 → Nat :=
  let c0_i32_5 : BitVec 32 := 0#32
  let c1_i32_6 : BitVec 32 := 1#32
  let arg10 : BitVec 32 := Scf.iv c0_i32_5 c1_i32_6 k2_t2
  let c16_i32_23 : BitVec 32 := 16#32
  let v46 : BitVec 32 := Scalar.muli arg10 c16_i32_23
  let c0_i32_19 : BitVec 32 := 0#32
  let c1_i32_21 : BitVec 32 := 1#32
  let arg12 : BitVec 32 := Scf.iv c0_i32_19 c1_i32_21 k2_t3
  let v47 : BitVec 32 := Scalar.addi v46 arg12
  let v96 : Index := Scalar.indexCast v47
  let c16 : Index := 16#32
  ![v96.toNat, 16]

def k2_chk3 (v40 : BitVec 32) (v57 : BitVec 32) (v117 : IVec S16 32) (v121 : IVec S16 32) : Prop :=
  (∀ (k2_h1 : k2_cond1 v40 = 1#1), ∀ (k2_h2 : k2_cond2 v57 = 1#1), ∀ a x, ((![v117, v121] : Fin 2 → IVec S16 32) a x).toNat < S104x128.size a)
theorem k2_idx2_inb : ∀ (v40 : BitVec 32) (v57 : BitVec 32) (v117 : IVec S16 32) (v121 : IVec S16 32) (k2_hw3 : k2_chk3 v40 v57 v117 v121), ∀ (k2_h1 : k2_cond1 v40 = 1#1), ∀ (k2_h2 : k2_cond2 v57 = 1#1), ∀ a x, ((![v117, v121] : Fin 2 → IVec S16 32) a x).toNat < S104x128.size a := fun v40 v57 v117 v121 k2_hw3 k2_h1 k2_h2 => k2_hw3 k2_h1 k2_h2
def k2_off14 (k2_t2 : Fin k2_t2_loop.trips) (k2_t3 : Fin k2_t3_loop.trips) : Fin 2 → Nat :=
  let c0_i32_5 : BitVec 32 := 0#32
  let c1_i32_6 : BitVec 32 := 1#32
  let arg10 : BitVec 32 := Scf.iv c0_i32_5 c1_i32_6 k2_t2
  let c16_i32_23 : BitVec 32 := 16#32
  let v46 : BitVec 32 := Scalar.muli arg10 c16_i32_23
  let c0_i32_19 : BitVec 32 := 0#32
  let c1_i32_21 : BitVec 32 := 1#32
  let arg12 : BitVec 32 := Scf.iv c0_i32_19 c1_i32_21 k2_t3
  let v47 : BitVec 32 := Scalar.addi v46 arg12
  let v129 : Index := Scalar.indexCast v47
  let c32 : Index := 32#32
  ![v129.toNat, 32]

def k2_chk4 (v40 : BitVec 32) (v57 : BitVec 32) (v150 : IVec S16 32) (v154 : IVec S16 32) : Prop :=
  (∀ (k2_h1 : k2_cond1 v40 = 1#1), ∀ (k2_h2 : k2_cond2 v57 = 1#1), ∀ a x, ((![v150, v154] : Fin 2 → IVec S16 32) a x).toNat < S104x128.size a)
theorem k2_idx3_inb : ∀ (v40 : BitVec 32) (v57 : BitVec 32) (v150 : IVec S16 32) (v154 : IVec S16 32) (k2_hw4 : k2_chk4 v40 v57 v150 v154), ∀ (k2_h1 : k2_cond1 v40 = 1#1), ∀ (k2_h2 : k2_cond2 v57 = 1#1), ∀ a x, ((![v150, v154] : Fin 2 → IVec S16 32) a x).toNat < S104x128.size a := fun v40 v57 v150 v154 k2_hw4 k2_h1 k2_h2 => k2_hw4 k2_h1 k2_h2
def k2_off15 (k2_t2 : Fin k2_t2_loop.trips) (k2_t3 : Fin k2_t3_loop.trips) : Fin 2 → Nat :=
  let c0_i32_5 : BitVec 32 := 0#32
  let c1_i32_6 : BitVec 32 := 1#32
  let arg10 : BitVec 32 := Scf.iv c0_i32_5 c1_i32_6 k2_t2
  let c16_i32_23 : BitVec 32 := 16#32
  let v46 : BitVec 32 := Scalar.muli arg10 c16_i32_23
  let c0_i32_19 : BitVec 32 := 0#32
  let c1_i32_21 : BitVec 32 := 1#32
  let arg12 : BitVec 32 := Scf.iv c0_i32_19 c1_i32_21 k2_t3
  let v47 : BitVec 32 := Scalar.addi v46 arg12
  let v162 : Index := Scalar.indexCast v47
  let c48 : Index := 48#32
  ![v162.toNat, 48]

def k2_chk1 (k2_t2 : Fin k2_t2_loop.trips) (v40 : BitVec 32) (k2_t3 : Fin k2_t3_loop.trips) (v57 : BitVec 32) : Prop :=
  (∀ (k2_h1 : k2_cond1 v40 = 1#1), ∀ (k2_h2 : k2_cond2 v57 = 1#1), ∀ a, (k2_off12 k2_t2 k2_t3) a + S1x16.size a ≤ S104x72.size a) ∧
  (∀ (k2_h1 : k2_cond1 v40 = 1#1), ∀ (k2_h2 : k2_cond2 v57 = 1#1), ∀ a, (k2_off13 k2_t2 k2_t3) a + S1x16.size a ≤ S104x72.size a) ∧
  (∀ (k2_h1 : k2_cond1 v40 = 1#1), ∀ (k2_h2 : k2_cond2 v57 = 1#1), ∀ a, (k2_off14 k2_t2 k2_t3) a + S1x16.size a ≤ S104x72.size a) ∧
  (∀ (k2_h1 : k2_cond1 v40 = 1#1), ∀ (k2_h2 : k2_cond2 v57 = 1#1), ∀ a, (k2_off15 k2_t2 k2_t3) a + S1x16.size a ≤ S104x72.size a)
theorem k2_off12_inb : ∀ (k2_t2 : Fin k2_t2_loop.trips) (v40 : BitVec 32) (k2_t3 : Fin k2_t3_loop.trips) (v57 : BitVec 32) (k2_hw1 : k2_chk1 k2_t2 v40 k2_t3 v57), ∀ (k2_h1 : k2_cond1 v40 = 1#1), ∀ (k2_h2 : k2_cond2 v57 = 1#1), ∀ a, (k2_off12 k2_t2 k2_t3) a + S1x16.size a ≤ S104x72.size a := fun k2_t2 v40 k2_t3 v57 k2_hw1 k2_h1 k2_h2 => k2_hw1.1 k2_h1 k2_h2
theorem k2_off13_inb : ∀ (k2_t2 : Fin k2_t2_loop.trips) (v40 : BitVec 32) (k2_t3 : Fin k2_t3_loop.trips) (v57 : BitVec 32) (k2_hw1 : k2_chk1 k2_t2 v40 k2_t3 v57), ∀ (k2_h1 : k2_cond1 v40 = 1#1), ∀ (k2_h2 : k2_cond2 v57 = 1#1), ∀ a, (k2_off13 k2_t2 k2_t3) a + S1x16.size a ≤ S104x72.size a := fun k2_t2 v40 k2_t3 v57 k2_hw1 k2_h1 k2_h2 => k2_hw1.2.1 k2_h1 k2_h2
theorem k2_off14_inb : ∀ (k2_t2 : Fin k2_t2_loop.trips) (v40 : BitVec 32) (k2_t3 : Fin k2_t3_loop.trips) (v57 : BitVec 32) (k2_hw1 : k2_chk1 k2_t2 v40 k2_t3 v57), ∀ (k2_h1 : k2_cond1 v40 = 1#1), ∀ (k2_h2 : k2_cond2 v57 = 1#1), ∀ a, (k2_off14 k2_t2 k2_t3) a + S1x16.size a ≤ S104x72.size a := fun k2_t2 v40 k2_t3 v57 k2_hw1 k2_h1 k2_h2 => k2_hw1.2.2.1 k2_h1 k2_h2
theorem k2_off15_inb : ∀ (k2_t2 : Fin k2_t2_loop.trips) (v40 : BitVec 32) (k2_t3 : Fin k2_t3_loop.trips) (v57 : BitVec 32) (k2_hw1 : k2_chk1 k2_t2 v40 k2_t3 v57), ∀ (k2_h1 : k2_cond1 v40 = 1#1), ∀ (k2_h2 : k2_cond2 v57 = 1#1), ∀ a, (k2_off15 k2_t2 k2_t3) a + S1x16.size a ≤ S104x72.size a := fun k2_t2 v40 k2_t3 v57 k2_hw1 k2_h1 k2_h2 => k2_hw1.2.2.2 k2_h1 k2_h2

def k2_chk5 (v40 : BitVec 32) (v57 : BitVec 32) (v183 : IVec S16 32) (v187 : IVec S16 32) : Prop :=
  (∀ (k2_h1 : k2_cond1 v40 = 1#1), ∀ (k2_h2 : k2_cond2 v57 = 1#1), ∀ a x, ((![v183, v187] : Fin 2 → IVec S16 32) a x).toNat < S104x128.size a)
theorem k2_idx4_inb : ∀ (v40 : BitVec 32) (v57 : BitVec 32) (v183 : IVec S16 32) (v187 : IVec S16 32) (k2_hw5 : k2_chk5 v40 v57 v183 v187), ∀ (k2_h1 : k2_cond1 v40 = 1#1), ∀ (k2_h2 : k2_cond2 v57 = 1#1), ∀ a x, ((![v183, v187] : Fin 2 → IVec S16 32) a x).toNat < S104x128.size a := fun v40 v57 v183 v187 k2_hw5 k2_h1 k2_h2 => k2_hw5 k2_h1 k2_h2
def k2_cond3 (i : grid2.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let v9 : BitVec 1 := Scalar.cmpi .slt v1 c30_i32
  let v10 : BitVec 32 := Scalar.extui v9
  let c0_i32_8 : BitVec 32 := 0#32
  let v11 : BitVec 1 := Scalar.cmpi .ne v10 c0_i32_8
  v11

def k2_off16 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c104_i32 : BitVec 32 := 104#32
  let v2 : BitVec 32 := Scalar.muli v1 c104_i32
  let c0_i32_11_r2 : BitVec 32 := 0#32
  ![v2.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S100x32x64 : Shape := ⟨3, ![100, 32, 64]⟩
abbrev S100x32x1 : Shape := ⟨3, ![100, 32, 1]⟩
abbrev S32x1024 : Shape := ⟨2, ![32, 1024]⟩
abbrev S1024x1024 : Shape := ⟨2, ![1024, 1024]⟩
abbrev S1024 : Shape := ⟨1, ![1024]⟩
abbrev S64 : Shape := ⟨1, ![64]⟩
abbrev S1x64 : Shape := ⟨2, ![1, 64]⟩
abbrev S_ : Shape := ⟨0, ![]⟩
abbrev S1x1024 : Shape := ⟨2, ![1, 1024]⟩
abbrev S100x32x128 : Shape := ⟨3, ![100, 32, 128]⟩
abbrev S100x32x1024 : Shape := ⟨3, ![100, 32, 1024]⟩
abbrev S1x32x64 : Shape := ⟨3, ![1, 32, 64]⟩
abbrev S32x64 : Shape := ⟨2, ![32, 64]⟩
abbrev S1x32x1 : Shape := ⟨3, ![1, 32, 1]⟩
abbrev S32x1 : Shape := ⟨2, ![32, 1]⟩
abbrev S32x64x1 : Shape := ⟨3, ![32, 64, 1]⟩
abbrev S1 : Shape := ⟨1, ![1]⟩
abbrev S1x1x1 : Shape := ⟨3, ![1, 1, 1]⟩
abbrev S1024x32x64 : Shape := ⟨3, ![1024, 32, 64]⟩
abbrev S32x128 : Shape := ⟨2, ![32, 128]⟩
abbrev S32 : Shape := ⟨1, ![32]⟩
abbrev S1x32x128 : Shape := ⟨3, ![1, 32, 128]⟩
abbrev S1x32x1024 : Shape := ⟨3, ![1, 32, 1024]⟩

abbrev nBuf : Space → Nat
  | .hbm => 121
  | .vmem => 0
  | .smem => 0
  | _ => 0

abbrev bufTy : (tb : Table) → Fin (tcTables nBuf tb) → BufTy
  | .hbm, ⟨0, _⟩ => ⟨S100x32x64, .i32⟩
  | .hbm, ⟨1, _⟩ => ⟨S100x32x1, .i32⟩
  | .hbm, ⟨2, _⟩ => ⟨S32x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S64, .i32⟩
  | .hbm, ⟨7, _⟩ => ⟨S1x64, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .f32⟩
  | .hbm, ⟨13, _⟩ => ⟨S1x1024, .f32⟩
  | .hbm, ⟨14, _⟩ => ⟨S_, .i32⟩
  | .hbm, ⟨15, _⟩ => ⟨S100x32x128, .i32⟩
  | .hbm, ⟨16, _⟩ => ⟨S_, .i32⟩
  | .hbm, ⟨17, _⟩ => ⟨S100x32x1, .i32⟩
  | .hbm, ⟨18, _⟩ => ⟨S_, .f32⟩
  | .hbm, ⟨19, _⟩ => ⟨S100x32x1024, .f32⟩
  | .hbm, ⟨20, _⟩ => ⟨S_, .i32⟩
  | .hbm, ⟨21, _⟩ => ⟨S100x32x64, .i32⟩
  | .hbm, ⟨22, _⟩ => ⟨S100x32x1, .i32⟩
  | .hbm, ⟨23, _⟩ => ⟨S1x64, .i32⟩
  | .hbm, ⟨24, _⟩ => ⟨S1024x1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S_, .i32⟩
  | .hbm, ⟨29, _⟩ => ⟨S32x1024, .f32⟩
  | .hbm, ⟨30, _⟩ => ⟨S100x32x128, .i32⟩
  | .hbm, ⟨31, _⟩ => ⟨S100x32x1, .i32⟩
  | .hbm, ⟨32, _⟩ => ⟨S100x32x1024, .f32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S1x32x64, .i32⟩
  | .hbm, ⟨38, _⟩ => ⟨S32x64, .i32⟩
  | .hbm, ⟨39, _⟩ => ⟨S_, .i32⟩
  | .hbm, ⟨40, _⟩ => ⟨S_, .i32⟩
  | .hbm, ⟨41, _⟩ => ⟨S1x32x1, .i32⟩
  | .hbm, ⟨42, _⟩ => ⟨S32x1, .i32⟩
  | .hbm, ⟨43, _⟩ => ⟨S32x64, .i32⟩
  | .hbm, ⟨44, _⟩ => ⟨S32x64, .i32⟩
  | .hbm, ⟨45, _⟩ => ⟨S32x64, .i1⟩
  | .hbm, ⟨46, _⟩ => ⟨S32x64, .f32⟩
  | .hbm, ⟨47, _⟩ => ⟨S_, .i32⟩
  | .hbm, ⟨48, _⟩ => ⟨S32x64, .i32⟩
  | .hbm, ⟨49, _⟩ => ⟨S32x64, .i1⟩
  | .hbm, ⟨50, _⟩ => ⟨S_, .i32⟩
  | .hbm, ⟨51, _⟩ => ⟨S32x64, .i32⟩
  | .hbm, ⟨52, _⟩ => ⟨S32x64, .i32⟩
  | .hbm, ⟨53, _⟩ => ⟨S32x64, .i32⟩
  | .hbm, ⟨54, _⟩ => ⟨S32x64x1, .i32⟩
  | .hbm, ⟨55, _⟩ => ⟨S1, .i32⟩
  | .hbm, ⟨56, _⟩ => ⟨S_, .i32⟩
  | .hbm, ⟨57, _⟩ => ⟨S32x64x1, .i32⟩
  | .hbm, ⟨58, _⟩ => ⟨S32x64x1, .i1⟩
  | .hbm, ⟨59, _⟩ => ⟨S1x1x1, .i32⟩
  | .hbm, ⟨60, _⟩ => ⟨S32x64x1, .i32⟩
  | .hbm, ⟨61, _⟩ => ⟨S32x64x1, .i1⟩
  | .hbm, ⟨62, _⟩ => ⟨S32x64x1, .i1⟩
  | .hbm, ⟨63, _⟩ => ⟨S_, .i1⟩
  | .hbm, ⟨64, _⟩ => ⟨S32x64, .i1⟩
  | .hbm, ⟨65, _⟩ => ⟨S1024x32x64, .f32⟩
  | .hbm, ⟨66, _⟩ => ⟨S1024x32x64, .i1⟩
  | .hbm, ⟨67, _⟩ => ⟨S_, .f32⟩
  | .hbm, ⟨68, _⟩ => ⟨S1024x32x64, .f32⟩
  | .hbm, ⟨69, _⟩ => ⟨S1024x32x64, .f32⟩
  | .hbm, ⟨70, _⟩ => ⟨S32x1024, .f32⟩
  | .hbm, ⟨71, _⟩ => ⟨S1x1024, .f32⟩
  | .hbm, ⟨72, _⟩ => ⟨S32x1024, .f32⟩
  | .hbm, ⟨73, _⟩ => ⟨S32x1024, .f32⟩
  | .hbm, ⟨74, _⟩ => ⟨S_, .f32⟩
  | .hbm, ⟨75, _⟩ => ⟨S1024, .f32⟩
  | .hbm, ⟨76, _⟩ => ⟨S1024, .f32⟩
  | .hbm, ⟨77, _⟩ => ⟨S1x1024, .f32⟩
  | .hbm, ⟨78, _⟩ => ⟨S32x1024, .f32⟩
  | .hbm, ⟨79, _⟩ => ⟨S32x1024, .f32⟩
  | .hbm, ⟨80, _⟩ => ⟨S32x1024, .f32⟩
  | .hbm, ⟨81, _⟩ => ⟨S1x1024, .f32⟩
  | .hbm, ⟨82, _⟩ => ⟨S32x1024, .f32⟩
  | .hbm, ⟨83, _⟩ => ⟨S32x1024, .i1⟩
  | .hbm, ⟨84, _⟩ => ⟨S_, .f32⟩
  | .hbm, ⟨85, _⟩ => ⟨S_, .f32⟩
  | .hbm, ⟨86, _⟩ => ⟨S32x1024, .f32⟩
  | .hbm, ⟨87, _⟩ => ⟨S32x1024, .f32⟩
  | .hbm, ⟨88, _⟩ => ⟨S32x1024, .f32⟩
  | .hbm, ⟨89, _⟩ => ⟨S32x1024, .f32⟩
  | .hbm, ⟨90, _⟩ => ⟨S32x1024, .f32⟩
  | .hbm, ⟨91, _⟩ => ⟨S32x128, .f32⟩
  | .hbm, ⟨92, _⟩ => ⟨S32x128, .i32⟩
  | .hbm, ⟨93, _⟩ => ⟨S_, .f32⟩
  | .hbm, ⟨94, _⟩ => ⟨S32x128, .f32⟩
  | .hbm, ⟨95, _⟩ => ⟨S32x128, .i1⟩
  | .hbm, ⟨96, _⟩ => ⟨S_, .i32⟩
  | .hbm, ⟨97, _⟩ => ⟨S_, .i32⟩
  | .hbm, ⟨98, _⟩ => ⟨S32x128, .i32⟩
  | .hbm, ⟨99, _⟩ => ⟨S32x128, .i32⟩
  | .hbm, ⟨100, _⟩ => ⟨S32x1024, .i32⟩
  | .hbm, ⟨101, _⟩ => ⟨S_, .i32⟩
  | .hbm, ⟨102, _⟩ => ⟨S32, .i32⟩
  | .hbm, ⟨103, _⟩ => ⟨S_, .i32⟩
  | .hbm, ⟨104, _⟩ => ⟨S32, .i32⟩
  | .hbm, ⟨105, _⟩ => ⟨S32, .i32⟩
  | .hbm, ⟨106, _⟩ => ⟨S32x1, .i32⟩
  | .hbm, ⟨107, _⟩ => ⟨S1x32x128, .i32⟩
  | .hbm, ⟨108, _⟩ => ⟨S_, .i32⟩
  | .hbm, ⟨109, _⟩ => ⟨S_, .i32⟩
  | .hbm, ⟨110, _⟩ => ⟨S100x32x128, .i32⟩
  | .hbm, ⟨111, _⟩ => ⟨S1x32x1, .i32⟩
  | .hbm, ⟨112, _⟩ => ⟨S_, .i32⟩
  | .hbm, ⟨113, _⟩ => ⟨S_, .i32⟩
  | .hbm, ⟨114, _⟩ => ⟨S100x32x1, .i32⟩
  | .hbm, ⟨115, _⟩ => ⟨S1x32x1024, .f32⟩
  | .hbm, ⟨116, _⟩ => ⟨S_, .i32⟩
  | .hbm, ⟨117, _⟩ => ⟨S_, .i32⟩
  | .hbm, ⟨118, _⟩ => ⟨S100x32x1024, .f32⟩
  | .hbm, ⟨119, _⟩ => ⟨S_, .i32⟩
  | .hbm, ⟨120, _⟩ => ⟨S_, .i32⟩
  | _, _ => ⟨S100x32x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_c_2 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev main_v10_6 : Ref sig .tc := ⟨.hbm, 27, rfl⟩
abbrev main_v10_7 : Ref sig .tc := ⟨.hbm, 28, rfl⟩
abbrev main_v10_8 : Ref sig .tc := ⟨.hbm, 29, rfl⟩
abbrev main_v10_9 : Ref sig .tc := ⟨.hbm, 30, rfl⟩
abbrev main_v10_10 : Ref sig .tc := ⟨.hbm, 31, rfl⟩
abbrev main_v10_11 : Ref sig .tc := ⟨.hbm, 32, rfl⟩
abbrev main_while0c_c_14 : Ref sig .tc := ⟨.hbm, 33, rfl⟩
abbrev main_while0c_v11 : Ref sig .tc := ⟨.hbm, 34, rfl⟩
abbrev main_while0b_call0_c : Ref sig .tc := ⟨.hbm, 35, rfl⟩
abbrev main_while0b_call0_c_0 : Ref sig .tc := ⟨.hbm, 36, rfl⟩
abbrev main_while0b_call0_v0 : Ref sig .tc := ⟨.hbm, 37, rfl⟩
abbrev main_while0b_v11 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_v0 : Ref sig .tc := ⟨.hbm, 41, rfl⟩
abbrev main_while0b_v12 : Ref sig .tc := ⟨.hbm, 42, rfl⟩
abbrev main_while0b_v13 : Ref sig .tc := ⟨.hbm, 43, rfl⟩
abbrev main_while0b_v14 : Ref sig .tc := ⟨.hbm, 44, rfl⟩
abbrev main_while0b_v15 : Ref sig .tc := ⟨.hbm, 45, rfl⟩
abbrev main_while0b_v16 : Ref sig .tc := ⟨.hbm, 46, rfl⟩
abbrev main_while0b_call2_c : Ref sig .tc := ⟨.hbm, 47, rfl⟩
abbrev main_while0b_call2_v0 : Ref sig .tc := ⟨.hbm, 48, rfl⟩
abbrev main_while0b_call2_v1 : Ref sig .tc := ⟨.hbm, 49, rfl⟩
abbrev main_while0b_call2_c_0 : Ref sig .tc := ⟨.hbm, 50, rfl⟩
abbrev main_while0b_call2_v2 : Ref sig .tc := ⟨.hbm, 51, rfl⟩
abbrev main_while0b_call2_v3 : Ref sig .tc := ⟨.hbm, 52, rfl⟩
abbrev main_while0b_call2_v4 : Ref sig .tc := ⟨.hbm, 53, rfl⟩
abbrev main_while0b_call2_v5 : Ref sig .tc := ⟨.hbm, 54, rfl⟩
abbrev main_while0b_call2_c_1 : Ref sig .tc := ⟨.hbm, 55, rfl⟩
abbrev main_while0b_call2_c_2 : Ref sig .tc := ⟨.hbm, 56, rfl⟩
abbrev main_while0b_call2_v6 : Ref sig .tc := ⟨.hbm, 57, rfl⟩
abbrev main_while0b_call2_v7 : Ref sig .tc := ⟨.hbm, 58, rfl⟩
abbrev main_while0b_call2_v8 : Ref sig .tc := ⟨.hbm, 59, rfl⟩
abbrev main_while0b_call2_v9 : Ref sig .tc := ⟨.hbm, 60, rfl⟩
abbrev main_while0b_call2_v10 : Ref sig .tc := ⟨.hbm, 61, rfl⟩
abbrev main_while0b_call2_v11 : Ref sig .tc := ⟨.hbm, 62, rfl⟩
abbrev main_while0b_call2_c_3 : Ref sig .tc := ⟨.hbm, 63, rfl⟩
abbrev main_while0b_call2_v12 : Ref sig .tc := ⟨.hbm, 64, rfl⟩
abbrev main_while0b_call2_v13 : Ref sig .tc := ⟨.hbm, 65, rfl⟩
abbrev main_while0b_call2_v14 : Ref sig .tc := ⟨.hbm, 66, rfl⟩
abbrev main_while0b_call2_cst : Ref sig .tc := ⟨.hbm, 67, rfl⟩
abbrev main_while0b_call2_v15 : Ref sig .tc := ⟨.hbm, 68, rfl⟩
abbrev main_while0b_v17 : Ref sig .tc := ⟨.hbm, 69, rfl⟩
abbrev main_while0b_v18 : Ref sig .tc := ⟨.hbm, 70, rfl⟩
abbrev main_while0b_v19 : Ref sig .tc := ⟨.hbm, 71, rfl⟩
abbrev main_while0b_v20 : Ref sig .tc := ⟨.hbm, 72, rfl⟩
abbrev main_while0b_v21 : Ref sig .tc := ⟨.hbm, 73, rfl⟩
abbrev main_while0b_cst_14 : Ref sig .tc := ⟨.hbm, 74, rfl⟩
abbrev main_while0b_v22 : Ref sig .tc := ⟨.hbm, 75, rfl⟩
abbrev main_while0b_v23 : Ref sig .tc := ⟨.hbm, 76, rfl⟩
abbrev main_while0b_v24 : Ref sig .tc := ⟨.hbm, 77, rfl⟩
abbrev main_while0b_v25 : Ref sig .tc := ⟨.hbm, 78, rfl⟩
abbrev main_while0b_v26 : Ref sig .tc := ⟨.hbm, 79, rfl⟩
abbrev main_while0b_v27 : Ref sig .tc := ⟨.hbm, 80, rfl⟩
abbrev main_while0b_v28 : Ref sig .tc := ⟨.hbm, 81, rfl⟩
abbrev main_while0b_v29 : Ref sig .tc := ⟨.hbm, 82, rfl⟩
abbrev main_while0b_v30 : Ref sig .tc := ⟨.hbm, 83, rfl⟩
abbrev main_while0b_cst_15 : Ref sig .tc := ⟨.hbm, 84, rfl⟩
abbrev main_while0b_call3_v0 : Ref sig .tc := ⟨.hbm, 85, rfl⟩
abbrev main_while0b_call3_v1 : Ref sig .tc := ⟨.hbm, 86, rfl⟩
abbrev main_while0b_v31 : Ref sig .tc := ⟨.hbm, 87, rfl⟩
abbrev main_while0b_v32 : Ref sig .tc := ⟨.hbm, 88, rfl⟩
abbrev main_while0b_v33 : Ref sig .tc := ⟨.hbm, 89, rfl⟩
abbrev main_while0b_v34 : Ref sig .tc := ⟨.hbm, 90, rfl⟩
abbrev main_while0b_values : Ref sig .tc := ⟨.hbm, 91, rfl⟩
abbrev main_while0b_indices : Ref sig .tc := ⟨.hbm, 92, rfl⟩
abbrev main_while0b_cst_16 : Ref sig .tc := ⟨.hbm, 93, rfl⟩
abbrev main_while0b_v35 : Ref sig .tc := ⟨.hbm, 94, rfl⟩
abbrev main_while0b_v36 : Ref sig .tc := ⟨.hbm, 95, rfl⟩
abbrev main_while0b_c_17 : Ref sig .tc := ⟨.hbm, 96, rfl⟩
abbrev main_while0b_call4_v0 : Ref sig .tc := ⟨.hbm, 97, rfl⟩
abbrev main_while0b_call4_v1 : Ref sig .tc := ⟨.hbm, 98, rfl⟩
abbrev main_while0b_v37 : Ref sig .tc := ⟨.hbm, 99, rfl⟩
abbrev main_while0b_v38 : Ref sig .tc := ⟨.hbm, 100, rfl⟩
abbrev main_while0b_c_18 : Ref sig .tc := ⟨.hbm, 101, rfl⟩
abbrev main_while0b_v39 : Ref sig .tc := ⟨.hbm, 102, rfl⟩
abbrev main_while0b_c_19 : Ref sig .tc := ⟨.hbm, 103, rfl⟩
abbrev main_while0b_v40 : Ref sig .tc := ⟨.hbm, 104, rfl⟩
abbrev main_while0b_v41 : Ref sig .tc := ⟨.hbm, 105, rfl⟩
abbrev main_while0b_v42 : Ref sig .tc := ⟨.hbm, 106, rfl⟩
abbrev main_while0b_call5_v0 : Ref sig .tc := ⟨.hbm, 107, rfl⟩
abbrev main_while0b_call5_c : Ref sig .tc := ⟨.hbm, 108, rfl⟩
abbrev main_while0b_call5_c_0 : Ref sig .tc := ⟨.hbm, 109, rfl⟩
abbrev main_while0b_v43 : Ref sig .tc := ⟨.hbm, 110, rfl⟩
abbrev main_while0b_call6_v0 : Ref sig .tc := ⟨.hbm, 111, rfl⟩
abbrev main_while0b_call6_c : Ref sig .tc := ⟨.hbm, 112, rfl⟩
abbrev main_while0b_call6_c_0 : Ref sig .tc := ⟨.hbm, 113, rfl⟩
abbrev main_while0b_v44 : Ref sig .tc := ⟨.hbm, 114, rfl⟩
abbrev main_while0b_call7_v0 : Ref sig .tc := ⟨.hbm, 115, rfl⟩
abbrev main_while0b_call7_c : Ref sig .tc := ⟨.hbm, 116, rfl⟩
abbrev main_while0b_call7_c_0 : Ref sig .tc := ⟨.hbm, 117, rfl⟩
abbrev main_while0b_v45 : Ref sig .tc := ⟨.hbm, 118, rfl⟩
abbrev main_while0b_c_20 : Ref sig .tc := ⟨.hbm, 119, rfl⟩
abbrev main_while0b_v46 : Ref sig .tc := ⟨.hbm, 120, rfl⟩

abbrev nD : Nat := 1
abbrev τ : Topo := Topo.v7x

variable {F : FTy → Type} [FloatOps F]

abbrev main_while0_count : Scf.Loop 32 := ⟨0#32, 100#32, 1#32⟩
-- ==== Proof.Common.lean ====
/-
  What the modules of this certificate share: the program as the launch theorem sees it, the resource algebra (the
  handshakes' rounds beside the transfers' counters), and the coordinates of a vector subcore.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueIdx
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × (URounds (GSem nD τ sig) Unit × Counters)

local notation "𝕄" => MT nD τ sig (HIx 2) (Elt F) ℕ UU ℕ

/-- The handshakes' rounds, the left factor; the transfers' counters are found in the right. -/
abbrev EH : Emb UH (MT nD τ sig (HIx 2) (Elt F) ℕ UU ℕ) := embL

/-- The rounds of the TensorCore call's staging cells. -/
def EP : Emb (URounds (GSem nD τ sig) Unit) (MT nD τ sig (HIx 2) (Elt F) ℕ UU ℕ) :=
  ((Emb.inl : Emb (URounds (GSem nD τ sig) Unit) (URounds (GSem nD τ sig) Unit × Counters)).trans (Emb.inr : Emb (URounds (GSem nD τ sig) Unit × Counters) UU)).trans
    (uEmb (nD := nD) (τ := τ) (sig := sig) (Ix := HIx 2) (Val := Elt F) (Name := ℕ) (U := UU) (Lvl := ℕ)).toEmb

instance EP_landsIn : (EP : Emb (URounds (GSem nD τ sig) Unit) (MT nD τ sig (HIx 2) (Elt F) ℕ UU ℕ)).LandsIn (upEmb : UEmb _ 𝕄) := by
  unfold EP; infer_instance

/-! ## A vector subcore's coordinates -/

abbrev cV (L : grid0.Coords) : Fin τ.nSC := (L 0).castLE hcore0
abbrev jV (L : grid0.Coords) : Fin τ.nSub := (L 1).castLE hsub0

/-- The thread of the vector subcore at the coordinates `L`. -/
abbrev thr (d : Dev nD) (L : grid0.Coords) : Thread nD τ := V d (cV L) (jV L)

/-- The first of the 104 rows that the vector subcore at `L` handles. -/
abbrev base (L : grid0.Coords) : Nat := 208 * (L 1).val + 104 * (L 0).val

theorem base_lt (L : grid0.Coords) : base L + 104 ≤ 3328 := by
  have h0 : (L 0).val < 2 := (L 0).isLt
  have h1 : (L 1).val < 16 := (L 1).isLt
  unfold base; omega

def coordsV (c : Fin (grid0.bound 0)) (s : Fin (grid0.bound 1)) : grid0.Coords :=
  fun | 0 => c | 1 => s | ⟨_ + 2, h⟩ => absurd h (Nat.not_lt.2 (Nat.le_add_left _ _))

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof

end
-- ==== Proof.CountsVal.lean ====
/-
  The values of the histogram kernel. A row's histogram at column `j` is the fold, over the row's 64 slots in order, of
  "add one where the slot's id is below 1024 and names `j`". One masked scatter-add of sixteen lanes advances that fold
  by sixteen slots (`storeIdx_hist`). The stores of zeros and the row views are read at an index.
-/
module

public import proofs.«01_k».proof.Proof.Common

@[expose] public section

noncomputable section

namespace Cert.Proof

open Cert.KernelIdeal Cert.KernelIdeal.Gen
open Idealize.ShloMosaic
open Idealize.ShloMosaic.ValueIdx

/-- A rank-2 array read at two naturals: the array's entry where both are in range. -/
def nat2 {n m : Nat} {α : Type} [Inhabited α] (f : (⟨2, ![n, m]⟩ : Shape).Idx → α) (a b : Nat) : α :=
  if h : a < n ∧ b < m then f (ix2 ⟨a, h.1⟩ ⟨b, h.2⟩) else default

theorem nat2_ix2 {n m : Nat} {α : Type} [Inhabited α] (f : (⟨2, ![n, m]⟩ : Shape).Idx → α) (a : Fin n) (b : Fin m) :
    nat2 f a.val b.val = f (ix2 a b) := dif_pos ⟨a.isLt, b.isLt⟩

theorem nat2_of_lt {n m : Nat} {α : Type} [Inhabited α] (f : (⟨2, ![n, m]⟩ : Shape).Idx → α) {a b : Nat} (ha : a < n) (hb : b < m) :
    nat2 f a b = f (ix2 ⟨a, ha⟩ ⟨b, hb⟩) := dif_pos ⟨ha, hb⟩

instance : Inhabited (BitVec 32) := ⟨0#32⟩

variable {F : FTy → Type} [FloatOps F]

/-- The float zero and one of the kernel. -/
abbrev fzero : Elt F .f32 := Scalar.ofBits (F := F) .f32 0x00000000#32
abbrev fone : Elt F .f32 := Scalar.ofBits (F := F) .f32 0x3F800000#32

/-- One slot of the histogram at column `j`. -/
def slotStep (w : BitVec 32) (j : Nat) (a : Elt F .f32) : Elt F .f32 :=
  if IntOp.cmpi .slt w 1024#32 = 1 then (if j = (IntOp.minsi w 1023#32).toNat then Elt.idxAdd .f32 a fone else a) else a

/-- The histogram at column `j` after the first `n` groups of sixteen slots of `w`. -/
def histG (w : Nat → BitVec 32) (j : Nat) : Nat → Elt F .f32
  | 0 => fzero
  | n + 1 => (List.finRange 16).foldl (fun a x => slotStep (w (16 * n + x.val)) j a) (histG w j n)

/-- The histogram at column `j` of the 64 slots of `w`. -/
def hist (w : Nat → BitVec 32) (j : Nat) : Elt F .f32 := histG w j 4

/-- One scatter-add of sixteen ones at an index: the slots' steps folded over what the index held. -/
theorem storeIdx_apply (r : Vec F S1024 .f32) (ids : IVec S16 32) (msk : IVec S16 1)
    (hm : msk = cmpi .slt ids k0_pay21) (idx : IVec S16 32) (hidx : idx = minsi ids (broadcast S16 1023#32))
    (h : ∀ a x, ((![idx] : Fin 1 → IVec S16 32) a x).toNat < S1024.size a) (y : S1024.Idx) :
    storeIdx (F := F) r ![idx] (k0_pay20 (F := F)) msk true h y
      = (List.finRange 16).foldl (fun a x => slotStep (ids (ix1 x)) (y 0).val a) (r y) := by
  unfold storeIdx
  refine (List.foldl_hom (fun g : Vec F S1024 .f32 => g y) (g₂ := fun a (x : Fin 16) => slotStep (F := F) (ids (ix1 x)) (y 0).val a) ?_).symm
  intro g k
  subst hm; subst hidx
  have hk : (Shape.ofLane k : (⟨1, ![16]⟩ : Shape).Idx) = ix1 k := by
    funext a; obtain rfl : a = 0 := Subsingleton.elim _ _; rfl
  show slotStep (F := F) (ids (ix1 k)) (y 0).val (g y) = _
  simp only [if_true]
  unfold slotStep
  have hmask : cmpi .slt ids k0_pay21 (Shape.ofLane k) = IntOp.cmpi .slt (ids (ix1 k)) 1024#32 := by
    rw [hk]; rfl
  rw [hmask]
  split_ifs with h1 h2
  · have e : idxAt (![minsi ids (broadcast S16 1023#32)] : Fin 1 → IVec S16 32) h (Shape.ofLane k) = y := by
      funext a; obtain rfl : a = 0 := Subsingleton.elim _ _
      apply Fin.ext
      show (minsi ids (broadcast S16 1023#32) (Shape.ofLane k)).toNat = (y 0).val
      exact (congrArg (fun z => (minsi ids (broadcast S16 1023#32) z).toNat) hk).trans h2.symm
    exact (((if_pos fun a => by rw [e]).trans (by rw [e]; rfl)) : _ = Elt.idxAdd EltTy.f32 (g y) fone).symm
  · refine ((if_neg fun hh => h2 ?_) : _ = g y).symm
    refine (hh 0).trans ?_
    exact congrArg (fun z => (minsi ids (broadcast S16 1023#32) z).toNat) hk
  · rfl

/-- The scatter-add advances the histogram by one group of sixteen slots. -/
theorem storeIdx_hist (w : Nat → BitVec 32) (n : Nat) (r : Vec F S1024 .f32) (ids : IVec S16 32) (msk : IVec S16 1)
    (hm : msk = cmpi .slt ids k0_pay21) (idx : IVec S16 32) (hidx : idx = minsi ids (broadcast S16 1023#32))
    (h : ∀ a x, ((![idx] : Fin 1 → IVec S16 32) a x).toNat < S1024.size a)
    (hr : ∀ y : S1024.Idx, r y = histG w (y 0).val n) (hw : ∀ x : Fin 16, ids (ix1 x) = w (16 * n + x.val)) (y : S1024.Idx) :
    storeIdx (F := F) r ![idx] (k0_pay20 (F := F)) msk true h y = histG w (y 0).val (n + 1) := by
  rw [storeIdx_apply r ids msk hm idx hidx h y, hr y]
  show _ = (List.finRange 16).foldl (fun a x => slotStep (w (16 * n + x.val)) (y 0).val a) (histG w (y 0).val n)
  simp only [hw]

end Cert.Proof
end
-- ==== Proof.CountsStep.lean ====
/-
  The steps of one row of the histogram kernel: the stores of zeros into the row, sixteen columns at a time, and the
  masked scatter-adds of ones through the row's view.
-/
module

public import proofs.«01_k».proof.Proof.CountsVal

@[expose] public section

noncomputable section

namespace Cert.Proof

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-- The fetched ids and the histogram block of a vector subcore. -/
abbrev idM : Memref sig .scVector .vmem S104x64 .i32 := Memref.whole cc0_scratch0
abbrev hM : Memref sig .scVector .vmem S104x1024 .f32 := Memref.whole cc0_scratch1

/-- Row `p` of the histogram block as the kernel slices it. -/
abbrev rowM (off : Fin 2 → Nat) (inb : ∀ a, off a + S1x1024.size a ≤ S104x1024.size a) : Memref sig .scVector .vmem S1024 .f32 :=
  (hM.slice (Rect.unit (s := S104x1024) off S1x1024.size inb) (fun _ => rfl)).squeeze S1024 squeezes_S1x1024_S1024

/-- Where a rectangle of one row and sixteen columns puts its elements. -/
theorem emb16 {off : Fin 2 → Nat} {inb : ∀ a, off a + S1x16.size a ≤ S104x1024.size a} {p q : Nat} (hoff : off = ![p, q])
    (x : S1x16.Idx) :
    ((Rect.unit (s := S104x1024) off S1x16.size inb).emb x 0).val = p ∧ ((Rect.unit (s := S104x1024) off S1x16.size inb).emb x 1).val = q + (x 1).val := by
  subst hoff
  have h0 : (x 0).val < 1 := (x 0).isLt
  constructor
  · show p + 1 * (x 0).val = p; omega
  · show q + 1 * (x 1).val = q + (x 1).val; omega

/-- Where the row's view puts its elements. -/
theorem emb_rowM {off : Fin 2 → Nat} {inb : ∀ a, off a + S1x1024.size a ≤ S104x1024.size a} {p : Nat} (hoff : off = ![p, 0]) (hp : p < 104)
    (x : S1024.Idx) : ((rowM off inb).access (.whole S1024)).emb x = ix2 ⟨p, hp⟩ (x 0) := by
  subst hoff
  show (Rect.unit (s := S104x1024) ![p, 0] S1x1024.size inb).emb (Shape.reshapeEquiv squeezes_S1x1024_S1024.numel_eq ((Rect.whole S1024).emb x)) = _
  rw [Rect.emb_whole_apply]
  have h := Shape.reshapeEquiv_cons_one (d := ![1024]) squeezes_S1x1024_S1024.numel_eq x
  have h' : Shape.reshapeEquiv squeezes_S1x1024_S1024.numel_eq x = ix2 (n0 := 1) (n1 := 1024) ⟨0, Nat.one_pos⟩ (x 0) := by
    refine h.trans ?_
    funext a
    match a with
    | ⟨0, _⟩ => rfl
    | ⟨1, _⟩ => rfl
  rw [h']
  funext a
  match a with
  | ⟨0, _⟩ => exact Fin.ext (show p + 1 * 0 = p by omega)
  | ⟨1, _⟩ => exact Fin.ext (show 0 + 1 * (x 0).val = (x 0).val by omega)

/-- The rows of the block done so far hold `G`, and the first `16 * n` columns of row `p` hold zero. -/
def Zed [FloatOps F] (I : Finset S104x1024.Idx) (G : S104x1024.Idx → Elt F .f32) (p n : Nat) (f : S104x1024.Idx → Elt F .f32) : Prop :=
  (∀ i ∈ I, (i 0).val < p → f i = G i) ∧ ∀ i : S104x1024.Idx, (i 0).val = p → (i 1).val < 16 * n → f i = fzero

/-- The rows done so far hold `G`, and row `p` the histogram of `n` groups of sixteen slots of `w`. -/
def Hed [FloatOps F] (I : Finset S104x1024.Idx) (G : S104x1024.Idx → Elt F .f32) (w : Nat → BitVec 32) (p n : Nat) (f : S104x1024.Idx → Elt F .f32) : Prop :=
  (∀ i ∈ I, (i 0).val < p → f i = G i) ∧ ∀ i : S104x1024.Idx, (i 0).val = p → f i = histG w (i 1).val n

variable [FloatOps F]

theorem Zed.hed {I : Finset S104x1024.Idx} {G : S104x1024.Idx → Elt F .f32} {w : Nat → BitVec 32} {p : Nat} {f : S104x1024.Idx → Elt F .f32}
    (h : Zed I G p 64 f) : Hed I G w p 0 f :=
  ⟨h.1, fun i hi => (h.2 i hi (i 1).isLt)⟩

theorem zed_write {I : Finset S104x1024.Idx} {G : S104x1024.Idx → Elt F .f32} {p n : Nat} {f : S104x1024.Idx → Elt F .f32}
    {off : Fin 2 → Nat} {inb : ∀ a, off a + S1x16.size a ≤ S104x1024.size a} (hoff : off = ![p, 16 * n]) {w : S1x16.Idx → Elt F .f32}
    (hw : ∀ x, w x = fzero) (h : Zed I G p n f) :
    Zed I G p (n + 1) ((hM.access (Rect.unit (s := S104x1024) off S1x16.size inb)).write (Elt F) f w Finset.univ) := by
  set r : Rect S104x1024 := Rect.unit (s := S104x1024) off S1x16.size inb with hr
  have key : ∀ i : S104x1024.Idx, (∃ x : S1x16.Idx, r.emb x = i ∧ (hM.access r).write (Elt F) f w Finset.univ i = fzero)
      ∨ ((∀ x : S1x16.Idx, r.emb x ≠ i) ∧ (hM.access r).write (Elt F) f w Finset.univ i = f i) := by
    intro i
    by_cases hx : ∃ x : S1x16.Idx, r.emb x = i
    · obtain ⟨x, rfl⟩ := hx
      refine Or.inl ⟨x, rfl, ?_⟩
      exact (View.write_emb_of_mem (v := hM.access r) (Val := Elt F) f w (M := Finset.univ) (x := x) (Finset.mem_univ _)).trans (hw x)
    · refine Or.inr ⟨fun x hx' => hx ⟨x, hx'⟩, ?_⟩
      refine View.write_of_not_mem (v := hM.access r) (Val := Elt F) f w Finset.univ ?_
      intro hm
      obtain ⟨x, -, e⟩ := Finset.mem_map.mp hm
      exact hx ⟨x, e⟩
  constructor
  · intro i hI hi
    rcases key i with ⟨x, rfl, -⟩ | ⟨-, e⟩
    · exact absurd hi (by rw [(emb16 hoff x).1]; omega)
    · rw [e]; exact h.1 i hI hi
  · intro i hi hc
    rcases key i with ⟨x, -, e⟩ | ⟨hx, e⟩
    · exact e
    · rw [e]
      refine h.2 i hi ?_
      by_contra hge
      have hlt : (i 1).val - 16 * n < 16 := by omega
      refine hx (ix2 (n0 := 1) (n1 := 16) ⟨0, Nat.one_pos⟩ ⟨(i 1).val - 16 * n, hlt⟩) ?_
      subst hoff
      funext a
      match a with
      | ⟨0, _⟩ => exact Fin.ext (show p + 1 * 0 = (i 0).val by omega)
      | ⟨1, _⟩ => exact Fin.ext (show 16 * n + 1 * ((i 1).val - 16 * n) = (i 1).val by omega)

theorem hed_write {I : Finset S104x1024.Idx} {G : S104x1024.Idx → Elt F .f32} {w : Nat → BitVec 32} {p n : Nat} (hp : p < 104)
    {f f' : S104x1024.Idx → Elt F .f32}
    {off : Fin 2 → Nat} {inb : ∀ a, off a + S1x1024.size a ≤ S104x1024.size a} (hoff : off = ![p, 0]) {ids : IVec S16 32} {msk : IVec S16 1}
    (hm : msk = cmpi .slt ids k0_pay21) {idx : IVec S16 32} (hidx : idx = minsi ids (broadcast S16 1023#32))
    (hchk : ∀ a x, ((![idx] : Fin 1 → IVec S16 32) a x).toNat < S1024.size a) (hw : ∀ x : Fin 16, ids (ix1 x) = w (16 * n + x.val))
    (hf' : f' = ((rowM off inb).access (.whole S1024)).write (Elt F) f
        (storeIdx (F := F) (((rowM off inb).access (.whole S1024)).read (Elt F) f) ![idx] (k0_pay20 (F := F)) msk true hchk) Finset.univ)
    (h : Hed I G w p n f) : Hed I G w p (n + 1) f' := by
  subst hf'
  constructor
  · intro i hI hi
    refine (View.write_of_not_mem (v := (rowM off inb).access (.whole S1024)) (Val := Elt F) f _ Finset.univ ?_).trans (h.1 i hI hi)
    intro hmem
    obtain ⟨x, -, e⟩ := Finset.mem_map.mp hmem
    rw [emb_rowM hoff hp] at e
    subst e
    exact absurd hi (lt_irrefl p)
  · intro i hi
    have e : ((rowM off inb).access (.whole S1024)).emb (ix1 (i 1)) = i := by
      rw [emb_rowM hoff hp]
      funext a
      match a with
      | ⟨0, _⟩ => exact Fin.ext hi.symm
      | ⟨1, _⟩ => rfl
    have hwr := View.write_emb_of_mem (v := (rowM off inb).access (.whole S1024)) (Val := Elt F) f
        (storeIdx (F := F) (((rowM off inb).access (.whole S1024)).read (Elt F) f) ![idx] (k0_pay20 (F := F)) msk true hchk)
        (M := Finset.univ) (x := ix1 (i 1)) (Finset.mem_univ _)
    rw [e] at hwr
    refine hwr.trans ?_
    refine storeIdx_hist w n _ ids msk hm idx hidx hchk ?_ hw (ix1 (i 1))
    intro y
    show f (((rowM off inb).access (.whole S1024)).emb y) = _
    rw [emb_rowM hoff hp]
    exact h.2 (ix2 ⟨p, hp⟩ (y 0)) rfl

section Wp

variable (d : Dev nD) (L : grid0.Coords)

/-- The histogram block of the subcore, held on the elements `I`, at contents with the property `Φ`. -/
abbrev holdsH (I : Finset S104x1024.Idx) (Φ : (S104x1024.Idx → Elt F .f32) → Prop) : sProp 𝕄 :=
  iprop(∃ f : S104x1024.Idx → Elt F .f32, ⌜Φ f⌝ ∗ (thr d L).loc cc0_scratch1 ↦[I]{fullShare} f)

theorem set16_sub {I : Finset S104x1024.Idx} {p q : Nat} (hI : ∀ i : S104x1024.Idx, (i 0).val = p → i ∈ I)
    {off : Fin 2 → Nat} {inb : ∀ a, off a + S1x16.size a ≤ S104x1024.size a} (hoff : off = ![p, q]) :
    (hM.access (Rect.unit (s := S104x1024) off S1x16.size inb)).set ⊆ I := by
  intro i hi
  obtain ⟨x, -, e⟩ := Finset.mem_map.mp hi
  subst e
  exact hI _ (emb16 hoff x).1

theorem wp_zload {α : Type} {I : Finset S104x1024.Idx} {p q : Nat} (hI : ∀ i : S104x1024.Idx, (i 0).val = p → i ∈ I)
    {off : Fin 2 → Nat} {inb : ∀ a, off a + S1x16.size a ≤ S104x1024.size a} (hoff : off = ![p, q]) {Φ : (S104x1024.Idx → Elt F .f32) → Prop}
    {hl : hM.view.LoadsAt (Rect.unit (s := S104x1024) off S1x16.size inb).toLoadRect} {k : Prog (TpuEff nD τ sig (Elt F) Λ₀ (thr d L).2) α} {Q : α → sProp 𝕄} :
    holdsH d L I Φ ⊢ iprop((holdsH d L I Φ -∗ wp frame (wpE (defs₀ (F := F)) 𝒱₀ (thr d L) none) Set.univ k Q)
      -∗ wp frame (wpE (defs₀ (F := F)) 𝒱₀ (thr d L) none) Set.univ (.op (.load hM (Rect.unit (s := S104x1024) off S1x16.size inb).toLoadRect hl) fun _ => k) Q) := by
  iintro ⟨%f, %hf, H⟩ Hk
  iapply (wp_load_rect 𝒱₀ (thr d L) none Set.univ (m := hM) (r := Rect.unit (s := S104x1024) off S1x16.size inb) (S := I) (q := fullShare) (f := f)
    (set16_sub hI hoff)) $$ H
  iintro H
  iapply Hk
  iexists f; isplitr; · ipureintro; exact hf
  iexact H

theorem wp_zstore {α : Type} {I : Finset S104x1024.Idx} {G : S104x1024.Idx → Elt F .f32} {p n : Nat} (hI : ∀ i : S104x1024.Idx, (i 0).val = p → i ∈ I)
    {off : Fin 2 → Nat} {inb : ∀ a, off a + S1x16.size a ≤ S104x1024.size a} (hoff : off = ![p, 16 * n])
    {hx : (hM.access (Rect.unit (s := S104x1024) off S1x16.size inb)).Stores Finset.univ}
    {hm : (Finset.univ : Finset (Rect.unit (s := S104x1024) off S1x16.size inb).shape.Idx) = Finset.univ ∨ ∀ a, (Rect.unit (s := S104x1024) off S1x16.size inb).stride a = 1}
    {k : PUnit → Prog (TpuEff nD τ sig (Elt F) Λ₀ (thr d L).2) α} {Q : α → sProp 𝕄} :
    holdsH d L I (Zed I G p n) ⊢ iprop((holdsH d L I (Zed I G p (n + 1)) -∗ wp frame (wpE (defs₀ (F := F)) 𝒱₀ (thr d L) none) Set.univ (k ⟨⟩) Q)
      -∗ wp frame (wpE (defs₀ (F := F)) 𝒱₀ (thr d L) none) Set.univ
          (.op (.store hM (Rect.unit (s := S104x1024) off S1x16.size inb) (shapeCast S1x16 (k0_pay19 (F := F)) shapeCasts_S16_S1x16) Finset.univ hx hm) k) Q) := by
  iintro ⟨%f, %hf, H⟩ Hk
  iapply (wp_store 𝒱₀ (thr d L) none Set.univ (m := hM) (r := Rect.unit (s := S104x1024) off S1x16.size inb) (Mk := Finset.univ) (S := I) (f := f)
    (set16_sub hI hoff)) $$ H
  iintro H
  iapply Hk
  iexists _; isplitr
  rotate_left
  · iexact H
  · ipureintro; exact zed_write hoff (fun _ => rfl) hf

/-- One masked scatter-add through a row's view. -/
theorem wp_hstore {α : Type} {I : Finset S104x1024.Idx} {G : S104x1024.Idx → Elt F .f32} {w : Nat → BitVec 32} {p n : Nat} (hp : p < 104)
    (hI : ∀ i : S104x1024.Idx, (i 0).val = p → i ∈ I)
    {off : Fin 2 → Nat} {inb : ∀ a, off a + S1x1024.size a ≤ S104x1024.size a} (hoff : off = ![p, 0]) {ids : IVec S16 32} {msk : IVec S16 1}
    (hm : msk = cmpi .slt ids k0_pay21) {idx : IVec S16 32} (hidx : idx = minsi ids (broadcast S16 1023#32))
    {hchk : ∀ a x, ((![idx] : Fin 1 → IVec S16 32) a x).toNat < S1024.size a} (hw : ∀ x : Fin 16, ids (ix1 x) = w (16 * n + x.val))
    {hs : ((rowM off inb).access (.whole S1024)).Stores Finset.univ}
    {k : PUnit → Prog (TpuEff nD τ sig (Elt F) Λ₀ (thr d L).2) α} {Q : α → sProp 𝕄} :
    holdsH d L I (Hed I G w p n) ⊢ iprop((holdsH d L I (Hed I G w p (n + 1)) -∗ wp frame (wpE (defs₀ (F := F)) 𝒱₀ (thr d L) none) Set.univ (k ⟨⟩) Q)
      -∗ wp frame (wpE (defs₀ (F := F)) 𝒱₀ (thr d L) none) Set.univ
          (SparseCore.vectorStoreIdx (rowM off inb) ![idx] (k0_pay20 (F := F)) msk true hchk hs >>= k) Q) := by
  have hsub : ((rowM off inb).access (.whole S1024)).set ⊆ I := by
    intro i hi
    obtain ⟨x, -, e⟩ := Finset.mem_map.mp hi
    rw [emb_rowM hoff hp] at e
    subst e
    exact hI _ rfl
  iintro ⟨%f, %hf, H⟩ Hk
  have hcg : ((thr d L).loc cc0_scratch1 ↦[I \ ((rowM off inb).access (.whole S1024)).set]{fullShare}
      (((rowM off inb).access (.whole S1024)).write (Elt F) f
        (storeIdx (F := F) (((rowM off inb).access (.whole S1024)).read (Elt F) f) ![idx] (k0_pay20 (F := F)) msk true hchk) Finset.univ) : sProp 𝕄)
      = ((thr d L).loc cc0_scratch1 ↦[I \ ((rowM off inb).access (.whole S1024)).set]{fullShare} f) := by
    refine pointsTo_congr fun i hi => ?_
    exact View.write_of_not_mem (v := (rowM off inb).access (.whole S1024)) (Val := Elt F) f _ Finset.univ (Finset.mem_sdiff.mp hi).2
  ihave H' := (pointsTo_split_subset (ℓ := (thr d L).loc cc0_scratch1) (q := fullShare) (f := f) hsub).1 $$ H
  icases H' with ⟨H1, H2⟩
  iapply (SparseCore.wp_vectorStoreIdx 𝒱₀ (thr d L) none Set.univ (base := rowM off inb) (f := f)) $$ H1
  iintro H1
  iapply Hk
  iexists (((rowM off inb).access (.whole S1024)).write (Elt F) f
        (storeIdx (F := F) (((rowM off inb).access (.whole S1024)).read (Elt F) f) ![idx] (k0_pay20 (F := F)) msk true hchk) Finset.univ)
  isplitr
  · ipureintro; exact hed_write hp hoff hm hidx hchk hw rfl hf
  · iapply (pointsTo_split_subset (ℓ := (thr d L).loc cc0_scratch1) (q := fullShare) hsub).2
    isplitl [H1]; · iexact H1
    rw [hcg]
    iexact H2

end Wp

end Cert.Proof
end
-- ==== Proof.CountsRows.lean ====
/-
  One trip of the histogram kernel's row loops: the row's 64 pieces are stored zero, then the row's 64 ids are counted
  into it sixteen at a time. Each printed part has its own lemma; a trip glues them.
-/
module

public import proofs.«01_k».proof.Proof.CountsStep

@[expose] public section

noncomputable section

namespace Cert.Proof

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-- The histogram block of the ids `g`. -/
def cntG [FloatOps F] {n : Nat} (g : (⟨2, ![n, 64]⟩ : Shape).Idx → BitVec 32) (m : Nat) : (⟨2, ![m, 1024]⟩ : Shape).Idx → Elt F .f32 :=
  fun i => hist (fun s => nat2 g (i 0).val s) (i 1).val

/-- An id capped at 1023 is an index of the row. -/
theorem minsi_lt {w : BitVec 32} (h : w.toNat ≤ 1024) : (IntOp.minsi w 1023#32).toNat < 1024 := by
  have hw : w.toInt = w.toNat := BitVec.toInt_eq_toNat_of_lt (by omega)
  unfold IntOp.minsi
  split_ifs with hc
  · have hc' : w.toInt < (1023#32 : BitVec 32).toInt := by simpa [BitVec.slt] using hc
    rw [hw] at hc'
    have : (1023#32 : BitVec 32).toInt = 1023 := by decide
    omega
  · decide

/-- The capped ids are indices of the row. -/
theorem chk_ok {v : IVec S16 32} (h : ∀ x, (v x).toNat ≤ 1024) :
    ∀ a x, ((![minsi v (broadcast S16 1023#32)] : Fin 1 → IVec S16 32) a x).toNat < S1024.size a := by
  intro a x
  obtain rfl : a = 0 := Subsingleton.elim _ _
  exact minsi_lt (h x)

/-- Sixteen of a row's ids. -/
abbrev ld16 (g : S104x64.Idx → BitVec 32) (off : Fin 2 → Nat) (inb : ∀ a, off a + S1x16.size a ≤ S104x64.size a) : Vec F S1x16 .i32 :=
  (idM.access (Rect.unit (s := S104x64) off S1x16.size inb)).read (Elt F) g

theorem ld16_apply (g : S104x64.Idx → BitVec 32) {off : Fin 2 → Nat} {inb : ∀ a, off a + S1x16.size a ≤ S104x64.size a} {p q : Nat}
    (hoff : off = ![p, q]) (x : Fin 16) : shapeCast S16 (ld16 (F := F) g off inb) shapeCasts_S1x16_S16 (ix1 x) = nat2 g p (q + x.val) := by
  subst hoff
  have hb0 : p + 1 ≤ 104 := inb 0
  have hb1 : q + 16 ≤ 64 := inb 1
  have hx : x.val < 16 := x.isLt
  rw [nat2_of_lt g (show p < 104 by omega) (show q + x.val < 64 by omega)]
  have h := Shape.reshapeEquiv_cons_one (d := ![16]) shapeCasts_S1x16_S16 (ix1 x)
  show g ((Rect.unit (s := S104x64) ![p, q] S1x16.size inb).emb (Shape.reshapeEquiv _ (ix1 x))) = _
  congr 1
  refine (congrArg (Rect.unit (s := S104x64) ![p, q] S1x16.size inb).emb h).trans ?_
  funext a
  match a with
  | ⟨0, _⟩ => exact Fin.ext (show p + 1 * 0 = p by omega)
  | ⟨1, _⟩ => exact Fin.ext (show q + 1 * x.val = q + x.val by omega)

theorem ld16_le {g : S104x64.Idx → BitVec 32} (hg : ∀ i, (g i).toNat ≤ 1024) {off : Fin 2 → Nat} {inb : ∀ a, off a + S1x16.size a ≤ S104x64.size a}
    (x : S16.Idx) : (shapeCast S16 (ld16 (F := F) g off inb) shapeCasts_S1x16_S16 x).toNat ≤ 1024 := hg _

variable [FloatOps F] (d : Dev nD) (L : grid0.Coords)

/-- The fetched ids of the subcore. -/
abbrev holdsI (g : S104x64.Idx → BitVec 32) : sProp 𝕄 := (thr d L).loc cc0_scratch0 ↦[Finset.univ]{fullShare} g

/-- A row that is counted is done: the next row is to be zeroed. -/
theorem Hed.zed {I : Finset S104x1024.Idx} {g : S104x64.Idx → BitVec 32} {p : Nat} {f : S104x1024.Idx → Elt F .f32}
    (h : Hed I (cntG g 104) (fun s => nat2 g p s) p 4 f) : Zed I (cntG g 104) (p + 1) 0 f := by
  constructor
  · intro i hI hi
    rcases Nat.lt_or_ge (i 0).val p with hlt | hge
    · exact h.1 i hI hlt
    · have e : (i 0).val = p := by omega
      rw [h.2 i e]
      unfold cntG hist
      rw [e]
  · intro i _ hc; omega

theorem holdsH_mono {I : Finset S104x1024.Idx} {Φ Ψ : (S104x1024.Idx → Elt F .f32) → Prop} (h : ∀ f, Φ f → Ψ f) :
    holdsH (F := F) d L I Φ ⊢ holdsH d L I Ψ := by
  iintro ⟨%f, %hf, H⟩
  iexists f; isplitr; · ipureintro; exact h f hf
  iexact H

/-- A part proved on its own, at the head of a program. -/
theorem wp_seq {α β : Type} {P : sProp 𝕄} {p : Prog (TpuEff nD τ sig (Elt F) Λ₀ (thr d L).2) α} {Φ : α → sProp 𝕄}
    (h : P ⊢ wp frame (wpE (defs₀ (F := F)) 𝒱₀ (thr d L) none) Set.univ p Φ) {k : α → Prog (TpuEff nD τ sig (Elt F) Λ₀ (thr d L).2) β} {Q : β → sProp 𝕄} :
    P ⊢ iprop((∀ a, Φ a -∗ wp frame (wpE (defs₀ (F := F)) 𝒱₀ (thr d L) none) Set.univ (k a) Q)
      -∗ wp frame (wpE (defs₀ (F := F)) 𝒱₀ (thr d L) none) Set.univ (p >>= k) Q) := by
  rw [wp_bind]
  iintro HP Hk
  ihave Hw := h $$ HP
  iapply (wp_wand frame _ Set.univ) $$ Hw
  iexact Hk

/-- Sixteen ids loaded. -/
theorem wp_ids {α : Type} {g : S104x64.Idx → BitVec 32} {off : Fin 2 → Nat} {inb : ∀ a, off a + S1x16.size a ≤ S104x64.size a}
    {hl : idM.view.LoadsAt (Rect.unit (s := S104x64) off S1x16.size inb).toLoadRect} {k : Vec F S1x16 .i32 → Prog (TpuEff nD τ sig (Elt F) Λ₀ (thr d L).2) α} {Q : α → sProp 𝕄} :
    holdsI (F := F) d L g ⊢ iprop((holdsI (F := F) d L g -∗ wp frame (wpE (defs₀ (F := F)) 𝒱₀ (thr d L) none) Set.univ (k (ld16 (F := F) g off inb)) Q)
      -∗ wp frame (wpE (defs₀ (F := F)) 𝒱₀ (thr d L) none) Set.univ (.op (.load idM (Rect.unit (s := S104x64) off S1x16.size inb).toLoadRect hl) k) Q) :=
  wp_load_rect 𝒱₀ (thr d L) none Set.univ (m := idM) (r := Rect.unit (s := S104x64) off S1x16.size inb) (S := Finset.univ) (Finset.subset_univ _)

theorem part1_wp (a2 : Memref sig .scVector .hbm S3328x64 .i32) (h2 : a2.IsWhole) (a3 : Memref sig .scVector .hbm S3328x1024 .f32) (h3 : a3.IsWhole)
    (h4 : (idM).IsWhole) (h5 : (hM).IsWhole) (a6 a7 r0 : DmaSems sig S_) (c0 c1 : BitVec 32) (k0_t1 : Fin k0_t1_loop.trips)
    {I : Finset S104x1024.Idx} (hI : ∀ i : S104x1024.Idx, (i 0).val = k0_t1.val → i ∈ I) (G : S104x1024.Idx → Elt F .f32) :
    holdsH (F := F) d L I (Zed I G k0_t1.val 0) ⊢ wp frame (wpE (defs₀ (F := F)) 𝒱₀ (thr d L) none) Set.univ
      (k0_part1 L a2 h2 a3 h3 idM h4 hM h5 a6 a7 r0 k0_pay19 c0 c1 k0_t1) fun _ => holdsH d L I (Zed I G k0_t1.val 11) := by
  simp only [k0_part1_eq_skeleton]; unfold k0_part1_skel
  simp only [Prog.lift, Prog.bind_op, Prog.bind_ret, Prog.pure_eq_ret]
  iintro H
  iapply (wp_zload d L hI (k0_off2_eq k0_t1)) $$ H; iintro H
  iapply (wp_zstore d L (n := 0) hI (k0_off2_eq k0_t1)) $$ H; iintro H
  iapply (wp_zload d L hI (k0_off3_eq k0_t1)) $$ H; iintro H
  iapply (wp_zstore d L (n := 1) hI (k0_off3_eq k0_t1)) $$ H; iintro H
  iapply (wp_zload d L hI (k0_off4_eq k0_t1)) $$ H; iintro H
  iapply (wp_zstore d L (n := 2) hI (k0_off4_eq k0_t1)) $$ H; iintro H
  iapply (wp_zload d L hI (k0_off5_eq k0_t1)) $$ H; iintro H
  iapply (wp_zstore d L (n := 3) hI (k0_off5_eq k0_t1)) $$ H; iintro H
  iapply (wp_zload d L hI (k0_off6_eq k0_t1)) $$ H; iintro H
  iapply (wp_zstore d L (n := 4) hI (k0_off6_eq k0_t1)) $$ H; iintro H
  iapply (wp_zload d L hI (k0_off7_eq k0_t1)) $$ H; iintro H
  iapply (wp_zstore d L (n := 5) hI (k0_off7_eq k0_t1)) $$ H; iintro H
  iapply (wp_zload d L hI (k0_off8_eq k0_t1)) $$ H; iintro H
  iapply (wp_zstore d L (n := 6) hI (k0_off8_eq k0_t1)) $$ H; iintro H
  iapply (wp_zload d L hI (k0_off9_eq k0_t1)) $$ H; iintro H
  iapply (wp_zstore d L (n := 7) hI (k0_off9_eq k0_t1)) $$ H; iintro H
  iapply (wp_zload d L hI (k0_off10_eq k0_t1)) $$ H; iintro H
  iapply (wp_zstore d L (n := 8) hI (k0_off10_eq k0_t1)) $$ H; iintro H
  iapply (wp_zload d L hI (k0_off11_eq k0_t1)) $$ H; iintro H
  iapply (wp_zstore d L (n := 9) hI (k0_off11_eq k0_t1)) $$ H; iintro H
  iapply (wp_zload d L hI (k0_off12_eq k0_t1)) $$ H; iintro H
  iapply (wp_zstore d L (n := 10) hI (k0_off12_eq k0_t1)) $$ H; iintro H
  iapply (wp_zload d L hI (k0_off13_eq k0_t1)) $$ H; iintro H
  rw [wp_ret]; imodintro; iexact H

theorem part2_wp (a2 : Memref sig .scVector .hbm S3328x64 .i32) (h2 : a2.IsWhole) (a3 : Memref sig .scVector .hbm S3328x1024 .f32) (h3 : a3.IsWhole)
    (h4 : (idM).IsWhole) (h5 : (hM).IsWhole) (a6 a7 r0 : DmaSems sig S_) (arg8 : BitVec 32) (k0_t1 : Fin k0_t1_loop.trips)
    {I : Finset S104x1024.Idx} (hI : ∀ i : S104x1024.Idx, (i 0).val = k0_t1.val → i ∈ I) (G : S104x1024.Idx → Elt F .f32) :
    holdsH (F := F) d L I (Zed I G k0_t1.val 11) ⊢ wp frame (wpE (defs₀ (F := F)) 𝒱₀ (thr d L) none) Set.univ
      (k0_part2 L a2 h2 a3 h3 idM h4 hM h5 a6 a7 r0 k0_pay19 k0_t1 arg8) fun _ => holdsH d L I (Zed I G k0_t1.val 23) := by
  simp only [k0_part2_eq_skeleton]; unfold k0_part2_skel
  simp only [Prog.lift, Prog.bind_op, Prog.bind_ret, Prog.pure_eq_ret]
  iintro H
  iapply (wp_zstore d L (n := 11) hI (k0_off13_eq k0_t1)) $$ H; iintro H
  iapply (wp_zload d L hI (k0_off14_eq k0_t1)) $$ H; iintro H
  iapply (wp_zstore d L (n := 12) hI (k0_off14_eq k0_t1)) $$ H; iintro H
  iapply (wp_zload d L hI (k0_off15_eq k0_t1)) $$ H; iintro H
  iapply (wp_zstore d L (n := 13) hI (k0_off15_eq k0_t1)) $$ H; iintro H
  iapply (wp_zload d L hI (k0_off16_eq k0_t1)) $$ H; iintro H
  iapply (wp_zstore d L (n := 14) hI (k0_off16_eq k0_t1)) $$ H; iintro H
  iapply (wp_zload d L hI (k0_off17_eq k0_t1)) $$ H; iintro H
  iapply (wp_zstore d L (n := 15) hI (k0_off17_eq k0_t1)) $$ H; iintro H
  iapply (wp_zload d L hI (k0_off18_eq k0_t1)) $$ H; iintro H
  iapply (wp_zstore d L (n := 16) hI (k0_off18_eq k0_t1)) $$ H; iintro H
  iapply (wp_zload d L hI (k0_off19_eq k0_t1)) $$ H; iintro H
  iapply (wp_zstore d L (n := 17) hI (k0_off19_eq k0_t1)) $$ H; iintro H
  iapply (wp_zload d L hI (k0_off20_eq k0_t1)) $$ H; iintro H
  iapply (wp_zstore d L (n := 18) hI (k0_off20_eq k0_t1)) $$ H; iintro H
  iapply (wp_zload d L hI (k0_off21_eq k0_t1)) $$ H; iintro H
  iapply (wp_zstore d L (n := 19) hI (k0_off21_eq k0_t1)) $$ H; iintro H
  iapply (wp_zload d L hI (k0_off22_eq k0_t1)) $$ H; iintro H
  iapply (wp_zstore d L (n := 20) hI (k0_off22_eq k0_t1)) $$ H; iintro H
  iapply (wp_zload d L hI (k0_off23_eq k0_t1)) $$ H; iintro H
  iapply (wp_zstore d L (n := 21) hI (k0_off23_eq k0_t1)) $$ H; iintro H
  iapply (wp_zload d L hI (k0_off24_eq k0_t1)) $$ H; iintro H
  iapply (wp_zstore d L (n := 22) hI (k0_off24_eq k0_t1)) $$ H; iintro H
  iapply (wp_zload d L hI (k0_off25_eq k0_t1)) $$ H; iintro H
  rw [wp_ret]; imodintro; iexact H

theorem part3_wp (a2 : Memref sig .scVector .hbm S3328x64 .i32) (h2 : a2.IsWhole) (a3 : Memref sig .scVector .hbm S3328x1024 .f32) (h3 : a3.IsWhole)
    (h4 : (idM).IsWhole) (h5 : (hM).IsWhole) (a6 a7 r0 : DmaSems sig S_) (arg8 : BitVec 32) (k0_t1 : Fin k0_t1_loop.trips)
    {I : Finset S104x1024.Idx} (hI : ∀ i : S104x1024.Idx, (i 0).val = k0_t1.val → i ∈ I) (G : S104x1024.Idx → Elt F .f32) :
    holdsH (F := F) d L I (Zed I G k0_t1.val 23) ⊢ wp frame (wpE (defs₀ (F := F)) 𝒱₀ (thr d L) none) Set.univ
      (k0_part3 L a2 h2 a3 h3 idM h4 hM h5 a6 a7 r0 k0_pay19 k0_t1 arg8) fun _ => holdsH d L I (Zed I G k0_t1.val 35) := by
  simp only [k0_part3_eq_skeleton]; unfold k0_part3_skel
  simp only [Prog.lift, Prog.bind_op, Prog.bind_ret, Prog.pure_eq_ret]
  iintro H
  iapply (wp_zstore d L (n := 23) hI (k0_off25_eq k0_t1)) $$ H; iintro H
  iapply (wp_zload d L hI (k0_off26_eq k0_t1)) $$ H; iintro H
  iapply (wp_zstore d L (n := 24) hI (k0_off26_eq k0_t1)) $$ H; iintro H
  iapply (wp_zload d L hI (k0_off27_eq k0_t1)) $$ H; iintro H
  iapply (wp_zstore d L (n := 25) hI (k0_off27_eq k0_t1)) $$ H; iintro H
  iapply (wp_zload d L hI (k0_off28_eq k0_t1)) $$ H; iintro H
  iapply (wp_zstore d L (n := 26) hI (k0_off28_eq k0_t1)) $$ H; iintro H
  iapply (wp_zload d L hI (k0_off29_eq k0_t1)) $$ H; iintro H
  iapply (wp_zstore d L (n := 27) hI (k0_off29_eq k0_t1)) $$ H; iintro H
  iapply (wp_zload d L hI (k0_off30_eq k0_t1)) $$ H; iintro H
  iapply (wp_zstore d L (n := 28) hI (k0_off30_eq k0_t1)) $$ H; iintro H
  iapply (wp_zload d L hI (k0_off31_eq k0_t1)) $$ H; iintro H
  iapply (wp_zstore d L (n := 29) hI (k0_off31_eq k0_t1)) $$ H; iintro H
  iapply (wp_zload d L hI (k0_off32_eq k0_t1)) $$ H; iintro H
  iapply (wp_zstore d L (n := 30) hI (k0_off32_eq k0_t1)) $$ H; iintro H
  iapply (wp_zload d L hI (k0_off33_eq k0_t1)) $$ H; iintro H
  iapply (wp_zstore d L (n := 31) hI (k0_off33_eq k0_t1)) $$ H; iintro H
  iapply (wp_zload d L hI (k0_off34_eq k0_t1)) $$ H; iintro H
  iapply (wp_zstore d L (n := 32) hI (k0_off34_eq k0_t1)) $$ H; iintro H
  iapply (wp_zload d L hI (k0_off35_eq k0_t1)) $$ H; iintro H
  iapply (wp_zstore d L (n := 33) hI (k0_off35_eq k0_t1)) $$ H; iintro H
  iapply (wp_zload d L hI (k0_off36_eq k0_t1)) $$ H; iintro H
  iapply (wp_zstore d L (n := 34) hI (k0_off36_eq k0_t1)) $$ H; iintro H
  iapply (wp_zload d L hI (k0_off37_eq k0_t1)) $$ H; iintro H
  rw [wp_ret]; imodintro; iexact H

theorem part4_wp (a2 : Memref sig .scVector .hbm S3328x64 .i32) (h2 : a2.IsWhole) (a3 : Memref sig .scVector .hbm S3328x1024 .f32) (h3 : a3.IsWhole)
    (h4 : (idM).IsWhole) (h5 : (hM).IsWhole) (a6 a7 r0 : DmaSems sig S_) (arg8 : BitVec 32) (k0_t1 : Fin k0_t1_loop.trips)
    {I : Finset S104x1024.Idx} (hI : ∀ i : S104x1024.Idx, (i 0).val = k0_t1.val → i ∈ I) (G : S104x1024.Idx → Elt F .f32) :
    holdsH (F := F) d L I (Zed I G k0_t1.val 35) ⊢ wp frame (wpE (defs₀ (F := F)) 𝒱₀ (thr d L) none) Set.univ
      (k0_part4 L a2 h2 a3 h3 idM h4 hM h5 a6 a7 r0 k0_pay19 k0_t1 arg8) fun _ => holdsH d L I (Zed I G k0_t1.val 47) := by
  simp only [k0_part4_eq_skeleton]; unfold k0_part4_skel
  simp only [Prog.lift, Prog.bind_op, Prog.bind_ret, Prog.pure_eq_ret]
  iintro H
  iapply (wp_zstore d L (n := 35) hI (k0_off37_eq k0_t1)) $$ H; iintro H
  iapply (wp_zload d L hI (k0_off38_eq k0_t1)) $$ H; iintro H
  iapply (wp_zstore d L (n := 36) hI (k0_off38_eq k0_t1)) $$ H; iintro H
  iapply (wp_zload d L hI (k0_off39_eq k0_t1)) $$ H; iintro H
  iapply (wp_zstore d L (n := 37) hI (k0_off39_eq k0_t1)) $$ H; iintro H
  iapply (wp_zload d L hI (k0_off40_eq k0_t1)) $$ H; iintro H
  iapply (wp_zstore d L (n := 38) hI (k0_off40_eq k0_t1)) $$ H; iintro H
  iapply (wp_zload d L hI (k0_off41_eq k0_t1)) $$ H; iintro H
  iapply (wp_zstore d L (n := 39) hI (k0_off41_eq k0_t1)) $$ H; iintro H
  iapply (wp_zload d L hI (k0_off42_eq k0_t1)) $$ H; iintro H
  iapply (wp_zstore d L (n := 40) hI (k0_off42_eq k0_t1)) $$ H; iintro H
  iapply (wp_zload d L hI (k0_off43_eq k0_t1)) $$ H; iintro H
  iapply (wp_zstore d L (n := 41) hI (k0_off43_eq k0_t1)) $$ H; iintro H
  iapply (wp_zload d L hI (k0_off44_eq k0_t1)) $$ H; iintro H
  iapply (wp_zstore d L (n := 42) hI (k0_off44_eq k0_t1)) $$ H; iintro H
  iapply (wp_zload d L hI (k0_off45_eq k0_t1)) $$ H; iintro H
  iapply (wp_zstore d L (n := 43) hI (k0_off45_eq k0_t1)) $$ H; iintro H
  iapply (wp_zload d L hI (k0_off46_eq k0_t1)) $$ H; iintro H
  iapply (wp_zstore d L (n := 44) hI (k0_off46_eq k0_t1)) $$ H; iintro H
  iapply (wp_zload d L hI (k0_off47_eq k0_t1)) $$ H; iintro H
  iapply (wp_zstore d L (n := 45) hI (k0_off47_eq k0_t1)) $$ H; iintro H
  iapply (wp_zload d L hI (k0_off48_eq k0_t1)) $$ H; iintro H
  iapply (wp_zstore d L (n := 46) hI (k0_off48_eq k0_t1)) $$ H; iintro H
  iapply (wp_zload d L hI (k0_off49_eq k0_t1)) $$ H; iintro H
  rw [wp_ret]; imodintro; iexact H

theorem part5_wp (a2 : Memref sig .scVector .hbm S3328x64 .i32) (h2 : a2.IsWhole) (a3 : Memref sig .scVector .hbm S3328x1024 .f32) (h3 : a3.IsWhole)
    (h4 : (idM).IsWhole) (h5 : (hM).IsWhole) (a6 a7 r0 : DmaSems sig S_) (arg8 : BitVec 32) (k0_t1 : Fin k0_t1_loop.trips)
    {I : Finset S104x1024.Idx} (hI : ∀ i : S104x1024.Idx, (i 0).val = k0_t1.val → i ∈ I) (G : S104x1024.Idx → Elt F .f32) :
    holdsH (F := F) d L I (Zed I G k0_t1.val 47) ⊢ wp frame (wpE (defs₀ (F := F)) 𝒱₀ (thr d L) none) Set.univ
      (k0_part5 L a2 h2 a3 h3 idM h4 hM h5 a6 a7 r0 k0_pay19 k0_t1 arg8) fun _ => holdsH d L I (Zed I G k0_t1.val 59) := by
  simp only [k0_part5_eq_skeleton]; unfold k0_part5_skel
  simp only [Prog.lift, Prog.bind_op, Prog.bind_ret, Prog.pure_eq_ret]
  iintro H
  iapply (wp_zstore d L (n := 47) hI (k0_off49_eq k0_t1)) $$ H; iintro H
  iapply (wp_zload d L hI (k0_off50_eq k0_t1)) $$ H; iintro H
  iapply (wp_zstore d L (n := 48) hI (k0_off50_eq k0_t1)) $$ H; iintro H
  iapply (wp_zload d L hI (k0_off51_eq k0_t1)) $$ H; iintro H
  iapply (wp_zstore d L (n := 49) hI (k0_off51_eq k0_t1)) $$ H; iintro H
  iapply (wp_zload d L hI (k0_off52_eq k0_t1)) $$ H; iintro H
  iapply (wp_zstore d L (n := 50) hI (k0_off52_eq k0_t1)) $$ H; iintro H
  iapply (wp_zload d L hI (k0_off53_eq k0_t1)) $$ H; iintro H
  iapply (wp_zstore d L (n := 51) hI (k0_off53_eq k0_t1)) $$ H; iintro H
  iapply (wp_zload d L hI (k0_off54_eq k0_t1)) $$ H; iintro H
  iapply (wp_zstore d L (n := 52) hI (k0_off54_eq k0_t1)) $$ H; iintro H
  iapply (wp_zload d L hI (k0_off55_eq k0_t1)) $$ H; iintro H
  iapply (wp_zstore d L (n := 53) hI (k0_off55_eq k0_t1)) $$ H; iintro H
  iapply (wp_zload d L hI (k0_off56_eq k0_t1)) $$ H; iintro H
  iapply (wp_zstore d L (n := 54) hI (k0_off56_eq k0_t1)) $$ H; iintro H
  iapply (wp_zload d L hI (k0_off57_eq k0_t1)) $$ H; iintro H
  iapply (wp_zstore d L (n := 55) hI (k0_off57_eq k0_t1)) $$ H; iintro H
  iapply (wp_zload d L hI (k0_off58_eq k0_t1)) $$ H; iintro H
  iapply (wp_zstore d L (n := 56) hI (k0_off58_eq k0_t1)) $$ H; iintro H
  iapply (wp_zload d L hI (k0_off59_eq k0_t1)) $$ H; iintro H
  iapply (wp_zstore d L (n := 57) hI (k0_off59_eq k0_t1)) $$ H; iintro H
  iapply (wp_zload d L hI (k0_off60_eq k0_t1)) $$ H; iintro H
  iapply (wp_zstore d L (n := 58) hI (k0_off60_eq k0_t1)) $$ H; iintro H
  iapply (wp_zload d L hI (k0_off61_eq k0_t1)) $$ H; iintro H
  rw [wp_ret]; imodintro; iexact H

theorem part6_wp (a2 : Memref sig .scVector .hbm S3328x64 .i32) (h2 : a2.IsWhole) (a3 : Memref sig .scVector .hbm S3328x1024 .f32) (h3 : a3.IsWhole)
    (h4 : (idM).IsWhole) (h5 : (hM).IsWhole) (a6 a7 r0 : DmaSems sig S_) (arg8 : BitVec 32) (k0_t1 : Fin k0_t1_loop.trips)
    {I : Finset S104x1024.Idx} (hp : k0_t1.val < 104) (hI : ∀ i : S104x1024.Idx, (i 0).val = k0_t1.val → i ∈ I) (G : S104x1024.Idx → Elt F .f32)
    {g : S104x64.Idx → BitVec 32} (hg : ∀ i, (g i).toNat ≤ 1024) :
    iprop(holdsI (F := F) d L g ∗ holdsH (F := F) d L I (Zed I G k0_t1.val 59)) ⊢ wp frame (wpE (defs₀ (F := F)) 𝒱₀ (thr d L) none) Set.univ
      (k0_part6 L a2 h2 a3 h3 idM h4 hM h5 a6 a7 r0 k0_pay19 k0_pay20 k0_pay21 k0_t1 arg8)
      fun _ => iprop(holdsI (F := F) d L g ∗ holdsH d L I (Hed I G (fun s => nat2 g k0_t1.val s) k0_t1.val 3)) := by
  simp only [k0_part6_eq_skeleton]; unfold k0_part6_skel
  simp only [Prog.lift, Prog.bind_op, Prog.bind_ret, Prog.pure_eq_ret]
  iintro ⟨HI, H⟩
  iapply (wp_zstore d L (n := 59) hI (k0_off61_eq k0_t1)) $$ H; iintro H
  iapply (wp_zload d L hI (k0_off62_eq k0_t1)) $$ H; iintro H
  iapply (wp_zstore d L (n := 60) hI (k0_off62_eq k0_t1)) $$ H; iintro H
  iapply (wp_zload d L hI (k0_off63_eq k0_t1)) $$ H; iintro H
  iapply (wp_zstore d L (n := 61) hI (k0_off63_eq k0_t1)) $$ H; iintro H
  iapply (wp_zload d L hI (k0_off64_eq k0_t1)) $$ H; iintro H
  iapply (wp_zstore d L (n := 62) hI (k0_off64_eq k0_t1)) $$ H; iintro H
  iapply (wp_zload d L hI (k0_off65_eq k0_t1)) $$ H; iintro H
  iapply (wp_zstore d L (n := 63) hI (k0_off65_eq k0_t1)) $$ H; iintro H
  ihave H := (holdsH_mono d L (fun f hf => Zed.hed (w := fun s => nat2 g k0_t1.val s) hf)) $$ H
  iapply (wp_ids d L) $$ HI; iintro HI
  have hc0 : k0_chk1 (k0_pay3 (ld16 (F := F) g (k0_off66 k0_t1) (k0_off66_inb k0_t1))) := chk_ok (ld16_le (F := F) hg)
  rw [wp_assume_of _ _ _ _ hc0]
  iapply (wp_hstore d L (n := 0) hp hI (k0_off67_eq k0_t1) rfl rfl (ld16_apply g (k0_off66_eq k0_t1))) $$ H; iintro H
  iapply (wp_ids d L) $$ HI; iintro HI
  have hc1 : k0_chk2 (k0_pay6 (ld16 (F := F) g (k0_off68 k0_t1) (k0_off68_inb k0_t1))) := chk_ok (ld16_le (F := F) hg)
  rw [wp_assume_of _ _ _ _ hc1]
  iapply (wp_hstore d L (n := 1) hp hI (k0_off69_eq k0_t1) rfl rfl (ld16_apply g (k0_off68_eq k0_t1))) $$ H; iintro H
  iapply (wp_ids d L) $$ HI; iintro HI
  have hc2 : k0_chk3 (k0_pay9 (ld16 (F := F) g (k0_off70 k0_t1) (k0_off70_inb k0_t1))) := chk_ok (ld16_le (F := F) hg)
  rw [wp_assume_of _ _ _ _ hc2]
  iapply (wp_hstore d L (n := 2) hp hI (k0_off71_eq k0_t1) rfl rfl (ld16_apply g (k0_off70_eq k0_t1))) $$ H; iintro H
  rw [wp_ret]; imodintro
  isplitl [HI] <;> iassumption

theorem t1_wp (a2 : Memref sig .scVector .hbm S3328x64 .i32) (h2 : a2.IsWhole) (a3 : Memref sig .scVector .hbm S3328x1024 .f32) (h3 : a3.IsWhole)
    (h4 : (idM).IsWhole) (h5 : (hM).IsWhole) (a6 a7 r0 : DmaSems sig S_) (acc : BitVec 32) (k0_t1 : Fin k0_t1_loop.trips)
    {I : Finset S104x1024.Idx} (hp : k0_t1.val < 104) (hI : ∀ i : S104x1024.Idx, (i 0).val = k0_t1.val → i ∈ I)
    {g : S104x64.Idx → BitVec 32} (hg : ∀ i, (g i).toNat ≤ 1024) :
    iprop(holdsI (F := F) d L g ∗ holdsH (F := F) d L I (Zed I (cntG g 104) k0_t1.val 0)) ⊢ wp frame (wpE (defs₀ (F := F)) 𝒱₀ (thr d L) none) Set.univ
      (k0_t1_body L a2 h2 a3 h3 idM h4 hM h5 a6 a7 r0 k0_t1 acc)
      fun _ => iprop(holdsI (F := F) d L g ∗ holdsH d L I (Zed I (cntG g 104) (k0_t1.val + 1) 0)) := by
  unfold k0_t1_body
  iintro ⟨HI, H⟩
  iapply (wp_seq d L (part1_wp d L a2 h2 a3 h3 h4 h5 a6 a7 r0 _ _ k0_t1 hI (cntG g 104))) $$ H
  iintro %arg8 H
  iapply (wp_seq d L (part2_wp d L a2 h2 a3 h3 h4 h5 a6 a7 r0 _ k0_t1 hI (cntG g 104))) $$ H
  iintro %_ H
  iapply (wp_seq d L (part3_wp d L a2 h2 a3 h3 h4 h5 a6 a7 r0 _ k0_t1 hI (cntG g 104))) $$ H
  iintro %_ H
  iapply (wp_seq d L (part4_wp d L a2 h2 a3 h3 h4 h5 a6 a7 r0 _ k0_t1 hI (cntG g 104))) $$ H
  iintro %_ H
  iapply (wp_seq d L (part5_wp d L a2 h2 a3 h3 h4 h5 a6 a7 r0 _ k0_t1 hI (cntG g 104))) $$ H
  iintro %_ H
  iapply (wp_seq d L (part6_wp d L a2 h2 a3 h3 h4 h5 a6 a7 r0 _ k0_t1 hp hI (cntG g 104) hg)) $$ [HI H]
  · isplitl [HI] <;> iassumption
  iintro %_ ⟨HI, H⟩
  simp only [Prog.lift, Prog.bind_op, Prog.bind_ret, Prog.pure_eq_ret]
  iapply (wp_ids d L) $$ HI; iintro HI
  have hc3 : k0_chk4 (k0_pay24 (ld16 (F := F) g (k0_off72 k0_t1) (k0_off72_inb k0_t1))) := chk_ok (ld16_le (F := F) hg)
  rw [wp_assume_of _ _ _ _ hc3]
  iapply (wp_hstore d L (n := 3) hp hI (k0_off73_eq k0_t1) rfl rfl (ld16_apply g (k0_off72_eq k0_t1))) $$ H; iintro H
  rw [wp_ret]; imodintro
  isplitl [HI]; · iexact HI
  iapply (holdsH_mono d L (fun f hf => hf.zed)) $$ H

theorem part7_wp (a2 : Memref sig .scVector .hbm S3328x64 .i32) (h2 : a2.IsWhole) (a3 : Memref sig .scVector .hbm S3328x1024 .f32) (h3 : a3.IsWhole)
    (h4 : (idM).IsWhole) (h5 : (hM).IsWhole) (a6 a7 r0 : DmaSems sig S_) (c0 c1 : BitVec 32) (k0_t2 : Fin k0_t2_loop.trips)
    {I : Finset S104x1024.Idx} (hI : ∀ i : S104x1024.Idx, (i 0).val = (k0_t2.val + 56) → i ∈ I) (G : S104x1024.Idx → Elt F .f32) :
    holdsH (F := F) d L I (Zed I G (k0_t2.val + 56) 0) ⊢ wp frame (wpE (defs₀ (F := F)) 𝒱₀ (thr d L) none) Set.univ
      (k0_part7 L a2 h2 a3 h3 idM h4 hM h5 a6 a7 r0 k0_pay19 c0 c1 k0_t2) fun _ => holdsH d L I (Zed I G (k0_t2.val + 56) 11) := by
  simp only [k0_part7_eq_skeleton]; unfold k0_part7_skel
  simp only [Prog.lift, Prog.bind_op, Prog.bind_ret, Prog.pure_eq_ret]
  iintro H
  iapply (wp_zload d L hI (k0_off75_eq k0_t2)) $$ H; iintro H
  iapply (wp_zstore d L (n := 0) hI (k0_off75_eq k0_t2)) $$ H; iintro H
  iapply (wp_zload d L hI (k0_off76_eq k0_t2)) $$ H; iintro H
  iapply (wp_zstore d L (n := 1) hI (k0_off76_eq k0_t2)) $$ H; iintro H
  iapply (wp_zload d L hI (k0_off77_eq k0_t2)) $$ H; iintro H
  iapply (wp_zstore d L (n := 2) hI (k0_off77_eq k0_t2)) $$ H; iintro H
  iapply (wp_zload d L hI (k0_off78_eq k0_t2)) $$ H; iintro H
  iapply (wp_zstore d L (n := 3) hI (k0_off78_eq k0_t2)) $$ H; iintro H
  iapply (wp_zload d L hI (k0_off79_eq k0_t2)) $$ H; iintro H
  iapply (wp_zstore d L (n := 4) hI (k0_off79_eq k0_t2)) $$ H; iintro H
  iapply (wp_zload d L hI (k0_off80_eq k0_t2)) $$ H; iintro H
  iapply (wp_zstore d L (n := 5) hI (k0_off80_eq k0_t2)) $$ H; iintro H
  iapply (wp_zload d L hI (k0_off81_eq k0_t2)) $$ H; iintro H
  iapply (wp_zstore d L (n := 6) hI (k0_off81_eq k0_t2)) $$ H; iintro H
  iapply (wp_zload d L hI (k0_off82_eq k0_t2)) $$ H; iintro H
  iapply (wp_zstore d L (n := 7) hI (k0_off82_eq k0_t2)) $$ H; iintro H
  iapply (wp_zload d L hI (k0_off83_eq k0_t2)) $$ H; iintro H
  iapply (wp_zstore d L (n := 8) hI (k0_off83_eq k0_t2)) $$ H; iintro H
  iapply (wp_zload d L hI (k0_off84_eq k0_t2)) $$ H; iintro H
  iapply (wp_zstore d L (n := 9) hI (k0_off84_eq k0_t2)) $$ H; iintro H
  iapply (wp_zload d L hI (k0_off85_eq k0_t2)) $$ H; iintro H
  iapply (wp_zstore d L (n := 10) hI (k0_off85_eq k0_t2)) $$ H; iintro H
  iapply (wp_zload d L hI (k0_off86_eq k0_t2)) $$ H; iintro H
  rw [wp_ret]; imodintro; iexact H

theorem part8_wp (a2 : Memref sig .scVector .hbm S3328x64 .i32) (h2 : a2.IsWhole) (a3 : Memref sig .scVector .hbm S3328x1024 .f32) (h3 : a3.IsWhole)
    (h4 : (idM).IsWhole) (h5 : (hM).IsWhole) (a6 a7 r0 : DmaSems sig S_) (arg8 : BitVec 32) (k0_t2 : Fin k0_t2_loop.trips)
    {I : Finset S104x1024.Idx} (hI : ∀ i : S104x1024.Idx, (i 0).val = (k0_t2.val + 56) → i ∈ I) (G : S104x1024.Idx → Elt F .f32) :
    holdsH (F := F) d L I (Zed I G (k0_t2.val + 56) 11) ⊢ wp frame (wpE (defs₀ (F := F)) 𝒱₀ (thr d L) none) Set.univ
      (k0_part8 L a2 h2 a3 h3 idM h4 hM h5 a6 a7 r0 k0_pay19 k0_t2 arg8) fun _ => holdsH d L I (Zed I G (k0_t2.val + 56) 23) := by
  simp only [k0_part8_eq_skeleton]; unfold k0_part8_skel
  simp only [Prog.lift, Prog.bind_op, Prog.bind_ret, Prog.pure_eq_ret]
  iintro H
  iapply (wp_zstore d L (n := 11) hI (k0_off86_eq k0_t2)) $$ H; iintro H
  iapply (wp_zload d L hI (k0_off87_eq k0_t2)) $$ H; iintro H
  iapply (wp_zstore d L (n := 12) hI (k0_off87_eq k0_t2)) $$ H; iintro H
  iapply (wp_zload d L hI (k0_off88_eq k0_t2)) $$ H; iintro H
  iapply (wp_zstore d L (n := 13) hI (k0_off88_eq k0_t2)) $$ H; iintro H
  iapply (wp_zload d L hI (k0_off89_eq k0_t2)) $$ H; iintro H
  iapply (wp_zstore d L (n := 14) hI (k0_off89_eq k0_t2)) $$ H; iintro H
  iapply (wp_zload d L hI (k0_off90_eq k0_t2)) $$ H; iintro H
  iapply (wp_zstore d L (n := 15) hI (k0_off90_eq k0_t2)) $$ H; iintro H
  iapply (wp_zload d L hI (k0_off91_eq k0_t2)) $$ H; iintro H
  iapply (wp_zstore d L (n := 16) hI (k0_off91_eq k0_t2)) $$ H; iintro H
  iapply (wp_zload d L hI (k0_off92_eq k0_t2)) $$ H; iintro H
  iapply (wp_zstore d L (n := 17) hI (k0_off92_eq k0_t2)) $$ H; iintro H
  iapply (wp_zload d L hI (k0_off93_eq k0_t2)) $$ H; iintro H
  iapply (wp_zstore d L (n := 18) hI (k0_off93_eq k0_t2)) $$ H; iintro H
  iapply (wp_zload d L hI (k0_off94_eq k0_t2)) $$ H; iintro H
  iapply (wp_zstore d L (n := 19) hI (k0_off94_eq k0_t2)) $$ H; iintro H
  iapply (wp_zload d L hI (k0_off95_eq k0_t2)) $$ H; iintro H
  iapply (wp_zstore d L (n := 20) hI (k0_off95_eq k0_t2)) $$ H; iintro H
  iapply (wp_zload d L hI (k0_off96_eq k0_t2)) $$ H; iintro H
  iapply (wp_zstore d L (n := 21) hI (k0_off96_eq k0_t2)) $$ H; iintro H
  iapply (wp_zload d L hI (k0_off97_eq k0_t2)) $$ H; iintro H
  iapply (wp_zstore d L (n := 22) hI (k0_off97_eq k0_t2)) $$ H; iintro H
  iapply (wp_zload d L hI (k0_off98_eq k0_t2)) $$ H; iintro H
  rw [wp_ret]; imodintro; iexact H

theorem part9_wp (a2 : Memref sig .scVector .hbm S3328x64 .i32) (h2 : a2.IsWhole) (a3 : Memref sig .scVector .hbm S3328x1024 .f32) (h3 : a3.IsWhole)
    (h4 : (idM).IsWhole) (h5 : (hM).IsWhole) (a6 a7 r0 : DmaSems sig S_) (arg8 : BitVec 32) (k0_t2 : Fin k0_t2_loop.trips)
    {I : Finset S104x1024.Idx} (hI : ∀ i : S104x1024.Idx, (i 0).val = (k0_t2.val + 56) → i ∈ I) (G : S104x1024.Idx → Elt F .f32) :
    holdsH (F := F) d L I (Zed I G (k0_t2.val + 56) 23) ⊢ wp frame (wpE (defs₀ (F := F)) 𝒱₀ (thr d L) none) Set.univ
      (k0_part9 L a2 h2 a3 h3 idM h4 hM h5 a6 a7 r0 k0_pay19 k0_t2 arg8) fun _ => holdsH d L I (Zed I G (k0_t2.val + 56) 35) := by
  simp only [k0_part9_eq_skeleton]; unfold k0_part9_skel
  simp only [Prog.lift, Prog.bind_op, Prog.bind_ret, Prog.pure_eq_ret]
  iintro H
  iapply (wp_zstore d L (n := 23) hI (k0_off98_eq k0_t2)) $$ H; iintro H
  iapply (wp_zload d L hI (k0_off99_eq k0_t2)) $$ H; iintro H
  iapply (wp_zstore d L (n := 24) hI (k0_off99_eq k0_t2)) $$ H; iintro H
  iapply (wp_zload d L hI (k0_off100_eq k0_t2)) $$ H; iintro H
  iapply (wp_zstore d L (n := 25) hI (k0_off100_eq k0_t2)) $$ H; iintro H
  iapply (wp_zload d L hI (k0_off101_eq k0_t2)) $$ H; iintro H
  iapply (wp_zstore d L (n := 26) hI (k0_off101_eq k0_t2)) $$ H; iintro H
  iapply (wp_zload d L hI (k0_off102_eq k0_t2)) $$ H; iintro H
  iapply (wp_zstore d L (n := 27) hI (k0_off102_eq k0_t2)) $$ H; iintro H
  iapply (wp_zload d L hI (k0_off103_eq k0_t2)) $$ H; iintro H
  iapply (wp_zstore d L (n := 28) hI (k0_off103_eq k0_t2)) $$ H; iintro H
  iapply (wp_zload d L hI (k0_off104_eq k0_t2)) $$ H; iintro H
  iapply (wp_zstore d L (n := 29) hI (k0_off104_eq k0_t2)) $$ H; iintro H
  iapply (wp_zload d L hI (k0_off105_eq k0_t2)) $$ H; iintro H
  iapply (wp_zstore d L (n := 30) hI (k0_off105_eq k0_t2)) $$ H; iintro H
  iapply (wp_zload d L hI (k0_off106_eq k0_t2)) $$ H; iintro H
  iapply (wp_zstore d L (n := 31) hI (k0_off106_eq k0_t2)) $$ H; iintro H
  iapply (wp_zload d L hI (k0_off107_eq k0_t2)) $$ H; iintro H
  iapply (wp_zstore d L (n := 32) hI (k0_off107_eq k0_t2)) $$ H; iintro H
  iapply (wp_zload d L hI (k0_off108_eq k0_t2)) $$ H; iintro H
  iapply (wp_zstore d L (n := 33) hI (k0_off108_eq k0_t2)) $$ H; iintro H
  iapply (wp_zload d L hI (k0_off109_eq k0_t2)) $$ H; iintro H
  iapply (wp_zstore d L (n := 34) hI (k0_off109_eq k0_t2)) $$ H; iintro H
  iapply (wp_zload d L hI (k0_off110_eq k0_t2)) $$ H; iintro H
  rw [wp_ret]; imodintro; iexact H

theorem part10_wp (a2 : Memref sig .scVector .hbm S3328x64 .i32) (h2 : a2.IsWhole) (a3 : Memref sig .scVector .hbm S3328x1024 .f32) (h3 : a3.IsWhole)
    (h4 : (idM).IsWhole) (h5 : (hM).IsWhole) (a6 a7 r0 : DmaSems sig S_) (arg8 : BitVec 32) (k0_t2 : Fin k0_t2_loop.trips)
    {I : Finset S104x1024.Idx} (hI : ∀ i : S104x1024.Idx, (i 0).val = (k0_t2.val + 56) → i ∈ I) (G : S104x1024.Idx → Elt F .f32) :
    holdsH (F := F) d L I (Zed I G (k0_t2.val + 56) 35) ⊢ wp frame (wpE (defs₀ (F := F)) 𝒱₀ (thr d L) none) Set.univ
      (k0_part10 L a2 h2 a3 h3 idM h4 hM h5 a6 a7 r0 k0_pay19 k0_t2 arg8) fun _ => holdsH d L I (Zed I G (k0_t2.val + 56) 47) := by
  simp only [k0_part10_eq_skeleton]; unfold k0_part10_skel
  simp only [Prog.lift, Prog.bind_op, Prog.bind_ret, Prog.pure_eq_ret]
  iintro H
  iapply (wp_zstore d L (n := 35) hI (k0_off110_eq k0_t2)) $$ H; iintro H
  iapply (wp_zload d L hI (k0_off111_eq k0_t2)) $$ H; iintro H
  iapply (wp_zstore d L (n := 36) hI (k0_off111_eq k0_t2)) $$ H; iintro H
  iapply (wp_zload d L hI (k0_off112_eq k0_t2)) $$ H; iintro H
  iapply (wp_zstore d L (n := 37) hI (k0_off112_eq k0_t2)) $$ H; iintro H
  iapply (wp_zload d L hI (k0_off113_eq k0_t2)) $$ H; iintro H
  iapply (wp_zstore d L (n := 38) hI (k0_off113_eq k0_t2)) $$ H; iintro H
  iapply (wp_zload d L hI (k0_off114_eq k0_t2)) $$ H; iintro H
  iapply (wp_zstore d L (n := 39) hI (k0_off114_eq k0_t2)) $$ H; iintro H
  iapply (wp_zload d L hI (k0_off115_eq k0_t2)) $$ H; iintro H
  iapply (wp_zstore d L (n := 40) hI (k0_off115_eq k0_t2)) $$ H; iintro H
  iapply (wp_zload d L hI (k0_off116_eq k0_t2)) $$ H; iintro H
  iapply (wp_zstore d L (n := 41) hI (k0_off116_eq k0_t2)) $$ H; iintro H
  iapply (wp_zload d L hI (k0_off117_eq k0_t2)) $$ H; iintro H
  iapply (wp_zstore d L (n := 42) hI (k0_off117_eq k0_t2)) $$ H; iintro H
  iapply (wp_zload d L hI (k0_off118_eq k0_t2)) $$ H; iintro H
  iapply (wp_zstore d L (n := 43) hI (k0_off118_eq k0_t2)) $$ H; iintro H
  iapply (wp_zload d L hI (k0_off119_eq k0_t2)) $$ H; iintro H
  iapply (wp_zstore d L (n := 44) hI (k0_off119_eq k0_t2)) $$ H; iintro H
  iapply (wp_zload d L hI (k0_off120_eq k0_t2)) $$ H; iintro H
  iapply (wp_zstore d L (n := 45) hI (k0_off120_eq k0_t2)) $$ H; iintro H
  iapply (wp_zload d L hI (k0_off121_eq k0_t2)) $$ H; iintro H
  iapply (wp_zstore d L (n := 46) hI (k0_off121_eq k0_t2)) $$ H; iintro H
  iapply (wp_zload d L hI (k0_off122_eq k0_t2)) $$ H; iintro H
  rw [wp_ret]; imodintro; iexact H

theorem part11_wp (a2 : Memref sig .scVector .hbm S3328x64 .i32) (h2 : a2.IsWhole) (a3 : Memref sig .scVector .hbm S3328x1024 .f32) (h3 : a3.IsWhole)
    (h4 : (idM).IsWhole) (h5 : (hM).IsWhole) (a6 a7 r0 : DmaSems sig S_) (arg8 : BitVec 32) (k0_t2 : Fin k0_t2_loop.trips)
    {I : Finset S104x1024.Idx} (hI : ∀ i : S104x1024.Idx, (i 0).val = (k0_t2.val + 56) → i ∈ I) (G : S104x1024.Idx → Elt F .f32) :
    holdsH (F := F) d L I (Zed I G (k0_t2.val + 56) 47) ⊢ wp frame (wpE (defs₀ (F := F)) 𝒱₀ (thr d L) none) Set.univ
      (k0_part11 L a2 h2 a3 h3 idM h4 hM h5 a6 a7 r0 k0_pay19 k0_t2 arg8) fun _ => holdsH d L I (Zed I G (k0_t2.val + 56) 59) := by
  simp only [k0_part11_eq_skeleton]; unfold k0_part11_skel
  simp only [Prog.lift, Prog.bind_op, Prog.bind_ret, Prog.pure_eq_ret]
  iintro H
  iapply (wp_zstore d L (n := 47) hI (k0_off122_eq k0_t2)) $$ H; iintro H
  iapply (wp_zload d L hI (k0_off123_eq k0_t2)) $$ H; iintro H
  iapply (wp_zstore d L (n := 48) hI (k0_off123_eq k0_t2)) $$ H; iintro H
  iapply (wp_zload d L hI (k0_off124_eq k0_t2)) $$ H; iintro H
  iapply (wp_zstore d L (n := 49) hI (k0_off124_eq k0_t2)) $$ H; iintro H
  iapply (wp_zload d L hI (k0_off125_eq k0_t2)) $$ H; iintro H
  iapply (wp_zstore d L (n := 50) hI (k0_off125_eq k0_t2)) $$ H; iintro H
  iapply (wp_zload d L hI (k0_off126_eq k0_t2)) $$ H; iintro H
  iapply (wp_zstore d L (n := 51) hI (k0_off126_eq k0_t2)) $$ H; iintro H
  iapply (wp_zload d L hI (k0_off127_eq k0_t2)) $$ H; iintro H
  iapply (wp_zstore d L (n := 52) hI (k0_off127_eq k0_t2)) $$ H; iintro H
  iapply (wp_zload d L hI (k0_off128_eq k0_t2)) $$ H; iintro H
  iapply (wp_zstore d L (n := 53) hI (k0_off128_eq k0_t2)) $$ H; iintro H
  iapply (wp_zload d L hI (k0_off129_eq k0_t2)) $$ H; iintro H
  iapply (wp_zstore d L (n := 54) hI (k0_off129_eq k0_t2)) $$ H; iintro H
  iapply (wp_zload d L hI (k0_off130_eq k0_t2)) $$ H; iintro H
  iapply (wp_zstore d L (n := 55) hI (k0_off130_eq k0_t2)) $$ H; iintro H
  iapply (wp_zload d L hI (k0_off131_eq k0_t2)) $$ H; iintro H
  iapply (wp_zstore d L (n := 56) hI (k0_off131_eq k0_t2)) $$ H; iintro H
  iapply (wp_zload d L hI (k0_off132_eq k0_t2)) $$ H; iintro H
  iapply (wp_zstore d L (n := 57) hI (k0_off132_eq k0_t2)) $$ H; iintro H
  iapply (wp_zload d L hI (k0_off133_eq k0_t2)) $$ H; iintro H
  iapply (wp_zstore d L (n := 58) hI (k0_off133_eq k0_t2)) $$ H; iintro H
  iapply (wp_zload d L hI (k0_off134_eq k0_t2)) $$ H; iintro H
  rw [wp_ret]; imodintro; iexact H

theorem part12_wp (a2 : Memref sig .scVector .hbm S3328x64 .i32) (h2 : a2.IsWhole) (a3 : Memref sig .scVector .hbm S3328x1024 .f32) (h3 : a3.IsWhole)
    (h4 : (idM).IsWhole) (h5 : (hM).IsWhole) (a6 a7 r0 : DmaSems sig S_) (arg8 : BitVec 32) (k0_t2 : Fin k0_t2_loop.trips)
    {I : Finset S104x1024.Idx} (hp : (k0_t2.val + 56) < 104) (hI : ∀ i : S104x1024.Idx, (i 0).val = (k0_t2.val + 56) → i ∈ I) (G : S104x1024.Idx → Elt F .f32)
    {g : S104x64.Idx → BitVec 32} (hg : ∀ i, (g i).toNat ≤ 1024) :
    iprop(holdsI (F := F) d L g ∗ holdsH (F := F) d L I (Zed I G (k0_t2.val + 56) 59)) ⊢ wp frame (wpE (defs₀ (F := F)) 𝒱₀ (thr d L) none) Set.univ
      (k0_part12 L a2 h2 a3 h3 idM h4 hM h5 a6 a7 r0 k0_pay19 k0_pay20 k0_pay21 k0_t2 arg8)
      fun _ => iprop(holdsI (F := F) d L g ∗ holdsH d L I (Hed I G (fun s => nat2 g (k0_t2.val + 56) s) (k0_t2.val + 56) 3)) := by
  simp only [k0_part12_eq_skeleton]; unfold k0_part12_skel
  simp only [Prog.lift, Prog.bind_op, Prog.bind_ret, Prog.pure_eq_ret]
  iintro ⟨HI, H⟩
  iapply (wp_zstore d L (n := 59) hI (k0_off134_eq k0_t2)) $$ H; iintro H
  iapply (wp_zload d L hI (k0_off135_eq k0_t2)) $$ H; iintro H
  iapply (wp_zstore d L (n := 60) hI (k0_off135_eq k0_t2)) $$ H; iintro H
  iapply (wp_zload d L hI (k0_off136_eq k0_t2)) $$ H; iintro H
  iapply (wp_zstore d L (n := 61) hI (k0_off136_eq k0_t2)) $$ H; iintro H
  iapply (wp_zload d L hI (k0_off137_eq k0_t2)) $$ H; iintro H
  iapply (wp_zstore d L (n := 62) hI (k0_off137_eq k0_t2)) $$ H; iintro H
  iapply (wp_zload d L hI (k0_off138_eq k0_t2)) $$ H; iintro H
  iapply (wp_zstore d L (n := 63) hI (k0_off138_eq k0_t2)) $$ H; iintro H
  ihave H := (holdsH_mono d L (fun f hf => Zed.hed (w := fun s => nat2 g (k0_t2.val + 56) s) hf)) $$ H
  iapply (wp_ids d L) $$ HI; iintro HI
  have hc0 : k0_chk5 (k0_pay12 (ld16 (F := F) g (k0_off139 k0_t2) (k0_off139_inb k0_t2))) := chk_ok (ld16_le (F := F) hg)
  rw [wp_assume_of _ _ _ _ hc0]
  iapply (wp_hstore d L (n := 0) hp hI (k0_off140_eq k0_t2) rfl rfl (ld16_apply g (k0_off139_eq k0_t2))) $$ H; iintro H
  iapply (wp_ids d L) $$ HI; iintro HI
  have hc1 : k0_chk6 (k0_pay15 (ld16 (F := F) g (k0_off141 k0_t2) (k0_off141_inb k0_t2))) := chk_ok (ld16_le (F := F) hg)
  rw [wp_assume_of _ _ _ _ hc1]
  iapply (wp_hstore d L (n := 1) hp hI (k0_off142_eq k0_t2) rfl rfl (ld16_apply g (k0_off141_eq k0_t2))) $$ H; iintro H
  iapply (wp_ids d L) $$ HI; iintro HI
  have hc2 : k0_chk7 (k0_pay18 (ld16 (F := F) g (k0_off143 k0_t2) (k0_off143_inb k0_t2))) := chk_ok (ld16_le (F := F) hg)
  rw [wp_assume_of _ _ _ _ hc2]
  iapply (wp_hstore d L (n := 2) hp hI (k0_off144_eq k0_t2) rfl rfl (ld16_apply g (k0_off143_eq k0_t2))) $$ H; iintro H
  rw [wp_ret]; imodintro
  isplitl [HI] <;> iassumption

theorem t2_wp (a2 : Memref sig .scVector .hbm S3328x64 .i32) (h2 : a2.IsWhole) (a3 : Memref sig .scVector .hbm S3328x1024 .f32) (h3 : a3.IsWhole)
    (h4 : (idM).IsWhole) (h5 : (hM).IsWhole) (a6 a7 r0 : DmaSems sig S_) (acc : BitVec 32) (k0_t2 : Fin k0_t2_loop.trips)
    {I : Finset S104x1024.Idx} (hp : (k0_t2.val + 56) < 104) (hI : ∀ i : S104x1024.Idx, (i 0).val = (k0_t2.val + 56) → i ∈ I)
    {g : S104x64.Idx → BitVec 32} (hg : ∀ i, (g i).toNat ≤ 1024) :
    iprop(holdsI (F := F) d L g ∗ holdsH (F := F) d L I (Zed I (cntG g 104) (k0_t2.val + 56) 0)) ⊢ wp frame (wpE (defs₀ (F := F)) 𝒱₀ (thr d L) none) Set.univ
      (k0_t2_body L a2 h2 a3 h3 idM h4 hM h5 a6 a7 r0 k0_t2 acc)
      fun _ => iprop(holdsI (F := F) d L g ∗ holdsH d L I (Zed I (cntG g 104) ((k0_t2.val + 56) + 1) 0)) := by
  unfold k0_t2_body
  iintro ⟨HI, H⟩
  iapply (wp_seq d L (part7_wp d L a2 h2 a3 h3 h4 h5 a6 a7 r0 _ _ k0_t2 hI (cntG g 104))) $$ H
  iintro %arg8 H
  iapply (wp_seq d L (part8_wp d L a2 h2 a3 h3 h4 h5 a6 a7 r0 _ k0_t2 hI (cntG g 104))) $$ H
  iintro %_ H
  iapply (wp_seq d L (part9_wp d L a2 h2 a3 h3 h4 h5 a6 a7 r0 _ k0_t2 hI (cntG g 104))) $$ H
  iintro %_ H
  iapply (wp_seq d L (part10_wp d L a2 h2 a3 h3 h4 h5 a6 a7 r0 _ k0_t2 hI (cntG g 104))) $$ H
  iintro %_ H
  iapply (wp_seq d L (part11_wp d L a2 h2 a3 h3 h4 h5 a6 a7 r0 _ k0_t2 hI (cntG g 104))) $$ H
  iintro %_ H
  iapply (wp_seq d L (part12_wp d L a2 h2 a3 h3 h4 h5 a6 a7 r0 _ k0_t2 hp hI (cntG g 104) hg)) $$ [HI H]
  · isplitl [HI] <;> iassumption
  iintro %_ ⟨HI, H⟩
  simp only [Prog.lift, Prog.bind_op, Prog.bind_ret, Prog.pure_eq_ret]
  iapply (wp_ids d L) $$ HI; iintro HI
  have hc3 : k0_chk8 (k0_pay27 (ld16 (F := F) g (k0_off145 k0_t2) (k0_off145_inb k0_t2))) := chk_ok (ld16_le (F := F) hg)
  rw [wp_assume_of _ _ _ _ hc3]
  iapply (wp_hstore d L (n := 3) hp hI (k0_off146_eq k0_t2) rfl rfl (ld16_apply g (k0_off145_eq k0_t2))) $$ H; iintro H
  rw [wp_ret]; imodintro
  isplitl [HI]; · iexact HI
  iapply (holdsH_mono d L (fun f hf => hf.zed)) $$ H

end Cert.Proof
end
-- ==== Proof.Counts.lean ====
/-
  The histogram kernel on one vector subcore: its 104 rows of ids fetched, the first 56 rows counted, their write-out
  started, the last 48 rows counted while it runs, their write-out started, and both awaited. What its rows of the result
  hold afterwards is one function of the whole array of ids (`cntG`).
-/
module

public import proofs.«01_k».proof.Proof.CountsRows

@[expose] public section

noncomputable section

namespace Cert.Proof

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-- `len` rows of an array from row `lo` on. -/
def rows {n m : Nat} (lo len : Nat) : Finset (⟨2, ![n, m]⟩ : Shape).Idx := Finset.univ.filter fun i => lo ≤ (i 0).val ∧ (i 0).val < lo + len

theorem mem_rows {n m lo len : Nat} {i : (⟨2, ![n, m]⟩ : Shape).Idx} : i ∈ rows lo len ↔ lo ≤ (i 0).val ∧ (i 0).val < lo + len := by
  unfold rows; simp

/-- A rectangle of full rows. -/
theorem rect_rows {n m k lo : Nat} {off : Fin 2 → Nat} (hoff : off = ![lo, 0]) (inb : ∀ a, off a + (![k, m] : Fin 2 → Nat) a ≤ (⟨2, ![n, m]⟩ : Shape).size a) :
    (Rect.unit (s := ⟨2, ![n, m]⟩) off ![k, m] inb).set = rows lo k := by
  subst hoff
  ext i
  rw [mem_rows, Rect.mem_set_unit]
  constructor
  · intro h; exact h 0
  · intro h a
    match a with
    | ⟨0, _⟩ => exact h
    | ⟨1, _⟩ => exact ⟨Nat.zero_le _, by have := (i 1).isLt; show (i 1).val < 0 + m; rw [Nat.zero_add]; exact this⟩

theorem emb_rows {n m k lo : Nat} {off : Fin 2 → Nat} (hoff : off = ![lo, 0]) (inb : ∀ a, off a + (![k, m] : Fin 2 → Nat) a ≤ (⟨2, ![n, m]⟩ : Shape).size a)
    (x : (⟨2, ![k, m]⟩ : Shape).Idx) :
    ((Rect.unit (s := ⟨2, ![n, m]⟩) off ![k, m] inb).emb x 0).val = lo + (x 0).val ∧ ((Rect.unit (s := ⟨2, ![n, m]⟩) off ![k, m] inb).emb x 1).val = (x 1).val := by
  subst hoff
  constructor
  · show lo + 1 * (x 0).val = _; omega
  · show 0 + 1 * (x 1).val = _; omega

variable (d : Dev nD) (L : grid0.Coords)

/-- The buffers of the two SparseCore kernels, as the TensorCore's program names them. -/
abbrev l7 : Loc nD τ sig := (SparseCore.T d).loc main_v7
abbrev l8 : Loc nD τ sig := (SparseCore.T d).loc main_v8

/-- The subcore's slices. -/
abbrev idsSl : Memref sig .scVector .hbm S104x64 .i32 :=
  (Memref.whole main_v7_scv : Memref sig .scVector .hbm S3328x64 .i32).slice (Rect.unit (s := S3328x64) (k0_off1 L) S104x64.size (k0_off1_inb L)) (fun _ => rfl)
abbrev outA : Memref sig .scVector .hbm S56x1024 .f32 :=
  (Memref.whole main_v8_scv : Memref sig .scVector .hbm S3328x1024 .f32).slice (Rect.unit (s := S3328x1024) (k0_off74 L) S56x1024.size (k0_off74_inb L)) (fun _ => rfl)
abbrev outB : Memref sig .scVector .hbm S48x1024 .f32 :=
  (Memref.whole main_v8_scv : Memref sig .scVector .hbm S3328x1024 .f32).slice (Rect.unit (s := S3328x1024) (k0_off147 L) S48x1024.size (k0_off147_inb L)) (fun _ => rfl)
abbrev hA : Memref sig .scVector .vmem S56x1024 .f32 := hM.slice (Rect.unit (s := S104x1024) ![0, 0] S56x1024.size inb_S104x1024_S56x1024_0_0) (fun _ => rfl)
abbrev hB : Memref sig .scVector .vmem S48x1024 .f32 := hM.slice (Rect.unit (s := S104x1024) ![56, 0] S48x1024.size inb_S104x1024_S48x1024_56_0) (fun _ => rfl)

theorem set_idsSl : (idsSl L).view.set = rows (base L) 104 := by
  show ((View.whole (main_v7_scv : Ref sig .scVector)).slice _).set = _
  rw [View.set_slice]; exact Finset.map_refl.trans (rect_rows (k0_off1_eq L) _)
theorem set_outA : (outA L).view.set = rows (base L) 56 := by
  show ((View.whole (main_v8_scv : Ref sig .scVector)).slice _).set = _
  rw [View.set_slice]; exact Finset.map_refl.trans (rect_rows (k0_off74_eq L) _)
theorem set_outB : (outB L).view.set = rows (base L + 56) 48 := by
  show ((View.whole (main_v8_scv : Ref sig .scVector)).slice _).set = _
  rw [View.set_slice]; exact Finset.map_refl.trans (rect_rows (k0_off147_eq L) _)
theorem set_hA : (hA).view.set = rows 0 56 := by
  show ((View.whole (cc0_scratch1 : Ref sig .scVector)).slice _).set = _
  rw [View.set_slice]; exact Finset.map_refl.trans (rect_rows rfl _)
theorem set_hB : (hB).view.set = rows 56 48 := by
  show ((View.whole (cc0_scratch1 : Ref sig .scVector)).slice _).set = _
  rw [View.set_slice]; exact Finset.map_refl.trans (rect_rows rfl _)

theorem rows_union {n m lo a b : Nat} : (rows lo a ∪ rows (lo + a) b : Finset (⟨2, ![n, m]⟩ : Shape).Idx) = rows lo (a + b) := by
  ext i; simp only [Finset.mem_union, mem_rows]; omega
theorem rows_disj {n m lo a b : Nat} : Disjoint (rows lo a : Finset (⟨2, ![n, m]⟩ : Shape).Idx) (rows (lo + a) b) := by
  rw [Finset.disjoint_left]; intro i; simp only [mem_rows]; omega
theorem rows_all {n m : Nat} : (rows 0 n : Finset (⟨2, ![n, m]⟩ : Shape).Idx) = Finset.univ := by
  ext i; simp only [mem_rows, Finset.mem_univ, iff_true]; exact ⟨Nat.zero_le _, by have := (i 0).isLt; rw [Nat.zero_add]; exact this⟩

/-- The subcore's 104 rows of ids. -/
def idsOf (v : S3328x64.Idx → BitVec 32) : S104x64.Idx → BitVec 32 :=
  fun i => nat2 v (base L + (i 0).val) (i 1).val

theorem idsSl_read (v : S3328x64.Idx → BitVec 32) : (idsSl L).view.read (Elt F) v = idsOf L v := by
  funext i
  show v ((Rect.unit (s := S3328x64) (k0_off1 L) S104x64.size (k0_off1_inb L)).emb i) = _
  have hb := base_lt L
  have h0 : (i 0).val < 104 := (i 0).isLt
  have h1 : (i 1).val < 64 := (i 1).isLt
  unfold idsOf
  rw [nat2_of_lt v (show base L + (i 0).val < 3328 by omega) h1]
  obtain ⟨e0, e1⟩ := emb_rows (k0_off1_eq L) (k0_off1_inb L) i
  congr 1
  funext a
  match a with
  | ⟨0, _⟩ => exact Fin.ext e0
  | ⟨1, _⟩ => exact Fin.ext e1

theorem idsOf_le {v : S3328x64.Idx → BitVec 32} (hv : ∀ i, (v i).toNat ≤ 1024) (i : S104x64.Idx) : (idsOf L v i).toNat ≤ 1024 := by
  unfold idsOf nat2
  split_ifs
  · exact hv _
  · decide

theorem nat2_idsOf (v : S3328x64.Idx → BitVec 32) {p s : Nat} (hp : p < 104) (hs : s < 64) : nat2 (idsOf L v) p s = nat2 v (base L + p) s := by
  rw [nat2_of_lt _ hp hs]; rfl

variable [FloatOps F]

theorem histG_congr {w w' : Nat → BitVec 32} {n : Nat} (h : ∀ s, s < 16 * n → w s = w' s) (j : Nat) : histG (F := F) w j n = histG w' j n := by
  induction n with
  | zero => rfl
  | succ n ih =>
    unfold histG
    rw [ih fun s hs => h s (by omega)]
    refine congrFun (congrArg (fun (f : Elt F .f32 → Fin 16 → Elt F .f32) (a : Elt F .f32) => (List.finRange 16).foldl f a) ?_) _
    funext a x
    have hx := x.isLt
    rw [h (16 * n + x.val) (by omega)]

theorem cntG_idsOf (v : S3328x64.Idx → BitVec 32) (p : Fin 104) (j : Fin 1024) :
    cntG (F := F) (idsOf L v) 104 (ix2 p j) = cntG v 3328 (ix2 ⟨base L + p.val, by have := base_lt L; have := p.isLt; omega⟩ j) := by
  unfold cntG hist
  refine histG_congr (fun s hs => ?_) _
  exact nat2_idsOf L v p.isLt (by omega)

/-- What a write-out of the subcore's rows leaves: the counts, on those rows. -/
theorem out_rows {k lo : Nat} (v : S3328x64.Idx → BitVec 32) (f8 : S3328x1024.Idx → Elt F .f32) (f : S104x1024.Idx → Elt F .f32)
    {off : Fin 2 → Nat} (hoff : off = ![base L + lo, 0]) (inb : ∀ a, off a + (![k, 1024] : Fin 2 → Nat) a ≤ S3328x1024.size a)
    {off' : Fin 2 → Nat} (hoff' : off' = ![lo, 0]) (inb' : ∀ a, off' a + (![k, 1024] : Fin 2 → Nat) a ≤ S104x1024.size a)
    (hf : ∀ i ∈ (rows lo k : Finset S104x1024.Idx), f i = cntG (idsOf L v) 104 i) :
    ∀ i ∈ (rows (base L + lo) k : Finset S3328x1024.Idx),
      (((Memref.whole main_v8_scv : Memref sig .scVector .hbm S3328x1024 .f32).slice (Rect.unit (s := S3328x1024) off ![k, 1024] inb) (fun _ => rfl)).view.write (Elt F) f8
        ((hM.slice (Rect.unit (s := S104x1024) off' ![k, 1024] inb') (fun _ => rfl)).view.read (Elt F) f) Finset.univ) i = cntG v 3328 i := by
  intro i hi
  have hb := base_lt L
  have hk : lo + k ≤ 104 := by have := inb' 0; subst hoff'; exact this
  obtain ⟨h1, h2⟩ := mem_rows.mp hi
  let x : (⟨2, ![k, 1024]⟩ : Shape).Idx := ix2 ⟨(i 0).val - (base L + lo), by omega⟩ (i 1)
  have e : ((Memref.whole main_v8_scv : Memref sig .scVector .hbm S3328x1024 .f32).slice (Rect.unit (s := S3328x1024) off ![k, 1024] inb) (fun _ => rfl)).view.emb x = i := by
    obtain ⟨e0, e1⟩ := emb_rows hoff inb x
    show (Rect.unit (s := S3328x1024) off ![k, 1024] inb).emb x = i
    funext a
    match a with
    | ⟨0, _⟩ => exact Fin.ext (e0.trans (show base L + lo + ((i 0).val - (base L + lo)) = (i 0).val by omega))
    | ⟨1, _⟩ => exact Fin.ext e1
  have hw := View.write_emb_of_mem (v := ((Memref.whole main_v8_scv : Memref sig .scVector .hbm S3328x1024 .f32).slice (Rect.unit (s := S3328x1024) off ![k, 1024] inb) (fun _ => rfl)).view)
    (Val := Elt F) f8 ((hM.slice (Rect.unit (s := S104x1024) off' ![k, 1024] inb') (fun _ => rfl)).view.read (Elt F) f) (M := Finset.univ) (x := x) (Finset.mem_univ _)
  rw [e] at hw
  refine hw.trans ?_
  obtain ⟨e0, e1⟩ := emb_rows hoff' inb' x
  have e' : (Rect.unit (s := S104x1024) off' ![k, 1024] inb').emb x = ix2 (n0 := 104) (n1 := 1024) ⟨(i 0).val - base L, by omega⟩ (i 1) := by
    funext a
    match a with
    | ⟨0, _⟩ => exact Fin.ext (e0.trans (show lo + ((i 0).val - (base L + lo)) = (i 0).val - base L by omega))
    | ⟨1, _⟩ => exact Fin.ext e1
  show f ((Rect.unit (s := S104x1024) off' ![k, 1024] inb').emb x) = _
  rw [e', hf _ (mem_rows.mpr ⟨show lo ≤ (i 0).val - base L by omega, show (i 0).val - base L < lo + k by omega⟩)]
  refine (cntG_idsOf L v ⟨(i 0).val - base L, by omega⟩ (i 1)).trans (congrArg (cntG v 3328) ?_)
  funext a
  match a with
  | ⟨0, _⟩ => exact Fin.ext (show base L + ((i 0).val - base L) = (i 0).val by omega)
  | ⟨1, _⟩ => rfl

section Tile

omit [FloatOps F] in
theorem ownSems0_c :
    (ownSems0 (thr d L) : sProp 𝕄)
      = iprop(semVal (thr d L, SemLoc.dma cc0_scoped0.sem) 0 ∗ semVal (thr d L, SemLoc.dma cc0_scratch2.sem) 0 ∗ semVal (thr d L, SemLoc.dma cc0_scratch3.sem) 0
          ∗ bigSep ((((ownCells (thr d L)).erase (thr d L, SemLoc.dma cc0_scoped0.sem)).erase (thr d L, SemLoc.dma cc0_scratch2.sem)).erase (thr d L, SemLoc.dma cc0_scratch3.sem))
              fun g => semVal g 0) := by
  unfold SparseCore.Cfg.ownSems0
  rw [SparseCore.bigSep_erase' ((mem_ownCells (g := (thr d L, SemLoc.dma cc0_scoped0.sem))).mpr ⟨rfl, by
      show (SemLoc.dma cc0_scoped0.sem : SemLoc sig).isScoped .scVector = true; decide⟩),
    SparseCore.bigSep_erase' (Finset.mem_erase.mpr ⟨fun e => absurd (congrArg Prod.snd e) (show (SemLoc.dma cc0_scratch2.sem : SemLoc sig) ≠ SemLoc.dma cc0_scoped0.sem by decide),
      (mem_ownCells (g := (thr d L, SemLoc.dma cc0_scratch2.sem))).mpr ⟨rfl, by
      show (SemLoc.dma cc0_scratch2.sem : SemLoc sig).isScoped .scVector = true; decide⟩⟩),
    SparseCore.bigSep_erase' (Finset.mem_erase.mpr ⟨fun e => absurd (congrArg Prod.snd e) (show (SemLoc.dma cc0_scratch3.sem : SemLoc sig) ≠ SemLoc.dma cc0_scratch2.sem by decide),
      Finset.mem_erase.mpr ⟨fun e => absurd (congrArg Prod.snd e) (show (SemLoc.dma cc0_scratch3.sem : SemLoc sig) ≠ SemLoc.dma cc0_scoped0.sem by decide),
      (mem_ownCells (g := (thr d L, SemLoc.dma cc0_scratch3.sem))).mpr ⟨rfl, by
      show (SemLoc.dma cc0_scratch3.sem : SemLoc sig).isScoped .scVector = true; decide⟩⟩⟩)]

omit [FloatOps F] in
theorem ownBufs_c :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem trips1 : k0_t1_loop.trips = 56 := by decide +kernel
theorem trips2 : k0_t2_loop.trips = 48 := by decide +kernel

theorem holdsH_split (f : S104x1024.Idx → Elt F .f32) :
    ((thr d L).loc cc0_scratch1 ↦{fullShare} f : sProp 𝕄)
      ⊢ iprop(holdsH d L (rows 0 56) (fun _ => True) ∗ holdsH d L (rows 56 48) (fun _ => True)) := by
  have e : (Finset.univ : Finset S104x1024.Idx) = rows 0 56 ∪ rows (0 + 56) 48 := by rw [rows_union]; exact rows_all.symm
  refine (Entails.of_eq (congrArg (fun I : Finset S104x1024.Idx => ((thr d L).loc cc0_scratch1 ↦[I]{fullShare} f : sProp 𝕄)) e)).trans ((pointsTo_union rows_disj).1.trans ?_)
  iintro ⟨HA, HB⟩
  isplitl [HA]
  · iexists f; isplitr; · ipureintro; trivial
    iexact HA
  · iexists f; isplitr; · ipureintro; trivial
    iexact HB

theorem pointsTo_join_scratch (fA fB : S104x1024.Idx → Elt F .f32) :
    iprop(((thr d L).loc cc0_scratch1 ↦[rows 0 56]{fullShare} fA) ∗ (thr d L).loc cc0_scratch1 ↦[rows 56 48]{fullShare} fB)
      ⊢ (iprop(∃ f, (thr d L).loc cc0_scratch1 ↦{fullShare} f) : sProp 𝕄) := by
  have e : (Finset.univ : Finset S104x1024.Idx) = rows 0 56 ∪ rows (0 + 56) 48 := by rw [rows_union]; exact rows_all.symm
  have hA : ((thr d L).loc cc0_scratch1 ↦[rows 0 56]{fullShare} fA : sProp 𝕄)
      = ((thr d L).loc cc0_scratch1 ↦[rows 0 56]{fullShare} (fun i : S104x1024.Idx => if (i 0).val < 56 then fA i else fB i)) :=
    pointsTo_congr fun i hi => (if_pos (mem_rows.mp hi).2).symm
  have hB : ((thr d L).loc cc0_scratch1 ↦[rows 56 48]{fullShare} fB : sProp 𝕄)
      = ((thr d L).loc cc0_scratch1 ↦[rows 56 48]{fullShare} (fun i : S104x1024.Idx => if (i 0).val < 56 then fA i else fB i)) :=
    pointsTo_congr fun i hi => (if_neg (by have := (mem_rows.mp hi).1; omega)).symm
  rw [hA, hB]
  iintro H
  ihave H := (pointsTo_union (show Disjoint (rows 0 56 : Finset S104x1024.Idx) (rows 56 48) from rows_disj (lo := 0))).2 $$ H
  iexists (fun i : S104x1024.Idx => if (i 0).val < 56 then fA i else fB i)
  iapply (Entails.of_eq (congrArg (fun I : Finset S104x1024.Idx => ((thr d L).loc cc0_scratch1 ↦[I]{fullShare} (fun i : S104x1024.Idx => if (i 0).val < 56 then fA i else fB i) : sProp 𝕄)) e).symm) $$ H

theorem zed_start {G : S104x1024.Idx → Elt F .f32} {lo len : Nat} (f : S104x1024.Idx → Elt F .f32) : Zed (rows lo len) G lo 0 f :=
  ⟨fun i hi hlt => absurd (mem_rows.mp hi).1 (by omega), fun _ _ h => absurd h (by omega)⟩

/-- The subcore's rows of the ids and of the counts. -/
abbrev goC (v7 : S3328x64.Idx → BitVec 32) (f8 : S3328x1024.Idx → Elt F .f32) : sProp 𝕄 :=
  iprop((l7 d ↦[rows (base L) 104]{fullShare} v7) ∗ l8 d ↦[rows (base L) 104]{fullShare} f8)

theorem counts_body (hF : (K (F := F)).Facts) (v7 : S3328x64.Idx → BitVec 32) (hv7 : ∀ i, (v7 i).toNat ≤ 1024) (f8 : S3328x1024.Idx → Elt F .f32)
    (O : CellTallies nD τ sig (HIx 2)) (W : Waits sig (HIx 2)) (hO : ∀ g, O g none = 0) :
    iprop(levAts (K (F := F)).L (K (F := F)).lev ∗ goC d L v7 f8
        ∗ scopedBufs (thr d L) ∗ scopedSems0 (thr d L) ∗ owes (thr d L) O W)
      ⊢ wp frame (wpE (defs₀ (F := F)) 𝒱₀ (thr d L) none) Set.univ
          (cc0_counts_kernel L (Memref.whole main_v7_scv) (Memref.isWhole_whole _) (Memref.whole main_v8_scv) (Memref.isWhole_whole _)
            idM (Memref.isWhole_whole _) hM (Memref.isWhole_whole _) cc0_scratch2 cc0_scratch3 cc0_scoped0)
          fun _ => iprop(goC d L v7 (cntG v7 3328) ∗ scopedBufs (thr d L) ∗ scopedSems0 (thr d L)
            ∗ ∃ W', ⌜∀ p ∈ W', p ∈ W ∨ p.2 = none⌝ ∗ owes (thr d L) O W') := by
  simp only [cc0_counts_kernel_eq_skeleton]; unfold cc0_counts_kernel_skel
  simp only [k0_part13_eq_skeleton]; unfold k0_part13_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_c, ownBufs_c]
  iintro ⟨#Hlv, ⟨H7, H8⟩, ⟨⟨%f0, H0⟩, ⟨%f1, H1⟩, Hbufs⟩, ⟨Hs0, Hs2, Hs3, Hsems⟩, HO⟩
  ihave H7' := (Entails.of_eq (show (l7 d ↦[rows (base L) 104]{fullShare} v7 : sProp 𝕄) = (idsSl L).view.loc (thr d L) ↦[(idsSl L).view.set]{fullShare} v7 by rw [set_idsSl])) $$ H7
  iapply (Transfers.wp_dmaLocal countersEmb 𝒱₀ (thr d L) none (src := idsSl L) (dst := idM) (q := fullShare) (fs := v7) (Sd := Finset.univ) (fd := f0) (default : HIx 2) _ rfl
     (View.amount_pos _ _ (by decide)) (Finset.subset_univ _)) $$ [H7' H0 Hs0]
  · isplitl [H7']; · iexact H7'
    isplitl [H0]; · iexact H0
    iexact Hs0
  iintro Hfl
  iapply (Transfers.wp_waitLocalO countersEmb 𝒱₀ (thr d L) none (default : HIx 2) rfl) $$ [Hfl HO]
  · isplitl [Hfl]; · iexact Hfl
    isplitl [HO]; · iexact HO
    iapply ((K (F := F)).mayWait_none (SemLoc.dma cc0_scoped0.sem) hO); iexact Hlv
  iintro ⟨⟨H0, H7'⟩, Hs0, HO⟩
  have hfetch : (idM : Memref sig .scVector .vmem S104x64 .i32).view.write (Elt F) f0 ((idsSl L).view.read (Elt F) v7) Finset.univ = idsOf L v7 :=
    (View.write_whole_univ _ _ _).trans (idsSl_read L v7)
  ihave HI := (Entails.of_eq (show (idM.view.loc (thr d L) ↦[Finset.univ]{fullShare} _ : sProp 𝕄) = holdsI d L (idsOf L v7) from congrArg _ hfetch)) $$ H0
  ihave H1 := (holdsH_split d L f1) $$ H1
  icases H1 with ⟨HA, HB⟩
  ihave HA := (holdsH_mono d L (fun f _ => zed_start (G := cntG (idsOf L v7) 104) f)) $$ HA
  ihave HB := (holdsH_mono d L (fun f _ => zed_start (G := cntG (idsOf L v7) 104) f)) $$ HB
  iapply (Scf.wp_for_bind frame _ Set.univ _ _ _ k0_t1_ok 0#32 _
    (fun k _ => iprop(holdsI (F := F) d L (idsOf L v7) ∗ holdsH d L (rows 0 56) (Zed (rows 0 56) (cntG (idsOf L v7) 104) k 0)))
    (fun k acc => t1_wp d L _ _ _ _ _ _ _ _ _ acc k (by have := lt_of_lt_of_eq k.isLt trips1; omega)
      (fun i hi => mem_rows.mpr (by have := lt_of_lt_of_eq k.isLt trips1; omega)) (idsOf_le L hv7))) $$ [HI HA]
  · isplitl [HI] <;> iassumption
  iintro %_ ⟨HI, HA⟩
  icases HA with ⟨%fA, %hfA, HA⟩
  have hfA' : ∀ i ∈ (rows 0 56 : Finset S104x1024.Idx), fA i = cntG (idsOf L v7) 104 i := fun i hi =>
    hfA.1 i hi (by have := (mem_rows.mp hi).2; have e := trips1; show (i 0).val < k0_t1_loop.trips; omega)
  ihave HA := (Entails.of_eq (show ((thr d L).loc cc0_scratch1 ↦[rows 0 56]{fullShare} fA : sProp 𝕄) = (hA).view.loc (thr d L) ↦[(hA).view.set]{fullShare} fA by rw [set_hA])) $$ HA
  have e8 : (rows (base L) 104 : Finset S3328x1024.Idx) = rows (base L) 56 ∪ rows (base L + 56) 48 := (rows_union (a := 56) (b := 48)).symm
  ihave H8 := (Entails.of_eq (congrArg (fun I : Finset S3328x1024.Idx => (l8 d ↦[I]{fullShare} f8 : sProp 𝕄)) e8)) $$ H8
  ihave H8 := (pointsTo_union rows_disj).1 $$ H8
  icases H8 with ⟨H8A, H8B⟩
  iapply (Transfers.wp_dmaLocal countersEmb 𝒱₀ (thr d L) none (src := hA) (dst := outA L) (q := fullShare) (fs := fA) (Sd := rows (base L) 56) (fd := f8) (default : HIx 2) _ rfl
     (View.amount_pos _ _ (by decide)) (by rw [set_outA])) $$ [HA H8A Hs2]
  · isplitl [HA]; · iexact HA
    isplitl [H8A]; · iexact H8A
    iexact Hs2
  iintro HflA
  iapply (Scf.wp_for_bind frame _ Set.univ _ _ _ k0_t2_ok 0#32 _
    (fun k _ => iprop(holdsI (F := F) d L (idsOf L v7) ∗ holdsH d L (rows 56 48) (Zed (rows 56 48) (cntG (idsOf L v7) 104) (k + 56) 0)))
    (fun k acc => (t2_wp d L _ _ _ _ _ _ _ _ _ acc k (by have := lt_of_lt_of_eq k.isLt trips2; omega)
      (fun i hi => mem_rows.mpr (by have := lt_of_lt_of_eq k.isLt trips2; omega)) (idsOf_le L hv7)).trans (wp_mono frame _ _ fun _ => Entails.of_eq (by rw [Nat.add_right_comm])))) $$ [HI HB]
  · isplitl [HI] <;> iassumption
  iintro %_ ⟨HI, HB⟩
  icases HB with ⟨%fB, %hfB, HB⟩
  have hfB' : ∀ i ∈ (rows 56 48 : Finset S104x1024.Idx), fB i = cntG (idsOf L v7) 104 i := fun i hi =>
    hfB.1 i hi (by have := (mem_rows.mp hi).2; have e := trips2; show (i 0).val < k0_t2_loop.trips + 56; omega)
  ihave HB := (Entails.of_eq (show ((thr d L).loc cc0_scratch1 ↦[rows 56 48]{fullShare} fB : sProp 𝕄) = (hB).view.loc (thr d L) ↦[(hB).view.set]{fullShare} fB by rw [set_hB])) $$ HB
  simp only [Prog.bind_op, Prog.bind_ret]
  iapply (Transfers.wp_dmaLocal countersEmb 𝒱₀ (thr d L) none (src := hB) (dst := outB L) (q := fullShare) (fs := fB) (Sd := rows (base L + 56) 48) (fd := f8) (default : HIx 2) _ rfl
     (View.amount_pos _ _ (by decide)) (by rw [set_outB])) $$ [HB H8B Hs3]
  · isplitl [HB]; · iexact HB
    isplitl [H8B]; · iexact H8B
    iexact Hs3
  iintro HflB
  iapply (Transfers.wp_waitLocalO countersEmb 𝒱₀ (thr d L) none (default : HIx 2) rfl) $$ [HflA HO]
  · isplitl [HflA]; · iexact HflA
    isplitl [HO]; · iexact HO
    iapply ((K (F := F)).mayWait_none (SemLoc.dma cc0_scratch2.sem) hO); iexact Hlv
  iintro ⟨⟨H8A, HA⟩, Hs2, HO⟩
  iapply (Transfers.wp_waitLocalO countersEmb 𝒱₀ (thr d L) none (default : HIx 2) rfl) $$ [HflB HO]
  · isplitl [HflB]; · iexact HflB
    isplitl [HO]; · iexact HO
    iapply ((K (F := F)).mayWait_none (SemLoc.dma cc0_scratch3.sem) hO); iexact Hlv
  iintro ⟨⟨H8B, HB⟩, Hs3, HO⟩
  rw [wp_ret]; imodintro
  isplitl [H7' H8A H8B]
  · isplitl [H7']
    · iapply (Entails.of_eq (show (l7 d ↦[rows (base L) 104]{fullShare} v7 : sProp 𝕄) = (idsSl L).view.loc (thr d L) ↦[(idsSl L).view.set]{fullShare} v7 by rw [set_idsSl]).symm) $$ H7'
    · iapply (Entails.of_eq (congrArg (fun I : Finset S3328x1024.Idx => (l8 d ↦[I]{fullShare} cntG v7 3328 : sProp 𝕄)) e8).symm)
      iapply (pointsTo_union rows_disj).2
      isplitl [H8A]
      · iapply (Entails.of_eq (pointsTo_congr (out_rows (k := 56) (lo := 0) L v7 f8 fA (k0_off74_eq L) (k0_off74_inb L) rfl inb_S104x1024_S56x1024_0_0 hfA'))) $$ H8A
      · iapply (Entails.of_eq (pointsTo_congr (out_rows (k := 48) (lo := 56) L v7 f8 fB (k0_off147_eq L) (k0_off147_inb L) rfl inb_S104x1024_S48x1024_56_0 hfB'))) $$ H8B
  isplitl [HI HA HB Hbufs]
  · isplitl [HI]; · iexists _; iexact HI
    isplitl [HA HB]
    · iapply (pointsTo_join_scratch d L fA fB)
      isplitl [HA]
      · iapply (Entails.of_eq (show ((thr d L).loc cc0_scratch1 ↦[rows 0 56]{fullShare} fA : sProp 𝕄) = (hA).view.loc (thr d L) ↦[(hA).view.set]{fullShare} fA by rw [set_hA]).symm) $$ HA
      · iapply (Entails.of_eq (show ((thr d L).loc cc0_scratch1 ↦[rows 56 48]{fullShare} fB : sProp 𝕄) = (hB).view.loc (thr d L) ↦[(hB).view.set]{fullShare} fB by rw [set_hB]).symm) $$ HB
    iexact Hbufs
  isplitl [Hs0 Hs2 Hs3 Hsems]
  · isplitl [Hs0]; · iexact Hs0
    isplitl [Hs2]; · iexact Hs2
    isplitl [Hs3]; · iexact Hs3
    iexact Hsems
  iexists (insert (SemLoc.dma cc0_scratch3.sem, none) (insert (SemLoc.dma cc0_scratch2.sem, none) (insert (SemLoc.dma cc0_scoped0.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof
end
-- ==== Proof.CompactVal.lean ====
module

public import proofs.«01_k».proof.Proof.CountsVal

/-! The arithmetic of the compaction call, on plain values.

A row is given by its sixty-four words: number `n` is set in the row when bit `n / 64` of word `n % 64`
is set. `rank w n` counts the numbers set below `n`; `pick w n k` is the `k`-th number set below `n`
(`0` where there are not so many). One masked indexed store of sixteen lanes takes a row from `pick w N`
to `pick w (N + 16)`. -/

@[expose] public section

noncomputable section

namespace Cert.Proof

open Cert.KernelIdeal Cert.KernelIdeal.Gen
open Idealize.ShloMosaic
open Idealize.ShloMosaic.ValueIdx

/-- Number `n` is set in the row of words `w`. -/
def bitB (w : ℕ → BitVec 32) (n : ℕ) : Bool := (w (n % 64)).getLsbD (n / 64)

/-- How many numbers below `n` are set. -/
def rank (w : ℕ → BitVec 32) : ℕ → ℕ
  | 0 => 0
  | n + 1 => rank w n + if bitB w n then 1 else 0

/-- The `k`-th number set below `n`, as a word; `0` where there is none. -/
def pick (w : ℕ → BitVec 32) : ℕ → ℕ → BitVec 32
  | 0, _ => 0#32
  | n + 1, k => if bitB w n = true ∧ rank w n = k then BitVec.ofNat 32 n else pick w n k

theorem rank_le (w : ℕ → BitVec 32) (n : ℕ) : rank w n ≤ n := by
  induction n with
  | zero => exact le_rfl
  | succ n ih => unfold rank; split <;> omega

theorem rank_mono (w : ℕ → BitVec 32) {m n : ℕ} (h : m ≤ n) : rank w m ≤ rank w n := by
  induction h with
  | refl => exact le_rfl
  | step _ ih => exact ih.trans (by show rank w _ ≤ rank w _ + _; omega)

theorem rank_succ_of (w : ℕ → BitVec 32) {n : ℕ} (h : bitB w n = true) :
    rank w (n + 1) = rank w n + 1 := by
  show rank w n + (if bitB w n then 1 else 0) = _
  rw [if_pos h]

/-! ## Scans of sixteen lanes -/

/-- The lane `x` of a register of sixteen. -/
abbrev ln (x : Fin 16) : S16.Idx := ix1 x

private theorem lanes_filter (j : Fin 16) :
    ((List.finRange 16).filter fun k => decide (0 < k.val ∧ k.val ≤ j.val))
      = ((List.finRange 16).drop 1).take j.val := by
  revert j; decide +kernel

theorem ofLane_ln (x : Fin 16) : (Shape.ofLane (d := ![16]) x : S16.Idx) = ln x := by
  funext a; fin_cases a; rfl

theorem scan_eq (kind : ScanKind) (v : IVec S16 32) (j : Fin 16) :
    scan kind v (ln j) = (((List.finRange 16).drop 1).take j.val).foldl
      (fun r k => kind.step r (v (ln k))) (v (ln 0)) := by
  rw [← lanes_filter]
  show List.foldl (fun r k => kind.step r (v (Shape.ofLane (d := ![16]) k))) (v (Shape.ofLane (d := ![16]) (0 : Fin 16)))
    ((List.finRange 16).filter fun k => decide (0 < k.val ∧ k.val ≤ j.val)) = _
  rw [ofLane_ln 0]
  refine congrFun (congrFun (congrArg List.foldl ?_) _) _
  funext r k
  exact congrArg (fun z => kind.step r (v z)) (ofLane_ln k)

theorem scan_zero (kind : ScanKind) (v : IVec S16 32) : scan kind v (ln 0) = v (ln 0) := by
  rw [scan_eq]; rfl

theorem scan_succ (kind : ScanKind) (v : IVec S16 32) (n : ℕ) (h : n + 1 < 16) :
    scan kind v (ln ⟨n + 1, h⟩) = kind.step (scan kind v (ln ⟨n, by omega⟩)) (v (ln ⟨n + 1, h⟩)) := by
  rw [scan_eq, scan_eq]
  have ht : (((List.finRange 16).drop 1).take (n + 1)) = (((List.finRange 16).drop 1).take n) ++ [⟨n + 1, h⟩] := by
    rw [List.take_succ]
    congr 1
    simp [List.getElem?_drop, List.getElem?_eq_getElem, Nat.add_comm, h]
  show List.foldl _ _ (((List.finRange 16).drop 1).take (n + 1)) = _
  rw [ht, List.foldl_append]
  rfl

/-! ## Signed maxima -/

theorem xor_top (y : ℕ) (h : y < 2 ^ 31) : y ^^^ 2 ^ 31 = 2 ^ 31 + y := by
  apply Nat.eq_of_testBit_eq
  intro j
  rw [Nat.testBit_xor, Nat.testBit_two_pow]
  rcases Nat.lt_trichotomy j 31 with hj | hj | hj
  · rw [Nat.testBit_two_pow_add_gt hj]
    have : (31 = j) = False := by simp; omega
    simp [this]
  · subst hj
    rw [Nat.testBit_two_pow_add_eq]
    simp
  · rw [Nat.testBit_lt_two_pow (x := 2 ^ 31 + y)
      (lt_of_lt_of_le (by omega : 2 ^ 31 + y < 2 ^ 32) (Nat.pow_le_pow_right (by decide) hj)),
      Nat.testBit_lt_two_pow (lt_of_lt_of_le h (Nat.pow_le_pow_right (by decide) (by omega)))]
    have : (31 = j) = False := by simp; omega
    simp [this]

theorem toNat_flip (x : BitVec 32) : ((x ^^^ 2147483648#32).toNat : ℤ) = x.toInt + 2 ^ 31 := by
  rw [BitVec.toNat_xor, BitVec.toInt_eq_toNat_cond]
  have hx := x.isLt
  rw [show (2147483648#32 : BitVec 32).toNat = 2 ^ 31 from rfl]
  by_cases h : x.toNat < 2 ^ 31
  · rw [xor_top _ h, if_pos (by omega)]; push_cast; ring
  · rw [if_neg (by omega)]
    have e : x.toNat = (x.toNat - 2 ^ 31) ^^^ 2 ^ 31 := by rw [xor_top _ (by omega)]; omega
    rw [e, Nat.xor_assoc, Nat.xor_self, Nat.xor_zero, ← e]
    omega

theorem flip_flip (x : BitVec 32) : (x ^^^ 2147483648#32) ^^^ 2147483648#32 = x := by
  rw [BitVec.xor_assoc, BitVec.xor_self, BitVec.xor_zero]

/-- The running signed maximum over sixteen lanes, as the kernel spells it. -/
def smax (v : IVec S16 32) : IVec S16 32 :=
  xori (scan .max (xori v (broadcast S16 2147483648#32))) (broadcast S16 2147483648#32)

theorem smax_spec (v : IVec S16 32) (n : ℕ) (h : n < 16) :
    (∃ y : Fin 16, y.val ≤ n ∧ smax v (ln ⟨n, h⟩) = v (ln y))
      ∧ ∀ y : Fin 16, y.val ≤ n → (v (ln y)).toInt ≤ (smax v (ln ⟨n, h⟩)).toInt := by
  have key : ∀ j, smax v (ln j)
      = scan .max (xori v (broadcast S16 2147483648#32)) (ln j) ^^^ 2147483648#32 := fun _ => rfl
  induction n with
  | zero =>
    have e : smax v (ln ⟨0, h⟩) = v (ln 0) := by
      rw [key]; erw [scan_zero]; exact flip_flip _
    refine ⟨⟨0, le_rfl, e⟩, fun y hy => ?_⟩
    have : y = 0 := Fin.ext (by omega)
    rw [this, e]
  | succ n ih =>
    obtain ⟨⟨y0, hy0, e0⟩, hm⟩ := ih (by omega)
    have e : smax v (ln ⟨n + 1, h⟩) =
        if (v (ln ⟨n + 1, h⟩)).toInt < (smax v (ln ⟨n, by omega⟩)).toInt then smax v (ln ⟨n, by omega⟩)
        else v (ln ⟨n + 1, h⟩) := by
      rw [key, key, scan_succ]
      generalize hg : scan .max (xori v (broadcast S16 2147483648#32)) (ln ⟨n, by omega⟩) = r
      show IntOp.maxui r (v (ln ⟨n + 1, h⟩) ^^^ 2147483648#32) ^^^ _ = _
      have hr : r = (r ^^^ 2147483648#32) ^^^ 2147483648#32 := (flip_flip r).symm
      have hlt : ((v (ln ⟨n + 1, h⟩) ^^^ 2147483648#32).ult r = true)
          ↔ (v (ln ⟨n + 1, h⟩)).toInt < (r ^^^ 2147483648#32).toInt := by
        have h1 := toNat_flip (v (ln ⟨n + 1, h⟩))
        have h2 := toNat_flip (r ^^^ 2147483648#32)
        rw [← hr] at h2
        rw [BitVec.ult, decide_eq_true_eq]
        omega
      unfold IntOp.maxui
      by_cases hc : (v (ln ⟨n + 1, h⟩) ^^^ 2147483648#32).ult r = true
      · rw [if_pos hc, if_pos (hlt.1 hc)]
      · rw [if_neg hc, if_neg (fun h => hc (hlt.2 h)), flip_flip]
    by_cases hc : (v (ln ⟨n + 1, h⟩)).toInt < (smax v (ln ⟨n, by omega⟩)).toInt
    · rw [if_pos hc] at e
      refine ⟨⟨y0, by omega, e.trans e0⟩, fun y hy => ?_⟩
      rw [e]
      rcases Nat.lt_or_ge y.val (n + 1) with hlt | hge
      · exact hm y (by omega)
      · rw [show y = ⟨n + 1, h⟩ from Fin.ext (by show y.val = n + 1; omega)]; exact hc.le
    · rw [if_neg hc] at e
      refine ⟨⟨_, le_rfl, e⟩, fun y hy => ?_⟩
      rw [e]
      rcases Nat.lt_or_ge y.val (n + 1) with hlt | hge
      · exact (hm y (by omega)).trans (by omega)
      · rw [show y = ⟨n + 1, h⟩ from Fin.ext (by show y.val = n + 1; omega)]

/-- The last lane of a register. -/
def last (v : IVec S16 32) : BitVec 32 := extractAt ![15] v (by decide)

theorem last_eq (v : IVec S16 32) : last v = v (ln 15) := by
  unfold last extractAt
  congr 1
  funext a; fin_cases a; rfl

theorem last_smax (v : IVec S16 32) :
    (∃ y : Fin 16, last (smax v) = v (ln y)) ∧ ∀ y : Fin 16, (v (ln y)).toInt ≤ (last (smax v)).toInt := by
  rw [last_eq]
  obtain ⟨⟨y, _, e⟩, h⟩ := smax_spec v 15 (by omega)
  exact ⟨⟨y, e⟩, fun y => h y (by omega)⟩

/-! ## Sixteen numbers at a time -/

section step
variable (w : ℕ → BitVec 32) (N : ℕ) (mb : IVec S16 32)
  (hmb : ∀ x : Fin 16, mb (ln x) = if bitB w (N + x.val) then 1#32 else 0#32)
include hmb

theorem scan_sum (n : ℕ) (h : n < 16) :
    scan .sum mb (ln ⟨n, h⟩) = BitVec.ofNat 32 (rank w (N + n + 1) - rank w N) := by
  induction n with
  | zero =>
    erw [scan_zero, hmb 0]
    show (if bitB w N then _ else _) = BitVec.ofNat 32 (rank w N + (if bitB w N then 1 else 0) - rank w N)
    rw [Nat.add_sub_cancel_left]
    split <;> rfl
  | succ n ih =>
    rw [scan_succ, ih (by omega), hmb]
    show BitVec.ofNat 32 _ + (if bitB w (N + (n + 1)) then _ else _) = BitVec.ofNat 32
      (rank w (N + n + 1) + (if bitB w (N + n + 1) then 1 else 0) - rank w N)
    have hle : rank w N ≤ rank w (N + n + 1) := rank_mono w (by omega)
    rw [show N + (n + 1) = N + n + 1 from rfl]
    split
    · rw [Nat.sub_add_comm hle, BitVec.ofNat_add]
    · simp

theorem last_count (hN : N ≤ 1008) :
    last (smax (scan .sum mb)) = BitVec.ofNat 32 (rank w (N + 16) - rank w N) := by
  have hb : ∀ n, n ≤ 1024 → (BitVec.ofNat 32 n).toInt = (n : ℤ) := fun n hn => by
    rw [BitVec.toInt_eq_toNat_cond, BitVec.toNat_ofNat, Nat.mod_eq_of_lt (by omega), if_pos (by omega)]
  have hr : ∀ n, n ≤ N + 16 → rank w n ≤ 1024 := fun n hn => (rank_le w n).trans (by omega)
  obtain ⟨⟨y, e⟩, h⟩ := last_smax (scan .sum mb)
  have hy : scan .sum mb (ln y) = _ := scan_sum w N mb hmb y.val y.isLt
  have h15 : scan .sum mb (ln 15) = _ := scan_sum w N mb hmb 15 (by omega)
  have hm := h 15
  have hyl := y.isLt
  have hry := hr (N + y.val + 1) (by omega)
  have hr15 := hr (N + 15 + 1) (by omega)
  rw [e, hy, h15, hb (rank w (N + y.val + 1) - rank w N) (by omega),
    hb (rank w (N + 15 + 1) - rank w N) (by omega)] at hm
  have hmono : rank w (N + y.val + 1) ≤ rank w (N + 15 + 1) := rank_mono w (by omega)
  rw [e, hy]
  congr 1
  show _ = rank w (N + 15 + 1) - rank w N
  omega

/-- The place each lane writes to. -/
def posv (cnt : BitVec 32) (mb : IVec S16 32) : IVec S16 32 :=
  subi (addi (broadcast S16 cnt) (scan .sum mb)) (broadcast S16 1#32)

/-- Which lanes write. -/
def mskv (cnt : BitVec 32) (mb : IVec S16 32) : IVec S16 1 :=
  andi (cmpi .sgt mb (broadcast S16 0#32)) (cmpi .slt (posv cnt mb) (broadcast S16 128#32))

/-- The place each lane writes to, brought into the row. -/
def clipv (cnt : BitVec 32) (mb : IVec S16 32) : IVec S16 32 :=
  minsi (broadcast S16 127#32) (maxsi (broadcast S16 0#32) (posv cnt mb))

omit hmb in
theorem toInt_small {n : ℕ} (hn : n ≤ 2048) : (BitVec.ofNat 32 n).toInt = (n : ℤ) := by
  rw [BitVec.toInt_eq_toNat_cond, BitVec.toNat_ofNat, Nat.mod_eq_of_lt (by omega), if_pos (by omega)]

omit hmb in
theorem clip_lt (z : BitVec 32) : (IntOp.minsi 127#32 (IntOp.maxsi 0#32 z)).toNat < 128 := by
  unfold IntOp.minsi IntOp.maxsi
  simp only [BitVec.slt_iff_toInt_lt]
  have h127 : (127#32 : BitVec 32).toInt = 127 := rfl
  have h0 : (0#32 : BitVec 32).toInt = 0 := rfl
  have hz := BitVec.toInt_eq_toNat_cond z
  have hlt := z.isLt
  by_cases h1 : z.toInt < (0#32 : BitVec 32).toInt
  · rw [if_pos h1, if_neg (by decide)]; decide
  · rw [if_neg h1]
    by_cases h2 : (127#32 : BitVec 32).toInt < z.toInt
    · rw [if_pos h2]; decide
    · rw [if_neg h2]
      rw [h127] at h2; rw [h0] at h1
      split at hz <;> omega

omit hmb in
theorem clipv_lt (cnt : BitVec 32) (x : S16.Idx) : (clipv cnt mb x).toNat < 128 := clip_lt _

theorem lane_writes (cnt : BitVec 32) (hcnt : cnt = BitVec.ofNat 32 (rank w N)) (hN : N ≤ 1008)
    (x : Fin 16) (k : ℕ) (hk : k < 128) :
    (mskv cnt mb (ln x) = 1#1 ∧ (clipv cnt mb (ln x)).toNat = k)
      ↔ (bitB w (N + x.val) = true ∧ rank w (N + x.val) = k) := by
  have hx := x.isLt
  have hs : scan .sum mb (ln x) = _ := scan_sum w N mb hmb x.val x.isLt
  have hle : rank w N ≤ rank w (N + x.val) := rank_mono w (by omega)
  have hr : rank w (N + x.val) ≤ 1024 := (rank_le w _).trans (by omega)
  by_cases hb : bitB w (N + x.val) = true
  · rw [rank_succ_of w hb] at hs
    have hp : posv cnt mb (ln x) = BitVec.ofNat 32 (rank w (N + x.val)) := by
      show cnt + scan .sum mb (ln x) - 1#32 = _
      rw [hs, hcnt, ← BitVec.ofNat_add, show rank w N + (rank w (N + x.val) + 1 - rank w N) = rank w (N + x.val) + 1 by omega,
        BitVec.ofNat_add, BitVec.add_sub_cancel]
    have hi := toInt_small (n := rank w (N + x.val)) (by omega)
    have hm : mskv cnt mb (ln x) = 1#1 ↔ rank w (N + x.val) < 128 := by
      show IntOp.andi (BitVec.ofBool ((0#32 : BitVec 32).slt (mb (ln x))))
        (BitVec.ofBool ((posv cnt mb (ln x)).slt 128#32)) = 1#1 ↔ _
      rw [hmb x, if_pos hb, hp]
      have : (BitVec.ofNat 32 (rank w (N + x.val))).slt 128#32 = decide (rank w (N + x.val) < 128) := by
        rw [Bool.eq_iff_iff, BitVec.slt_iff_toInt_lt, hi, decide_eq_true_eq,
          show (128#32 : BitVec 32).toInt = 128 from rfl]
        omega
      rw [this]
      by_cases hd : rank w (N + x.val) < 128
      · simp [hd]; decide
      · simp [hd]; decide
    have hc : rank w (N + x.val) < 128 → (clipv cnt mb (ln x)).toNat = rank w (N + x.val) := by
      intro hd
      show (IntOp.minsi 127#32 (IntOp.maxsi 0#32 (posv cnt mb (ln x)))).toNat = _
      rw [hp]
      have h0 : IntOp.maxsi 0#32 (BitVec.ofNat 32 (rank w (N + x.val))) = BitVec.ofNat 32 (rank w (N + x.val)) := by
        unfold IntOp.maxsi
        rw [if_neg]
        rw [BitVec.slt_iff_toInt_lt, hi, show (0#32 : BitVec 32).toInt = 0 from rfl]; omega
      rw [h0]
      unfold IntOp.minsi
      rw [if_neg (by rw [BitVec.slt_iff_toInt_lt, hi, show (127#32 : BitVec 32).toInt = 127 from rfl]; omega),
        BitVec.toNat_ofNat, Nat.mod_eq_of_lt (by omega)]
    constructor
    · rintro ⟨h1, h2⟩
      exact ⟨hb, (hc (hm.1 h1)).symm.trans h2⟩
    · rintro ⟨_, h2⟩
      have hd : rank w (N + x.val) < 128 := by omega
      exact ⟨hm.2 hd, (hc hd).trans h2⟩
  · constructor
    · rintro ⟨h1, _⟩
      exfalso
      have h1' : IntOp.andi (BitVec.ofBool ((0#32 : BitVec 32).slt (mb (ln x))))
        (BitVec.ofBool ((posv cnt mb (ln x)).slt 128#32)) = 1#1 := h1
      rw [hmb x, if_neg hb, show (0#32 : BitVec 32).slt 0#32 = false from rfl] at h1'
      revert h1'
      cases (posv cnt mb (ln x)).slt 128#32 <;> decide
    · rintro ⟨h, _⟩; exact absurd h hb

end step

/-- A row after sixteen more numbers, lane by lane. -/
theorem pick_fold (w : ℕ → BitVec 32) (N k : ℕ) (n : ℕ) (hn : n ≤ 16) :
    ((List.finRange 16).take n).foldl
      (fun r (x : Fin 16) => if bitB w (N + x.val) = true ∧ rank w (N + x.val) = k then BitVec.ofNat 32 (N + x.val) else r)
      (pick w N k) = pick w (N + n) k := by
  induction n with
  | zero => rfl
  | succ n ih =>
    have ht : ((List.finRange 16).take (n + 1)) = ((List.finRange 16).take n) ++ [⟨n, by omega⟩] := by
      rw [List.take_succ]
      congr 1
      simp [List.getElem?_eq_getElem, show n < 16 by omega]
    rw [ht, List.foldl_append, ih (by omega)]
    rfl

/-- The words of `mb`: bit `l` of sixteen words, as `0` or `1`. -/
theorem bit_word (x : BitVec 32) (l : BitVec 32) (hl : l.toNat < 32) :
    IntOp.andi (IntOp.shrui .vector x l) 1#32 = if x.getLsbD l.toNat then 1#32 else 0#32 := by
  unfold IntOp.shrui
  rw [if_pos hl]
  show (x >>> l.toNat) &&& 1#32 = _
  apply BitVec.eq_of_getLsbD_eq
  intro i hi
  rw [BitVec.getLsbD_and, BitVec.getLsbD_ushiftRight]
  by_cases h0 : i = 0
  · subst h0
    simp only [Nat.add_zero]
    cases x.getLsbD l.toNat <;> simp
  · have : (1#32 : BitVec 32).getLsbD i = false := by
      rw [BitVec.getLsbD_one]; simp [h0]
    rw [this]
    split
    · simp [this]
    · simp

theorem bitB_at (w : ℕ → BitVec 32) (l q x : ℕ) (hq : q < 4) (hx : x < 16) :
    bitB w (64 * l + 16 * q + x) = (w (16 * q + x)).getLsbD l := by
  unfold bitB
  rw [show (64 * l + 16 * q + x) % 64 = 16 * q + x by omega, show (64 * l + 16 * q + x) / 64 = l by omega]

end Cert.Proof
-- ==== Proof.CompactStep.lean ====
/-
  One load, one store and one masked indexed store of the compaction kernel, on what the subcore's block of result rows
  holds: the rows done so far, the row in work at the first `N` numbers, zeros below it.
-/
module

public import proofs.«01_k».proof.Proof.Common
public import proofs.«01_k».proof.Proof.CompactVal
public import proofs.«01_k».proof.Proof.CountsRows

@[expose] public section

noncomputable section

namespace Cert.Proof

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-! ## The subcore's buffers -/

abbrev bM : Memref sig .scVector .vmem S104x72 .i32 := Memref.whole cc2_scratch0
abbrev cM : Memref sig .scVector .vmem S128 .i32 := Memref.whole cc2_scratch1
abbrev oM : Memref sig .scVector .vmem S104x128 .i32 := Memref.whole cc2_scratch2
abbrev nM : Memref sig .scVector .vmem S128 .i32 := Memref.whole cc2_scratch3

/-- The words of row `r`. -/
abbrev wd {n : ℕ} (b : (⟨2, ![n, 72]⟩ : Shape).Idx → BitVec 32) (r : ℕ) : ℕ → BitVec 32 := fun u => nat2 b r u

/-- The rows below `r` hold `G`, row `r` the numbers found below `N`, the rest zeros. -/
def Oed (G : S104x128.Idx → BitVec 32) (w : ℕ → BitVec 32) (r N : ℕ) (f : S104x128.Idx → BitVec 32) : Prop :=
  (∀ i, (i 0).val < r → f i = G i) ∧ (∀ i, (i 0).val = r → f i = pick w N (i 1).val) ∧ ∀ i, r < (i 0).val → f i = 0#32

/-- The rows below `r` hold `G`, the rest zeros. -/
def Odone (G : S104x128.Idx → BitVec 32) (r : ℕ) (f : S104x128.Idx → BitVec 32) : Prop :=
  (∀ i, (i 0).val < r → f i = G i) ∧ ∀ i, r ≤ (i 0).val → f i = 0#32

theorem Odone.oed {G : S104x128.Idx → BitVec 32} {r : ℕ} {f : S104x128.Idx → BitVec 32} (w : ℕ → BitVec 32) (h : Odone G r f) : Oed G w r 0 f :=
  ⟨h.1, fun i hi => h.2 i hi.ge, fun i hi => h.2 i hi.le⟩

theorem Oed.odone {G : S104x128.Idx → BitVec 32} {w : ℕ → BitVec 32} {r : ℕ} {f : S104x128.Idx → BitVec 32} (h : Oed G w r 1024 f)
    (hG : ∀ i, (i 0).val = r → G i = pick w 1024 (i 1).val) : Odone G (r + 1) f := by
  refine ⟨fun i hi => ?_, fun i hi => h.2.2 i (by omega)⟩
  rcases Nat.lt_or_ge (i 0).val r with hlt | hge
  · exact h.1 i hlt
  · rw [h.2.1 i (by omega), hG i (by omega)]

theorem Odone.skip {G : S104x128.Idx → BitVec 32} {r n : ℕ} {f : S104x128.Idx → BitVec 32} (h : Odone G r f)
    (hG : ∀ i, r ≤ (i 0).val → (i 0).val < r + n → G i = 0#32) : Odone G (r + n) f := by
  refine ⟨fun i hi => ?_, fun i hi => h.2 i (by omega)⟩
  rcases Nat.lt_or_ge (i 0).val r with hlt | hge
  · exact h.1 i hlt
  · rw [h.2 i hge, hG i hge hi]

variable [FloatOps F]

theorem ite_step {ι α : Type} {g : ι → α} {y : ι} {C c : Prop} {_ : Decidable C} {_ : Decidable c} {p : ι → Prop} {_ : ∀ j, Decidable (p j)} {u v : α}
    (huv : u = v) (h : (c ∧ p y) ↔ C) :
    (if C then v else g y) = (if c then (fun j => if p j then u else g j) else g) y := by
  subst huv
  by_cases hc : c
  · simp only [if_pos hc]
    exact if_congr (by rw [← h]; simp [hc]) rfl rfl
  · simp only [if_neg hc]
    exact if_neg fun hC => hc (h.2 hC).1

theorem storeIdx_oid (f : Vec F S104x128 .i32) (rv : BitVec 32) (idx : IVec S16 32) (val : Vec F S16 .i32) (msk : IVec S16 1)
    (h : ∀ a x, ((![broadcast S16 rv, idx] : Fin 2 → IVec S16 32) a x).toNat < S104x128.size a) (y : S104x128.Idx) :
    storeIdx (F := F) f ![broadcast S16 rv, idx] val msk false h y
      = (List.finRange 16).foldl (fun a x => if (y 0).val = rv.toNat ∧ msk (ln x) = 1#1 ∧ (idx (ln x)).toNat = (y 1).val then val (ln x) else a) (f y) := by
  unfold storeIdx
  refine (List.foldl_hom (fun g : Vec F S104x128 .i32 => g y)
    (g₂ := fun a (x : Fin 16) => if (y 0).val = rv.toNat ∧ msk (ln x) = 1#1 ∧ (idx (ln x)).toNat = (y 1).val then val (ln x) else a) ?_).symm
  intro g k
  have hk : (Shape.ofLane k : (⟨1, ![16]⟩ : Shape).Idx) = ln k := ofLane_ln k
  have e0 : msk (Shape.ofLane (d := ![16]) k) = msk (ln k) := congrArg msk hk
  have e1 : val (Shape.ofLane (d := ![16]) k) = val (ln k) := congrArg val hk
  have e2 : (idx (Shape.ofLane (d := ![16]) k)).toNat = (idx (ln k)).toNat := congrArg (fun z => (idx z).toNat) hk
  refine ite_step (v := val (ln k)) ?_ ?_
  · exact e1
  show (msk (Shape.ofLane (d := ![16]) k) = 1 ∧ ∀ a, (y a).val = (idxAt (![broadcast S16 rv, idx] : Fin 2 → IVec S16 32) h (Shape.ofLane (d := ![16]) k) a).val) ↔ _
  rw [e0]
  constructor
  · rintro ⟨hm, hh⟩
    exact ⟨hh 0, hm, (e2.symm.trans (hh 1).symm)⟩
  · rintro ⟨h0, hm, h1⟩
    refine ⟨hm, fun a => ?_⟩
    match a with
    | ⟨0, _⟩ => exact h0
    | ⟨1, _⟩ => exact (e2.trans h1).symm

theorem foldl_keep {α β : Type} {f : α → β → α} {a : α} {l : List β} (h : ∀ {a : α} (x : β), f a x = a) : l.foldl f a = a := by
  induction l with
  | nil => rfl
  | cons x l ih => rw [List.foldl_cons, h, ih]

/-- Sixteen numbers further. -/
theorem oed_scat {G : S104x128.Idx → BitVec 32} {w : ℕ → BitVec 32} {r N : ℕ} {f : Vec F S104x128 .i32} {rv cnt : BitVec 32} {mb : IVec S16 32}
    {val : Vec F S16 .i32} (hr : rv.toNat = r) (hN : N ≤ 1008) (hcnt : cnt = BitVec.ofNat 32 (rank w N))
    (hmb : ∀ x : Fin 16, mb (ln x) = if bitB w (N + x.val) then 1#32 else 0#32) (hval : ∀ x : Fin 16, val (ln x) = BitVec.ofNat 32 (N + x.val))
    (h : ∀ a x, ((![broadcast S16 rv, clipv cnt mb] : Fin 2 → IVec S16 32) a x).toNat < S104x128.size a) (hf : Oed G w r N f) :
    Oed G w r (N + 16) (storeIdx (F := F) f ![broadcast S16 rv, clipv cnt mb] val (mskv cnt mb) false h) := by
  have hk : ∀ (x : Fin 16) (k : ℕ), k < 128 → ((mskv cnt mb (ln x) = 1#1 ∧ (clipv cnt mb (ln x)).toNat = k)
      ↔ (bitB w (N + x.val) = true ∧ rank w (N + x.val) = k)) := fun x k hk => lane_writes w N mb hmb cnt hcnt hN x k hk
  refine ⟨fun i hi => ?_, fun i hi => ?_, fun i hi => ?_⟩
  · rw [storeIdx_oid, foldl_keep (fun x => by rw [if_neg (by rintro ⟨h0, -⟩; omega)])]
    exact hf.1 i hi
  · rw [storeIdx_oid, hf.2.1 i hi]
    have h1 : (i 1).val < 128 := (i 1).isLt
    refine Eq.trans ?_ (pick_fold w N (i 1).val 16 le_rfl)
    refine congrFun (congrFun (congrArg List.foldl ?_) _) _
    funext a x
    refine if_congr ?_ (hval x) rfl
    rw [← hk x (i 1).val h1, hr]
    exact ⟨fun hh => hh.2, fun hh => ⟨hi, hh⟩⟩
  · rw [storeIdx_oid, foldl_keep (fun x => by rw [if_neg (by rintro ⟨h0, -⟩; omega)])]
    exact hf.2.2 i hi

/-! ## The rules -/

theorem emb_oM (y : S104x128.Idx) : ((oM : Memref sig .scVector .vmem S104x128 .i32).access (.whole S104x128)).emb y = y := by
  funext a
  match a with
  | ⟨0, _⟩ => exact Fin.ext (show 0 + 1 * (y 0).val = (y 0).val by omega)
  | ⟨1, _⟩ => exact Fin.ext (show 0 + 1 * (y 1).val = (y 1).val by omega)

theorem oM_write (f g : S104x128.Idx → BitVec 32) : ((oM : Memref sig .scVector .vmem S104x128 .i32).access (.whole S104x128)).write (Elt F) f g Finset.univ = g := by
  funext y
  have h := View.write_emb_of_mem (v := (oM : Memref sig .scVector .vmem S104x128 .i32).access (.whole S104x128)) (Val := Elt F) f g
    (M := Finset.univ) (x := y) (Finset.mem_univ _)
  rw [emb_oM] at h
  exact h

theorem oM_read (f : S104x128.Idx → BitVec 32) : ((oM : Memref sig .scVector .vmem S104x128 .i32).access (.whole S104x128)).read (Elt F) f = f := by
  funext y
  exact congrArg f (emb_oM y)

/-- Sixteen of a row's words. -/
abbrev ldB (b : S104x72.Idx → BitVec 32) (off : Fin 2 → Nat) (inb : ∀ a, off a + S1x16.size a ≤ S104x72.size a) : Vec F S1x16 .i32 :=
  (bM.access (Rect.unit (s := S104x72) off S1x16.size inb)).read (Elt F) b

theorem ldB_apply (b : S104x72.Idx → BitVec 32) {off : Fin 2 → Nat} {inb : ∀ a, off a + S1x16.size a ≤ S104x72.size a} {p q : Nat}
    (hoff : off = ![p, q]) (x : Fin 16) : shapeCast S16 (ldB (F := F) b off inb) shapeCasts_S1x16_S16 (ix1 x) = nat2 b p (q + x.val) := by
  subst hoff
  have hb0 : p + 1 ≤ 104 := inb 0
  have hb1 : q + 16 ≤ 72 := inb 1
  have hx : x.val < 16 := x.isLt
  rw [nat2_of_lt b (show p < 104 by omega) (show q + x.val < 72 by omega)]
  have h := Shape.reshapeEquiv_cons_one (d := ![16]) shapeCasts_S1x16_S16 (ix1 x)
  show b ((Rect.unit (s := S104x72) ![p, q] S1x16.size inb).emb (Shape.reshapeEquiv _ (ix1 x))) = _
  congr 1
  refine (congrArg (Rect.unit (s := S104x72) ![p, q] S1x16.size inb).emb h).trans ?_
  funext a
  match a with
  | ⟨0, _⟩ => exact Fin.ext (show p + 1 * 0 = p by omega)
  | ⟨1, _⟩ => exact Fin.ext (show q + 1 * x.val = q + x.val by omega)

/-- Bit `l` of sixteen words. -/
def mbv (l : BitVec 32) (v : Vec F S1x16 .i32) : IVec S16 32 :=
  andi (shrui (shapeCast S16 v shapeCasts_S1x16_S16) (broadcast S16 l)) (broadcast S16 1#32)

theorem mbv_ld (b : S104x72.Idx → BitVec 32) {off : Fin 2 → Nat} {inb : ∀ a, off a + S1x16.size a ≤ S104x72.size a} {r l q : Nat}
    (hoff : off = ![r, 16 * q]) (hq : q < 4) {lw : BitVec 32} (hlw : lw.toNat = l) (hl : l < 32) (x : Fin 16) :
    mbv lw (ldB (F := F) b off inb) (ln x) = if bitB (wd b r) (64 * l + 16 * q + x.val) then 1#32 else 0#32 := by
  show IntOp.andi (IntOp.shrui .vector (shapeCast S16 (ldB (F := F) b off inb) shapeCasts_S1x16_S16 (ix1 x)) lw) 1#32 = _
  rw [bit_word _ _ (by omega), ldB_apply b hoff, bitB_at _ l q x.val hq x.isLt, hlw]

theorem iv_toNat {n : ℕ} (h : n < 2 ^ 32) : (Scf.iv 0#32 1#32 n).toNat = n := by
  unfold Scf.iv
  rw [BitVec.zero_add, BitVec.mul_one, BitVec.toNat_ofNat, Nat.mod_eq_of_lt h]

theorem iota_ln (x : Fin 16) : iota .scVector S16 32 [0] iota_S16_d0_w32_scVector (ln x) = BitVec.ofNat 32 x.val := by
  fin_cases x <;> rfl

theorem idv_ln (l q : ℕ) (hl : l < 16) (hq : q < 4) (x : Fin 16) :
    addi (broadcast S16 (Scalar.addi (Scalar.muli 64#32 (Scf.iv 0#32 1#32 l)) (BitVec.ofNat 32 (16 * q)))) (iota .scVector S16 32 [0] iota_S16_d0_w32_scVector) (ln x)
      = BitVec.ofNat 32 (64 * l + 16 * q + x.val) := by
  show (64#32 * Scf.iv 0#32 1#32 l + BitVec.ofNat 32 (16 * q)) + iota .scVector S16 32 [0] iota_S16_d0_w32_scVector (ln x) = _
  rw [iota_ln]
  apply BitVec.eq_of_toNat_eq
  have hx := x.isLt
  rw [BitVec.toNat_add, BitVec.toNat_add, BitVec.toNat_mul, iv_toNat (by omega)]
  simp only [BitVec.toNat_ofNat]
  omega

section Wp

variable (d : Dev nD) (L : grid0.Coords)

/-- The fetched words. -/
abbrev holdsB (b : S104x72.Idx → BitVec 32) : sProp 𝕄 := (thr d L).loc cc2_scratch0 ↦[Finset.univ]{fullShare} b

/-- The result block, at contents with the property `Φ`. -/
abbrev holdsO (Φ : (S104x128.Idx → BitVec 32) → Prop) : sProp 𝕄 :=
  iprop(∃ f : S104x128.Idx → BitVec 32, ⌜Φ f⌝ ∗ (thr d L).loc cc2_scratch2 ↦[Finset.univ]{fullShare} f)

theorem holdsO_mono {Φ Ψ : (S104x128.Idx → BitVec 32) → Prop} (h : ∀ f, Φ f → Ψ f) : holdsO (F := F) d L Φ ⊢ holdsO d L Ψ := by
  iintro ⟨%f, %hf, H⟩
  iexists f; isplitr; · ipureintro; exact h f hf
  iexact H

theorem wp_bits {α : Type} {b : S104x72.Idx → BitVec 32} {off : Fin 2 → Nat} {inb : ∀ a, off a + S1x16.size a ≤ S104x72.size a}
    {hl : bM.view.LoadsAt (Rect.unit (s := S104x72) off S1x16.size inb).toLoadRect} {k : Vec F S1x16 .i32 → Prog (TpuEff nD τ sig (Elt F) Λ₀ (thr d L).2) α} {Q : α → sProp 𝕄} :
    holdsB (F := F) d L b ⊢ iprop((holdsB (F := F) d L b -∗ wp frame (wpE (defs₀ (F := F)) 𝒱₀ (thr d L) none) Set.univ (k (ldB (F := F) b off inb)) Q)
      -∗ wp frame (wpE (defs₀ (F := F)) 𝒱₀ (thr d L) none) Set.univ (.op (.load bM (Rect.unit (s := S104x72) off S1x16.size inb).toLoadRect hl) k) Q) :=
  wp_load_rect 𝒱₀ (thr d L) none Set.univ (m := bM) (r := Rect.unit (s := S104x72) off S1x16.size inb) (S := Finset.univ) (Finset.subset_univ _)

/-- One masked indexed store: sixteen numbers further in row `r`. -/
theorem wp_oscat {α : Type} {G : S104x128.Idx → BitVec 32} {w : Nat → BitVec 32} {r N : Nat} {rv cnt : BitVec 32} {mb : IVec S16 32}
    {val : Vec F S16 .i32} (hr : rv.toNat = r) (hN : N ≤ 1008) (hcnt : cnt = BitVec.ofNat 32 (rank w N))
    (hmb : ∀ x : Fin 16, mb (ln x) = if bitB w (N + x.val) then 1#32 else 0#32) (hval : ∀ x : Fin 16, val (ln x) = BitVec.ofNat 32 (N + x.val))
    {idx : IVec S16 32} {msk : IVec S16 1} (hidx : idx = clipv cnt mb) (hmsk : msk = mskv cnt mb)
    {hchk : ∀ a x, ((![broadcast S16 rv, idx] : Fin 2 → IVec S16 32) a x).toNat < S104x128.size a}
    {hs : ((oM : Memref sig .scVector .vmem S104x128 .i32).access (.whole S104x128)).Stores Finset.univ}
    {k : PUnit → Prog (TpuEff nD τ sig (Elt F) Λ₀ (thr d L).2) α} {Q : α → sProp 𝕄} :
    holdsO (F := F) d L (Oed G w r N) ⊢ iprop((holdsO (F := F) d L (Oed G w r (N + 16)) -∗ wp frame (wpE (defs₀ (F := F)) 𝒱₀ (thr d L) none) Set.univ (k ⟨⟩) Q)
      -∗ wp frame (wpE (defs₀ (F := F)) 𝒱₀ (thr d L) none) Set.univ
          (SparseCore.vectorStoreIdx oM ![broadcast S16 rv, idx] val msk false hchk hs >>= k) Q) := by
  subst hidx; subst hmsk
  have hset : ((oM : Memref sig .scVector .vmem S104x128 .i32).access (.whole S104x128)).set = Finset.univ := by
    ext i
    simp only [Finset.mem_univ, iff_true]
    exact Finset.mem_map.mpr ⟨i, Finset.mem_univ _, emb_oM i⟩
  iintro ⟨%f, %hf, H⟩ Hk
  ihave H := (Entails.of_eq (show ((thr d L).loc cc2_scratch2 ↦[Finset.univ]{fullShare} f : sProp 𝕄)
    = (thr d L).loc cc2_scratch2 ↦[((oM : Memref sig .scVector .vmem S104x128 .i32).access (.whole S104x128)).set]{fullShare} f by rw [hset])) $$ H
  iapply (SparseCore.wp_vectorStoreIdx 𝒱₀ (thr d L) none Set.univ (base := oM) (f := f)) $$ H
  iintro H
  iapply Hk
  iexists (storeIdx (F := F) f ![broadcast S16 rv, clipv cnt mb] val (mskv cnt mb) false hchk)
  isplitr
  · ipureintro; exact oed_scat hr hN hcnt hmb hval hchk hf
  · ihave H := (Entails.of_eq (congrArg (fun I : Finset S104x128.Idx => ((thr d L).loc cc2_scratch2 ↦[I]{fullShare} _ : sProp 𝕄)) hset)) $$ H
    rw [oM_read, oM_write]
    iexact H

end Wp

end Cert.Proof
end
-- ==== Proof.CompactRows.lean ====
/-
  The loops of the compaction kernel on one vector subcore: the block zeroed row by row, then for every row with a positive
  count its sixty-four words walked bit by bit, and the numbers found written to the row in order.
-/
module

public import proofs.«01_k».proof.Proof.CompactStep

@[expose] public section

noncomputable section

namespace Cert.Proof

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

variable [FloatOps F] (d : Dev nD) (L : grid0.Coords)

/-! ## Zeroing -/

/-- The rows below `p` and the first `16 * n` columns of row `p` are zero. -/
def Ozed (p n : ℕ) (f : S104x128.Idx → BitVec 32) : Prop :=
  (∀ i, (i 0).val < p → f i = 0#32) ∧ ∀ i, (i 0).val = p → (i 1).val < 16 * n → f i = 0#32

theorem ozed_write {p n : ℕ} {f : S104x128.Idx → BitVec 32} {off : Fin 2 → Nat} {inb : ∀ a, off a + S1x16.size a ≤ S104x128.size a}
    (hoff : off = ![p, 16 * n]) {w : S1x16.Idx → BitVec 32} (hw : ∀ x, w x = 0#32) (h : Ozed p n f) :
    Ozed p (n + 1) ((oM.access (Rect.unit (s := S104x128) off S1x16.size inb)).write (Elt F) f w Finset.univ) := by
  set r : Rect S104x128 := Rect.unit (s := S104x128) off S1x16.size inb with hr
  have key : ∀ i : S104x128.Idx, ((oM.access r).write (Elt F) f w Finset.univ i = 0#32)
      ∨ ((∀ x : S1x16.Idx, r.emb x ≠ i) ∧ (oM.access r).write (Elt F) f w Finset.univ i = f i) := by
    intro i
    by_cases hx : ∃ x : S1x16.Idx, r.emb x = i
    · obtain ⟨x, rfl⟩ := hx
      exact Or.inl ((View.write_emb_of_mem (v := oM.access r) (Val := Elt F) f w (M := Finset.univ) (x := x) (Finset.mem_univ _)).trans (hw x))
    · refine Or.inr ⟨fun x hx' => hx ⟨x, hx'⟩, ?_⟩
      refine View.write_of_not_mem (v := oM.access r) (Val := Elt F) f w Finset.univ ?_
      intro hm
      obtain ⟨x, -, e⟩ := Finset.mem_map.mp hm
      exact hx ⟨x, e⟩
  constructor
  · intro i hi
    rcases key i with e | ⟨-, e⟩
    · exact e
    · rw [e]; exact h.1 i hi
  · intro i hi hc
    rcases key i with e | ⟨hx, e⟩
    · exact e
    · rw [e]
      refine h.2 i hi ?_
      by_contra hge
      have hlt : (i 1).val - 16 * n < 16 := by omega
      refine hx (ix2 (n0 := 1) (n1 := 16) ⟨0, Nat.one_pos⟩ ⟨(i 1).val - 16 * n, hlt⟩) ?_
      subst hoff
      funext a
      match a with
      | ⟨0, _⟩ => exact Fin.ext (show p + 1 * 0 = (i 0).val by omega)
      | ⟨1, _⟩ => exact Fin.ext (show 16 * n + 1 * ((i 1).val - 16 * n) = (i 1).val by omega)

theorem wp_oload {α : Type} {off : Fin 2 → Nat} {inb : ∀ a, off a + S1x16.size a ≤ S104x128.size a} {Φ : (S104x128.Idx → BitVec 32) → Prop}
    {hl : oM.view.LoadsAt (Rect.unit (s := S104x128) off S1x16.size inb).toLoadRect} {k : Prog (TpuEff nD τ sig (Elt F) Λ₀ (thr d L).2) α} {Q : α → sProp 𝕄} :
    holdsO (F := F) d L Φ ⊢ iprop((holdsO (F := F) d L Φ -∗ wp frame (wpE (defs₀ (F := F)) 𝒱₀ (thr d L) none) Set.univ k Q)
      -∗ wp frame (wpE (defs₀ (F := F)) 𝒱₀ (thr d L) none) Set.univ (.op (.load oM (Rect.unit (s := S104x128) off S1x16.size inb).toLoadRect hl) fun _ => k) Q) := by
  iintro ⟨%f, %hf, H⟩ Hk
  iapply (wp_load_rect 𝒱₀ (thr d L) none Set.univ (m := oM) (r := Rect.unit (s := S104x128) off S1x16.size inb) (S := Finset.univ) (q := fullShare) (f := f)
    (Finset.subset_univ _)) $$ H
  iintro H
  iapply Hk
  iexists f; isplitr; · ipureintro; exact hf
  iexact H

theorem wp_ozero {α : Type} {p n : Nat} {off : Fin 2 → Nat} {inb : ∀ a, off a + S1x16.size a ≤ S104x128.size a} (hoff : off = ![p, 16 * n])
    {hx : (oM.access (Rect.unit (s := S104x128) off S1x16.size inb)).Stores Finset.univ}
    {hm : (Finset.univ : Finset (Rect.unit (s := S104x128) off S1x16.size inb).shape.Idx) = Finset.univ ∨ ∀ a, (Rect.unit (s := S104x128) off S1x16.size inb).stride a = 1}
    {k : PUnit → Prog (TpuEff nD τ sig (Elt F) Λ₀ (thr d L).2) α} {Q : α → sProp 𝕄} :
    holdsO (F := F) d L (Ozed p n) ⊢ iprop((holdsO (F := F) d L (Ozed p (n + 1)) -∗ wp frame (wpE (defs₀ (F := F)) 𝒱₀ (thr d L) none) Set.univ (k ⟨⟩) Q)
      -∗ wp frame (wpE (defs₀ (F := F)) 𝒱₀ (thr d L) none) Set.univ (.op (.store oM (Rect.unit (s := S104x128) off S1x16.size inb) (shapeCast S1x16 k2_pay31 shapeCasts_S16_S1x16) Finset.univ hx hm) k) Q) := by
  iintro ⟨%f, %hf, H⟩ Hk
  iapply (wp_store 𝒱₀ (thr d L) none Set.univ (m := oM) (r := Rect.unit (s := S104x128) off S1x16.size inb) (Mk := Finset.univ) (S := Finset.univ) (f := f)
    (Finset.subset_univ _)) $$ H
  iintro H
  iapply Hk
  iexists _; isplitr
  rotate_left
  · iexact H
  · ipureintro; exact ozed_write hoff (fun _ => rfl) hf

theorem Ozed.next {p : ℕ} {f : S104x128.Idx → BitVec 32} (h : Ozed p 8 f) : Ozed (p + 1) 0 f := by
  refine ⟨fun i hi => ?_, fun i _ hc => by omega⟩
  rcases Nat.lt_or_ge (i 0).val p with hlt | hge
  · exact h.1 i hlt
  · exact h.2 i (by omega) (i 1).isLt

theorem c1_wp (a2 : Memref sig .scVector .hbm S3328x72 .i32) (h2 : a2.IsWhole) (a3 : Memref sig .scVector .hbm S32x128 .i32) (h3 : a3.IsWhole)
    (a4 : Memref sig .scVector .hbm S3200x128 .i32) (h4 : a4.IsWhole) (a5 : Memref sig .scVector .hbm S32x128 .i32) (h5 : a5.IsWhole)
    (h6 : (bM).IsWhole) (h7 : (cM).IsWhole) (h8 : (oM).IsWhole) (h9 : (nM).IsWhole) (r0 r1 r2 r3 r4 : DmaSems sig S_) (acc : BitVec 32) (t1 : Fin k2_t1_loop.trips) :
    holdsO (F := F) d L (Ozed t1.val 0) ⊢ wp frame (wpE (defs₀ (F := F)) 𝒱₀ (thr d L) none) Set.univ
      (k2_t1_body L a2 h2 a3 h3 a4 h4 a5 h5 bM h6 cM h7 oM h8 nM h9 r0 r1 r2 r3 r4 t1 acc) fun _ => holdsO (F := F) d L (Ozed (t1.val + 1) 0) := by
  unfold k2_t1_body
  simp only [Prog.lift, Prog.bind_op, Prog.bind_ret, Prog.pure_eq_ret]
  iintro H
  iapply (wp_oload d L) $$ H; iintro H
  iapply (wp_ozero d L (n := 0) (k2_off3_eq t1)) $$ H; iintro H
  iapply (wp_oload d L) $$ H; iintro H
  iapply (wp_ozero d L (n := 1) (k2_off4_eq t1)) $$ H; iintro H
  iapply (wp_oload d L) $$ H; iintro H
  iapply (wp_ozero d L (n := 2) (k2_off5_eq t1)) $$ H; iintro H
  iapply (wp_oload d L) $$ H; iintro H
  iapply (wp_ozero d L (n := 3) (k2_off6_eq t1)) $$ H; iintro H
  iapply (wp_oload d L) $$ H; iintro H
  iapply (wp_ozero d L (n := 4) (k2_off7_eq t1)) $$ H; iintro H
  iapply (wp_oload d L) $$ H; iintro H
  iapply (wp_ozero d L (n := 5) (k2_off8_eq t1)) $$ H; iintro H
  iapply (wp_oload d L) $$ H; iintro H
  iapply (wp_ozero d L (n := 6) (k2_off9_eq t1)) $$ H; iintro H
  iapply (wp_oload d L) $$ H; iintro H
  iapply (wp_ozero d L (n := 7) (k2_off10_eq t1)) $$ H; iintro H
  rw [wp_ret]; imodintro
  iapply (holdsO_mono d L (fun f hf => hf.next)) $$ H

/-! ## One bit position of a row -/

theorem off12_eq : ∀ (t2 : Fin k2_t2_loop.trips) (t3 : Fin k2_t3_loop.trips), k2_off12 t2 t3 = ![16 * t2.val + t3.val, 0] := by decide +kernel
theorem off13_eq : ∀ (t2 : Fin k2_t2_loop.trips) (t3 : Fin k2_t3_loop.trips), k2_off13 t2 t3 = ![16 * t2.val + t3.val, 16] := by decide +kernel
theorem off14_eq : ∀ (t2 : Fin k2_t2_loop.trips) (t3 : Fin k2_t3_loop.trips), k2_off14 t2 t3 = ![16 * t2.val + t3.val, 32] := by decide +kernel
theorem off15_eq : ∀ (t2 : Fin k2_t2_loop.trips) (t3 : Fin k2_t3_loop.trips), k2_off15 t2 t3 = ![16 * t2.val + t3.val, 48] := by decide +kernel

theorem ctrips1 : k2_t1_loop.trips = 104 := by decide +kernel
theorem ctrips2 : k2_t2_loop.trips = 7 := by decide +kernel
theorem ctrips3 : k2_t3_loop.trips = 16 := by decide +kernel
theorem ctrips4 : k2_t4_loop.trips = 16 := by decide +kernel

/-- Sixteen bits of a row, as zeros and ones. -/
def MB (w : ℕ → BitVec 32) (N : ℕ) (mb : IVec S16 32) : Prop := ∀ x : Fin 16, mb (ln x) = if bitB w (N + x.val) then 1#32 else 0#32

/-- The indices of the masked store are inside the block. -/
theorem clip_chk {rv cnt : BitVec 32} {mb : IVec S16 32} (hr : rv.toNat < 104) :
    ∀ a x, ((![broadcast S16 rv, clipv cnt mb] : Fin 2 → IVec S16 32) a x).toNat < S104x128.size a := by
  intro a x
  match a with
  | ⟨0, _⟩ => exact hr
  | ⟨1, _⟩ => exact clipv_lt mb cnt x

theorem cnt_next {w : ℕ → BitVec 32} {N : ℕ} {mb : IVec S16 32} (hmb : MB w N mb) (hN : N ≤ 1008) {cnt : BitVec 32} (hcnt : cnt = BitVec.ofNat 32 (rank w N)) :
    Scalar.addi cnt (last (smax (scan .sum mb))) = BitVec.ofNat 32 (rank w (N + 16)) := by
  show cnt + _ = _
  rw [last_count w N mb hmb hN, hcnt, ← BitVec.ofNat_add]
  congr 1
  have := rank_mono w (show N ≤ N + 16 by omega)
  omega

section Quarters

theorem q1_wp (a2 : Memref sig .scVector .hbm S3328x72 .i32) (h2 : a2.IsWhole) (a3 : Memref sig .scVector .hbm S32x128 .i32) (h3 : a3.IsWhole)
    (a4 : Memref sig .scVector .hbm S3200x128 .i32) (h4 : a4.IsWhole) (a5 : Memref sig .scVector .hbm S32x128 .i32) (h5 : a5.IsWhole)
    (h6 : (bM).IsWhole) (h7 : (cM).IsWhole) (h8 : (oM).IsWhole) (h9 : (nM).IsWhole) (r0 r1 r2 r3 r4 : DmaSems sig S_) {b : S104x72.Idx → BitVec 32} {G : S104x128.Idx → BitVec 32}
    (t2 : Fin k2_t2_loop.trips) (v40 : BitVec 32) (hc1 : k2_cond1 v40 = 1#1) (t3 : Fin k2_t3_loop.trips) (v47 v57 : BitVec 32) (hw1 : k2_chk1 t2 v40 t3 v57)
    (hc2 : k2_cond2 v57 = 1#1) {r : ℕ} (hr : 16 * t2.val + t3.val = r) (hv : v47.toNat = r) (hlt : r < 104) {l : ℕ} (hl : l < 16)
    (t4 : Fin k2_t4_loop.trips) (ht4 : t4.val = l) (cnt : BitVec 32) (hcnt : cnt = BitVec.ofNat 32 (rank (wd b r) (64 * l))) :
    iprop(holdsB (F := F) d L b ∗ holdsO (F := F) d L (Oed G (wd b r) r (64 * l))) ⊢ wp frame (wpE (defs₀ (F := F)) 𝒱₀ (thr d L) none) Set.univ
      (k2_part1 L a2 h2 a3 h3 a4 h4 a5 h5 bM h6 cM h7 oM h8 nM h9 r0 r1 r2 r3 r4 (iota .scVector S16 32 [0] iota_S16_d0_w32_scVector) t2 v40 hc1 t3 v47 v57 hw1 hc2 0#32 1#32 t4 cnt)
      fun a => iprop(⌜a.1 = Scf.iv 0#32 1#32 l ∧ a.2.1 = BitVec.ofNat 32 (rank (wd b r) (64 * l + 16)) ∧ MB (wd b r) (64 * l + 16) a.2.2.1
          ∧ a.2.2.2 = broadcast S16 0#32⌝ ∗ holdsB (F := F) d L b ∗ holdsO (F := F) d L (Oed G (wd b r) r (64 * l + 16))) := by
  simp only [k2_part1_eq_skeleton]; unfold k2_part1_skel
  simp only [Prog.lift, Prog.bind_op, Prog.bind_ret, Prog.pure_eq_ret]
  subst hr
  iintro ⟨HB, H⟩
  iapply (wp_bits d L) $$ HB; iintro HB
  have hiv : (Scf.iv 0#32 1#32 t4.val).toNat = l := (iv_toNat (by omega)).trans ht4
  have hmb : MB (wd b (16 * t2.val + t3.val)) (64 * l) (mbv (Scf.iv 0#32 1#32 t4.val) (ldB (F := F) b (k2_off12 t2 t3) (k2_off12_inb t2 v40 t3 v57 hw1 hc1 hc2))) :=
    fun x => mbv_ld b (q := 0) (off12_eq t2 t3) (by omega) hiv (by omega) x
  have hck : k2_chk2 v40 v57 (broadcast S16 v47) (k2_pay6 0#32 1#32 t4 cnt (ldB (F := F) b (k2_off12 t2 t3) (k2_off12_inb t2 v40 t3 v57 hw1 hc1 hc2))) :=
    fun _ _ => clip_chk (hv ▸ hlt)
  rw [wp_assume_of _ _ _ _ hck]
  iapply (wp_oscat d L (mb := mbv (Scf.iv 0#32 1#32 t4.val) (ldB (F := F) b (k2_off12 t2 t3) (k2_off12_inb t2 v40 t3 v57 hw1 hc1 hc2))) (cnt := cnt)
    hv (by omega) hcnt hmb (fun x => (congrArg _ (show _ = _ from rfl)).trans (ht4 ▸ idv_ln t4.val 0 (by omega) (by omega) x)) rfl rfl) $$ H
  iintro H
  iapply (wp_bits d L) $$ HB; iintro HB
  rw [wp_ret]; imodintro
  isplitr
  · ipureintro
    refine ⟨congrArg (Scf.iv 0#32 1#32) ht4, cnt_next hmb (by omega) hcnt, fun x => mbv_ld b (q := 1) (off13_eq t2 t3) (by omega) hiv (by omega) x, rfl⟩
  isplitl [HB] <;> iassumption

theorem q2_wp (a2 : Memref sig .scVector .hbm S3328x72 .i32) (h2 : a2.IsWhole) (a3 : Memref sig .scVector .hbm S32x128 .i32) (h3 : a3.IsWhole)
    (a4 : Memref sig .scVector .hbm S3200x128 .i32) (h4 : a4.IsWhole) (a5 : Memref sig .scVector .hbm S32x128 .i32) (h5 : a5.IsWhole)
    (h6 : (bM).IsWhole) (h7 : (cM).IsWhole) (h8 : (oM).IsWhole) (h9 : (nM).IsWhole) (r0 r1 r2 r3 r4 : DmaSems sig S_) {b : S104x72.Idx → BitVec 32} {G : S104x128.Idx → BitVec 32}
    (t2 : Fin k2_t2_loop.trips) (v40 : BitVec 32) (hc1 : k2_cond1 v40 = 1#1) (t3 : Fin k2_t3_loop.trips) (v47 v57 : BitVec 32) (hw1 : k2_chk1 t2 v40 t3 v57)
    (hc2 : k2_cond2 v57 = 1#1) {r : ℕ} (hr : 16 * t2.val + t3.val = r) (hv : v47.toNat = r) (hlt : r < 104) {l : ℕ} (hl : l < 16)
    (arg14 cnt : BitVec 32) (ha : arg14 = Scf.iv 0#32 1#32 l) (hcnt : cnt = BitVec.ofNat 32 (rank (wd b r) (64 * l + 16)))
    (mb z : IVec S16 32) (hmb : MB (wd b r) (64 * l + 16) mb) (hz : z = broadcast S16 0#32) :
    iprop(holdsB (F := F) d L b ∗ holdsO (F := F) d L (Oed G (wd b r) r (64 * l + 16))) ⊢ wp frame (wpE (defs₀ (F := F)) 𝒱₀ (thr d L) none) Set.univ
      (k2_part2 L a2 h2 a3 h3 a4 h4 a5 h5 bM h6 cM h7 oM h8 nM h9 r0 r1 r2 r3 r4 (iota .scVector S16 32 [0] iota_S16_d0_w32_scVector) t2 v40 hc1 t3 v47 v57 hw1 hc2 arg14 cnt mb z)
      fun a => iprop(⌜a.1 = BitVec.ofNat 32 (rank (wd b r) (64 * l + 32)) ∧ (∃ mb', MB (wd b r) (64 * l + 32) mb' ∧ a.2.1 = cmpi .sgt mb' (broadcast S16 0#32)
          ∧ a.2.2.1 = scan .sum mb' ∧ a.2.2.2.1 = posv a.1 mb') ∧ a.2.2.2.2.1 = Scalar.muli 64#32 (Scf.iv 0#32 1#32 l) ∧ a.2.2.2.2.2 = 32#32⌝
        ∗ holdsB (F := F) d L b ∗ holdsO (F := F) d L (Oed G (wd b r) r (64 * l + 32))) := by
  simp only [k2_part2_eq_skeleton]; unfold k2_part2_skel
  simp only [Prog.lift, Prog.bind_op, Prog.bind_ret, Prog.pure_eq_ret]
  subst hr; subst ha; subst hz
  iintro ⟨HB, H⟩
  have hiv : (Scf.iv 0#32 1#32 l).toNat = l := iv_toNat (by omega)
  have hck : k2_chk3 v40 v57 (broadcast S16 v47) (k2_pay14 cnt mb) := fun _ _ => clip_chk (hv ▸ hlt)
  rw [wp_assume_of _ _ _ _ hck]
  iapply (wp_oscat d L (mb := mb) (cnt := cnt)
    hv (by omega) hcnt hmb (fun x => idv_ln l 1 (by omega) (by omega) x) rfl rfl) $$ H
  iintro H
  iapply (wp_bits d L) $$ HB; iintro HB
  rw [wp_ret]; imodintro
  isplitr
  · ipureintro
    exact ⟨cnt_next hmb (by omega) hcnt, ⟨_, fun x => mbv_ld b (q := 2) (off14_eq t2 t3) (by omega) hiv (by omega) x, rfl, rfl, rfl⟩, rfl, rfl⟩
  isplitl [HB] <;> iassumption

theorem q3_wp (a2 : Memref sig .scVector .hbm S3328x72 .i32) (h2 : a2.IsWhole) (a3 : Memref sig .scVector .hbm S32x128 .i32) (h3 : a3.IsWhole)
    (a4 : Memref sig .scVector .hbm S3200x128 .i32) (h4 : a4.IsWhole) (a5 : Memref sig .scVector .hbm S32x128 .i32) (h5 : a5.IsWhole)
    (h6 : (bM).IsWhole) (h7 : (cM).IsWhole) (h8 : (oM).IsWhole) (h9 : (nM).IsWhole) (r0 r1 r2 r3 r4 : DmaSems sig S_) {b : S104x72.Idx → BitVec 32} {G : S104x128.Idx → BitVec 32}
    (t2 : Fin k2_t2_loop.trips) (v40 : BitVec 32) (hc1 : k2_cond1 v40 = 1#1) (t3 : Fin k2_t3_loop.trips) (v47 v57 : BitVec 32) (hw1 : k2_chk1 t2 v40 t3 v57)
    (hc2 : k2_cond2 v57 = 1#1) {r : ℕ} (hr : 16 * t2.val + t3.val = r) (hv : v47.toNat = r) (hlt : r < 104) {l : ℕ} (hl : l < 16)
    (cnt : BitVec 32) (hcnt : cnt = BitVec.ofNat 32 (rank (wd b r) (64 * l + 32)))
    (mb : IVec S16 32) (hmb : MB (wd b r) (64 * l + 32) mb) :
    iprop(holdsB (F := F) d L b ∗ holdsO (F := F) d L (Oed G (wd b r) r (64 * l + 32))) ⊢ wp frame (wpE (defs₀ (F := F)) 𝒱₀ (thr d L) none) Set.univ
      (k2_part3 L a2 h2 a3 h3 a4 h4 a5 h5 bM h6 cM h7 oM h8 nM h9 r0 r1 r2 r3 r4 (iota .scVector S16 32 [0] iota_S16_d0_w32_scVector) t2 v40 hc1 t3 v47 v57 hw1 hc2 (Scf.iv 0#32 1#32 l) cnt (cmpi .sgt mb (broadcast S16 0#32)) (scan .sum mb) (posv cnt mb)
        (Scalar.muli 64#32 (Scf.iv 0#32 1#32 l)) 32#32)
      fun a => iprop(⌜a.1 = BitVec.ofNat 32 (rank (wd b r) (64 * l + 48)) ∧ (∃ mb', MB (wd b r) (64 * l + 48) mb' ∧ a.2.1 = scan .sum mb'
          ∧ (∀ x : Fin 16, a.2.2.1 (ln x) = BitVec.ofNat 32 (64 * l + 48 + x.val)) ∧ a.2.2.2.1 = mskv a.1 mb' ∧ a.2.2.2.2.1 = broadcast S16 v47 ∧ a.2.2.2.2.2.1 = 127#32
          ∧ minsi (broadcast S16 127#32) a.2.2.2.2.2.2 = clipv a.1 mb')⌝
        ∗ holdsB (F := F) d L b ∗ holdsO (F := F) d L (Oed G (wd b r) r (64 * l + 48))) := by
  simp only [k2_part3_eq_skeleton]; unfold k2_part3_skel
  simp only [Prog.lift, Prog.bind_op, Prog.bind_ret, Prog.pure_eq_ret]
  subst hr
  iintro ⟨HB, H⟩
  have hiv : (Scf.iv 0#32 1#32 l).toNat = l := iv_toNat (by omega)
  have hck : k2_chk4 v40 v57 (broadcast S16 v47) (k2_pay22 (posv cnt mb)) := fun _ _ => clip_chk (mb := mb) (cnt := cnt) (hv ▸ hlt)
  rw [wp_assume_of _ _ _ _ hck]
  iapply (wp_oscat d L (mb := mb) (cnt := cnt)
    hv (by omega) hcnt hmb (fun x => idv_ln l 2 (by omega) (by omega) x) rfl rfl) $$ H
  iintro H
  iapply (wp_bits d L) $$ HB; iintro HB
  rw [wp_ret]; imodintro
  isplitr
  · ipureintro
    exact ⟨cnt_next hmb (by omega) hcnt, ⟨_, fun x => mbv_ld b (q := 3) (off15_eq t2 t3) (by omega) hiv (by omega) x, rfl,
      fun x => idv_ln l 3 (by omega) (by omega) x, rfl, rfl, rfl, rfl⟩⟩
  isplitl [HB] <;> iassumption

theorem c4_wp (a2 : Memref sig .scVector .hbm S3328x72 .i32) (h2 : a2.IsWhole) (a3 : Memref sig .scVector .hbm S32x128 .i32) (h3 : a3.IsWhole)
    (a4 : Memref sig .scVector .hbm S3200x128 .i32) (h4 : a4.IsWhole) (a5 : Memref sig .scVector .hbm S32x128 .i32) (h5 : a5.IsWhole)
    (h6 : (bM).IsWhole) (h7 : (cM).IsWhole) (h8 : (oM).IsWhole) (h9 : (nM).IsWhole) (r0 r1 r2 r3 r4 : DmaSems sig S_) {b : S104x72.Idx → BitVec 32} {G : S104x128.Idx → BitVec 32}
    (t2 : Fin k2_t2_loop.trips) (v40 : BitVec 32) (hc1 : k2_cond1 v40 = 1#1) (t3 : Fin k2_t3_loop.trips) (v47 v57 : BitVec 32) (hw1 : k2_chk1 t2 v40 t3 v57)
    (hc2 : k2_cond2 v57 = 1#1) {r : ℕ} (hr : 16 * t2.val + t3.val = r) (hv : v47.toNat = r) (hlt : r < 104)
    (t4 : Fin k2_t4_loop.trips) (acc : BitVec 32) :
    iprop(⌜acc = BitVec.ofNat 32 (rank (wd b r) (64 * t4.val))⌝ ∗ holdsB (F := F) d L b ∗ holdsO (F := F) d L (Oed G (wd b r) r (64 * t4.val))) ⊢ wp frame (wpE (defs₀ (F := F)) 𝒱₀ (thr d L) none) Set.univ
      (k2_t4_body L a2 h2 a3 h3 a4 h4 a5 h5 bM h6 cM h7 oM h8 nM h9 r0 r1 r2 r3 r4 (iota .scVector S16 32 [0] iota_S16_d0_w32_scVector) t2 v40 hc1 t3 v47 v57 hw1 hc2 t4 acc)
      fun a => iprop(⌜a = BitVec.ofNat 32 (rank (wd b r) (64 * (t4.val + 1)))⌝ ∗ holdsB (F := F) d L b ∗ holdsO (F := F) d L (Oed G (wd b r) r (64 * (t4.val + 1)))) := by
  have hl : t4.val < 16 := lt_of_lt_of_eq t4.isLt ctrips4
  unfold k2_t4_body
  iintro ⟨%hacc, HB, H⟩
  iapply (wp_seq d L (q1_wp d L a2 h2 a3 h3 a4 h4 a5 h5 h6 h7 h8 h9 r0 r1 r2 r3 r4 t2 v40 hc1 t3 v47 v57 hw1 hc2 hr hv hlt hl t4 rfl acc hacc)) $$ [HB H]
  · isplitl [HB] <;> iassumption
  iintro %a1 ⟨%h1, HB, H⟩
  obtain ⟨x1, x2, x3, x4⟩ := a1
  obtain ⟨e1, e2, e3, e4⟩ := h1
  iapply (wp_seq d L (q2_wp d L a2 h2 a3 h3 a4 h4 a5 h5 h6 h7 h8 h9 r0 r1 r2 r3 r4 t2 v40 hc1 t3 v47 v57 hw1 hc2 hr hv hlt hl x1 x2 e1 e2 x3 x4 e3 e4)) $$ [HB H]
  · isplitl [HB] <;> iassumption
  iintro %a2 ⟨%h2, HB, H⟩
  obtain ⟨y1, y2, y3, y4, y5, y6⟩ := a2
  obtain ⟨f1, ⟨mb, hmb, f2, f3, f4⟩, f5, f6⟩ := h2
  dsimp only at e1 e2 e4 f1 f2 f3 f4 f5 f6
  subst e1; subst f2; subst f3; subst f4; subst f5; subst f6
  iapply (wp_seq d L (q3_wp d L a2 h2 a3 h3 a4 h4 a5 h5 h6 h7 h8 h9 r0 r1 r2 r3 r4 t2 v40 hc1 t3 v47 v57 hw1 hc2 hr hv hlt hl y1 f1 mb hmb)) $$ [HB H]
  · isplitl [HB] <;> iassumption
  iintro %a3 ⟨%h3, HB, H⟩
  obtain ⟨z1, z2, z3, z4, z5, z6, z7⟩ := a3
  obtain ⟨g1, mb3, hmb3, g2, g3, g4, g5, g6, g7⟩ := h3
  dsimp only at g1 g2 g3 g4 g5 g6 g7
  subst g2; subst g4; subst g5; subst g6
  simp only [Prog.lift, Prog.bind_op, Prog.bind_ret, Prog.pure_eq_ret]
  have hck : k2_chk5 v40 v57 (broadcast S16 v47) (k2_pay36 127#32 z7) := by
    intro _ _
    show ∀ a x, ((![broadcast S16 v47, minsi (broadcast S16 127#32) z7] : Fin 2 → IVec S16 32) a x).toNat < S104x128.size a
    rw [g7]; exact clip_chk (hv ▸ hlt)
  rw [wp_assume_of _ _ _ _ hck]
  iapply (wp_oscat d L (mb := mb3) (cnt := z1) hv (by omega) g1 hmb3 g3 g7 rfl) $$ H
  iintro H
  rw [wp_ret]; imodintro
  isplitr
  · ipureintro
    exact (cnt_next hmb3 (by omega) g1).trans (by rw [show 64 * t4.val + 48 + 16 = 64 * (t4.val + 1) by omega])
  isplitl [HB]; · iexact HB
  iapply (holdsO_mono d L (fun f hf => by rw [show 64 * (t4.val + 1) = 64 * t4.val + 48 + 16 by omega]; exact hf)) $$ H

end Quarters

end Cert.Proof
end
-- ==== Proof.CompactLoops.lean ====
/-
  The compaction over the rows: the counts of sixteen rows read at a time, cut off at 128 for the second result, and every
  row with a positive count walked.
-/
module

public import proofs.«01_k».proof.Proof.CompactRows

@[expose] public section

noncomputable section

namespace Cert.Proof

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

variable [FloatOps F] (d : Dev nD) (L : grid0.Coords)

/-- The count of the subcore's row `j`: zero outside its 104 rows and past the array's 3200. -/
def cm (g : S128.Idx → BitVec 32) (j : ℕ) : BitVec 32 :=
  if h : j < 104 ∧ base L + j < 3200 then g (ix1 ⟨j, by omega⟩) else 0#32

/-- What the block holds at the end: for a row with a positive count the numbers found, zeros else. -/
def oidG (b : S104x72.Idx → BitVec 32) (c : ℕ → BitVec 32) : S104x128.Idx → BitVec 32 :=
  fun i => if 0 < (c (i 0).val).toInt then pick (wd b (i 0).val) 1024 (i 1).val else 0#32

/-- The first `n` counts, cut off. -/
def Ned (c : ℕ → BitVec 32) (n : ℕ) (f : S128.Idx → BitVec 32) : Prop := ∀ i, (i 0).val < n → f i = IntOp.minsi (c (i 0).val) 128#32

abbrev holdsC (g : S128.Idx → BitVec 32) : sProp 𝕄 := (thr d L).loc cc2_scratch1 ↦[Finset.univ]{fullShare} g
abbrev holdsN (Φ : (S128.Idx → BitVec 32) → Prop) : sProp 𝕄 :=
  iprop(∃ f : S128.Idx → BitVec 32, ⌜Φ f⌝ ∗ (thr d L).loc cc2_scratch3 ↦[Finset.univ]{fullShare} f)

abbrev ldC (g : S128.Idx → BitVec 32) (off : Fin 1 → Nat) (inb : ∀ a, off a + S16.size a ≤ S128.size a) : Vec F S16 .i32 :=
  (cM.access (Rect.unit (s := S128) off S16.size inb)).read (Elt F) g

theorem ldC_ln (g : S128.Idx → BitVec 32) {off : Fin 1 → Nat} {inb : ∀ a, off a + S16.size a ≤ S128.size a} {p : ℕ} (hoff : off = ![p]) (x : Fin 16)
    (h : p + x.val < 128) : ldC (F := F) g off inb (ln x) = g (ix1 ⟨p + x.val, h⟩) := by
  subst hoff
  show g ((Rect.unit (s := S128) ![p] S16.size inb).emb (ln x)) = _
  congr 1
  funext a
  match a with
  | ⟨0, _⟩ => exact Fin.ext (show p + 1 * x.val = p + x.val by omega)

theorem toInt_low {n : ℕ} (hn : n < 65536) : (BitVec.ofNat 32 n).toInt = (n : ℤ) := by
  rw [BitVec.toInt_eq_toNat_cond, BitVec.toNat_ofNat, Nat.mod_eq_of_lt (by omega), if_pos (by omega)]

theorem slt_low {a b : ℕ} (ha : a < 65536) (hb : b < 65536) : (BitVec.ofNat 32 a).slt (BitVec.ofNat 32 b) = decide (a < b) := by
  rw [BitVec.slt_eq_decide, toInt_low ha, toInt_low hb]
  exact decide_eq_decide.mpr Int.ofNat_lt

theorem pay32_ln (t2 : Fin k2_t2_loop.trips) (g : S128.Idx → BitVec 32) (x : Fin 16) :
    k2_pay32 (F := F) L t2 (ldC (F := F) g (k2_off11 t2) (k2_off11_inb t2)) (ln x) = cm L g (16 * t2.val + x.val) := by
  have ht : t2.val < 7 := lt_of_lt_of_eq t2.isLt ctrips2
  have hx : x.val < 16 := x.isLt
  have hb := base_lt L
  have e17 : (Scf.iv 0#32 1#32 t2.val * 16#32) + iota .scVector S16 32 [0] iota_S16_d0_w32_scVector (ln x) = BitVec.ofNat 32 (16 * t2.val + x.val) := by
    rw [iota_ln]
    apply BitVec.eq_of_toNat_eq
    rw [BitVec.toNat_add, BitVec.toNat_mul, iv_toNat (by omega)]
    simp only [BitVec.toNat_ofNat]; omega
  have eb : (BitVec.ofNat 32 (L 1).val * 2#32 + BitVec.ofNat 32 (L 0).val) * 104#32 = BitVec.ofNat 32 (base L) := by
    have h0 : (L 0).val < 2 := (L 0).isLt
    have h1 : (L 1).val < 16 := (L 1).isLt
    apply BitVec.eq_of_toNat_eq
    rw [BitVec.toNat_mul, BitVec.toNat_add, BitVec.toNat_mul]
    simp only [BitVec.toNat_ofNat]; unfold base; omega
  show (if IntOp.andi (IntOp.cmpi .slt ((Scf.iv 0#32 1#32 t2.val * 16#32) + iota .scVector S16 32 [0] iota_S16_d0_w32_scVector (ln x)) 104#32)
      (IntOp.cmpi .slt (((BitVec.ofNat 32 (L 1).val * 2#32 + BitVec.ofNat 32 (L 0).val) * 104#32)
        + ((Scf.iv 0#32 1#32 t2.val * 16#32) + iota .scVector S16 32 [0] iota_S16_d0_w32_scVector (ln x))) 3200#32) = 1#1
    then ldC (F := F) g (k2_off11 t2) (k2_off11_inb t2) (ln x) else 0#32) = _
  rw [e17, eb, ← BitVec.ofNat_add, ldC_ln g (k2_off11_eq t2) x (by omega)]
  show (if BitVec.ofBool ((BitVec.ofNat 32 (16 * t2.val + x.val)).slt (BitVec.ofNat 32 104)) &&& BitVec.ofBool ((BitVec.ofNat 32 (base L + (16 * t2.val + x.val))).slt (BitVec.ofNat 32 3200)) = 1#1
    then g (ix1 ⟨16 * t2.val + x.val, by omega⟩) else 0#32) = _
  rw [slt_low (by omega) (by omega), slt_low (by omega) (by omega)]
  unfold cm
  by_cases h1 : 16 * t2.val + x.val < 104 <;> by_cases h2 : base L + (16 * t2.val + x.val) < 3200 <;> simp [h1, h2]

theorem cond1_iff (v : BitVec 32) : k2_cond1 v = 1#1 ↔ 0 < v.toInt := by
  have e : k2_cond1 v = BitVec.ofBool (!(BitVec.setWidth 32 (BitVec.ofBool ((0#32).slt v)) == 0#32)) := rfl
  rw [e, BitVec.slt_eq_decide]
  by_cases h : (0#32 : BitVec 32).toInt < v.toInt
  · have h' : 0 < v.toInt := h
    simp [h']
  · have h' : ¬ 0 < v.toInt := h
    simp [h']

theorem cond2_iff (v : BitVec 32) : k2_cond2 v = 1#1 ↔ 0 < v.toInt := cond1_iff v

theorem last_pos (v : IVec S16 32) : 0 < (last (smax v)).toInt ↔ ∃ x : Fin 16, 0 < (v (ln x)).toInt := by
  obtain ⟨⟨y, e⟩, h⟩ := last_smax v
  constructor
  · intro hp; exact ⟨y, e ▸ hp⟩
  · rintro ⟨x, hx⟩; exact lt_of_lt_of_le hx (h x)

/-- The group of sixteen rows has a positive count. -/
theorem group_pos (t2 : Fin k2_t2_loop.trips) (g : S128.Idx → BitVec 32) :
    k2_cond1 (extractAt ![15] (k2_pay34 (F := F) L t2 (ldC (F := F) g (k2_off11 t2) (k2_off11_inb t2))) inpos_S16_p15) = 1#1
      ↔ ∃ x : Fin 16, 0 < (cm L g (16 * t2.val + x.val)).toInt := by
  rw [cond1_iff]
  refine (last_pos (k2_pay32 (F := F) L t2 (ldC (F := F) g (k2_off11 t2) (k2_off11_inb t2)))).trans (exists_congr fun x => ?_)
  rw [pay32_ln]

/-- The row has a positive count. -/
theorem row_pos (t2 : Fin k2_t2_loop.trips) (g : S128.Idx → BitVec 32) (t3 : Fin k2_t3_loop.trips) :
    k2_cond2 (extractAt ![15] (k2_pay35 (F := F) L t2 (ldC (F := F) g (k2_off11 t2) (k2_off11_inb t2)) t3) inpos_S16_p15) = 1#1
      ↔ 0 < (cm L g (16 * t2.val + t3.val)).toInt := by
  have ht : t3.val < 16 := lt_of_lt_of_eq t3.isLt ctrips3
  rw [cond2_iff]
  have hs : ∀ x : Fin 16, (select (cmpi .eq (iota .scVector S16 32 [0] iota_S16_d0_w32_scVector) (broadcast S16 (Scf.iv 0#32 1#32 t3.val)))
      (k2_pay32 (F := F) L t2 (ldC (F := F) g (k2_off11 t2) (k2_off11_inb t2))) (broadcast S16 0#32) : IVec S16 32) (ln x)
      = if x.val = t3.val then cm L g (16 * t2.val + x.val) else 0#32 := by
    intro x
    show (if BitVec.ofBool (iota .scVector S16 32 [0] iota_S16_d0_w32_scVector (ln x) == Scf.iv 0#32 1#32 t3.val) = 1#1 then k2_pay32 (F := F) L t2 (ldC (F := F) g (k2_off11 t2) (k2_off11_inb t2)) (ln x) else 0#32) = _
    rw [pay32_ln, iota_ln]
    have hx : x.val < 16 := x.isLt
    have hq : (BitVec.ofNat 32 x.val == Scf.iv 0#32 1#32 t3.val) = decide (x.val = t3.val) := by
      rw [Bool.eq_iff_iff, beq_iff_eq, decide_eq_true_iff, ← BitVec.toNat_inj, iv_toNat (by omega)]
      simp only [BitVec.toNat_ofNat]; omega
    rw [hq]
    by_cases h : x.val = t3.val <;> simp [h]
  refine (last_pos _).trans ?_
  constructor
  · rintro ⟨x, hx⟩
    rw [hs x] at hx
    by_cases h : x.val = t3.val
    · rw [if_pos h, h] at hx; exact hx
    · rw [if_neg h] at hx; exact absurd hx (by decide)
  · intro h
    refine ⟨⟨t3.val, ht⟩, ?_⟩
    rw [hs, if_pos rfl]; exact h

theorem cm_pos_lt {g : S128.Idx → BitVec 32} {j : ℕ} (h : 0 < (cm L g j).toInt) : j < 104 := by
  by_contra hj
  unfold cm at h
  rw [dif_neg (fun hh => hj hh.1)] at h
  exact absurd h (by decide)

theorem at_trips {n m : ℕ} (e : n = m) (P : ℕ → Prop) (h : P n) : P m := e ▸ h

/-- One row. -/
theorem c3_wp (a2 : Memref sig .scVector .hbm S3328x72 .i32) (h2 : a2.IsWhole) (a3 : Memref sig .scVector .hbm S32x128 .i32) (h3 : a3.IsWhole)
    (a4 : Memref sig .scVector .hbm S3200x128 .i32) (h4 : a4.IsWhole) (a5 : Memref sig .scVector .hbm S32x128 .i32) (h5 : a5.IsWhole)
    (h6 : (bM).IsWhole) (h7 : (cM).IsWhole) (h8 : (oM).IsWhole) (h9 : (nM).IsWhole) (r0 r1 r2 r3 r4 : DmaSems sig S_) {b : S104x72.Idx → BitVec 32} (g : S128.Idx → BitVec 32)
    (t2 : Fin k2_t2_loop.trips) (v40 : BitVec 32) (hc1 : k2_cond1 v40 = 1#1) (t3 : Fin k2_t3_loop.trips) (acc : BitVec 32) :
    iprop(holdsB (F := F) d L b ∗ holdsO (F := F) d L (Odone (oidG b (cm L g)) (16 * t2.val + t3.val))) ⊢ wp frame (wpE (defs₀ (F := F)) 𝒱₀ (thr d L) none) Set.univ
      (k2_t3_body L a2 h2 a3 h3 a4 h4 a5 h5 bM h6 cM h7 oM h8 nM h9 r0 r1 r2 r3 r4 (iota .scVector S16 32 [0] iota_S16_d0_w32_scVector) t2 (Scf.iv 0#32 1#32 t2.val) (ldC (F := F) g (k2_off11 t2) (k2_off11_inb t2)) v40 hc1 t3 acc)
      fun _ => iprop(holdsB (F := F) d L b ∗ holdsO (F := F) d L (Odone (oidG b (cm L g)) (16 * t2.val + (t3.val + 1)))) := by
  have ht2 : t2.val < 7 := lt_of_lt_of_eq t2.isLt ctrips2
  have ht3 : t3.val < 16 := lt_of_lt_of_eq t3.isLt ctrips3
  unfold k2_t3_body
  simp only [Prog.lift, Prog.bind_op, Prog.bind_ret, Prog.pure_eq_ret]
  have hck : k2_chk1 t2 v40 t3 (extractAt ![15] (k2_pay35 (F := F) L t2 (ldC (F := F) g (k2_off11 t2) (k2_off11_inb t2)) t3) inpos_S16_p15) := by
    have hlt : ∀ (_ : k2_cond2 (extractAt ![15] (k2_pay35 (F := F) L t2 (ldC (F := F) g (k2_off11 t2) (k2_off11_inb t2)) t3) inpos_S16_p15) = 1#1), 16 * t2.val + t3.val < 104 :=
      fun h => cm_pos_lt L ((row_pos (F := F) L t2 g t3).mp h)
    refine ⟨fun _ h => ?_, fun _ h => ?_, fun _ h => ?_, fun _ h => ?_⟩
    · rw [off12_eq]; have := hlt h; intro a
      match a with
      | ⟨0, _⟩ => show 16 * t2.val + t3.val + 1 ≤ 104; omega
      | ⟨1, _⟩ => show 0 + 16 ≤ 72; omega
    · rw [off13_eq]; have := hlt h; intro a
      match a with
      | ⟨0, _⟩ => show 16 * t2.val + t3.val + 1 ≤ 104; omega
      | ⟨1, _⟩ => show 16 + 16 ≤ 72; omega
    · rw [off14_eq]; have := hlt h; intro a
      match a with
      | ⟨0, _⟩ => show 16 * t2.val + t3.val + 1 ≤ 104; omega
      | ⟨1, _⟩ => show 32 + 16 ≤ 72; omega
    · rw [off15_eq]; have := hlt h; intro a
      match a with
      | ⟨0, _⟩ => show 16 * t2.val + t3.val + 1 ≤ 104; omega
      | ⟨1, _⟩ => show 48 + 16 ≤ 72; omega
  rw [wp_assume_of _ _ _ _ hck]
  iintro ⟨HB, H⟩
  by_cases hc2 : k2_cond2 (extractAt ![15] (k2_pay35 (F := F) L t2 (ldC (F := F) g (k2_off11 t2) (k2_off11_inb t2)) t3) inpos_S16_p15) = 1#1
  · have hpos := (row_pos (F := F) L t2 g t3).mp hc2
    have hlt := cm_pos_lt L hpos
    have hv : (Scalar.addi (Scalar.muli (Scf.iv 0#32 1#32 t2.val) 16#32) (Scf.iv 0#32 1#32 t3.val)).toNat = 16 * t2.val + t3.val := by
      show (Scf.iv 0#32 1#32 t2.val * 16#32 + Scf.iv 0#32 1#32 t3.val).toNat = _
      rw [BitVec.toNat_add, BitVec.toNat_mul, iv_toNat (by omega), iv_toNat (by omega)]
      simp only [BitVec.toNat_ofNat]; omega
    ihave H := (holdsO_mono d L (fun f hf => hf.oed (wd b (16 * t2.val + t3.val)))) $$ H
    simp only [dif_pos hc2, Prog.bind_assoc]
    iapply (Scf.wp_for_bind frame _ Set.univ _ _ _ k2_t4_ok 0#32 _
      (fun k a => iprop(⌜a = BitVec.ofNat 32 (rank (wd b (16 * t2.val + t3.val)) (64 * k))⌝ ∗ holdsB (F := F) d L b
        ∗ holdsO (F := F) d L (Oed (oidG b (cm L g)) (wd b (16 * t2.val + t3.val)) (16 * t2.val + t3.val) (64 * k))))
      (fun k a => c4_wp d L a2 h2 a3 h3 a4 h4 a5 h5 h6 h7 h8 h9 r0 r1 r2 r3 r4 t2 v40 hc1 t3 _ _ hck hc2 rfl hv hlt k a)) $$ [HB H]
    · isplitr; · ipureintro; rfl
      isplitl [HB] <;> iassumption
    iintro %a ⟨%_, HB, H⟩
    simp only [Prog.bind_ret]
    rw [wp_ret]; imodintro
    isplitl [HB]; · iexact HB
    iapply (holdsO_mono d L (fun f hf => by
      exact Oed.odone (at_trips ctrips4 (fun n => Oed (oidG b (cm L g)) (wd b (16 * t2.val + t3.val)) (16 * t2.val + t3.val) (64 * n) f) hf) (fun i hi => by
        have hi' : (i 0).val = 16 * t2.val + t3.val := hi
        unfold oidG; rw [hi', if_pos hpos]))) $$ H
  · have hneg : ¬ 0 < (cm L g (16 * t2.val + t3.val)).toInt := fun h => hc2 ((row_pos (F := F) L t2 g t3).mpr h)
    simp only [dif_neg hc2, Prog.bind_ret]
    rw [wp_ret]; imodintro
    isplitl [HB]; · iexact HB
    iapply (holdsO_mono d L (fun f hf => Odone.skip (n := 1) hf (fun i h1 h2 => by
      unfold oidG; rw [show (i 0).val = 16 * t2.val + t3.val by omega, if_neg hneg]))) $$ H

theorem ned_write {c : ℕ → BitVec 32} {n : ℕ} {f : S128.Idx → BitVec 32} {off : Fin 1 → Nat} {inb : ∀ a, off a + S16.size a ≤ S128.size a}
    (hoff : off = ![16 * n]) {w : S16.Idx → BitVec 32} (hw : ∀ x : Fin 16, w (ln x) = IntOp.minsi (c (16 * n + x.val)) 128#32) (h : Ned c (16 * n) f) :
    Ned c (16 * (n + 1)) ((nM.access (Rect.unit (s := S128) off S16.size inb)).write (Elt F) f w Finset.univ) := by
  set r : Rect S128 := Rect.unit (s := S128) off S16.size inb with hr
  intro i hi
  by_cases hx : ∃ x : Fin 16, r.emb (ln x) = i
  · obtain ⟨x, rfl⟩ := hx
    refine (View.write_emb_of_mem (v := nM.access r) (Val := Elt F) f w (M := Finset.univ) (x := ln x) (Finset.mem_univ _)).trans ?_
    rw [hw x]
    subst hoff
    show IntOp.minsi (c (16 * n + x.val)) 128#32 = IntOp.minsi (c (16 * n + 1 * x.val)) 128#32
    rw [Nat.one_mul]
  · have hlt : (i 0).val < 16 * n := by
      by_contra hge
      refine hx ⟨⟨(i 0).val - 16 * n, by omega⟩, ?_⟩
      subst hoff
      funext a
      match a with
      | ⟨0, _⟩ => exact Fin.ext (show 16 * n + 1 * ((i 0).val - 16 * n) = (i 0).val by omega)
    refine (View.write_of_not_mem (v := nM.access r) (Val := Elt F) f w Finset.univ ?_).trans (h i hlt)
    intro hm
    obtain ⟨x, -, e⟩ := Finset.mem_map.mp hm
    refine hx ⟨x 0, ?_⟩
    have : ln (x 0) = x := by funext a; match a with | ⟨0, _⟩ => rfl
    rw [this]; exact e

/-- Sixteen rows. -/
theorem c2_wp (a2 : Memref sig .scVector .hbm S3328x72 .i32) (h2 : a2.IsWhole) (a3 : Memref sig .scVector .hbm S32x128 .i32) (h3 : a3.IsWhole)
    (a4 : Memref sig .scVector .hbm S3200x128 .i32) (h4 : a4.IsWhole) (a5 : Memref sig .scVector .hbm S32x128 .i32) (h5 : a5.IsWhole)
    (h6 : (bM).IsWhole) (h7 : (cM).IsWhole) (h8 : (oM).IsWhole) (h9 : (nM).IsWhole) (r0 r1 r2 r3 r4 : DmaSems sig S_) {b : S104x72.Idx → BitVec 32} (g : S128.Idx → BitVec 32) (t2 : Fin k2_t2_loop.trips) (acc : BitVec 32) :
    iprop(holdsB (F := F) d L b ∗ holdsC (F := F) d L g ∗ holdsN (F := F) d L (Ned (cm L g) (16 * t2.val)) ∗ holdsO (F := F) d L (Odone (oidG b (cm L g)) (16 * t2.val))) ⊢ wp frame (wpE (defs₀ (F := F)) 𝒱₀ (thr d L) none) Set.univ
      (k2_t2_body L a2 h2 a3 h3 a4 h4 a5 h5 bM h6 cM h7 oM h8 nM h9 r0 r1 r2 r3 r4 (iota .scVector S16 32 [0] iota_S16_d0_w32_scVector) t2 acc)
      fun _ => iprop(holdsB (F := F) d L b ∗ holdsC (F := F) d L g ∗ holdsN (F := F) d L (Ned (cm L g) (16 * (t2.val + 1))) ∗ holdsO (F := F) d L (Odone (oidG b (cm L g)) (16 * (t2.val + 1)))) := by
  have ht2 : t2.val < 7 := lt_of_lt_of_eq t2.isLt ctrips2
  unfold k2_t2_body
  simp only [Prog.lift, Prog.bind_op, Prog.bind_ret, Prog.pure_eq_ret]
  iintro ⟨HB, HC, ⟨%fn, %hfn, HN⟩, H⟩
  iapply (wp_load_rect 𝒱₀ (thr d L) none Set.univ (m := cM) (r := Rect.unit (s := S128) (k2_off11 t2) S16.size (k2_off11_inb t2)) (S := Finset.univ) (q := fullShare) (f := g)
    (Finset.subset_univ _)) $$ HC
  iintro HC
  iapply (wp_load_rect 𝒱₀ (thr d L) none Set.univ (m := nM) (r := Rect.unit (s := S128) (k2_off11 t2) S16.size (k2_off11_inb t2)) (S := Finset.univ) (q := fullShare) (f := fn)
    (Finset.subset_univ _)) $$ HN
  iintro HN
  iapply (wp_store 𝒱₀ (thr d L) none Set.univ (m := nM) (r := Rect.unit (s := S128) (k2_off11 t2) S16.size (k2_off11_inb t2)) (Mk := Finset.univ) (S := Finset.univ) (f := fn)
    (Finset.subset_univ _)) $$ HN
  iintro HN
  have hn := ned_write (F := F) (c := cm L g) (inb := k2_off11_inb t2) (k2_off11_eq t2) (w := k2_pay33 (F := F) L t2 (ldC (F := F) g (k2_off11 t2) (k2_off11_inb t2)))
    (fun x => congrArg (fun z => IntOp.minsi z 128#32) (pay32_ln (F := F) L t2 g x)) hfn
  by_cases hc1 : k2_cond1 (extractAt ![15] (k2_pay34 (F := F) L t2 (ldC (F := F) g (k2_off11 t2) (k2_off11_inb t2))) inpos_S16_p15) = 1#1
  · rw [dif_pos hc1]
    simp only [Prog.bind_assoc]
    iapply (Scf.wp_for_bind frame _ Set.univ _ _ _ k2_t3_ok 0#32 _
      (fun k _ => iprop(holdsB (F := F) d L b ∗ holdsO (F := F) d L (Odone (oidG b (cm L g)) (16 * t2.val + k))))
      (fun k a => c3_wp d L a2 h2 a3 h3 a4 h4 a5 h5 h6 h7 h8 h9 r0 r1 r2 r3 r4 g t2 _ hc1 k a)) $$ [HB H]
    · isplitl [HB] <;> iassumption
    iintro %a ⟨HB, H⟩
    simp only [Prog.bind_ret]
    rw [wp_ret]; imodintro
    isplitl [HB]; · iexact HB
    isplitl [HC]; · iexact HC
    isplitl [HN]
    · iexists _; isplitr
      rotate_left
      · iexact HN
      · ipureintro; exact hn
    iapply (holdsO_mono d L (fun f hf => by
      exact at_trips ctrips3 (fun n => Odone (oidG b (cm L g)) (16 * t2.val + n) f) hf)) $$ H
  · rw [dif_neg hc1]
    simp only [Prog.bind_ret]
    rw [wp_ret]; imodintro
    isplitl [HB]; · iexact HB
    isplitl [HC]; · iexact HC
    isplitl [HN]
    · iexists _; isplitr
      rotate_left
      · iexact HN
      · ipureintro; exact hn
    iapply (holdsO_mono d L (fun f hf => Odone.skip (n := 16) hf (fun i h1 h2 => by
      unfold oidG
      rw [if_neg]
      intro hp
      refine hc1 ((group_pos (F := F) L t2 g).mpr ⟨⟨(i 0).val - 16 * t2.val, by omega⟩, ?_⟩)
      show 0 < (cm L g (16 * t2.val + ((i 0).val - 16 * t2.val))).toInt
      rw [show 16 * t2.val + ((i 0).val - 16 * t2.val) = (i 0).val by omega]; exact hp))) $$ H

end Cert.Proof
end
-- ==== Proof.Compact.lean ====
/-
  The compaction kernel on one vector subcore: its 104 rows of words and their counts fetched, the numbers of the set bits
  listed, and both results written out. What its rows of the results hold is one function of the two whole arrays.
-/
module

public import proofs.«01_k».proof.Proof.CompactLoops
public import proofs.«01_k».proof.Proof.Counts

@[expose] public section

noncomputable section

namespace Cert.Proof

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

variable [FloatOps F] (d : Dev nD) (L : grid0.Coords)

/-- The number of the vector subcore. -/
abbrev wid : ℕ := 2 * (L 1).val + (L 0).val

theorem base_wid : base L = 104 * wid L := by unfold base wid; omega
theorem wid_lt : wid L < 32 := by
  have h0 : (L 0).val < 2 := (L 0).isLt
  have h1 : (L 1).val < 16 := (L 1).isLt
  unfold wid; omega

abbrev l11 : Loc nD τ sig := (SparseCore.T d).loc main_v11_1
abbrev l15 : Loc nD τ sig := (SparseCore.T d).loc main_v15
abbrev l16 : Loc nD τ sig := (SparseCore.T d).loc main_v16_0
abbrev l17 : Loc nD τ sig := (SparseCore.T d).loc main_v16_1

/-- The two results, of the words and the counts. -/
def oidS (bv : S3328x72.Idx → BitVec 32) (cv : S32x128.Idx → BitVec 32) : S3200x128.Idx → BitVec 32 :=
  fun i => if 0 < (nat2 cv ((i 0).val / 104) ((i 0).val % 104)).toInt then pick (wd bv (i 0).val) 1024 (i 1).val else 0#32
def nG (cv : S32x128.Idx → BitVec 32) : S32x128.Idx → BitVec 32 :=
  fun i => IntOp.minsi (if 104 * (i 0).val + (i 1).val < 3200 then cv i else 0#32) 128#32

abbrev bSl : Memref sig .scVector .hbm S104x72 .i32 :=
  (Memref.whole main_v11_1_scv : Memref sig .scVector .hbm S3328x72 .i32).slice (Rect.unit (s := S3328x72) (k2_off1 L) S104x72.size (k2_off1_inb L)) (fun _ => rfl)
abbrev cSl : Memref sig .scVector .hbm S128 .i32 :=
  ((Memref.whole main_v15_scv : Memref sig .scVector .hbm S32x128 .i32).slice (Rect.unit (s := S32x128) (k2_off2 L) S1x128.size (k2_off2_inb L)) (fun _ => rfl)).squeeze S128 squeezes_S1x128_S128
abbrev nSl : Memref sig .scVector .hbm S128 .i32 :=
  ((Memref.whole main_v16_1_scv : Memref sig .scVector .hbm S32x128 .i32).slice (Rect.unit (s := S32x128) (k2_off2 L) S1x128.size (k2_off2_inb L)) (fun _ => rfl)).squeeze S128 squeezes_S1x128_S128

theorem set_bSl : (bSl L).view.set = rows (base L) 104 := by
  show ((View.whole (main_v11_1_scv : Ref sig .scVector)).slice _).set = _
  rw [View.set_slice]; exact Finset.map_refl.trans (rect_rows (k2_off1_eq L) _)
theorem set_cSl : (cSl L).view.set = rows (wid L) 1 := by
  refine (View.set_reshape ((View.whole (main_v15_scv : Ref sig .scVector)).slice (Rect.unit (s := S32x128) (k2_off2 L) S1x128.size (k2_off2_inb L))) _).trans ?_
  rw [View.set_slice]; exact Finset.map_refl.trans (rect_rows (k2_off2_eq L) _)
theorem set_nSl : (nSl L).view.set = rows (wid L) 1 := by
  refine (View.set_reshape ((View.whole (main_v16_1_scv : Ref sig .scVector)).slice (Rect.unit (s := S32x128) (k2_off2 L) S1x128.size (k2_off2_inb L))) _).trans ?_
  rw [View.set_slice]; exact Finset.map_refl.trans (rect_rows (k2_off2_eq L) _)

def bOf (bv : S3328x72.Idx → BitVec 32) : S104x72.Idx → BitVec 32 := fun i => nat2 bv (base L + (i 0).val) (i 1).val
def cOf (cv : S32x128.Idx → BitVec 32) : S128.Idx → BitVec 32 := fun i => nat2 cv (wid L) (i 0).val

theorem bSl_read (v : S3328x72.Idx → BitVec 32) : (bSl L).view.read (Elt F) v = bOf L v := by
  funext i
  show v ((Rect.unit (s := S3328x72) (k2_off1 L) S104x72.size (k2_off1_inb L)).emb i) = _
  have hb := base_lt L
  have h0 : (i 0).val < 104 := (i 0).isLt
  have h1 : (i 1).val < 72 := (i 1).isLt
  unfold bOf
  rw [nat2_of_lt v (show base L + (i 0).val < 3328 by omega) h1]
  obtain ⟨e0, e1⟩ := emb_rows (k2_off1_eq L) (k2_off1_inb L) i
  congr 1
  funext a
  match a with
  | ⟨0, _⟩ => exact Fin.ext e0
  | ⟨1, _⟩ => exact Fin.ext e1

/-- Where the entry `x` of a one-row slice lies. -/
theorem row_emb (x : S128.Idx) : (Rect.unit (s := S32x128) (k2_off2 L) S1x128.size (k2_off2_inb L)).emb (Shape.reshapeEquiv squeezes_S1x128_S128.numel_eq x)
    = ix2 (n0 := 32) (n1 := 128) ⟨wid L, wid_lt L⟩ (x 0) := by
  have h := Shape.reshapeEquiv_cons_one (d := ![128]) squeezes_S1x128_S128.numel_eq x
  refine (congrArg (Rect.unit (s := S32x128) (k2_off2 L) S1x128.size (k2_off2_inb L)).emb h).trans ?_
  obtain ⟨e0, e1⟩ := emb_rows (k2_off2_eq L) (k2_off2_inb L) (fun | ⟨0, _⟩ => (0 : Fin 1) | ⟨1, _⟩ => x 0 : S1x128.Idx)
  funext a
  match a with
  | ⟨0, _⟩ => exact Fin.ext e0
  | ⟨1, _⟩ => exact Fin.ext e1

theorem cSl_read (v : S32x128.Idx → BitVec 32) : (cSl L).view.read (Elt F) v = cOf L v := by
  funext i
  show v ((Rect.unit (s := S32x128) (k2_off2 L) S1x128.size (k2_off2_inb L)).emb (Shape.reshapeEquiv squeezes_S1x128_S128.numel_eq i)) = _
  rw [row_emb]
  unfold cOf
  rw [nat2_of_lt v (wid_lt L) (show (i 0).val < 128 from (i 0).isLt)]
  rfl

theorem wd_bOf (bv : S3328x72.Idx → BitVec 32) {r : ℕ} (hr : r < 104) : wd (bOf L bv) r = wd bv (base L + r) := by
  have hb := base_lt L
  funext u
  show nat2 (bOf L bv) r u = nat2 bv (base L + r) u
  by_cases hu : u < 72
  · rw [nat2_of_lt _ hr hu]; rfl
  · unfold nat2; rw [dif_neg (fun h => hu h.2), dif_neg (fun h => hu h.2)]

theorem cm_cOf (cv : S32x128.Idx → BitVec 32) {r : ℕ} (hr : r < 104) (h : base L + r < 3200) : cm L (cOf L cv) r = nat2 cv (wid L) r := by
  unfold cm; rw [dif_pos ⟨hr, h⟩]; rfl

/-- A row of the block is the row of the whole result. -/
theorem oidG_row (bv : S3328x72.Idx → BitVec 32) (cv : S32x128.Idx → BitVec 32) (i : S104x128.Idx) (j : S3200x128.Idx) (h0 : (j 0).val = base L + (i 0).val)
    (h1 : (j 1).val = (i 1).val) : oidG (bOf L bv) (cm L (cOf L cv)) i = oidS bv cv j := by
  have hi : (i 0).val < 104 := (i 0).isLt
  have hj : (j 0).val < 3200 := (j 0).isLt
  have hb := base_wid L
  unfold oidG oidS
  rw [wd_bOf L bv hi, cm_cOf L cv hi (by omega), h0, h1, show (base L + (i 0).val) / 104 = wid L by omega, show (base L + (i 0).val) % 104 = (i 0).val by omega]

theorem oid_rows {k : Nat} (bv : S3328x72.Idx → BitVec 32) (cv : S32x128.Idx → BitVec 32) (f16 : S3200x128.Idx → BitVec 32)
    {off : Fin 2 → Nat} (hoff : off = ![base L, 0]) (inb : ∀ a, off a + (![k, 128] : Fin 2 → Nat) a ≤ S3200x128.size a) (hk : k ≤ 104)
    (src : (⟨2, ![k, 128]⟩ : Shape).Idx → BitVec 32)
    (hsrc : ∀ x : (⟨2, ![k, 128]⟩ : Shape).Idx, src x = oidG (bOf L bv) (cm L (cOf L cv)) (ix2 (n0 := 104) (n1 := 128) ⟨(x 0).val, lt_of_lt_of_le (x 0).isLt hk⟩ (x 1))) :
    ∀ i ∈ (rows (base L) k : Finset S3200x128.Idx),
      (((Memref.whole main_v16_0_scv : Memref sig .scVector .hbm S3200x128 .i32).slice (Rect.unit (s := S3200x128) off ![k, 128] inb) (fun _ => rfl)).view.write (Elt F) f16
        src Finset.univ) i = oidS bv cv i := by
  intro i hi
  obtain ⟨h1, h2⟩ := mem_rows.mp hi
  let x : (⟨2, ![k, 128]⟩ : Shape).Idx := ix2 ⟨(i 0).val - base L, by omega⟩ (i 1)
  have e : ((Memref.whole main_v16_0_scv : Memref sig .scVector .hbm S3200x128 .i32).slice (Rect.unit (s := S3200x128) off ![k, 128] inb) (fun _ => rfl)).view.emb x = i := by
    obtain ⟨e0, e1⟩ := emb_rows hoff inb x
    show (Rect.unit (s := S3200x128) off ![k, 128] inb).emb x = i
    funext a
    match a with
    | ⟨0, _⟩ => exact Fin.ext (e0.trans (show base L + ((i 0).val - base L) = (i 0).val by omega))
    | ⟨1, _⟩ => exact Fin.ext e1
  have hw := View.write_emb_of_mem (v := ((Memref.whole main_v16_0_scv : Memref sig .scVector .hbm S3200x128 .i32).slice (Rect.unit (s := S3200x128) off ![k, 128] inb) (fun _ => rfl)).view)
    (Val := Elt F) f16 src (M := Finset.univ) (x := x) (Finset.mem_univ _)
  rw [e] at hw
  refine hw.trans ((hsrc x).trans ?_)
  refine oidG_row L bv cv _ i ?_ rfl
  show (i 0).val = base L + ((i 0).val - base L)
  omega

theorem n_row (cv : S32x128.Idx → BitVec 32) (f17 : S32x128.Idx → BitVec 32) (fn : S128.Idx → BitVec 32) (hfn : Ned (cm L (cOf L cv)) 112 fn) :
    ∀ i : S32x128.Idx, (i 0).val = wid L → (i 1).val < 104 → (nSl L).view.write (Elt F) f17 fn Finset.univ i = nG cv i := by
  intro i h0 h1
  let x : S128.Idx := ix1 (i 1)
  have e : (nSl L).view.emb x = i := by
    show (Rect.unit (s := S32x128) (k2_off2 L) S1x128.size (k2_off2_inb L)).emb (Shape.reshapeEquiv squeezes_S1x128_S128.numel_eq x) = i
    rw [row_emb]
    funext a
    match a with
    | ⟨0, _⟩ => exact Fin.ext h0.symm
    | ⟨1, _⟩ => rfl
  have hw := View.write_emb_of_mem (v := (nSl L).view) (Val := Elt F) f17 fn (M := Finset.univ) (x := x) (Finset.mem_univ _)
  rw [e] at hw
  refine hw.trans ((hfn x (show (i 1).val < 112 by omega)).trans ?_)
  show IntOp.minsi (cm L (cOf L cv) (i 1).val) 128#32 = _
  unfold nG
  have hb := base_wid L
  congr 1
  by_cases h : base L + (i 1).val < 3200
  · rw [if_pos (by omega), cm_cOf L cv h1 h, nat2_of_lt cv (wid_lt L) (show (i 1).val < 128 by omega)]
    congr 1
    funext a
    match a with
    | ⟨0, _⟩ => exact Fin.ext h0.symm
    | ⟨1, _⟩ => rfl
  · rw [if_neg (by omega)]
    unfold cm; exact dif_neg fun hh => h hh.2

section Tile

omit [FloatOps F] in
theorem ownSems0_q :
    (ownSems0 (thr d L) : sProp 𝕄)
      = iprop(semVal (thr d L, SemLoc.dma cc2_scoped0.sem) 0 ∗ semVal (thr d L, SemLoc.dma cc2_scoped1.sem) 0 ∗ semVal (thr d L, SemLoc.dma cc2_scoped2.sem) 0 ∗ semVal (thr d L, SemLoc.dma cc2_scoped3.sem) 0 ∗ semVal (thr d L, SemLoc.dma cc2_scoped4.sem) 0
          ∗ bigSep ((((((ownCells (thr d L)).erase (thr d L, SemLoc.dma cc2_scoped0.sem)).erase (thr d L, SemLoc.dma cc2_scoped1.sem)).erase (thr d L, SemLoc.dma cc2_scoped2.sem)).erase (thr d L, SemLoc.dma cc2_scoped3.sem)).erase (thr d L, SemLoc.dma cc2_scoped4.sem)) fun g => semVal g 0) := by
  unfold SparseCore.Cfg.ownSems0
  rw [SparseCore.bigSep_erase' ((mem_ownCells (g := (thr d L, SemLoc.dma cc2_scoped0.sem))).mpr ⟨rfl, by
      show (SemLoc.dma cc2_scoped0.sem : SemLoc sig).isScoped .scVector = true; decide⟩),
    SparseCore.bigSep_erase' (Finset.mem_erase.mpr ⟨fun e => absurd (congrArg Prod.snd e) (show (SemLoc.dma cc2_scoped1.sem : SemLoc sig) ≠ SemLoc.dma cc2_scoped0.sem by decide),
      ((mem_ownCells (g := (thr d L, SemLoc.dma cc2_scoped1.sem))).mpr ⟨rfl, by
      show (SemLoc.dma cc2_scoped1.sem : SemLoc sig).isScoped .scVector = true; decide⟩)⟩),
    SparseCore.bigSep_erase' (Finset.mem_erase.mpr ⟨fun e => absurd (congrArg Prod.snd e) (show (SemLoc.dma cc2_scoped2.sem : SemLoc sig) ≠ SemLoc.dma cc2_scoped1.sem by decide),
      (Finset.mem_erase.mpr ⟨fun e => absurd (congrArg Prod.snd e) (show (SemLoc.dma cc2_scoped2.sem : SemLoc sig) ≠ SemLoc.dma cc2_scoped0.sem by decide),
      ((mem_ownCells (g := (thr d L, SemLoc.dma cc2_scoped2.sem))).mpr ⟨rfl, by
      show (SemLoc.dma cc2_scoped2.sem : SemLoc sig).isScoped .scVector = true; decide⟩)⟩)⟩),
    SparseCore.bigSep_erase' (Finset.mem_erase.mpr ⟨fun e => absurd (congrArg Prod.snd e) (show (SemLoc.dma cc2_scoped3.sem : SemLoc sig) ≠ SemLoc.dma cc2_scoped2.sem by decide),
      (Finset.mem_erase.mpr ⟨fun e => absurd (congrArg Prod.snd e) (show (SemLoc.dma cc2_scoped3.sem : SemLoc sig) ≠ SemLoc.dma cc2_scoped1.sem by decide),
      (Finset.mem_erase.mpr ⟨fun e => absurd (congrArg Prod.snd e) (show (SemLoc.dma cc2_scoped3.sem : SemLoc sig) ≠ SemLoc.dma cc2_scoped0.sem by decide),
      ((mem_ownCells (g := (thr d L, SemLoc.dma cc2_scoped3.sem))).mpr ⟨rfl, by
      show (SemLoc.dma cc2_scoped3.sem : SemLoc sig).isScoped .scVector = true; decide⟩)⟩)⟩)⟩),
    SparseCore.bigSep_erase' (Finset.mem_erase.mpr ⟨fun e => absurd (congrArg Prod.snd e) (show (SemLoc.dma cc2_scoped4.sem : SemLoc sig) ≠ SemLoc.dma cc2_scoped3.sem by decide),
      (Finset.mem_erase.mpr ⟨fun e => absurd (congrArg Prod.snd e) (show (SemLoc.dma cc2_scoped4.sem : SemLoc sig) ≠ SemLoc.dma cc2_scoped2.sem by decide),
      (Finset.mem_erase.mpr ⟨fun e => absurd (congrArg Prod.snd e) (show (SemLoc.dma cc2_scoped4.sem : SemLoc sig) ≠ SemLoc.dma cc2_scoped1.sem by decide),
      (Finset.mem_erase.mpr ⟨fun e => absurd (congrArg Prod.snd e) (show (SemLoc.dma cc2_scoped4.sem : SemLoc sig) ≠ SemLoc.dma cc2_scoped0.sem by decide),
      ((mem_ownCells (g := (thr d L, SemLoc.dma cc2_scoped4.sem))).mpr ⟨rfl, by
      show (SemLoc.dma cc2_scoped4.sem : SemLoc sig).isScoped .scVector = true; decide⟩)⟩)⟩)⟩)⟩)]

omit [FloatOps F] in
theorem ownBufs_q :
    (ownBufs (thr d L) : sProp 𝕄)
      = iprop((∃ f, (thr d L).loc cc2_scratch0 ↦{fullShare} f) ∗ (∃ f, (thr d L).loc cc2_scratch1 ↦{fullShare} f) ∗ (∃ f, (thr d L).loc cc2_scratch2 ↦{fullShare} f) ∗ (∃ f, (thr d L).loc cc2_scratch3 ↦{fullShare} f)
          ∗ bigSep (((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc2_scratch0)) rfl)).trans ?_
  rw [SparseCore.bigSep_erase' (Finset.mem_erase.mpr ⟨fun e => absurd (Proc.devRef_injective _ e) (show (cc2_scratch1 : Ref sig .scVector) ≠ cc2_scratch0 by decide),
      (SparseCore.Cfg.mem_ownRefs_of_owner (p := Proc.scVector (cV L) (jV L)) (b := ((Proc.scVector (cV L) (jV L)).devRef cc2_scratch1)) rfl)⟩),
    SparseCore.bigSep_erase' (Finset.mem_erase.mpr ⟨fun e => absurd (Proc.devRef_injective _ e) (show (cc2_scratch2 : Ref sig .scVector) ≠ cc2_scratch1 by decide),
      (Finset.mem_erase.mpr ⟨fun e => absurd (Proc.devRef_injective _ e) (show (cc2_scratch2 : Ref sig .scVector) ≠ cc2_scratch0 by decide),
      (SparseCore.Cfg.mem_ownRefs_of_owner (p := Proc.scVector (cV L) (jV L)) (b := ((Proc.scVector (cV L) (jV L)).devRef cc2_scratch2)) rfl)⟩)⟩),
    SparseCore.bigSep_erase' (Finset.mem_erase.mpr ⟨fun e => absurd (Proc.devRef_injective _ e) (show (cc2_scratch3 : Ref sig .scVector) ≠ cc2_scratch2 by decide),
      (Finset.mem_erase.mpr ⟨fun e => absurd (Proc.devRef_injective _ e) (show (cc2_scratch3 : Ref sig .scVector) ≠ cc2_scratch1 by decide),
      (Finset.mem_erase.mpr ⟨fun e => absurd (Proc.devRef_injective _ e) (show (cc2_scratch3 : Ref sig .scVector) ≠ cc2_scratch0 by decide),
      (SparseCore.Cfg.mem_ownRefs_of_owner (p := Proc.scVector (cV L) (jV L)) (b := ((Proc.scVector (cV L) (jV L)).devRef cc2_scratch3)) rfl)⟩)⟩)⟩)]

theorem cond3_iff : ∀ (a : Fin 2) (b : Fin 16), k2_cond3 (coordsV a b) = 1#1 ↔ 2 * b.val + a.val < 30 := by decide +kernel
theorem cond4_iff : ∀ (a : Fin 2) (b : Fin 16), Scalar.cmpi .ne (Scalar.extui (Scalar.cmpi .eq (Scalar.addi (Scalar.muli (BitVec.ofNat 32 b.val) 2#32) (BitVec.ofNat 32 a.val)) 30#32) : BitVec 32) 0#32 = 1#1
    ↔ 2 * b.val + a.val = 30 := by decide +kernel
theorem coords_eta : coordsV (L 0) (L 1) = L := by
  funext a
  match a with
  | ⟨0, _⟩ => rfl
  | ⟨1, _⟩ => rfl

/-- The subcore's rows of the words, the counts and the two results. -/
abbrev goQ (bv : S3328x72.Idx → BitVec 32) (cv : S32x128.Idx → BitVec 32) (f16 : S3200x128.Idx → BitVec 32) (Φ : (S32x128.Idx → BitVec 32) → Prop) : sProp 𝕄 :=
  iprop((l11 d ↦[rows (base L) 104]{fullShare} bv) ∗ (l15 d ↦[rows (wid L) 1]{fullShare} cv) ∗ (l16 d ↦[rows (base L) 104]{fullShare} f16)
    ∗ ∃ f : S32x128.Idx → BitVec 32, ⌜Φ f⌝ ∗ l17 d ↦[rows (wid L) 1]{fullShare} f)

/-- The write-out of the cut-off counts, which ends the kernel. -/
theorem compact_tail (bv : S3328x72.Idx → BitVec 32) (cv : S32x128.Idx → BitVec 32) (f17 : S32x128.Idx → BitVec 32) (fn : S128.Idx → BitVec 32)
    (fo : S104x128.Idx → BitVec 32) (hfn' : Ned (cm L (cOf L cv)) 112 fn)
    (O : CellTallies nD τ sig (HIx 2)) (W : Waits sig (HIx 2)) (hO : ∀ g, O g none = 0) (W₁ : Waits sig (HIx 2)) (hW₁ : ∀ p ∈ W₁, p ∈ W ∨ p.2 = none) :
      iprop(levAts (K (F := F)).L (K (F := F)).lev ∗ ((bSl L).view.loc (thr d L) ↦[(bSl L).view.set]{fullShare} bv) ∗ ((cSl L).view.loc (thr d L) ↦[(cSl L).view.set]{fullShare} cv)
        ∗ (l16 d ↦[rows (base L) 104]{fullShare} oidS bv cv) ∗ (l17 d ↦[rows (wid L) 1]{fullShare} f17)
        ∗ holdsB (F := F) d L (bOf L bv) ∗ holdsC (F := F) d L (cOf L cv) ∗ ((thr d L).loc cc2_scratch3 ↦[Finset.univ]{fullShare} fn) ∗ ((thr d L).loc cc2_scratch2 ↦[Finset.univ]{fullShare} fo)
        ∗ (bigSep (((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)) fun b => iprop(∃ f, ((d, b) : Loc nD τ sig) ↦{fullShare} f))
        ∗ (semVal (thr d L, SemLoc.dma cc2_scoped0.sem) 0 ∗ semVal (thr d L, SemLoc.dma cc2_scoped1.sem) 0 ∗ semVal (thr d L, SemLoc.dma cc2_scoped2.sem) 0 ∗ semVal (thr d L, SemLoc.dma cc2_scoped3.sem) 0 ∗ semVal (thr d L, SemLoc.dma cc2_scoped4.sem) 0) ∗ (bigSep ((((((ownCells (thr d L)).erase (thr d L, SemLoc.dma cc2_scoped0.sem)).erase (thr d L, SemLoc.dma cc2_scoped1.sem)).erase (thr d L, SemLoc.dma cc2_scoped2.sem)).erase (thr d L, SemLoc.dma cc2_scoped3.sem)).erase (thr d L, SemLoc.dma cc2_scoped4.sem)) fun g => semVal g 0) ∗ owes (thr d L) O W₁)
      ⊢ wp frame (wpE (defs₀ (F := F)) 𝒱₀ (thr d L) none) Set.univ
        ((.op (.enqueueDma nM (.here (nSl L)) (.dma cc2_scoped4.sem) (Memref.isWhole_whole _).wordExact ((View.wordExact_bits rfl).reshape _ _) ⟨Or.inl rfl, trivial⟩) fun _ =>
          .op (.waitDma2 cc2_scoped4.sem nM (nSl L) (Memref.isWhole_whole _).wordExact ((View.wordExact_bits rfl).reshape _ _)) fun _ => .ret ⟨⟩ : Prog (TpuEff nD τ sig (Elt F) Λ₀ (thr d L).2) PUnit))
        fun _ => iprop(goQ d L bv cv (oidS bv cv) (fun f => ∀ i, (i 0).val = wid L → (i 1).val < 104 → f i = nG cv i)
          ∗ iprop((∃ f, (thr d L).loc cc2_scratch0 ↦{fullShare} f) ∗ (∃ f, (thr d L).loc cc2_scratch1 ↦{fullShare} f) ∗ (∃ f, (thr d L).loc cc2_scratch2 ↦{fullShare} f) ∗ (∃ f, (thr d L).loc cc2_scratch3 ↦{fullShare} f) ∗ bigSep (((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)) fun b => iprop(∃ f, ((d, b) : Loc nD τ sig) ↦{fullShare} f))
          ∗ iprop(semVal (thr d L, SemLoc.dma cc2_scoped0.sem) 0 ∗ semVal (thr d L, SemLoc.dma cc2_scoped1.sem) 0 ∗ semVal (thr d L, SemLoc.dma cc2_scoped2.sem) 0 ∗ semVal (thr d L, SemLoc.dma cc2_scoped3.sem) 0 ∗ semVal (thr d L, SemLoc.dma cc2_scoped4.sem) 0 ∗ bigSep ((((((ownCells (thr d L)).erase (thr d L, SemLoc.dma cc2_scoped0.sem)).erase (thr d L, SemLoc.dma cc2_scoped1.sem)).erase (thr d L, SemLoc.dma cc2_scoped2.sem)).erase (thr d L, SemLoc.dma cc2_scoped3.sem)).erase (thr d L, SemLoc.dma cc2_scoped4.sem)) fun g => semVal g 0)
          ∗ ∃ W', ⌜∀ p ∈ W', p ∈ W ∨ p.2 = none⌝ ∗ owes (thr d L) O W') := by
    iintro ⟨#Hlv, H11, H15, H16, H17, HB, HC, HN, H, Hbufs, ⟨Hs0, Hs1, Hs2, Hs3, Hs4⟩, Hsems, HO⟩
    ihave H17 := (Entails.of_eq (show (l17 d ↦[rows (wid L) 1]{fullShare} f17 : sProp 𝕄) = (nSl L).view.loc (thr d L) ↦[(nSl L).view.set]{fullShare} f17 by rw [set_nSl])) $$ H17
    iapply (Transfers.wp_dmaLocal countersEmb 𝒱₀ (thr d L) none (src := nM) (dst := nSl L) (q := fullShare) (fs := fn) (Sd := (nSl L).view.set) (fd := f17) (default : HIx 2) _ rfl
       (View.amount_pos _ _ (by decide)) (Finset.Subset.refl _)) $$ [HN H17 Hs4]
    · isplitl [HN]
      · iapply (Entails.of_eq (show ((thr d L).loc cc2_scratch3 ↦[Finset.univ]{fullShare} fn : sProp 𝕄) = (nM).view.loc (thr d L) ↦[(nM).view.set]{fullShare} fn by rw [View.set_whole])) $$ HN
      isplitl [H17]; · iexact H17
      iexact Hs4
    iintro Hfl
    iapply (Transfers.wp_waitLocalO countersEmb 𝒱₀ (thr d L) none (default : HIx 2) rfl) $$ [Hfl HO]
    · isplitl [Hfl]; · iexact Hfl
      isplitl [HO]; · iexact HO
      iapply ((K (F := F)).mayWait_none (SemLoc.dma cc2_scoped4.sem) hO); iexact Hlv
    iintro ⟨⟨H17, HN⟩, Hs4, HO⟩
    rw [wp_ret]; imodintro
    isplitl [H11 H15 H16 H17]
    · isplitl [H11]
      · iapply (Entails.of_eq (show (l11 d ↦[rows (base L) 104]{fullShare} bv : sProp 𝕄) = (bSl L).view.loc (thr d L) ↦[(bSl L).view.set]{fullShare} bv by rw [set_bSl]).symm) $$ H11
      isplitl [H15]
      · iapply (Entails.of_eq (show (l15 d ↦[rows (wid L) 1]{fullShare} cv : sProp 𝕄) = (cSl L).view.loc (thr d L) ↦[(cSl L).view.set]{fullShare} cv by rw [set_cSl]).symm) $$ H15
      isplitl [H16]; · iexact H16
      iexists _; isplitr
      rotate_left
      · iapply (Entails.of_eq (congrArg (fun I : Finset S32x128.Idx => (l17 d ↦[I]{fullShare} _ : sProp 𝕄)) (set_nSl L))) $$ H17
      · ipureintro; exact n_row (F := F) L cv f17 fn hfn'
    isplitl [HB HC HN H Hbufs]
    · isplitl [HB]; · iexists _; iexact HB
      isplitl [HC]; · iexists _; iexact HC
      isplitl [H]; · iexists _; iexact H
      isplitl [HN]
      · iexists _
        iapply (Entails.of_eq (show ((thr d L).loc cc2_scratch3 ↦[Finset.univ]{fullShare} fn : sProp 𝕄) = (nM).view.loc (thr d L) ↦[(nM).view.set]{fullShare} fn by rw [View.set_whole]).symm) $$ HN
      iexact Hbufs
    isplitl [Hs0 Hs1 Hs2 Hs3 Hs4 Hsems]
    · isplitl [Hs0]; · iexact Hs0
      isplitl [Hs1]; · iexact Hs1
      isplitl [Hs2]; · iexact Hs2
      isplitl [Hs3]; · iexact Hs3
      isplitl [Hs4]; · iexact Hs4
      iexact Hsems
    iexists (insert (SemLoc.dma cc2_scoped4.sem, none) W₁); isplitr
    · ipureintro; intro p hp
      rcases Finset.mem_insert.mp hp with rfl | hp
      · exact .inr rfl
      · exact hW₁ p hp
    iexact HO

set_option maxHeartbeats 2000000 in
theorem compact_body (hF : (K (F := F)).Facts) (bv : S3328x72.Idx → BitVec 32) (cv : S32x128.Idx → BitVec 32) (f16 : S3200x128.Idx → BitVec 32)
    (O : CellTallies nD τ sig (HIx 2)) (W : Waits sig (HIx 2)) (hO : ∀ g, O g none = 0) :
    iprop(levAts (K (F := F)).L (K (F := F)).lev ∗ goQ d L bv cv f16 (fun _ => True)
        ∗ scopedBufs (thr d L) ∗ scopedSems0 (thr d L) ∗ owes (thr d L) O W)
      ⊢ wp frame (wpE (defs₀ (F := F)) 𝒱₀ (thr d L) none) Set.univ
          (cc2_compact_kernel L (Memref.whole main_v11_1_scv) (Memref.isWhole_whole _) (Memref.whole main_v15_scv) (Memref.isWhole_whole _)
            (Memref.whole main_v16_0_scv) (Memref.isWhole_whole _) (Memref.whole main_v16_1_scv) (Memref.isWhole_whole _)
            bM (Memref.isWhole_whole _) cM (Memref.isWhole_whole _) oM (Memref.isWhole_whole _) nM (Memref.isWhole_whole _) cc2_scoped0 cc2_scoped1 cc2_scoped2 cc2_scoped3 cc2_scoped4)
          fun _ => iprop(goQ d L bv cv (oidS bv cv) (fun f => ∀ i, (i 0).val = wid L → (i 1).val < 104 → f i = nG cv i) ∗ scopedBufs (thr d L) ∗ scopedSems0 (thr d L)
            ∗ ∃ W', ⌜∀ p ∈ W', p ∈ W ∨ p.2 = none⌝ ∗ owes (thr d L) O W') := by
  simp only [cc2_compact_kernel_eq_skeleton]; unfold cc2_compact_kernel_skel
  simp only [k2_part4_eq_skeleton]; unfold k2_part4_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_q, ownBufs_q]
  iintro ⟨#Hlv, ⟨H11, H15, H16, %f17, %_, H17⟩, ⟨⟨%f0, H0⟩, ⟨%f1, H1⟩, ⟨%f2, H2⟩, ⟨%f3, H3⟩, Hbufs⟩, ⟨Hs0, Hs1, Hs2, Hs3, Hs4, Hsems⟩, HO⟩
  ihave H11 := (Entails.of_eq (show (l11 d ↦[rows (base L) 104]{fullShare} bv : sProp 𝕄) = (bSl L).view.loc (thr d L) ↦[(bSl L).view.set]{fullShare} bv by rw [set_bSl])) $$ H11
  ihave H15 := (Entails.of_eq (show (l15 d ↦[rows (wid L) 1]{fullShare} cv : sProp 𝕄) = (cSl L).view.loc (thr d L) ↦[(cSl L).view.set]{fullShare} cv by rw [set_cSl])) $$ H15
  iapply (Transfers.wp_dmaLocal countersEmb 𝒱₀ (thr d L) none (src := bSl L) (dst := bM) (q := fullShare) (fs := bv) (Sd := Finset.univ) (fd := f0) (default : HIx 2) _ rfl
     (View.amount_pos _ _ (by decide)) (Finset.subset_univ _)) $$ [H11 H0 Hs0]
  · isplitl [H11]; · iexact H11
    isplitl [H0]; · iexact H0
    iexact Hs0
  iintro Hfl
  iapply (Transfers.wp_waitLocalO countersEmb 𝒱₀ (thr d L) none (default : HIx 2) rfl) $$ [Hfl HO]
  · isplitl [Hfl]; · iexact Hfl
    isplitl [HO]; · iexact HO
    iapply ((K (F := F)).mayWait_none (SemLoc.dma cc2_scoped0.sem) hO); iexact Hlv
  iintro ⟨⟨H0, H11⟩, Hs0, HO⟩
  have hfb : (bM : Memref sig .scVector .vmem S104x72 .i32).view.write (Elt F) f0 ((bSl L).view.read (Elt F) bv) Finset.univ = bOf L bv :=
    (View.write_whole_univ _ _ _).trans (bSl_read L bv)
  ihave HB := (Entails.of_eq (show (bM.view.loc (thr d L) ↦[Finset.univ]{fullShare} _ : sProp 𝕄) = holdsB d L (bOf L bv) from congrArg _ hfb)) $$ H0
  iapply (Transfers.wp_dmaLocal countersEmb 𝒱₀ (thr d L) none (src := cSl L) (dst := cM) (q := fullShare) (fs := cv) (Sd := Finset.univ) (fd := f1) (default : HIx 2) _ rfl
     (View.amount_pos _ _ (by decide)) (Finset.subset_univ _)) $$ [H15 H1 Hs1]
  · isplitl [H15]; · iexact H15
    isplitl [H1]; · iexact H1
    iexact Hs1
  iintro Hfl
  iapply (Transfers.wp_waitLocalO countersEmb 𝒱₀ (thr d L) none (default : HIx 2) rfl) $$ [Hfl HO]
  · isplitl [Hfl]; · iexact Hfl
    isplitl [HO]; · iexact HO
    iapply ((K (F := F)).mayWait_none (SemLoc.dma cc2_scoped1.sem) hO); iexact Hlv
  iintro ⟨⟨H1, H15⟩, Hs1, HO⟩
  have hfc : (cM : Memref sig .scVector .vmem S128 .i32).view.write (Elt F) f1 ((cSl L).view.read (Elt F) cv) Finset.univ = cOf L cv :=
    (View.write_whole_univ _ _ _).trans (cSl_read L cv)
  ihave HC := (Entails.of_eq (show (cM.view.loc (thr d L) ↦[Finset.univ]{fullShare} _ : sProp 𝕄) = holdsC d L (cOf L cv) from congrArg _ hfc)) $$ H1
  iapply (Scf.wp_for_bind frame _ Set.univ _ _ _ k2_t1_ok 0#32 _
    (fun k _ => holdsO (F := F) d L (Ozed k 0))
    (fun k acc => c1_wp d L _ _ _ _ _ _ _ _ _ _ _ _ _ _ _ _ _ acc k)) $$ [H2]
  · iexists f2; isplitr
    · ipureintro; exact ⟨fun i h => absurd h (by omega), fun i _ h => absurd h (by omega)⟩
    iexact H2
  iintro %_ H
  ihave H := (holdsO_mono d L (fun f hf => by
    have h := at_trips ctrips1 (fun n => Ozed n 0 f) hf
    exact (⟨fun i hi => absurd hi (by omega), fun i _ => h.1 i (i 0).isLt⟩ : Odone (oidG (bOf L bv) (cm L (cOf L cv))) (16 * 0) f))) $$ H
  iapply (Scf.wp_for_bind frame _ Set.univ _ _ _ k2_t2_ok 0#32 _
    (fun k _ => iprop(holdsB (F := F) d L (bOf L bv) ∗ holdsC (F := F) d L (cOf L cv) ∗ holdsN (F := F) d L (Ned (cm L (cOf L cv)) (16 * k))
      ∗ holdsO (F := F) d L (Odone (oidG (bOf L bv) (cm L (cOf L cv))) (16 * k))))
    (fun k acc => c2_wp d L _ _ _ _ _ _ _ _ _ _ _ _ _ _ _ _ _ (cOf L cv) k acc)) $$ [HB HC H3 H]
  · isplitl [HB]; · iexact HB
    isplitl [HC]; · iexact HC
    isplitl [H3]
    · iexists f3; isplitr
      · ipureintro; exact fun i h => absurd h (by omega)
      iexact H3
    iexact H
  iintro %_ ⟨HB, HC, ⟨%fn, %hfn, HN⟩, %fo, %hfo, H⟩
  have hfn' : Ned (cm L (cOf L cv)) 112 fn := at_trips ctrips2 (fun n => Ned (cm L (cOf L cv)) (16 * n) fn) hfn
  have hfo' : ∀ i, fo i = oidG (bOf L bv) (cm L (cOf L cv)) i := fun i =>
    (at_trips ctrips2 (fun n => Odone (oidG (bOf L bv) (cm L (cOf L cv))) (16 * n) fo) hfo).1 i (lt_trans (i 0).isLt (by decide))
  have hc3 : k2_cond3 L = 1#1 ↔ wid L < 30 := by
    have := cond3_iff (L 0) (L 1); rw [coords_eta] at this; exact this
  have hc4 := cond4_iff (L 0) (L 1)
  have hbw := base_wid L
  have hW2 : ∀ p ∈ insert (SemLoc.dma cc2_scoped1.sem, none) (insert (SemLoc.dma cc2_scoped0.sem, none) W), p ∈ W ∨ p.2 = none := by
    intro p hp
    rcases Finset.mem_insert.mp hp with rfl | hp
    · exact .inr rfl
    rcases Finset.mem_insert.mp hp with rfl | hp
    · exact .inr rfl
    · exact .inl hp
  have hw32 := wid_lt L
  by_cases h3 : k2_cond3 L = 1#1
  · have hw30 := hc3.mp h3
    have h4 : ¬ Scalar.cmpi .ne (Scalar.extui (Scalar.cmpi .eq (Scalar.addi (Scalar.muli (BitVec.ofNat 32 (L 1).val) 2#32) (BitVec.ofNat 32 (L 0).val)) 30#32) : BitVec 32) 0#32 = 1#1 :=
      fun h => by
        have h30 : wid L = 30 := hc4.mp h
        omega
    simp only [dif_pos h3, dif_neg h4, Prog.bind_op, Prog.bind_ret]
    ihave H := (Entails.of_eq (show ((thr d L).loc cc2_scratch2 ↦[Finset.univ]{fullShare} fo : sProp 𝕄) = (oM).view.loc (thr d L) ↦[(oM).view.set]{fullShare} fo by rw [View.set_whole])) $$ H
    have hset : ((Memref.whole main_v16_0_scv : Memref sig .scVector .hbm S3200x128 .i32).slice (Rect.unit (s := S3200x128) (k2_off16 L) S104x128.size (k2_off16_inb L h3)) (fun _ => rfl)).view.set = rows (base L) 104 := by
      show ((View.whole (main_v16_0_scv : Ref sig .scVector)).slice _).set = _
      rw [View.set_slice]; exact Finset.map_refl.trans (rect_rows (k2_off16_eq L) _)
    iapply (Transfers.wp_dmaLocal countersEmb 𝒱₀ (thr d L) none (src := oM)
       (dst := (Memref.whole main_v16_0_scv : Memref sig .scVector .hbm S3200x128 .i32).slice (Rect.unit (s := S3200x128) (k2_off16 L) S104x128.size (k2_off16_inb L h3)) (fun _ => rfl))
       (q := fullShare) (fs := fo) (Sd := rows (base L) 104) (fd := f16) (default : HIx 2) _ rfl
       (View.amount_pos _ _ (show 0 < S104x128.numel by decide)) (by rw [hset])) $$ [H H16 Hs2]
    · isplitl [H]; · iexact H
      isplitl [H16]; · iexact H16
      iexact Hs2
    iintro Hfl
    iapply (Transfers.wp_waitLocalO countersEmb 𝒱₀ (thr d L) none (default : HIx 2) rfl) $$ [Hfl HO]
    · isplitl [Hfl]; · iexact Hfl
      isplitl [HO]; · iexact HO
      iapply ((K (F := F)).mayWait_none (SemLoc.dma cc2_scoped2.sem) hO); iexact Hlv
    iintro ⟨⟨H16, H⟩, Hs2, HO⟩
    iapply (compact_tail d L bv cv f17 fn fo hfn' O W hO (insert (SemLoc.dma cc2_scoped2.sem, none) (insert (SemLoc.dma cc2_scoped1.sem, none) (insert (SemLoc.dma cc2_scoped0.sem, none) W)))
      (fun p hp => by
        rcases Finset.mem_insert.mp hp with rfl | hp
        · exact .inr rfl
        · exact hW2 p hp))
    isplitr; · iexact Hlv
    isplitl [H11]; · iexact H11
    isplitl [H15]; · iexact H15
    isplitl [H16]
    · iapply (Entails.of_eq (pointsTo_congr (oid_rows (F := F) (k := 104) L bv cv f16 (k2_off16_eq L) (k2_off16_inb L h3) le_rfl
        ((oM : Memref sig .scVector .vmem S104x128 .i32).view.read (Elt F) fo) (fun x => (hfo' x).trans (congrArg _ (by
          funext a
          match a with
          | ⟨0, _⟩ => rfl
          | ⟨1, _⟩ => rfl)))))) $$ H16
    isplitl [H17]; · iexact H17
    isplitl [HB]; · iexact HB
    isplitl [HC]; · iexact HC
    isplitl [HN]; · iexact HN
    isplitl [H]
    · iapply (Entails.of_eq (show ((thr d L).loc cc2_scratch2 ↦[Finset.univ]{fullShare} fo : sProp 𝕄) = (oM).view.loc (thr d L) ↦[(oM).view.set]{fullShare} fo by rw [View.set_whole]).symm) $$ H
    isplitl [Hbufs]; · iexact Hbufs
    isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    isplitl [Hsems]; · iexact Hsems
    iexact HO
  by_cases h4 : Scalar.cmpi .ne (Scalar.extui (Scalar.cmpi .eq (Scalar.addi (Scalar.muli (BitVec.ofNat 32 (L 1).val) 2#32) (BitVec.ofNat 32 (L 0).val)) 30#32) : BitVec 32) 0#32 = 1#1
  · have hw30 : wid L = 30 := hc4.mp h4
    have hb30 : base L = 3120 := by omega
    simp only [dif_neg h3, dif_pos h4, Prog.bind_op, Prog.bind_ret]
    have e2 : (Finset.univ : Finset S104x128.Idx) = rows 0 80 ∪ rows (0 + 80) 24 := by rw [rows_union]; exact rows_all.symm
    ihave H := (Entails.of_eq (congrArg (fun I : Finset S104x128.Idx => ((thr d L).loc cc2_scratch2 ↦[I]{fullShare} fo : sProp 𝕄)) e2)) $$ H
    ihave H := (pointsTo_union rows_disj).1 $$ H
    icases H with ⟨H, HR⟩
    have hsrc : (oM.slice (Rect.unit (s := S104x128) ![0, 0] S80x128.size inb_S104x128_S80x128_0_0) (fun _ => rfl) : Memref sig .scVector .vmem S80x128 .i32).view.set = rows 0 80 := by
      show ((View.whole (cc2_scratch2 : Ref sig .scVector)).slice _).set = _
      rw [View.set_slice]; exact Finset.map_refl.trans (rect_rows rfl _)
    have hrow : (rows (base L) 104 : Finset S3200x128.Idx) = rows (base L) 80 := by
      ext i
      have hi : (i 0).val < 3200 := (i 0).isLt
      rw [mem_rows, mem_rows]; omega
    have hset : ((Memref.whole main_v16_0_scv : Memref sig .scVector .hbm S3200x128 .i32).slice (Rect.unit (s := S3200x128) ![3120, 0] S80x128.size inb_S3200x128_S80x128_3120_0) (fun _ => rfl)).view.set = rows (base L) 80 := by
      show ((View.whole (main_v16_0_scv : Ref sig .scVector)).slice _).set = _
      rw [View.set_slice, hb30]; exact Finset.map_refl.trans (rect_rows rfl _)
    ihave H := (Entails.of_eq (show ((thr d L).loc cc2_scratch2 ↦[rows 0 80]{fullShare} fo : sProp 𝕄)
      = (oM.slice (Rect.unit (s := S104x128) ![0, 0] S80x128.size inb_S104x128_S80x128_0_0) (fun _ => rfl) : Memref sig .scVector .vmem S80x128 .i32).view.loc (thr d L)
          ↦[(oM.slice (Rect.unit (s := S104x128) ![0, 0] S80x128.size inb_S104x128_S80x128_0_0) (fun _ => rfl) : Memref sig .scVector .vmem S80x128 .i32).view.set]{fullShare} fo by rw [hsrc])) $$ H
    ihave H16 := (Entails.of_eq (congrArg (fun I : Finset S3200x128.Idx => (l16 d ↦[I]{fullShare} f16 : sProp 𝕄)) hrow)) $$ H16
    iapply (Transfers.wp_dmaLocal countersEmb 𝒱₀ (thr d L) none
       (src := (oM.slice (Rect.unit (s := S104x128) ![0, 0] S80x128.size inb_S104x128_S80x128_0_0) (fun _ => rfl) : Memref sig .scVector .vmem S80x128 .i32))
       (dst := (Memref.whole main_v16_0_scv : Memref sig .scVector .hbm S3200x128 .i32).slice (Rect.unit (s := S3200x128) ![3120, 0] S80x128.size inb_S3200x128_S80x128_3120_0) (fun _ => rfl))
       (q := fullShare) (fs := fo) (Sd := rows (base L) 80) (fd := f16) (default : HIx 2) _ rfl
       (View.amount_pos _ _ (by decide)) (by rw [hset])) $$ [H H16 Hs3]
    · isplitl [H]; · iexact H
      isplitl [H16]; · iexact H16
      iexact Hs3
    iintro Hfl
    iapply (Transfers.wp_waitLocalO countersEmb 𝒱₀ (thr d L) none (default : HIx 2) rfl) $$ [Hfl HO]
    · isplitl [Hfl]; · iexact Hfl
      isplitl [HO]; · iexact HO
      iapply ((K (F := F)).mayWait_none (SemLoc.dma cc2_scoped3.sem) hO); iexact Hlv
    iintro ⟨⟨H16, H⟩, Hs3, HO⟩
    iapply (compact_tail d L bv cv f17 fn fo hfn' O W hO (insert (SemLoc.dma cc2_scoped3.sem, none) (insert (SemLoc.dma cc2_scoped1.sem, none) (insert (SemLoc.dma cc2_scoped0.sem, none) W)))
      (fun p hp => by
        rcases Finset.mem_insert.mp hp with rfl | hp
        · exact .inr rfl
        · exact hW2 p hp))
    isplitr; · iexact Hlv
    isplitl [H11]; · iexact H11
    isplitl [H15]; · iexact H15
    isplitl [H16]
    · iapply (Entails.of_eq (congrArg (fun I : Finset S3200x128.Idx => (l16 d ↦[I]{fullShare} oidS bv cv : sProp 𝕄)) hrow).symm)
      iapply (Entails.of_eq (pointsTo_congr (oid_rows (F := F) (k := 80) L bv cv f16 (by rw [hb30]) inb_S3200x128_S80x128_3120_0 (by decide)
        ((oM.slice (Rect.unit (s := S104x128) ![0, 0] S80x128.size inb_S104x128_S80x128_0_0) (fun _ => rfl) : Memref sig .scVector .vmem S80x128 .i32).view.read (Elt F) fo)
        (fun x => (hfo' _).trans (congrArg _ (by
          funext a
          match a with
          | ⟨0, _⟩ => exact Fin.ext (show 0 + 1 * (x 0).val = (x 0).val by omega)
          | ⟨1, _⟩ => exact Fin.ext (show 0 + 1 * (x 1).val = (x 1).val by omega))))))) $$ H16
    isplitl [H17]; · iexact H17
    isplitl [HB]; · iexact HB
    isplitl [HC]; · iexact HC
    isplitl [HN]; · iexact HN
    isplitl [H HR]
    · iapply (Entails.of_eq (congrArg (fun I : Finset S104x128.Idx => ((thr d L).loc cc2_scratch2 ↦[I]{fullShare} fo : sProp 𝕄)) e2).symm)
      iapply (pointsTo_union rows_disj).2
      isplitl [H]
      · iapply (Entails.of_eq (show ((thr d L).loc cc2_scratch2 ↦[rows 0 80]{fullShare} fo : sProp 𝕄)
          = (oM.slice (Rect.unit (s := S104x128) ![0, 0] S80x128.size inb_S104x128_S80x128_0_0) (fun _ => rfl) : Memref sig .scVector .vmem S80x128 .i32).view.loc (thr d L)
            ↦[(oM.slice (Rect.unit (s := S104x128) ![0, 0] S80x128.size inb_S104x128_S80x128_0_0) (fun _ => rfl) : Memref sig .scVector .vmem S80x128 .i32).view.set]{fullShare} fo by rw [hsrc]).symm) $$ H
      iexact HR
    isplitl [Hbufs]; · iexact Hbufs
    isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    isplitl [Hsems]; · iexact Hsems
    iexact HO
  · simp only [dif_neg h3, dif_neg h4, Prog.bind_op, Prog.bind_ret]
    have hw31 : wid L = 31 := by
      have h3' : ¬ wid L < 30 := fun h => h3 (hc3.mpr h)
      have h4' : ¬ wid L = 30 := fun h => h4 (hc4.mpr h)
      omega
    iapply (compact_tail d L bv cv f17 fn fo hfn' O W hO _ hW2)
    isplitr; · iexact Hlv
    isplitl [H11]; · iexact H11
    isplitl [H15]; · iexact H15
    isplitl [H16]
    · iapply (Entails.of_eq (pointsTo_congr (fun i hi => absurd (mem_rows.mp hi).1 (by have hi' : (i 0).val < 3200 := (i 0).isLt; omega)))) $$ H16
    isplitl [H17]; · iexact H17
    isplitl [HB]; · iexact HB
    isplitl [HC]; · iexact HC
    isplitl [HN]; · iexact HN
    isplitl [H]; · iexact H
    isplitl [Hbufs]; · iexact Hbufs
    isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    isplitl [Hsems]; · iexact Hsems
    iexact HO

end Tile

end Cert.Proof
end
-- ==== Proof.LifVal.lean ====
/-
  What one grid point of the recurrence kernel computes: its synaptic inputs, the twenty-five steps of the
  leaky integrate-and-fire recurrence over the block, and the blocks of results; with the rules for loads and
  stores of a memref held whole.
-/
module

public import proofs.«01_k».proof.Proof.Common
public import Idealize.ShloMosaic.Lib.MemrefSat
public import Idealize.ShloMosaic.Lib.ValueLayout
public import Idealize.ShloMosaic.Lib.Pipeline.FrameBody

@[expose] public section

noncomputable section

namespace Cert.Proof

open Cert.KernelIdeal Cert.KernelIdeal.Gen
open Idealize.ShloMosaic
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The values -/

/-- The synaptic inputs of step `t` of a block. -/
def synT (sy : Vec F S800x1024 .f32) (t : ℕ) : Vec F S32x1024 .f32 :=
  fun x => sy (ix2 (⟨(32 * t + (x 0).val) % 800, Nat.mod_lt _ (by decide)⟩ : Fin 800) (x 1))

/-- The states before step `t` of a block: a step is leak, input, and reset where the threshold is passed. -/
def stB (dv th : FVec F S1x1024 .f32) (sy : Vec F S800x1024 .f32) (s0 : Vec F S32x1024 .f32) : ℕ → Vec F S32x1024 .f32
  | 0 => s0
  | t + 1 => k1_pay14 dv th (stB dv th sy s0 t) (synT sy t)

/-- Which neurons fire at step `t`, as words. -/
def spI (dv th : FVec F S1x1024 .f32) (sy : Vec F S800x1024 .f32) (s0 : Vec F S32x1024 .f32) (t : ℕ) : IVec S32x1024 32 :=
  extui 32 (k1_pay13 dv th (stB dv th sy s0 t) (synT sy t)) natLt_1_32

theorem stB_succ (dv th : FVec F S1x1024 .f32) (sy : Vec F S800x1024 .f32) (s0 : Vec F S32x1024 .f32) (t : ℕ) :
    stB dv th sy s0 (t + 1) = k1_pay14 dv th (stB dv th sy s0 t) (synT sy t) := rfl

/-- The block of states that a grid point leaves. -/
def stO (dv th : FVec F S1x1024 .f32) (sy : Vec F S800x1024 .f32) (s0 : Vec F S32x1024 .f32) : Vec F S25x32x1024 .f32 :=
  fun i => stB dv th sy s0 ((i 0).val + 1) (ix2 (i 1) (i 2))

/-- The block of spikes of a grid point. -/
def spO (dv th : FVec F S1x1024 .f32) (sy : Vec F S800x1024 .f32) (s0 : Vec F S32x1024 .f32) : Vec F S800x1024 .i32 :=
  fun i => spI dv th sy s0 ((i 0).val / 32) (ix2 (⟨(i 0).val % 32, Nat.mod_lt _ (by decide)⟩ : Fin 32) (i 1))

/-- The block of spike words and counts that a grid point leaves. -/
def bitO (sp : Vec F S800x1024 .i32) : Vec F S800x72 .i32 := k1_pay1 (F := F) sp (k1_pay145 sp) (k1_pay146 sp)

/-- The first `n` slabs hold the states. -/
def H6 (dv th : FVec F S1x1024 .f32) (sy : Vec F S800x1024 .f32) (s0 : Vec F S32x1024 .f32) (n : ℕ) (X : Vec F S25x32x1024 .f32) : Prop :=
  ∀ i, (i 0).val < n → X i = stO dv th sy s0 i

/-- The first `32 * n` rows hold the spikes. -/
def H10 (dv th : FVec F S1x1024 .f32) (sy : Vec F S800x1024 .f32) (s0 : Vec F S32x1024 .f32) (n : ℕ) (X : Vec F S800x1024 .i32) : Prop :=
  ∀ i, (i 0).val < 32 * n → X i = spO dv th sy s0 i

theorem h6_all {dv th : FVec F S1x1024 .f32} {sy : Vec F S800x1024 .f32} {s0 : Vec F S32x1024 .f32} {X : Vec F S25x32x1024 .f32}
    (h : H6 dv th sy s0 25 X) : X = stO dv th sy s0 := funext fun i => h i (i 0).isLt

theorem h10_all {dv th : FVec F S1x1024 .f32} {sy : Vec F S800x1024 .f32} {s0 : Vec F S32x1024 .f32} {X : Vec F S800x1024 .i32}
    (h : H10 dv th sy s0 25 X) : X = spO dv th sy s0 := funext fun i => h i (i 0).isLt

/-! ## Rectangles -/

theorem ld_rows {sy : Vec F S800x1024 .f32} {off : Fin 2 → Nat} {inb : ∀ a, off a + S32x1024.size a ≤ S800x1024.size a} {t : ℕ} (hoff : off = ![32 * t, 0]) :
    View.ld (Val := Elt F) (e' := .f32) sy (Rect.unit (s := S800x1024) off S32x1024.size inb) = synT sy t := by
  subst hoff
  have h0 : 32 * t + 32 ≤ 800 := inb 0
  funext x
  have hx : (x 0).val < 32 := (x 0).isLt
  refine congrArg sy (funext fun a => ?_)
  match a with
  | ⟨0, _⟩ => exact Fin.ext (show 32 * t + 1 * (x 0).val = (32 * t + (x 0).val) % 800 by rw [Nat.mod_eq_of_lt (by omega)]; omega)
  | ⟨1, _⟩ => exact Fin.ext (show 0 + 1 * (x 1).val = (x 1).val by omega)

theorem emb_whole2 {n m : ℕ} {inb : ∀ a, (![0, 0] : Fin 2 → ℕ) a + (⟨2, ![n, m]⟩ : Shape).size a ≤ (⟨2, ![n, m]⟩ : Shape).size a} (x : (⟨2, ![n, m]⟩ : Shape).Idx) :
    (Rect.unit (s := ⟨2, ![n, m]⟩) ![0, 0] (⟨2, ![n, m]⟩ : Shape).size inb).emb x = x := by
  funext a
  match a with
  | ⟨0, _⟩ => exact Fin.ext (show 0 + 1 * (x 0).val = (x 0).val by omega)
  | ⟨1, _⟩ => exact Fin.ext (show 0 + 1 * (x 1).val = (x 1).val by omega)

theorem ld_whole2 {n m : ℕ} {e : EltTy} {inb : ∀ a, (![0, 0] : Fin 2 → ℕ) a + (⟨2, ![n, m]⟩ : Shape).size a ≤ (⟨2, ![n, m]⟩ : Shape).size a}
    (X : (⟨2, ![n, m]⟩ : Shape).Idx → Elt F e) :
    View.ld (Val := Elt F) X (Rect.unit (s := ⟨2, ![n, m]⟩) ![0, 0] (⟨2, ![n, m]⟩ : Shape).size inb) = X :=
  funext fun x => congrArg X (emb_whole2 x)

theorem overlay_whole2 {n m : ℕ} {e : EltTy} {inb : ∀ a, (![0, 0] : Fin 2 → ℕ) a + (⟨2, ![n, m]⟩ : Shape).size a ≤ (⟨2, ![n, m]⟩ : Shape).size a}
    (X w : (⟨2, ![n, m]⟩ : Shape).Idx → Elt F e) :
    (Rect.unit (s := ⟨2, ![n, m]⟩) ![0, 0] (⟨2, ![n, m]⟩ : Shape).size inb).overlay X w = w := by
  funext x
  have h := (Rect.unit (s := ⟨2, ![n, m]⟩) ![0, 0] (⟨2, ![n, m]⟩ : Shape).size inb).overlay_emb X w x
  rwa [emb_whole2 (inb := inb) x] at h

theorem h6_step {dv th : FVec F S1x1024 .f32} {sy : Vec F S800x1024 .f32} {s0 : Vec F S32x1024 .f32} {n : ℕ} {X : Vec F S25x32x1024 .f32}
    {off : Fin 3 → Nat} {inb : ∀ a, off a + S1x32x1024.size a ≤ S25x32x1024.size a} (hoff : off = ![n, 0, 0]) {w : Vec F S1x32x1024 .f32}
    (hw : w = shapeCast S1x32x1024 (k1_pay14 dv th (stB dv th sy s0 n) (synT sy n)) shapeCasts_S32x1024_S1x32x1024) (h : H6 dv th sy s0 n X) :
    H6 dv th sy s0 (n + 1) ((Rect.unit (s := S25x32x1024) off S1x32x1024.size inb).overlay X w) := by
  subst hoff hw
  intro i hi
  set r : Rect S25x32x1024 := Rect.unit (s := S25x32x1024) ![n, 0, 0] S1x32x1024.size inb with hr
  by_cases hm : i ∈ r.set
  · obtain ⟨x, rfl⟩ := r.exists_idx_of_mem hm
    change r.overlay X _ (r.emb x) = stO dv th sy s0 (r.emb x)
    rw [Rect.overlay_emb]
    have hx0 : (x 0).val = 0 := by have := (x 0).isLt; change (x 0).val < 1 at this; omega
    have e0 : ((r.emb x) 0).val = n := show n + 1 * (x 0).val = n by omega
    have e1 : (r.emb x) 1 = x 1 := Fin.ext (show 0 + 1 * (x 1).val = (x 1).val by omega)
    have e2 : (r.emb x) 2 = x 2 := Fin.ext (show 0 + 1 * (x 2).val = (x 2).val by omega)
    unfold stO
    rw [e0, e1, e2, stB_succ]
    refine shapeCast_apply _ _ _ _ ?_
    rw [Shape.rowMajor_val_three, Shape.rowMajor_val_two]
    change (x 1).val * 1024 + (x 2).val = ((x 0).val * 32 + (x 1).val) * 1024 + (x 2).val
    rw [hx0]; omega
  · rw [Rect.overlay_of_not_mem _ _ _ hm]
    refine h i ?_
    by_contra hge
    have hlt : (i 0).val = n := by omega
    refine hm ?_
    have : r.emb (ix3 (n0 := 1) (n1 := 32) (n2 := 1024) ⟨0, Nat.one_pos⟩ (i 1) (i 2)) = i := by
      funext a
      match a with
      | ⟨0, _⟩ => exact Fin.ext (show n + 1 * 0 = (i 0).val by omega)
      | ⟨1, _⟩ => exact Fin.ext (show 0 + 1 * (i 1).val = (i 1).val by omega)
      | ⟨2, _⟩ => exact Fin.ext (show 0 + 1 * (i 2).val = (i 2).val by omega)
    rw [← this, ← Rect.map_emb_univ]
    exact Finset.mem_map_of_mem _ (Finset.mem_univ _)

theorem h10_step {dv th : FVec F S1x1024 .f32} {sy : Vec F S800x1024 .f32} {s0 : Vec F S32x1024 .f32} {n : ℕ} {X : Vec F S800x1024 .i32}
    {off : Fin 2 → Nat} {inb : ∀ a, off a + S32x1024.size a ≤ S800x1024.size a} (hoff : off = ![32 * n, 0]) {w : Vec F S32x1024 .i32}
    (hw : w = shapeCast S32x1024 (spI dv th sy s0 n) shapeCasts_S32x1024_S32x1024) (h : H10 dv th sy s0 n X) :
    H10 dv th sy s0 (n + 1) ((Rect.unit (s := S800x1024) off S32x1024.size inb).overlay X w) := by
  subst hoff
  rw [shapeCast_self] at hw
  subst hw
  intro i hi
  set r : Rect S800x1024 := Rect.unit (s := S800x1024) ![32 * n, 0] S32x1024.size inb with hr
  by_cases hm : i ∈ r.set
  · obtain ⟨x, rfl⟩ := r.exists_idx_of_mem hm
    change r.overlay X _ (r.emb x) = spO dv th sy s0 (r.emb x)
    rw [Rect.overlay_emb]
    have hx0 : (x 0).val < 32 := (x 0).isLt
    have e0 : ((r.emb x) 0).val = 32 * n + (x 0).val := show 32 * n + 1 * (x 0).val = _ by omega
    have e1 : (r.emb x) 1 = x 1 := Fin.ext (show 0 + 1 * (x 1).val = (x 1).val by omega)
    have e2 : ((r.emb x) 0).val / 32 = n := by rw [e0]; omega
    unfold spO
    rw [e1, e2]
    refine congrArg (spI dv th sy s0 n) (funext fun a => ?_)
    match a with
    | ⟨0, _⟩ => exact Fin.ext (show (x 0).val = ((r.emb x) 0).val % 32 by rw [e0]; omega)
    | ⟨1, _⟩ => rfl
  · rw [Rect.overlay_of_not_mem _ _ _ hm]
    refine h i ?_
    by_contra hge
    refine hm ?_
    have : r.emb (ix2 (n0 := 32) (n1 := 1024) ⟨(i 0).val - 32 * n, by omega⟩ (i 1)) = i := by
      funext a
      match a with
      | ⟨0, _⟩ => exact Fin.ext (show 32 * n + 1 * ((i 0).val - 32 * n) = (i 0).val by omega)
      | ⟨1, _⟩ => exact Fin.ext (show 0 + 1 * (i 1).val = (i 1).val by omega)
    rw [← this, ← Rect.map_emb_univ]
    exact Finset.mem_map_of_mem _ (Finset.mem_univ _)

/-! ## Loads and stores of a memref held whole -/

section Rules

variable (d : Dev nD)

abbrev tcT : Thread nD τ := (d.tc : Thread nD τ)

theorem own_ld {s : Shape} {e : EltTy} {m : Memref sig .tc .vmem s e} {r : Rect s} {hl : m.view.LoadsAt r.toLoadRect} {α : Type} {X : s.Idx → Elt F e}
    {k : (r.shape.Idx → Elt F e) → Prog (TpuEff nD τ sig (Elt F) Λ₀ .tc) α} {Q : α → sProp 𝕄} :
    (owns (tcT d) m fullShare X : sProp 𝕄) ⊢ iprop((owns (tcT d) m fullShare X -∗ wp frame (wpE (defs₀ (F := F)) 𝒱₀ (tcT d) none) Set.univ (k (View.ld X r)) Q)
      -∗ wp frame (wpE (defs₀ (F := F)) 𝒱₀ (tcT d) none) Set.univ (.op (.load m r.toLoadRect hl) k) Q) := by
  unfold owns
  iintro ⟨%f, %hf, H⟩ Hk
  subst hf
  iapply (wp_load_rect 𝒱₀ (tcT d) none Set.univ (m := m) (r := r) (S := m.view.set) (q := fullShare) (f := f) (m.view.set_slice_subset r)) $$ H
  iintro H
  iapply Hk
  iexists f; isplitr; · ipureintro; rfl
  iexact H

theorem own_st {s : Shape} {e : EltTy} {m : Memref sig .tc .vmem s e} {r : Rect s} {w : r.shape.Idx → Elt F e} {hx : (m.access r).Stores Finset.univ}
    {hm : (Finset.univ : Finset r.shape.Idx) = Finset.univ ∨ ∀ a, r.stride a = 1} {α : Type} {X : s.Idx → Elt F e}
    {k : PUnit → Prog (TpuEff nD τ sig (Elt F) Λ₀ .tc) α} {Q : α → sProp 𝕄} :
    (owns (tcT d) m fullShare X : sProp 𝕄) ⊢ iprop((owns (tcT d) m fullShare (r.overlay X w) -∗ wp frame (wpE (defs₀ (F := F)) 𝒱₀ (tcT d) none) Set.univ (k ⟨⟩) Q)
      -∗ wp frame (wpE (defs₀ (F := F)) 𝒱₀ (tcT d) none) Set.univ (.op (.store m r w Finset.univ hx hm) k) Q) := by
  unfold owns
  iintro ⟨%f, %hf, H⟩ Hk
  subst hf
  iapply (wp_store 𝒱₀ (tcT d) none Set.univ (m := m) (r := r) (Mk := Finset.univ) (S := m.view.set) (f := f) (m.view.set_slice_subset r)) $$ H
  iintro H
  iapply Hk
  iexists _; isplitr
  rotate_left
  · iexact H
  · ipureintro
    funext j
    by_cases hj : j ∈ r.set
    · obtain ⟨x, rfl⟩ := r.exists_idx_of_mem hj
      exact (View.read_slice_write_emb (v := m.view) (Val := Elt F) r f w (Finset.mem_univ x)).trans (r.overlay_emb (m.view.read (Elt F) f) w x).symm
    · exact (View.read_slice_write_of_not_mem (v := m.view) (Val := Elt F) r f w Finset.univ (by rwa [Rect.map_emb_univ])).trans
        (r.overlay_of_not_mem (m.view.read (Elt F) f) w hj).symm

theorem sat_ld {s : Shape} {e : EltTy} {m : Memref sig .tc .vmem s e} {r : Rect s} {hl : m.view.LoadsAt r.toLoadRect} {α : Type} {Φ : (s.Idx → Elt F e) → Prop}
    {k : (r.shape.Idx → Elt F e) → Prog (TpuEff nD τ sig (Elt F) Λ₀ .tc) α} {Q : α → sProp 𝕄} :
    (ownsSat (tcT d) m fullShare Φ : sProp 𝕄) ⊢ iprop((∀ X : s.Idx → Elt F e, ⌜Φ X⌝ -∗ ownsSat (tcT d) m fullShare Φ -∗ wp frame (wpE (defs₀ (F := F)) 𝒱₀ (tcT d) none) Set.univ (k (View.ld X r)) Q)
      -∗ wp frame (wpE (defs₀ (F := F)) 𝒱₀ (tcT d) none) Set.univ (.op (.load m r.toLoadRect hl) k) Q) := by
  iintro H Hk
  ihave H' := (ownsSat_elim (Φ := Φ)) $$ H
  icases H' with ⟨%X, %hX, H⟩
  iapply (own_ld d) $$ H
  iintro H
  iapply Hk
  · ipureintro; exact hX
  · iapply (ownsSat_intro _ _ _ hX) $$ H

theorem sat_st {s : Shape} {e : EltTy} {m : Memref sig .tc .vmem s e} {r : Rect s} {w : r.shape.Idx → Elt F e} {hx : (m.access r).Stores Finset.univ}
    {hm : (Finset.univ : Finset r.shape.Idx) = Finset.univ ∨ ∀ a, r.stride a = 1} {α : Type} {Φ Ψ : (s.Idx → Elt F e) → Prop}
    (h : ∀ X, Φ X → Ψ (r.overlay X w)) {k : PUnit → Prog (TpuEff nD τ sig (Elt F) Λ₀ .tc) α} {Q : α → sProp 𝕄} :
    (ownsSat (tcT d) m fullShare Φ : sProp 𝕄) ⊢ iprop((ownsSat (tcT d) m fullShare Ψ -∗ wp frame (wpE (defs₀ (F := F)) 𝒱₀ (tcT d) none) Set.univ (k ⟨⟩) Q)
      -∗ wp frame (wpE (defs₀ (F := F)) 𝒱₀ (tcT d) none) Set.univ (.op (.store m r w Finset.univ hx hm) k) Q) := by
  iintro H Hk
  ihave H' := (ownsSat_elim (Φ := Φ)) $$ H
  icases H' with ⟨%X, %hX, H⟩
  iapply (own_st d) $$ H
  iintro H
  iapply Hk
  iapply (ownsSat_intro _ _ _ (h X hX)) $$ H

/-- The load of a step's synaptic inputs. -/
theorem syn_ld {m : Memref sig .tc .vmem S800x1024 .f32} {off : Fin 2 → Nat} {inb : ∀ a, off a + S32x1024.size a ≤ S800x1024.size a}
    {hl : m.view.LoadsAt (Rect.unit (s := S800x1024) off S32x1024.size inb).toLoadRect} {t : ℕ} (hoff : off = ![32 * t, 0]) {α : Type} {sy : Vec F S800x1024 .f32}
    {k : (S32x1024.Idx → Elt F .f32) → Prog (TpuEff nD τ sig (Elt F) Λ₀ .tc) α} {Q : α → sProp 𝕄} :
    (owns (tcT d) m fullShare sy : sProp 𝕄) ⊢ iprop((owns (tcT d) m fullShare sy -∗ wp frame (wpE (defs₀ (F := F)) 𝒱₀ (tcT d) none) Set.univ (k (synT sy t)) Q)
      -∗ wp frame (wpE (defs₀ (F := F)) 𝒱₀ (tcT d) none) Set.univ (.op (.load m (Rect.unit (s := S800x1024) off S32x1024.size inb).toLoadRect hl) k) Q) := by
  have e := ld_rows (F := F) (sy := sy) (inb := inb) hoff
  have h := own_ld (F := F) d (m := m) (r := Rect.unit (s := S800x1024) off S32x1024.size inb) (hl := hl) (X := sy) (k := k) (Q := Q)
  rw [e] at h
  exact h

/-- The store of a step's states. -/
theorem st6 {m : Memref sig .tc .vmem S25x32x1024 .f32} {off : Fin 3 → Nat} {inb : ∀ a, off a + S1x32x1024.size a ≤ S25x32x1024.size a}
    {dv th : FVec F S1x1024 .f32} {sy : Vec F S800x1024 .f32} {s0 : Vec F S32x1024 .f32} {n : ℕ} {w : Vec F S1x32x1024 .f32} (hoff : off = ![n, 0, 0])
    (hw : w = shapeCast S1x32x1024 (k1_pay14 dv th (stB dv th sy s0 n) (synT sy n)) shapeCasts_S32x1024_S1x32x1024)
    {hx : (m.access (Rect.unit (s := S25x32x1024) off S1x32x1024.size inb)).Stores Finset.univ}
    {hm : (Finset.univ : Finset (Rect.unit (s := S25x32x1024) off S1x32x1024.size inb).shape.Idx) = Finset.univ ∨ ∀ a, (Rect.unit (s := S25x32x1024) off S1x32x1024.size inb).stride a = 1}
    {α : Type} {k : PUnit → Prog (TpuEff nD τ sig (Elt F) Λ₀ .tc) α} {Q : α → sProp 𝕄} :
    (ownsSat (tcT d) m fullShare (H6 dv th sy s0 n) : sProp 𝕄) ⊢ iprop((ownsSat (tcT d) m fullShare (H6 dv th sy s0 (n + 1)) -∗ wp frame (wpE (defs₀ (F := F)) 𝒱₀ (tcT d) none) Set.univ (k ⟨⟩) Q)
      -∗ wp frame (wpE (defs₀ (F := F)) 𝒱₀ (tcT d) none) Set.univ (.op (.store m (Rect.unit (s := S25x32x1024) off S1x32x1024.size inb) w Finset.univ hx hm) k) Q) :=
  sat_st d fun _ h => h6_step hoff hw h

/-- The store of a step's spikes. -/
theorem st10 {m : Memref sig .tc .vmem S800x1024 .i32} {off : Fin 2 → Nat} {inb : ∀ a, off a + S32x1024.size a ≤ S800x1024.size a}
    {dv th : FVec F S1x1024 .f32} {sy : Vec F S800x1024 .f32} {s0 : Vec F S32x1024 .f32} {n : ℕ} {w : Vec F S32x1024 .i32} (hoff : off = ![32 * n, 0])
    (hw : w = shapeCast S32x1024 (spI dv th sy s0 n) shapeCasts_S32x1024_S32x1024)
    {hx : (m.access (Rect.unit (s := S800x1024) off S32x1024.size inb)).Stores Finset.univ}
    {hm : (Finset.univ : Finset (Rect.unit (s := S800x1024) off S32x1024.size inb).shape.Idx) = Finset.univ ∨ ∀ a, (Rect.unit (s := S800x1024) off S32x1024.size inb).stride a = 1}
    {α : Type} {k : PUnit → Prog (TpuEff nD τ sig (Elt F) Λ₀ .tc) α} {Q : α → sProp 𝕄} :
    (ownsSat (tcT d) m fullShare (H10 dv th sy s0 n) : sProp 𝕄) ⊢ iprop((ownsSat (tcT d) m fullShare (H10 dv th sy s0 (n + 1)) -∗ wp frame (wpE (defs₀ (F := F)) 𝒱₀ (tcT d) none) Set.univ (k ⟨⟩) Q)
      -∗ wp frame (wpE (defs₀ (F := F)) 𝒱₀ (tcT d) none) Set.univ (.op (.store m (Rect.unit (s := S800x1024) off S32x1024.size inb) w Finset.univ hx hm) k) Q) :=
  sat_st d fun _ h => h10_step hoff hw h

end Rules

end Cert.Proof

end
-- ==== Proof.Lif.lean ====
/-
  One grid point of the recurrence kernel: the body's specification, part by part.
-/
module

public import proofs.«01_k».proof.Proof.LifVal
public import proofs.«01_k».proof.Proof.Gen.KernelIdeal.Skeleton

@[expose] public section

noncomputable section

namespace Cert.Proof

open Cert.KernelIdeal Cert.KernelIdeal.Gen
open Idealize.ShloMosaic
open Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (d : Dev nD) (i : grid1.Coords)
  (arg1 : Memref sig .tc .vmem S800x1024 .f32) (harg1 : arg1.IsWhole) (arg2 : Memref sig .tc .vmem S1024x1024 .f32) (harg2 : arg2.IsWhole)
  (arg3 : Memref sig .tc .vmem S32x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S25x32x1024 .f32) (harg6 : arg6.IsWhole)
  (arg7 : Memref sig .tc .vmem S800x72 .i32) (harg7 : arg7.IsWhole) (arg8 : Memref sig .tc .vmem S32x1024 .f32) (harg8 : arg8.IsWhole)
  (arg9 : Memref sig .tc .vmem S800x1024 .f32) (harg9 : arg9.IsWhole) (arg10 : Memref sig .tc .vmem S800x1024 .i32) (harg10 : arg10.IsWhole)

/-- A program's specification, used at the head of a longer one. -/
theorem seqT {α β : Type} {P : sProp 𝕄} {p : Prog (TpuEff nD τ sig (Elt F) Λ₀ .tc) α} {Φ : α → sProp 𝕄}
    (h : P ⊢ wp frame (wpE (defs₀ (F := F)) 𝒱₀ (tcT d) none) Set.univ p Φ) {k : α → Prog (TpuEff nD τ sig (Elt F) Λ₀ .tc) β} {Q : β → sProp 𝕄} :
    P ⊢ iprop((∀ a, Φ a -∗ wp frame (wpE (defs₀ (F := F)) 𝒱₀ (tcT d) none) Set.univ (k a) Q)
      -∗ wp frame (wpE (defs₀ (F := F)) 𝒱₀ (tcT d) none) Set.univ (p >>= k) Q) := by
  rw [wp_bind]
  iintro HP Hk
  ihave Hw := h $$ HP
  iapply (wp_wand frame _ Set.univ) $$ Hw
  iexact Hk

theorem fin_wp {α : Type} {a : α} {Q : α → sProp 𝕄} : Q a ⊢ wp frame (wpE (defs₀ (F := F)) 𝒱₀ (tcT d) none) Set.univ (.ret a) Q := by
  iintro H
  rw [wp_ret]; imodintro; iexact H

/-- What the steps work on: the inputs, and the two blocks of results filled up to a step. -/
def midS (dv th : FVec F S1x1024 .f32) (sy : Vec F S800x1024 .f32) (s0 : Vec F S32x1024 .f32) (n6 n10 : ℕ) : sProp 𝕄 :=
  iprop(owns (tcT d) arg9 fullShare sy ∗ ownsSat (tcT d) arg6 fullShare (H6 dv th sy s0 n6) ∗ ownsSat (tcT d) arg10 fullShare (H10 dv th sy s0 n10))

variable (dv th : FVec F S1x1024 .f32) (sy : Vec F S800x1024 .f32) (s0 : Vec F S32x1024 .f32)

/-- The state that a block starts with: the given one at the first block, the one kept otherwise. -/
def init0 (X3 X8 : Vec F S32x1024 .f32) : Vec F S32x1024 .f32 := if (i 0).val = 0 then X3 else X8

theorem first_iff : (Scalar.cmpi .ne (Scalar.extui (Scalar.cmpi .eq (BitVec.ofNat 32 (i 0).val) 0#32) : BitVec 32) 0#32 = 1#1) ↔ (i 0).val = 0 :=
  (by decide : ∀ x : Fin 4, (Scalar.cmpi .ne (Scalar.extui (Scalar.cmpi .eq (BitVec.ofNat 32 x.val) 0#32) : BitVec 32) 0#32 = 1#1) ↔ x.val = 0) (i 0)

/-- The first block fetches the initial state. -/
theorem first_wp (X3 X8 : Vec F S32x1024 .f32) (v2 : BitVec 1) (hv2 : v2 = 1#1 ↔ (i 0).val = 0) {α : Type} {p : Prog (TpuEff nD τ sig (Elt F) Λ₀ .tc) α} {Q : α → sProp 𝕄} :
    iprop(owns (tcT d) arg3 fullShare X3 ∗ owns (tcT d) arg8 fullShare X8)
    ⊢ iprop((owns (tcT d) arg3 fullShare X3 -∗ owns (tcT d) arg8 fullShare (init0 i X3 X8) -∗ wp frame (wpE (defs₀ (F := F)) 𝒱₀ (tcT d) none) Set.univ p Q)
      -∗ wp frame (wpE (defs₀ (F := F)) 𝒱₀ (tcT d) none) Set.univ
      (if k1_h1 : v2 = 1#1 then .op (.load arg3 (Rect.unit (s := S32x1024) ![0, 0] S32x1024.size inb_S32x1024_S32x1024_0_0).toLoadRect (View.loadsAt_vmem h_S32x1024)) fun v564 =>
          .op (.load arg8 (Rect.unit (s := S32x1024) ![0, 0] S32x1024.size inb_S32x1024_S32x1024_0_0).toLoadRect (View.loadsAt_vmem h_S32x1024)) fun _ =>
          .op (.store arg8 (Rect.unit (s := S32x1024) ![0, 0] S32x1024.size inb_S32x1024_S32x1024_0_0) (k1_pay2 v564) Finset.univ (View.stores_vmem_bits_univ h_S32x1024 rfl) (.inl rfl)) fun _ => p
      else p) Q) := by
  iintro ⟨H3, H8⟩ Hk
  by_cases hi : (i 0).val = 0
  · rw [dif_pos (hv2.mpr hi)]
    iapply (own_ld d) $$ H3
    iintro H3
    iapply (own_ld d) $$ H8
    iintro H8
    iapply (own_st d) $$ H8
    iintro H8
    rw [overlay_whole2 (F := F) (e := .f32), show k1_pay2 (View.ld X3 (Rect.unit (s := S32x1024) ![0, 0] S32x1024.size inb_S32x1024_S32x1024_0_0)) = init0 i X3 X8 from by
      rw [ld_whole2 (F := F) (e := .f32)]; exact (shapeCast_self _ _).trans (by unfold init0; rw [if_pos hi])]
    iapply Hk $$ H3 H8
  · rw [dif_neg (fun h => hi (hv2.mp h)), show init0 i X3 X8 = X8 from by unfold init0; rw [if_neg hi]]
    iapply Hk $$ H3 H8

/-- Part 1: the state at the block's start, the synaptic inputs of the block, and the first step up to its spikes. -/
theorem lif_part1_wp (X1 : Vec F S800x1024 .f32) (X2 : Vec F S1024x1024 .f32) (X3 X8 : Vec F S32x1024 .f32) (X4 X5 : Vec F S1x1024 .f32) :
    iprop(owns (tcT d) arg1 fullShare X1 ∗ owns (tcT d) arg2 fullShare X2 ∗ owns (tcT d) arg3 fullShare X3 ∗ owns (tcT d) arg4 fullShare X4 ∗ owns (tcT d) arg5 fullShare X5
      ∗ owns (tcT d) arg8 fullShare X8 ∗ ownsSat (tcT d) arg9 fullShare (fun _ => True) ∗ ownsSat (tcT d) arg6 fullShare (fun _ => True) ∗ ownsSat (tcT d) arg10 fullShare (fun _ => True))
    ⊢ wp frame (wpE (defs₀ (F := F)) 𝒱₀ (tcT d) none) Set.univ (k1_part1 (F := F) i arg1 harg1 arg2 harg2 arg3 harg3 arg4 harg4 arg5 harg5 arg6 harg6 arg7 harg7 arg8 harg8 arg9 harg9 arg10 harg10) fun r =>
      iprop(⌜∃ v31, r = ⟨k1_pay4 X4, k1_pay5 X5, stB (k1_pay4 X4) (k1_pay5 X5) (k1_pay3 X1 X2) (init0 i X3 X8) 1,
          spI (k1_pay4 X4) (k1_pay5 X5) (k1_pay3 X1 X2) (init0 i X3 X8) 0, v31⟩⌝
        ∗ owns (tcT d) arg1 fullShare X1 ∗ owns (tcT d) arg2 fullShare X2 ∗ owns (tcT d) arg3 fullShare X3 ∗ owns (tcT d) arg4 fullShare X4 ∗ owns (tcT d) arg5 fullShare X5
        ∗ owns (tcT d) arg8 fullShare (init0 i X3 X8) ∗ midS d arg6 arg9 arg10 (k1_pay4 X4) (k1_pay5 X5) (k1_pay3 X1 X2) (init0 i X3 X8) 1 0) := by
  rw [k1_part1_eq_skeleton]
  unfold k1_part1_skel midS
  iintro ⟨H1, H2, H3, H4, H5, H8, H9, H6, H10⟩
  ihave H9' := (ownsSat_elim _ _ _ _) $$ H9
  icases H9' with ⟨%X9, %_, H9⟩
  ihave H6 := (ownsSat_mono (Ψ := H6 (k1_pay4 X4) (k1_pay5 X5) (k1_pay3 X1 X2) (init0 i X3 X8) 0) _ _ _ (fun _ _ => fun _ h => absurd h (Nat.not_lt_zero _))) $$ H6
  ihave H10 := (ownsSat_mono (Ψ := H10 (k1_pay4 X4) (k1_pay5 X5) (k1_pay3 X1 X2) (init0 i X3 X8) 0) _ _ _ (fun _ _ => fun _ h => absurd h (Nat.not_lt_zero _))) $$ H10
  dsimp only
  iapply (first_wp d i arg3 arg8 X3 X8 _ (first_iff i)) $$ [H3 H8]
  · isplitl [H3]
    · iexact H3
    · iexact H8
  iintro H3 H8
  iapply (own_ld d) $$ H1
  iintro H1
  iapply (own_ld d) $$ H2
  iintro H2
  rw [ld_whole2 (F := F) (e := .f32), ld_whole2 (F := F) (e := .f32)]
  iapply (own_ld d) $$ H9
  iintro H9
  iapply (own_st d) $$ H9
  iintro H9
  rw [overlay_whole2 (F := F) (e := .f32)]
  iapply (own_ld d) $$ H4
  iintro H4
  iapply (own_ld d) $$ H5
  iintro H5
  iapply (own_ld d) $$ H8
  iintro H8
  rw [ld_whole2 (F := F) (e := .f32), ld_whole2 (F := F) (e := .f32), ld_whole2 (F := F) (e := .f32)]
  iapply (syn_ld d (t := 0) rfl) $$ H9
  iintro H9
  iapply (sat_ld d) $$ H6
  iintro %_ %_ H6
  iapply (st6 d (n := 0) rfl rfl) $$ H6
  iintro H6
  iapply (sat_ld d) $$ H10
  iintro %_ %_ H10
  iapply (fin_wp d)
  isplitr
  · ipureintro; exact ⟨_, rfl⟩
  isplitl [H1]; · iexact H1
  isplitl [H2]; · iexact H2
  isplitl [H3]; · iexact H3
  isplitl [H4]; · iexact H4
  isplitl [H5]; · iexact H5
  isplitl [H8]; · iexact H8
  isplitl [H9]; · iexact H9
  isplitl [H6]
  · iexact H6
  · iexact H10

/-- Part 2: the steps 1 and 2. -/
theorem lif_part2_wp (v : Vec F S32x1024 .i32) :
    midS d arg6 arg9 arg10 dv th sy s0 1 0
    ⊢ wp frame (wpE (defs₀ (F := F)) 𝒱₀ (tcT d) none) Set.univ (k1_part2 (F := F) i arg1 harg1 arg2 harg2 arg3 harg3 arg4 harg4 arg5 harg5 arg6 harg6 arg7 harg7 arg8 harg8 arg9 harg9 arg10 harg10 dv th (stB dv th sy s0 1) (spI dv th sy s0 0) v)
      fun r => iprop(⌜∃ v', r = ⟨stB dv th sy s0 3, spI dv th sy s0 2, v'⟩⌝ ∗ midS d arg6 arg9 arg10 dv th sy s0 3 2) := by
  rw [k1_part2_eq_skeleton]
  unfold k1_part2_skel midS
  iintro ⟨H9, H6, H10⟩
  iapply (st10 d (n := 0) rfl rfl) $$ H10
  iintro H10
  iapply (syn_ld d (t := 1) rfl) $$ H9
  iintro H9
  iapply (sat_ld d) $$ H6
  iintro %_ %_ H6
  iapply (st6 d (n := 1) rfl rfl) $$ H6
  iintro H6
  iapply (sat_ld d) $$ H10
  iintro %_ %_ H10
  iapply (st10 d (n := 1) rfl rfl) $$ H10
  iintro H10
  iapply (syn_ld d (t := 2) rfl) $$ H9
  iintro H9
  iapply (sat_ld d) $$ H6
  iintro %_ %_ H6
  iapply (st6 d (n := 2) rfl rfl) $$ H6
  iintro H6
  iapply (sat_ld d) $$ H10
  iintro %_ %_ H10
  iapply (fin_wp d)
  isplitr
  · ipureintro; exact ⟨_, rfl⟩
  isplitl [H9]; · iexact H9
  isplitl [H6]
  · iexact H6
  · iexact H10

/-- Part 3: the steps 3 and 4. -/
theorem lif_part3_wp (v : Vec F S32x1024 .i32) :
    midS d arg6 arg9 arg10 dv th sy s0 3 2
    ⊢ wp frame (wpE (defs₀ (F := F)) 𝒱₀ (tcT d) none) Set.univ (k1_part3 (F := F) i arg1 harg1 arg2 harg2 arg3 harg3 arg4 harg4 arg5 harg5 arg6 harg6 arg7 harg7 arg8 harg8 arg9 harg9 arg10 harg10 dv th (stB dv th sy s0 3) (spI dv th sy s0 2) v)
      fun r => iprop(⌜∃ v', r = ⟨stB dv th sy s0 5, spI dv th sy s0 4, v'⟩⌝ ∗ midS d arg6 arg9 arg10 dv th sy s0 5 4) := by
  rw [k1_part3_eq_skeleton]
  unfold k1_part3_skel midS
  iintro ⟨H9, H6, H10⟩
  iapply (st10 d (n := 2) rfl rfl) $$ H10
  iintro H10
  iapply (syn_ld d (t := 3) rfl) $$ H9
  iintro H9
  iapply (sat_ld d) $$ H6
  iintro %_ %_ H6
  iapply (st6 d (n := 3) rfl rfl) $$ H6
  iintro H6
  iapply (sat_ld d) $$ H10
  iintro %_ %_ H10
  iapply (st10 d (n := 3) rfl rfl) $$ H10
  iintro H10
  iapply (syn_ld d (t := 4) rfl) $$ H9
  iintro H9
  iapply (sat_ld d) $$ H6
  iintro %_ %_ H6
  iapply (st6 d (n := 4) rfl rfl) $$ H6
  iintro H6
  iapply (sat_ld d) $$ H10
  iintro %_ %_ H10
  iapply (fin_wp d)
  isplitr
  · ipureintro; exact ⟨_, rfl⟩
  isplitl [H9]; · iexact H9
  isplitl [H6]
  · iexact H6
  · iexact H10

/-- Part 4: the steps 5 and 6. -/
theorem lif_part4_wp (v : Vec F S32x1024 .i32) :
    midS d arg6 arg9 arg10 dv th sy s0 5 4
    ⊢ wp frame (wpE (defs₀ (F := F)) 𝒱₀ (tcT d) none) Set.univ (k1_part4 (F := F) i arg1 harg1 arg2 harg2 arg3 harg3 arg4 harg4 arg5 harg5 arg6 harg6 arg7 harg7 arg8 harg8 arg9 harg9 arg10 harg10 dv th (stB dv th sy s0 5) (spI dv th sy s0 4) v)
      fun r => iprop(⌜∃ v', r = ⟨stB dv th sy s0 7, spI dv th sy s0 6, v'⟩⌝ ∗ midS d arg6 arg9 arg10 dv th sy s0 7 6) := by
  rw [k1_part4_eq_skeleton]
  unfold k1_part4_skel midS
  iintro ⟨H9, H6, H10⟩
  iapply (st10 d (n := 4) rfl rfl) $$ H10
  iintro H10
  iapply (syn_ld d (t := 5) rfl) $$ H9
  iintro H9
  iapply (sat_ld d) $$ H6
  iintro %_ %_ H6
  iapply (st6 d (n := 5) rfl rfl) $$ H6
  iintro H6
  iapply (sat_ld d) $$ H10
  iintro %_ %_ H10
  iapply (st10 d (n := 5) rfl rfl) $$ H10
  iintro H10
  iapply (syn_ld d (t := 6) rfl) $$ H9
  iintro H9
  iapply (sat_ld d) $$ H6
  iintro %_ %_ H6
  iapply (st6 d (n := 6) rfl rfl) $$ H6
  iintro H6
  iapply (sat_ld d) $$ H10
  iintro %_ %_ H10
  iapply (fin_wp d)
  isplitr
  · ipureintro; exact ⟨_, rfl⟩
  isplitl [H9]; · iexact H9
  isplitl [H6]
  · iexact H6
  · iexact H10

/-- Part 5: the steps 7 and 8. -/
theorem lif_part5_wp (v : Vec F S32x1024 .i32) :
    midS d arg6 arg9 arg10 dv th sy s0 7 6
    ⊢ wp frame (wpE (defs₀ (F := F)) 𝒱₀ (tcT d) none) Set.univ (k1_part5 (F := F) i arg1 harg1 arg2 harg2 arg3 harg3 arg4 harg4 arg5 harg5 arg6 harg6 arg7 harg7 arg8 harg8 arg9 harg9 arg10 harg10 dv th (stB dv th sy s0 7) (spI dv th sy s0 6) v)
      fun r => iprop(⌜∃ v', r = ⟨stB dv th sy s0 9, spI dv th sy s0 8, v'⟩⌝ ∗ midS d arg6 arg9 arg10 dv th sy s0 9 8) := by
  rw [k1_part5_eq_skeleton]
  unfold k1_part5_skel midS
  iintro ⟨H9, H6, H10⟩
  iapply (st10 d (n := 6) rfl rfl) $$ H10
  iintro H10
  iapply (syn_ld d (t := 7) rfl) $$ H9
  iintro H9
  iapply (sat_ld d) $$ H6
  iintro %_ %_ H6
  iapply (st6 d (n := 7) rfl rfl) $$ H6
  iintro H6
  iapply (sat_ld d) $$ H10
  iintro %_ %_ H10
  iapply (st10 d (n := 7) rfl rfl) $$ H10
  iintro H10
  iapply (syn_ld d (t := 8) rfl) $$ H9
  iintro H9
  iapply (sat_ld d) $$ H6
  iintro %_ %_ H6
  iapply (st6 d (n := 8) rfl rfl) $$ H6
  iintro H6
  iapply (sat_ld d) $$ H10
  iintro %_ %_ H10
  iapply (fin_wp d)
  isplitr
  · ipureintro; exact ⟨_, rfl⟩
  isplitl [H9]; · iexact H9
  isplitl [H6]
  · iexact H6
  · iexact H10

/-- Part 6: the steps 9 and 10. -/
theorem lif_part6_wp (v : Vec F S32x1024 .i32) :
    midS d arg6 arg9 arg10 dv th sy s0 9 8
    ⊢ wp frame (wpE (defs₀ (F := F)) 𝒱₀ (tcT d) none) Set.univ (k1_part6 (F := F) i arg1 harg1 arg2 harg2 arg3 harg3 arg4 harg4 arg5 harg5 arg6 harg6 arg7 harg7 arg8 harg8 arg9 harg9 arg10 harg10 dv th (stB dv th sy s0 9) (spI dv th sy s0 8) v)
      fun r => iprop(⌜∃ v', r = ⟨stB dv th sy s0 11, spI dv th sy s0 10, v'⟩⌝ ∗ midS d arg6 arg9 arg10 dv th sy s0 11 10) := by
  rw [k1_part6_eq_skeleton]
  unfold k1_part6_skel midS
  iintro ⟨H9, H6, H10⟩
  iapply (st10 d (n := 8) rfl rfl) $$ H10
  iintro H10
  iapply (syn_ld d (t := 9) rfl) $$ H9
  iintro H9
  iapply (sat_ld d) $$ H6
  iintro %_ %_ H6
  iapply (st6 d (n := 9) rfl rfl) $$ H6
  iintro H6
  iapply (sat_ld d) $$ H10
  iintro %_ %_ H10
  iapply (st10 d (n := 9) rfl rfl) $$ H10
  iintro H10
  iapply (syn_ld d (t := 10) rfl) $$ H9
  iintro H9
  iapply (sat_ld d) $$ H6
  iintro %_ %_ H6
  iapply (st6 d (n := 10) rfl rfl) $$ H6
  iintro H6
  iapply (sat_ld d) $$ H10
  iintro %_ %_ H10
  iapply (fin_wp d)
  isplitr
  · ipureintro; exact ⟨_, rfl⟩
  isplitl [H9]; · iexact H9
  isplitl [H6]
  · iexact H6
  · iexact H10

/-- Part 7: the steps 11 and 12. -/
theorem lif_part7_wp (v : Vec F S32x1024 .i32) :
    midS d arg6 arg9 arg10 dv th sy s0 11 10
    ⊢ wp frame (wpE (defs₀ (F := F)) 𝒱₀ (tcT d) none) Set.univ (k1_part7 (F := F) i arg1 harg1 arg2 harg2 arg3 harg3 arg4 harg4 arg5 harg5 arg6 harg6 arg7 harg7 arg8 harg8 arg9 harg9 arg10 harg10 dv th (stB dv th sy s0 11) (spI dv th sy s0 10) v)
      fun r => iprop(⌜∃ v', r = ⟨stB dv th sy s0 13, spI dv th sy s0 12, v'⟩⌝ ∗ midS d arg6 arg9 arg10 dv th sy s0 13 12) := by
  rw [k1_part7_eq_skeleton]
  unfold k1_part7_skel midS
  iintro ⟨H9, H6, H10⟩
  iapply (st10 d (n := 10) rfl rfl) $$ H10
  iintro H10
  iapply (syn_ld d (t := 11) rfl) $$ H9
  iintro H9
  iapply (sat_ld d) $$ H6
  iintro %_ %_ H6
  iapply (st6 d (n := 11) rfl rfl) $$ H6
  iintro H6
  iapply (sat_ld d) $$ H10
  iintro %_ %_ H10
  iapply (st10 d (n := 11) rfl rfl) $$ H10
  iintro H10
  iapply (syn_ld d (t := 12) rfl) $$ H9
  iintro H9
  iapply (sat_ld d) $$ H6
  iintro %_ %_ H6
  iapply (st6 d (n := 12) rfl rfl) $$ H6
  iintro H6
  iapply (sat_ld d) $$ H10
  iintro %_ %_ H10
  iapply (fin_wp d)
  isplitr
  · ipureintro; exact ⟨_, rfl⟩
  isplitl [H9]; · iexact H9
  isplitl [H6]
  · iexact H6
  · iexact H10

/-- Part 8: the steps 13 and 14. -/
theorem lif_part8_wp (v : Vec F S32x1024 .i32) :
    midS d arg6 arg9 arg10 dv th sy s0 13 12
    ⊢ wp frame (wpE (defs₀ (F := F)) 𝒱₀ (tcT d) none) Set.univ (k1_part8 (F := F) i arg1 harg1 arg2 harg2 arg3 harg3 arg4 harg4 arg5 harg5 arg6 harg6 arg7 harg7 arg8 harg8 arg9 harg9 arg10 harg10 dv th (stB dv th sy s0 13) (spI dv th sy s0 12) v)
      fun r => iprop(⌜∃ v', r = ⟨stB dv th sy s0 15, spI dv th sy s0 14, v'⟩⌝ ∗ midS d arg6 arg9 arg10 dv th sy s0 15 14) := by
  rw [k1_part8_eq_skeleton]
  unfold k1_part8_skel midS
  iintro ⟨H9, H6, H10⟩
  iapply (st10 d (n := 12) rfl rfl) $$ H10
  iintro H10
  iapply (syn_ld d (t := 13) rfl) $$ H9
  iintro H9
  iapply (sat_ld d) $$ H6
  iintro %_ %_ H6
  iapply (st6 d (n := 13) rfl rfl) $$ H6
  iintro H6
  iapply (sat_ld d) $$ H10
  iintro %_ %_ H10
  iapply (st10 d (n := 13) rfl rfl) $$ H10
  iintro H10
  iapply (syn_ld d (t := 14) rfl) $$ H9
  iintro H9
  iapply (sat_ld d) $$ H6
  iintro %_ %_ H6
  iapply (st6 d (n := 14) rfl rfl) $$ H6
  iintro H6
  iapply (sat_ld d) $$ H10
  iintro %_ %_ H10
  iapply (fin_wp d)
  isplitr
  · ipureintro; exact ⟨_, rfl⟩
  isplitl [H9]; · iexact H9
  isplitl [H6]
  · iexact H6
  · iexact H10

/-- Part 9: the steps 15 and 16. -/
theorem lif_part9_wp (v : Vec F S32x1024 .i32) :
    midS d arg6 arg9 arg10 dv th sy s0 15 14
    ⊢ wp frame (wpE (defs₀ (F := F)) 𝒱₀ (tcT d) none) Set.univ (k1_part9 (F := F) i arg1 harg1 arg2 harg2 arg3 harg3 arg4 harg4 arg5 harg5 arg6 harg6 arg7 harg7 arg8 harg8 arg9 harg9 arg10 harg10 dv th (stB dv th sy s0 15) (spI dv th sy s0 14) v)
      fun r => iprop(⌜∃ v', r = ⟨stB dv th sy s0 17, spI dv th sy s0 16, v'⟩⌝ ∗ midS d arg6 arg9 arg10 dv th sy s0 17 16) := by
  rw [k1_part9_eq_skeleton]
  unfold k1_part9_skel midS
  iintro ⟨H9, H6, H10⟩
  iapply (st10 d (n := 14) rfl rfl) $$ H10
  iintro H10
  iapply (syn_ld d (t := 15) rfl) $$ H9
  iintro H9
  iapply (sat_ld d) $$ H6
  iintro %_ %_ H6
  iapply (st6 d (n := 15) rfl rfl) $$ H6
  iintro H6
  iapply (sat_ld d) $$ H10
  iintro %_ %_ H10
  iapply (st10 d (n := 15) rfl rfl) $$ H10
  iintro H10
  iapply (syn_ld d (t := 16) rfl) $$ H9
  iintro H9
  iapply (sat_ld d) $$ H6
  iintro %_ %_ H6
  iapply (st6 d (n := 16) rfl rfl) $$ H6
  iintro H6
  iapply (sat_ld d) $$ H10
  iintro %_ %_ H10
  iapply (fin_wp d)
  isplitr
  · ipureintro; exact ⟨_, rfl⟩
  isplitl [H9]; · iexact H9
  isplitl [H6]
  · iexact H6
  · iexact H10

/-- Part 10: the steps 17 and 18. -/
theorem lif_part10_wp (v : Vec F S32x1024 .i32) :
    midS d arg6 arg9 arg10 dv th sy s0 17 16
    ⊢ wp frame (wpE (defs₀ (F := F)) 𝒱₀ (tcT d) none) Set.univ (k1_part10 (F := F) i arg1 harg1 arg2 harg2 arg3 harg3 arg4 harg4 arg5 harg5 arg6 harg6 arg7 harg7 arg8 harg8 arg9 harg9 arg10 harg10 dv th (stB dv th sy s0 17) (spI dv th sy s0 16) v)
      fun r => iprop(⌜∃ v', r = ⟨stB dv th sy s0 19, spI dv th sy s0 18, v'⟩⌝ ∗ midS d arg6 arg9 arg10 dv th sy s0 19 18) := by
  rw [k1_part10_eq_skeleton]
  unfold k1_part10_skel midS
  iintro ⟨H9, H6, H10⟩
  iapply (st10 d (n := 16) rfl rfl) $$ H10
  iintro H10
  iapply (syn_ld d (t := 17) rfl) $$ H9
  iintro H9
  iapply (sat_ld d) $$ H6
  iintro %_ %_ H6
  iapply (st6 d (n := 17) rfl rfl) $$ H6
  iintro H6
  iapply (sat_ld d) $$ H10
  iintro %_ %_ H10
  iapply (st10 d (n := 17) rfl rfl) $$ H10
  iintro H10
  iapply (syn_ld d (t := 18) rfl) $$ H9
  iintro H9
  iapply (sat_ld d) $$ H6
  iintro %_ %_ H6
  iapply (st6 d (n := 18) rfl rfl) $$ H6
  iintro H6
  iapply (sat_ld d) $$ H10
  iintro %_ %_ H10
  iapply (fin_wp d)
  isplitr
  · ipureintro; exact ⟨_, rfl⟩
  isplitl [H9]; · iexact H9
  isplitl [H6]
  · iexact H6
  · iexact H10

/-- Part 11: the steps 19 and 20. -/
theorem lif_part11_wp (v : Vec F S32x1024 .i32) :
    midS d arg6 arg9 arg10 dv th sy s0 19 18
    ⊢ wp frame (wpE (defs₀ (F := F)) 𝒱₀ (tcT d) none) Set.univ (k1_part11 (F := F) i arg1 harg1 arg2 harg2 arg3 harg3 arg4 harg4 arg5 harg5 arg6 harg6 arg7 harg7 arg8 harg8 arg9 harg9 arg10 harg10 dv th (stB dv th sy s0 19) (spI dv th sy s0 18) v)
      fun r => iprop(⌜∃ v', r = ⟨stB dv th sy s0 21, spI dv th sy s0 20, v'⟩⌝ ∗ midS d arg6 arg9 arg10 dv th sy s0 21 20) := by
  rw [k1_part11_eq_skeleton]
  unfold k1_part11_skel midS
  iintro ⟨H9, H6, H10⟩
  iapply (st10 d (n := 18) rfl rfl) $$ H10
  iintro H10
  iapply (syn_ld d (t := 19) rfl) $$ H9
  iintro H9
  iapply (sat_ld d) $$ H6
  iintro %_ %_ H6
  iapply (st6 d (n := 19) rfl rfl) $$ H6
  iintro H6
  iapply (sat_ld d) $$ H10
  iintro %_ %_ H10
  iapply (st10 d (n := 19) rfl rfl) $$ H10
  iintro H10
  iapply (syn_ld d (t := 20) rfl) $$ H9
  iintro H9
  iapply (sat_ld d) $$ H6
  iintro %_ %_ H6
  iapply (st6 d (n := 20) rfl rfl) $$ H6
  iintro H6
  iapply (sat_ld d) $$ H10
  iintro %_ %_ H10
  iapply (fin_wp d)
  isplitr
  · ipureintro; exact ⟨_, rfl⟩
  isplitl [H9]; · iexact H9
  isplitl [H6]
  · iexact H6
  · iexact H10

/-- Part 12: the steps 21 and 22. -/
theorem lif_part12_wp (v : Vec F S32x1024 .i32) :
    midS d arg6 arg9 arg10 dv th sy s0 21 20
    ⊢ wp frame (wpE (defs₀ (F := F)) 𝒱₀ (tcT d) none) Set.univ (k1_part12 (F := F) i arg1 harg1 arg2 harg2 arg3 harg3 arg4 harg4 arg5 harg5 arg6 harg6 arg7 harg7 arg8 harg8 arg9 harg9 arg10 harg10 dv th (stB dv th sy s0 21) (spI dv th sy s0 20) v)
      fun r => iprop(⌜∃ v', r = ⟨stB dv th sy s0 23, spI dv th sy s0 22, v'⟩⌝ ∗ midS d arg6 arg9 arg10 dv th sy s0 23 22) := by
  rw [k1_part12_eq_skeleton]
  unfold k1_part12_skel midS
  iintro ⟨H9, H6, H10⟩
  iapply (st10 d (n := 20) rfl rfl) $$ H10
  iintro H10
  iapply (syn_ld d (t := 21) rfl) $$ H9
  iintro H9
  iapply (sat_ld d) $$ H6
  iintro %_ %_ H6
  iapply (st6 d (n := 21) rfl rfl) $$ H6
  iintro H6
  iapply (sat_ld d) $$ H10
  iintro %_ %_ H10
  iapply (st10 d (n := 21) rfl rfl) $$ H10
  iintro H10
  iapply (syn_ld d (t := 22) rfl) $$ H9
  iintro H9
  iapply (sat_ld d) $$ H6
  iintro %_ %_ H6
  iapply (st6 d (n := 22) rfl rfl) $$ H6
  iintro H6
  iapply (sat_ld d) $$ H10
  iintro %_ %_ H10
  iapply (fin_wp d)
  isplitr
  · ipureintro; exact ⟨_, rfl⟩
  isplitl [H9]; · iexact H9
  isplitl [H6]
  · iexact H6
  · iexact H10

/-- Part 13: the steps 23 and 24. -/
theorem lif_part13_wp (v : Vec F S32x1024 .i32) :
    midS d arg6 arg9 arg10 dv th sy s0 23 22
    ⊢ wp frame (wpE (defs₀ (F := F)) 𝒱₀ (tcT d) none) Set.univ (k1_part13 (F := F) i arg1 harg1 arg2 harg2 arg3 harg3 arg4 harg4 arg5 harg5 arg6 harg6 arg7 harg7 arg8 harg8 arg9 harg9 arg10 harg10 dv th (stB dv th sy s0 23) (spI dv th sy s0 22) v)
      fun r => iprop(⌜∃ v', r = ⟨stB dv th sy s0 25, spI dv th sy s0 24, v'⟩⌝ ∗ midS d arg6 arg9 arg10 dv th sy s0 25 24) := by
  rw [k1_part13_eq_skeleton]
  unfold k1_part13_skel midS
  iintro ⟨H9, H6, H10⟩
  iapply (st10 d (n := 22) rfl rfl) $$ H10
  iintro H10
  iapply (syn_ld d (t := 23) rfl) $$ H9
  iintro H9
  iapply (sat_ld d) $$ H6
  iintro %_ %_ H6
  iapply (st6 d (n := 23) rfl rfl) $$ H6
  iintro H6
  iapply (sat_ld d) $$ H10
  iintro %_ %_ H10
  iapply (st10 d (n := 23) rfl rfl) $$ H10
  iintro H10
  iapply (syn_ld d (t := 24) rfl) $$ H9
  iintro H9
  iapply (sat_ld d) $$ H6
  iintro %_ %_ H6
  iapply (st6 d (n := 24) rfl rfl) $$ H6
  iintro H6
  iapply (sat_ld d) $$ H10
  iintro %_ %_ H10
  iapply (fin_wp d)
  isplitr
  · ipureintro; exact ⟨_, rfl⟩
  isplitl [H9]; · iexact H9
  isplitl [H6]
  · iexact H6
  · iexact H10

/-- Part 14: the last spikes, the state kept for the next block, and the spikes read back. -/
theorem lif_part14_wp (X8 : Vec F S32x1024 .f32) (v : Vec F S32x1024 .i32) :
    iprop(owns (tcT d) arg8 fullShare X8 ∗ midS d arg6 arg9 arg10 dv th sy s0 25 24)
    ⊢ wp frame (wpE (defs₀ (F := F)) 𝒱₀ (tcT d) none) Set.univ (k1_part14 (F := F) i arg1 harg1 arg2 harg2 arg3 harg3 arg4 harg4 arg5 harg5 arg6 harg6 arg7 harg7 arg8 harg8 arg9 harg9 arg10 harg10 (stB dv th sy s0 25) (spI dv th sy s0 24) v)
      fun r => iprop(⌜r = ⟨spO dv th sy s0, k1_pay145 (spO dv th sy s0), k1_pay146 (spO dv th sy s0)⟩⌝
        ∗ owns (tcT d) arg8 fullShare (stB dv th sy s0 25) ∗ midS d arg6 arg9 arg10 dv th sy s0 25 25) := by
  rw [k1_part14_eq_skeleton]
  unfold k1_part14_skel midS
  iintro ⟨H8, H9, H6, H10⟩
  iapply (st10 d (n := 24) rfl rfl) $$ H10
  iintro H10
  iapply (own_ld d) $$ H8
  iintro H8
  iapply (own_st d) $$ H8
  iintro H8
  rw [overlay_whole2 (F := F) (e := .f32), show k1_pay144 (stB dv th sy s0 25) = stB dv th sy s0 25 from shapeCast_self _ _]
  iapply (sat_ld d) $$ H10
  iintro %X10 %hX H10
  rw [h10_all hX]
  rw [ld_whole2 (F := F) (e := .i32)]
  iapply (fin_wp d)
  isplitr
  · ipureintro; rfl
  isplitl [H8]; · iexact H8
  isplitl [H9]; · iexact H9
  isplitl [H6]
  · iexact H6
  · iexact H10

/-- The whole body at a grid point. -/
theorem lif_body (X1 : Vec F S800x1024 .f32) (X2 : Vec F S1024x1024 .f32) (X3 X8 : Vec F S32x1024 .f32) (X4 X5 : Vec F S1x1024 .f32) :
    (iprop(owns (tcT d) arg1 fullShare X1 ∗ owns (tcT d) arg2 fullShare X2 ∗ owns (tcT d) arg3 fullShare X3 ∗ owns (tcT d) arg4 fullShare X4 ∗ owns (tcT d) arg5 fullShare X5
      ∗ ownsSat (tcT d) arg6 fullShare (fun _ => True) ∗ ownsSat (tcT d) arg7 fullShare (fun _ => True)
      ∗ owns (tcT d) arg8 fullShare X8 ∗ ownsSat (tcT d) arg9 fullShare (fun _ => True) ∗ ownsSat (tcT d) arg10 fullShare (fun _ => True)) : sProp 𝕄)
    ⊢ wp frame (wpE (defs₀ (F := F)) 𝒱₀ (tcT d) none) Set.univ (cc1_body (F := F) i arg1 harg1 arg2 harg2 arg3 harg3 arg4 harg4 arg5 harg5 arg6 harg6 arg7 harg7 arg8 harg8 arg9 harg9 arg10 harg10) fun _ =>
      iprop(owns (tcT d) arg1 fullShare X1 ∗ owns (tcT d) arg2 fullShare X2 ∗ owns (tcT d) arg3 fullShare X3 ∗ owns (tcT d) arg4 fullShare X4 ∗ owns (tcT d) arg5 fullShare X5
        ∗ owns (tcT d) arg6 fullShare (stO (k1_pay4 X4) (k1_pay5 X5) (k1_pay3 X1 X2) (init0 i X3 X8))
        ∗ owns (tcT d) arg7 fullShare (bitO (F := F) (spO (k1_pay4 X4) (k1_pay5 X5) (k1_pay3 X1 X2) (init0 i X3 X8)))
        ∗ owns (tcT d) arg8 fullShare (stB (k1_pay4 X4) (k1_pay5 X5) (k1_pay3 X1 X2) (init0 i X3 X8) 25)
        ∗ ownsSat (tcT d) arg9 fullShare (fun _ => True) ∗ ownsSat (tcT d) arg10 fullShare (fun _ => True)) := by
  rw [cc1_body_eq_skeleton]
  unfold cc1_body_skel
  iintro ⟨H1, H2, H3, H4, H5, H6, H7, H8, H9, H10⟩
  iapply (seqT d (lif_part1_wp d i arg1 harg1 arg2 harg2 arg3 harg3 arg4 harg4 arg5 harg5 arg6 harg6 arg7 harg7 arg8 harg8 arg9 harg9 arg10 harg10 X1 X2 X3 X8 X4 X5)) $$ [H1 H2 H3 H4 H5 H6 H8 H9 H10]
  · isplitl [H1]; · iexact H1
    isplitl [H2]; · iexact H2
    isplitl [H3]; · iexact H3
    isplitl [H4]; · iexact H4
    isplitl [H5]; · iexact H5
    isplitl [H8]; · iexact H8
    isplitl [H9]; · iexact H9
    isplitl [H6]; · iexact H6
    iexact H10
  iintro %r ⟨%hr, H1, H2, H3, H4, H5, H8, HM⟩
  obtain ⟨v1, hr⟩ := hr
  subst hr
  iapply (seqT d (lif_part2_wp d i arg1 harg1 arg2 harg2 arg3 harg3 arg4 harg4 arg5 harg5 arg6 harg6 arg7 harg7 arg8 harg8 arg9 harg9 arg10 harg10 _ _ _ _ v1)) $$ HM
  iintro %r ⟨%hr, HM⟩
  obtain ⟨v2, hr⟩ := hr
  subst hr
  iapply (seqT d (lif_part3_wp d i arg1 harg1 arg2 harg2 arg3 harg3 arg4 harg4 arg5 harg5 arg6 harg6 arg7 harg7 arg8 harg8 arg9 harg9 arg10 harg10 _ _ _ _ v2)) $$ HM
  iintro %r ⟨%hr, HM⟩
  obtain ⟨v3, hr⟩ := hr
  subst hr
  iapply (seqT d (lif_part4_wp d i arg1 harg1 arg2 harg2 arg3 harg3 arg4 harg4 arg5 harg5 arg6 harg6 arg7 harg7 arg8 harg8 arg9 harg9 arg10 harg10 _ _ _ _ v3)) $$ HM
  iintro %r ⟨%hr, HM⟩
  obtain ⟨v4, hr⟩ := hr
  subst hr
  iapply (seqT d (lif_part5_wp d i arg1 harg1 arg2 harg2 arg3 harg3 arg4 harg4 arg5 harg5 arg6 harg6 arg7 harg7 arg8 harg8 arg9 harg9 arg10 harg10 _ _ _ _ v4)) $$ HM
  iintro %r ⟨%hr, HM⟩
  obtain ⟨v5, hr⟩ := hr
  subst hr
  iapply (seqT d (lif_part6_wp d i arg1 harg1 arg2 harg2 arg3 harg3 arg4 harg4 arg5 harg5 arg6 harg6 arg7 harg7 arg8 harg8 arg9 harg9 arg10 harg10 _ _ _ _ v5)) $$ HM
  iintro %r ⟨%hr, HM⟩
  obtain ⟨v6, hr⟩ := hr
  subst hr
  iapply (seqT d (lif_part7_wp d i arg1 harg1 arg2 harg2 arg3 harg3 arg4 harg4 arg5 harg5 arg6 harg6 arg7 harg7 arg8 harg8 arg9 harg9 arg10 harg10 _ _ _ _ v6)) $$ HM
  iintro %r ⟨%hr, HM⟩
  obtain ⟨v7, hr⟩ := hr
  subst hr
  iapply (seqT d (lif_part8_wp d i arg1 harg1 arg2 harg2 arg3 harg3 arg4 harg4 arg5 harg5 arg6 harg6 arg7 harg7 arg8 harg8 arg9 harg9 arg10 harg10 _ _ _ _ v7)) $$ HM
  iintro %r ⟨%hr, HM⟩
  obtain ⟨v8, hr⟩ := hr
  subst hr
  iapply (seqT d (lif_part9_wp d i arg1 harg1 arg2 harg2 arg3 harg3 arg4 harg4 arg5 harg5 arg6 harg6 arg7 harg7 arg8 harg8 arg9 harg9 arg10 harg10 _ _ _ _ v8)) $$ HM
  iintro %r ⟨%hr, HM⟩
  obtain ⟨v9, hr⟩ := hr
  subst hr
  iapply (seqT d (lif_part10_wp d i arg1 harg1 arg2 harg2 arg3 harg3 arg4 harg4 arg5 harg5 arg6 harg6 arg7 harg7 arg8 harg8 arg9 harg9 arg10 harg10 _ _ _ _ v9)) $$ HM
  iintro %r ⟨%hr, HM⟩
  obtain ⟨v10, hr⟩ := hr
  subst hr
  iapply (seqT d (lif_part11_wp d i arg1 harg1 arg2 harg2 arg3 harg3 arg4 harg4 arg5 harg5 arg6 harg6 arg7 harg7 arg8 harg8 arg9 harg9 arg10 harg10 _ _ _ _ v10)) $$ HM
  iintro %r ⟨%hr, HM⟩
  obtain ⟨v11, hr⟩ := hr
  subst hr
  iapply (seqT d (lif_part12_wp d i arg1 harg1 arg2 harg2 arg3 harg3 arg4 harg4 arg5 harg5 arg6 harg6 arg7 harg7 arg8 harg8 arg9 harg9 arg10 harg10 _ _ _ _ v11)) $$ HM
  iintro %r ⟨%hr, HM⟩
  obtain ⟨v12, hr⟩ := hr
  subst hr
  iapply (seqT d (lif_part13_wp d i arg1 harg1 arg2 harg2 arg3 harg3 arg4 harg4 arg5 harg5 arg6 harg6 arg7 harg7 arg8 harg8 arg9 harg9 arg10 harg10 _ _ _ _ v12)) $$ HM
  iintro %r ⟨%hr, HM⟩
  obtain ⟨v13, hr⟩ := hr
  subst hr
  iapply (seqT d (lif_part14_wp d i arg1 harg1 arg2 harg2 arg3 harg3 arg4 harg4 arg5 harg5 arg6 harg6 arg7 harg7 arg8 harg8 arg9 harg9 arg10 harg10 _ _ _ _ (init0 i X3 X8) v13)) $$ [H8 HM]
  · isplitl [H8]; · iexact H8
    iexact HM
  iintro %r ⟨%hr, H8, HM⟩
  subst hr
  iapply (sat_ld d) $$ H7
  iintro %X7 %_ H7
  ihave H7' := (ownsSat_elim _ _ _ _) $$ H7
  icases H7' with ⟨%X7', %_, H7⟩
  iapply (own_st d) $$ H7
  iintro H7
  rw [overlay_whole2 (F := F) (e := .i32)]
  iapply (fin_wp d)
  unfold midS
  icases HM with ⟨H9, H6, H10⟩
  ihave H6' := (ownsSat_elim _ _ _ _) $$ H6
  icases H6' with ⟨%X6, %h6, H6⟩
  rw [h6_all h6]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (ownsSat_intro _ _ _ (Φ := fun _ => True) trivial) $$ H9
  · iapply (ownsSat_mono _ _ _ (fun _ _ => trivial)) $$ H10

end Cert.Proof

end
-- ==== Proof.LifRegion.lean ====
/-
  The recurrence call as a region of the program: what it finds in its arrays and in its state buffer at each of
  its four grid points, and what it leaves in the arrays of states and of spike words.
-/
module

public import proofs.«01_k».proof.Proof.Lif
public import proofs.«01_k».proof.Proof.Gen.KernelIdeal.Launch
public import proofs.«01_k».proof.Proof.Gen.KernelIdeal.Points
public import Idealize.ShloMosaic.Lib.Pipeline.ValueKit
public import Idealize.ShloMosaic.Lib.Pipeline.RegionsLoop
public import Idealize.ShloMosaic.Lib.Pipeline.FrameBody

@[expose] public section

noncomputable section

namespace Cert.Proof

open Cert.KernelIdeal Cert.KernelIdeal.Gen
open Idealize.ShloMosaic
open Idealize.ShloMosaic.ValueIdx hiding ix1 ix2 ix3
open Idealize.ShloMosaic.SparseCore (S V T)
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The values over the four points -/

/-- The counts of the rows of block `b`. -/
def cntB (X : Vec F S3328x1024 .f32) (b : ℕ) : Vec F S800x1024 .f32 :=
  fun y => X (ValueIdx.ix2 (⟨(b * 800 + (y 0).val) % 3328, Nat.mod_lt _ (by decide)⟩ : Fin 3328) (y 1))

/-- The synaptic inputs of the rows of block `b`. -/
def synB (X : Vec F S3328x1024 .f32) (w : Vec F S1024x1024 .f32) (b : ℕ) : Vec F S800x1024 .f32 := k1_pay3 (cntB X b) w

/-- The state before block `b`. -/
def Sst (X : Vec F S3328x1024 .f32) (w : Vec F S1024x1024 .f32) (s0 : Vec F S32x1024 .f32) (dv th : Vec F S1x1024 .f32) : ℕ → Vec F S32x1024 .f32
  | 0 => s0
  | b + 1 => stB (k1_pay4 dv) (k1_pay5 th) (synB X w b) (Sst X w s0 dv th b) 25

/-- The states that the call leaves. -/
def statesV (X : Vec F S3328x1024 .f32) (w : Vec F S1024x1024 .f32) (s0 : Vec F S32x1024 .f32) (dv th : Vec F S1x1024 .f32) : Vec F S100x32x1024 .f32 :=
  fun i => stO (k1_pay4 dv) (k1_pay5 th) (synB X w ((i 0).val / 25)) (Sst X w s0 dv th ((i 0).val / 25))
    (ValueIdx.ix3 (⟨(i 0).val % 25, Nat.mod_lt _ (by decide)⟩ : Fin 25) (i 1) (i 2))

/-- The spike words and counts of the rows below 3200; the rest as found. -/
def bitsV (X : Vec F S3328x1024 .f32) (w : Vec F S1024x1024 .f32) (s0 : Vec F S32x1024 .f32) (dv th : Vec F S1x1024 .f32) (f : Vec F S3328x72 .i32) : Vec F S3328x72 .i32 :=
  fun i => if (i 0).val < 3200 then
      bitO (F := F) (spO (k1_pay4 dv) (k1_pay5 th) (synB X w ((i 0).val / 800)) (Sst X w s0 dv th ((i 0).val / 800)))
        (ValueIdx.ix2 (⟨(i 0).val % 800, Nat.mod_lt _ (by decide)⟩ : Fin 800) (i 1))
    else f i

/-! ## The proof data -/

variable (V : (c : Dev nD) → (b : Ref sig .tc) → Buf (Elt F) ((c.tc : Thread nD τ).loc b))

abbrev V8 (c : Dev nD) : Vec F S3328x1024 .f32 := V c main_v8
abbrev Vw (c : Dev nD) : Vec F S1024x1024 .f32 := V c main_arg3
abbrev Vs (c : Dev nD) : Vec F S32x1024 .f32 := V c main_arg2
abbrev Vd (c : Dev nD) : Vec F S1x1024 .f32 := V c main_v9
abbrev Vt (c : Dev nD) : Vec F S1x1024 .f32 := V c main_v10

/-- The state before block `b`, from the arrays found. -/
abbrev SV (c : Dev nD) (b : ℕ) : Vec F S32x1024 .f32 := Sst (V8 V c) (Vw V c) (Vs V c) (Vd V c) (Vt V c) b

/-- Between grid points: the state buffer holds the state reached (anything before the first), the other two
    scratch buffers anything. -/
def Φc (c : Dev nD) (n : ℕ) : sProp 𝕄 :=
  iprop(ownsSat (tcT c) (Memref.whole cc1_scratch0) fullShare (fun X => n ≠ 0 → X = SV V c n)
    ∗ ownsSat (tcT c) (Memref.whole cc1_scratch1) fullShare (fun _ => True) ∗ ownsSat (tcT c) (Memref.whole cc1_scratch2) fullShare (fun _ => True))

def dat (c : Dev nD) : Dat τ (Elt F) (HIx 2) ℕ UU ℕ cfg1 c where
  A w := V c (Pipeline.arrRef spec1 w)
  after w t := match w with
    | ⟨0, _⟩ => cntB (V8 V c) t.val
    | ⟨1, _⟩ => Vw V c
    | ⟨2, _⟩ => Vs V c
    | ⟨3, _⟩ => Vd V c
    | ⟨4, _⟩ => Vt V c
    | ⟨5, _⟩ => stO (k1_pay4 (Vd V c)) (k1_pay5 (Vt V c)) (synB (V8 V c) (Vw V c) t.val) (SV V c t.val)
    | ⟨6, _⟩ => bitO (F := F) (spO (k1_pay4 (Vd V c)) (k1_pay5 (Vt V c)) (synB (V8 V c) (Vw V c) t.val) (SV V c t.val))
  Φ t := Φc V c t.val
  q _ := fullShare
  owed _ := (K (F := F)).Otc c 1
  recorded _ := {p | (K (F := F)).lev (SparseCore.T c, p.1) p.2 ≤ 8 * 1}

theorem coords1 (t : Fin cfg1.N) : ((grid1.coords t) 0).val = t.val := by
  obtain rfl | rfl | rfl | rfl := fin_N1 t <;> decide

theorem clip0 (t : Fin cfg1.N) (a) : (cfg1.win 0).clip (cfg1.grid.coords t) a = none := by
  obtain rfl | rfl | rfl | rfl := fin_N1 t <;> (fin_cases a <;> decide)

theorem clip6 (t : Fin cfg1.N) (a) : (cfg1.win 6).clip (cfg1.grid.coords t) a = none := by
  obtain rfl | rfl | rfl | rfl := fin_N1 t <;> (fin_cases a <;> decide)

theorem fetched_keep {cfg : Pipeline.Cfg sig Λ₀} {c : Dev nD} (da : Dat τ (Elt F) (HIx 2) ℕ UU ℕ cfg c) (w : Fin cfg.W) (t : Fin cfg.N)
    (h : ∀ a, (cfg.win w).clip (cfg.grid.coords t) a = none) (hk : (cfg.win w).cut (cfg.grid.coords t) (da.after w t) = da.blockOf w t)
    (d : (cfg.win w).block.Idx → Elt F (cfg.win w).elt) : da.fetched w t d = da.after w t := by
  funext j
  have hm : (cfg.win w).moved (cfg.grid.coords t) j = true :=
    ((cfg.win w).moved_iff _ j).mpr fun a => by have := (j a).isLt; unfold Pipeline.Window.xsize; rw [h a]; exact this
  unfold Dat.fetched Pipeline.Window.fill; rw [dif_pos hm, ← hk]

theorem idx0 (t : Fin cfg1.N) : win1_0.index t = ![t.val, 0] := by
  obtain rfl | rfl | rfl | rfl := fin_N1 t <;> decide

theorem idx5 (t : Fin cfg1.N) : win1_5.index t = ![t.val, 0, 0] := by
  obtain rfl | rfl | rfl | rfl := fin_N1 t <;> decide

theorem idx6 (t : Fin cfg1.N) : win1_6.index t = ![t.val, 0] := by
  obtain rfl | rfl | rfl | rfl := fin_N1 t <;> decide

theorem pt_lt (t : Fin cfg1.N) : t.val < 4 := lt_of_lt_of_eq t.isLt N_1

theorem emb0 (t : Fin cfg1.N) (y : (win1_0.xblock (grid1.coords t)).Idx) (a : Fin 2) :
    ((win1_0.rect t).emb y a : ℕ) = (![t.val, 0] : Fin 2 → ℕ) a * S800x1024.size a + (y a).val :=
  (win1_0.rect_emb_val t y a).trans (by rw [idx0])

theorem emb5 (t : Fin cfg1.N) (y : (win1_5.xblock (grid1.coords t)).Idx) (a : Fin 3) :
    ((win1_5.rect t).emb y a : ℕ) = (![t.val, 0, 0] : Fin 3 → ℕ) a * S25x32x1024.size a + (y a).val :=
  (win1_5.rect_emb_val t y a).trans (by rw [idx5])

theorem emb6 (t : Fin cfg1.N) (y : (win1_6.xblock (grid1.coords t)).Idx) (a : Fin 2) :
    ((win1_6.rect t).emb y a : ℕ) = (![t.val, 0] : Fin 2 → ℕ) a * S800x72.size a + (y a).val :=
  (win1_6.rect_emb_val t y a).trans (by rw [idx6])

theorem keep0 (c : Dev nD) (t : Fin cfg1.N) : (cfg1.win 0).cut (cfg1.grid.coords t) ((dat V c).after 0 t) = (dat V c).blockOf 0 t := by
  funext y
  blk_simp
  dsimp only [dat]
  unfold cntB
  have ht := pt_lt t
  refine congrArg (V c main_v8) (funext fun a => Fin.ext ?_)
  match a with
  | ⟨0, _⟩ =>
    have hy : (y 0).val < 800 := lt_of_lt_of_le (y 0).isLt (win1_0.xsize_le _ 0)
    refine Eq.trans ?_ (emb0 t y 0).symm
    show (t.val * 800 + (y 0).val) % 3328 = t.val * 800 + (y 0).val
    omega
  | ⟨1, _⟩ =>
    refine Eq.trans ?_ (emb0 t y 1).symm
    show (y 1).val = 0 * 1024 + (y 1).val
    omega

theorem keep1 (c : Dev nD) (t : Fin cfg1.N) : (cfg1.win 1).cut (cfg1.grid.coords t) ((dat V c).after 1 t) = (dat V c).blockOf 1 t := by
  funext y
  blk_simp
  dsimp only [dat]
  refine congrArg (V c main_arg3) (funext fun a => Fin.ext ?_)
  match a with
  | ⟨0, _⟩ => blk_simp; exact (show (y 0).val = 0 * 1024 + (y 0).val by omega)
  | ⟨1, _⟩ => blk_simp; exact (show (y 1).val = 0 * 1024 + (y 1).val by omega)

theorem keep2 (c : Dev nD) (t : Fin cfg1.N) : (cfg1.win 2).cut (cfg1.grid.coords t) ((dat V c).after 2 t) = (dat V c).blockOf 2 t := by
  funext y
  blk_simp
  dsimp only [dat]
  refine congrArg (V c main_arg2) (funext fun a => Fin.ext ?_)
  match a with
  | ⟨0, _⟩ => blk_simp; exact (show (y 0).val = 0 * 32 + (y 0).val by omega)
  | ⟨1, _⟩ => blk_simp; exact (show (y 1).val = 0 * 1024 + (y 1).val by omega)

theorem keep3 (c : Dev nD) (t : Fin cfg1.N) : (cfg1.win 3).cut (cfg1.grid.coords t) ((dat V c).after 3 t) = (dat V c).blockOf 3 t := by
  funext y
  blk_simp
  dsimp only [dat]
  refine congrArg (V c main_v9) (funext fun a => Fin.ext ?_)
  match a with
  | ⟨0, _⟩ => blk_simp; exact rfl
  | ⟨1, _⟩ => blk_simp; exact (show (y 1).val = 0 * 1024 + (y 1).val by omega)

theorem keep4 (c : Dev nD) (t : Fin cfg1.N) : (cfg1.win 4).cut (cfg1.grid.coords t) ((dat V c).after 4 t) = (dat V c).blockOf 4 t := by
  funext y
  blk_simp
  dsimp only [dat]
  refine congrArg (V c main_v10) (funext fun a => Fin.ext ?_)
  match a with
  | ⟨0, _⟩ => blk_simp; exact rfl
  | ⟨1, _⟩ => blk_simp; exact (show (y 1).val = 0 * 1024 + (y 1).val by omega)

theorem before0 (c : Dev nD) (t : Fin cfg1.N) (d) : (dat V c).before 0 t d = cntB (V8 V c) t.val := by
  rw [(dat V c).before_in_eq_fetched 0 rfl (fun _ => rfl) (fun t t' _ => (funext (clip0 t)).trans (funext (clip0 t')).symm) (keep0 V c) t d]
  exact (fetched_keep (dat V c) 0 t (clip0 t) (keep0 V c t) d).trans (by dsimp only [dat])

theorem before1 (c : Dev nD) (t : Fin cfg1.N) (d) : (dat V c).before 1 t d = Vw V c := by
  rw [(dat V c).before_in_eq_fetched 1 rfl (fun _ => rfl) (fun _ _ _ => rfl) (keep1 V c) t d]
  exact (fetched_keep (dat V c) 1 t (fun _ => rfl) (keep1 V c t) d).trans (by dsimp only [dat])

theorem before2 (c : Dev nD) (t : Fin cfg1.N) (d) : (dat V c).before 2 t d = Vs V c := by
  rw [(dat V c).before_in_eq_fetched 2 rfl (fun _ => rfl) (fun _ _ _ => rfl) (keep2 V c) t d]
  exact (fetched_keep (dat V c) 2 t (fun _ => rfl) (keep2 V c t) d).trans (by dsimp only [dat])

theorem before3 (c : Dev nD) (t : Fin cfg1.N) (d) : (dat V c).before 3 t d = Vd V c := by
  rw [(dat V c).before_in_eq_fetched 3 rfl (fun _ => rfl) (fun _ _ _ => rfl) (keep3 V c) t d]
  exact (fetched_keep (dat V c) 3 t (fun _ => rfl) (keep3 V c t) d).trans (by dsimp only [dat])

theorem before4 (c : Dev nD) (t : Fin cfg1.N) (d) : (dat V c).before 4 t d = Vt V c := by
  rw [(dat V c).before_in_eq_fetched 4 rfl (fun _ => rfl) (fun _ _ _ => rfl) (keep4 V c) t d]
  exact (fetched_keep (dat V c) 4 t (fun _ => rfl) (keep4 V c t) d).trans (by dsimp only [dat])

/-! ## The arrays after the call -/

theorem states_out (c : Dev nD) : (dat V c).arrAt 5 cfg1.N = statesV (V8 V c) (Vw V c) (Vs V c) (Vd V c) (Vt V c) := by
  refine (dat V c).arrAt_eq_of_covers 5 _ (by decide +kernel) fun t hf y => ?_
  blk_simp
  dsimp only [dat]
  have ht := pt_lt t
  have e0 := emb5 t y 0
  have e1 := emb5 t y 1
  have e2 := emb5 t y 2
  have hy : (y 0).val < 25 := (y 0).isLt
  simp only [Matrix.cons_val_zero] at e0
  have q0 : (((win1_5.rect t).emb y 0 : ℕ)) / 25 = t.val := by
    rw [show ((win1_5.rect t).emb y 0 : ℕ) = t.val * 25 + (y 0).val from e0]; omega
  have q1 : (((win1_5.rect t).emb y 0 : ℕ)) % 25 = (y 0).val := by
    rw [show ((win1_5.rect t).emb y 0 : ℕ) = t.val * 25 + (y 0).val from e0]; omega
  show _ = stO (k1_pay4 (Vd V c)) (k1_pay5 (Vt V c)) (synB (V8 V c) (Vw V c) ((((win1_5.rect t).emb y 0 : ℕ)) / 25)) (SV V c ((((win1_5.rect t).emb y 0 : ℕ)) / 25))
    (ValueIdx.ix3 (⟨(((win1_5.rect t).emb y 0 : ℕ)) % 25, Nat.mod_lt _ (by decide)⟩ : Fin 25) ((win1_5.rect t).emb y 1) ((win1_5.rect t).emb y 2))
  rw [q0]
  refine congrArg (stO _ _ _ _) (funext fun a => Fin.ext ?_)
  match a with
  | ⟨0, _⟩ => exact q1.symm
  | ⟨1, _⟩ => exact (e1.trans (show 0 * 32 + (y 1).val = (y 1).val by omega)).symm
  | ⟨2, _⟩ => exact (e2.trans (show 0 * 1024 + (y 2).val = (y 2).val by omega)).symm

theorem bits_flush (c : Dev nD) (t : Fin cfg1.N) :
    (dat V c).flushed 6 t = ((cfg1.win 6).blk t).view.read (Elt F) (bitsV (V8 V c) (Vw V c) (Vs V c) (Vd V c) (Vt V c) (V c main_v11_1)) := by
  funext y
  blk_simp
  dsimp only [dat]
  have ht := pt_lt t
  have e0 : ((win1_6.rect t).emb y 0 : ℕ) = t.val * 800 + (y 0).val := emb6 t y 0
  have e1 := emb6 t y 1
  have hy : (y 0).val < 800 := lt_of_lt_of_le (y 0).isLt (win1_6.xsize_le _ 0)
  have q0 : (((win1_6.rect t).emb y 0 : ℕ)) / 800 = t.val := by rw [e0]; omega
  have q1 : (((win1_6.rect t).emb y 0 : ℕ)) % 800 = (y 0).val := by rw [e0]; omega
  have q2 : (((win1_6.rect t).emb y 0 : ℕ)) < 3200 := by rw [e0]; omega
  show _ = bitsV _ _ _ _ _ _ ((win1_6.rect t).emb y)
  unfold bitsV
  rw [if_pos q2, q0]
  refine congrArg (bitO (F := F) _) (funext fun a => Fin.ext ?_)
  match a with
  | ⟨0, _⟩ => exact q1.symm
  | ⟨1, _⟩ => exact (e1.trans (show 0 * 72 + (y 1).val = (y 1).val by omega)).symm

theorem bits_out (c : Dev nD) : (dat V c).arrAt 6 cfg1.N = bitsV (V8 V c) (Vw V c) (Vs V c) (Vd V c) (Vt V c) (V c main_v11_1) := by
  funext i
  refine ((dat V c).arrAt_eq_piecewise 6 _ (fun t _ => bits_flush V c t) i).trans ?_
  split
  · rfl
  · rename_i hn
    by_cases h : ((i : S3328x72.Idx) 0).val < 3200
    · refine absurd ?_ hn
      let t : Fin cfg1.N := ⟨((i : S3328x72.Idx) 0).val / 800, lt_of_lt_of_eq (show _ < 4 by omega) N_1.symm⟩
      refine ⟨t, flush1_6 t, ?_⟩
      have hx : ∀ a, (cfg1.win 6).xsize (cfg1.grid.coords t) a = S800x72.size a := fun a => by
        unfold Pipeline.Window.xsize; rw [clip6 t a]
      let y : ((cfg1.win 6).xblock (cfg1.grid.coords t)).Idx := fun a =>
        ⟨(![((i : S3328x72.Idx) 0).val % 800, ((i : S3328x72.Idx) 1).val] : Fin 2 → ℕ) a, lt_of_lt_of_eq (by
          match a with
          | ⟨0, _⟩ => exact (Nat.mod_lt _ (by decide) : _ < 800)
          | ⟨1, _⟩ => exact (((i : S3328x72.Idx) 1).isLt : _ < 72)) (hx a).symm⟩
      have e : ((cfg1.win 6).blk t).view.emb y = i := by
        funext a
        refine Fin.ext ?_
        match a with
        | ⟨0, _⟩ => exact (emb6 t y 0).trans (show ((i : S3328x72.Idx) 0).val / 800 * 800 + ((i : S3328x72.Idx) 0).val % 800 = ((i : S3328x72.Idx) 0).val by omega)
        | ⟨1, _⟩ => exact (emb6 t y 1).trans (show 0 * 72 + ((i : S3328x72.Idx) 1).val = ((i : S3328x72.Idx) 1).val by omega)
      exact e ▸ ((cfg1.win 6).blk t).view.emb_mem_set y
    · exact (if_neg h).symm

/-! ## The body at a grid point -/

theorem init0_eq (c : Dev nD) (t : Fin cfg1.N) (X8 : Vec F S32x1024 .f32) (h : t.val ≠ 0 → X8 = SV V c t.val) :
    init0 (grid1.coords t) (Vs V c) X8 = SV V c t.val := by
  unfold init0
  rw [coords1]
  by_cases h0 : t.val = 0
  · rw [if_pos h0, h0]; rfl
  · rw [if_neg h0]; exact h h0

theorem body_obligation (c : Dev nD) : BodyObligation (dat V c) (defs₀ (F := F)) 𝒱₀ none Set.univ := fun t => by
  rw [bigSep_W1, bigSep_W1]
  rw [show (dat V c).Φ t.castSucc = Φc V c t.val from rfl, show (dat V c).Φ t.succ = Φc V c (t.val + 1) from rfl,
    show (dat V c).owesAt none t.succ = (dat V c).owesAt none t.castSucc from rfl]
  unfold Φc
  iintro ⟨⟨H8, H9, H10⟩, Howes, ⟨%d0, H0⟩, ⟨%d1, H1⟩, ⟨%d2, H2⟩, ⟨%d3, H3⟩, ⟨%d4, H4⟩, ⟨%d5, H5⟩, ⟨%d6, H6⟩⟩
  rw [before0, before1, before2, before3, before4]
  ihave H8 := (ownsSat_elim _ _ _ _) $$ H8
  icases H8 with ⟨%X8, %hX8, H8⟩
  ihave H5 := (ownsSat_intro (Φ := fun _ => True) _ _ _ trivial) $$ H5
  ihave H6 := (ownsSat_intro (Φ := fun _ => True) _ _ _ trivial) $$ H6
  have hb := lif_body (F := F) c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))
    (win1_5.stage (cfg1.slots t 5)) (hstage1_5 ((cfg1.slots t 5).cast nbuf1_5)) (win1_6.stage (cfg1.slots t 6)) (hstage1_6 ((cfg1.slots t 6).cast nbuf1_6))
    (Memref.whole cc1_scratch0) (Memref.isWhole_whole _) (Memref.whole cc1_scratch1) (Memref.isWhole_whole _) (Memref.whole cc1_scratch2) (Memref.isWhole_whole _)
    (cntB (V8 V c) t.val) (Vw V c) (Vs V c) X8 (Vd V c) (Vt V c)
  rw [init0_eq V c t X8 hX8, show stB (k1_pay4 (Vd V c)) (k1_pay5 (Vt V c)) (k1_pay3 (cntB (V8 V c) t.val) (Vw V c)) (SV V c t.val) 25 = SV V c (t.val + 1) from rfl] at hb
  ihave Hw := hb $$ [H0 H1 H2 H3 H4 H5 H6 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    iexact H10
  iapply (wp_wand frame _ Set.univ) $$ Hw
  iintro %r ⟨H0, H1, H2, H3, H4, H5, H6, H8, H9, H10⟩
  ihave H8 := (ownsSat_intro (Φ := fun X => t.val + 1 ≠ 0 → X = SV V c (t.val + 1)) _ _ _ (fun _ => rfl)) $$ H8
  isplitl [H8 H9 H10]
  · isplitl [H8]; · iexact H8
    isplitl [H9]; · iexact H9
    iexact H10
  isplitl [Howes]; · iexact Howes
  dsimp only [dat]
  isplitl [H0]; · iexact H0
  isplitl [H1]; · iexact H1
  isplitl [H2]; · iexact H2
  isplitl [H3]; · iexact H3
  isplitl [H4]; · iexact H4
  isplitl [H5]; · iexact H5
  iexact H6

/-! ## The region -/

abbrev adm : (p : Fin 1) → (pcfgs (F := F) p).Adm := fun p => (cfgs p).toPCfg_adm

def pdats : (p : Fin 1) → (c : Dev nD) → Dat τ (Elt F) (HIx 2) ℕ UU ℕ (Pipeline.pin (pcfgs (F := F)) adm p) c
  | ⟨0, _⟩ => fun c => dat V c

theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this
  omega

/-- What the call leaves in the core's arrays. -/
def Vout (c : Dev nD) (b : Ref sig .tc) : Buf (Elt F) ((c.tc : Thread nD τ).loc b) :=
  if h : b = main_v11_0 then h ▸ (statesV (V8 V c) (Vw V c) (Vs V c) (Vd V c) (Vt V c) : Buf (Elt F) ((c.tc : Thread nD τ).loc main_v11_0))
  else if h : b = main_v11_1 then h ▸ (bitsV (V8 V c) (Vw V c) (Vs V c) (Vd V c) (Vt V c) (V c main_v11_1) : Buf (Elt F) ((c.tc : Thread nD τ).loc main_v11_1))
  else V c b

theorem Vout_states (c : Dev nD) : Vout V c main_v11_0 = statesV (V8 V c) (Vw V c) (Vs V c) (Vd V c) (Vt V c) := by
  unfold Vout; rw [dif_pos rfl]

theorem Vout_bits (c : Dev nD) : Vout V c main_v11_1 = bitsV (V8 V c) (Vw V c) (Vs V c) (Vd V c) (Vt V c) (V c main_v11_1) := by
  unfold Vout; rw [dif_neg (by decide), dif_pos rfl]

theorem Vout_ne (c : Dev nD) (b : Ref sig .tc) (h0 : b ≠ main_v11_0) (h1 : b ≠ main_v11_1) : Vout V c b = V c b := by
  unfold Vout; rw [dif_neg h0, dif_neg h1]

/-- What the core owes and has waited for between the two SparseCore calls. -/
def owesMid (c : Dev nD) : sProp 𝕄 :=
  iprop(∃ W, ⌜(K (F := F)).WBelow (SparseCore.T c) W (8 * 1)⌝ ∗ owes (SparseCore.T c) ((K (F := F)).Otc c 1) W)

theorem rest_in (c : Dev nD) : (Pipeline.scopedRest spec1 c : sProp 𝕄) ⊢ Φc V c 0 := by
  rw [scopedRest1_eq]
  unfold Φc
  iintro ⟨⟨%f0, H0⟩, ⟨%f1, H1⟩, %f2, H2⟩
  isplitl [H0]
  · iapply (ownsSat_intro (X := f0) (tcT c) (Memref.whole cc1_scratch0) fullShare (fun h => absurd rfl h))
    rw [owns_whole_eq]; iexists f0; isplitr; · ipureintro; rfl
    iexact H0
  isplitl [H1]
  · iapply (ownsSat_intro (X := f1) (tcT c) (Memref.whole cc1_scratch1) fullShare trivial)
    rw [owns_whole_eq]; iexists f1; isplitr; · ipureintro; rfl
    iexact H1
  · iapply (ownsSat_intro (X := f2) (tcT c) (Memref.whole cc1_scratch2) fullShare trivial)
    rw [owns_whole_eq]; iexists f2; isplitr; · ipureintro; rfl
    iexact H2

theorem sat_whole (c : Dev nD) (b : Ref sig .tc) (Φ : (b.ty.shape.Idx → Elt F b.ty.elt) → Prop) :
    (ownsSat (tcT c) (Memref.whole b) fullShare Φ : sProp 𝕄) ⊢ iprop(∃ f : Buf (Elt F) ((c.tc : Thread nD τ).loc b), ((c.tc : Thread nD τ).loc b) ↦{fullShare} f) := by
  refine (ownsSat_elim _ _ _ _).trans ?_
  simp only [owns_whole_eq]
  iintro ⟨%X, -, %f, -, H⟩
  iexists f
  iexact H

theorem rest_out (c : Dev nD) (n : ℕ) : Φc V c n ⊢ (Pipeline.scopedRest spec1 c : sProp 𝕄) := by
  rw [scopedRest1_eq]
  unfold Φc
  exact BI.sep_mono (sat_whole c cc1_scratch0 _) (BI.sep_mono (sat_whole c cc1_scratch1 _) (sat_whole c cc1_scratch2 _))

set_option backward.isDefEq.respectTransparency.types false in
/-- The recurrence call, entered with the core's arrays at `V` and left with them at `Vout V`. -/
def reg : Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits c := Pipeline.cellsWaits_intro _ _ _ _ _ fun w s t => SparseCore.Cfg.mayWait_none (K := K (F := F)) _ (Otc_none c 1)
  pre c := iprop(unscopedBufs c (V c) ∗ owesMid c)
  post c := iprop(unscopedBufs c (Vout V c) ∗ owesMid c)
  X _ := BI.emp
  Y _ := BI.emp
  Z c := Pipeline.unscopedRest (Ix := HIx 2) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesMid
      icases HO with ⟨%W, %hW, HO⟩; iexists W; isplitr; · ipureintro; exact fun p hp => Or.inl (hW p hp)
      iexact HO
    isplitr; · iempintro
    iexact Hrest
  hin c := by
    rw [show (pdats V 0 c).Φ 0 = Φc V c 0 from rfl]
    iintro ⟨-, -, Hr⟩
    iapply (rest_in V c)
    iexact Hr
  hout c := by
    rw [Pipeline.ownSems0_none, show (pdats V 0 c).Φ (Fin.last _) = Φc V c cfg1.N from rfl]
    iintro H
    isplitr; · iempintro
    isplitr; · iempintro
    iapply (rest_out V c cfg1.N)
    iexact H
  hexit c := by
    have hjoin := Pipeline.unscopedBufs_of_arrays (p := 0) (pcfgs (F := F)) adm (Ix := HIx 2) (Name := ℕ) (U := UU) (Lvl := ℕ) launch1.win launch1.arr_whole c
      (pdats V) ((pdats V 0 c).share_full fun _ => rfl) (V c) (Vout V c) ((pdats V 0 c).arrAt · cfg1.N)
      (fun w => by
        fin_cases w
        · exact ((pdats V 0 c).arrAt_in 0 rfl _).trans (Vout_ne V c main_v8 (by decide) (by decide)).symm
        · exact ((pdats V 0 c).arrAt_in 1 rfl _).trans (Vout_ne V c main_arg3 (by decide) (by decide)).symm
        · exact ((pdats V 0 c).arrAt_in 2 rfl _).trans (Vout_ne V c main_arg2 (by decide) (by decide)).symm
        · exact ((pdats V 0 c).arrAt_in 3 rfl _).trans (Vout_ne V c main_v9 (by decide) (by decide)).symm
        · exact ((pdats V 0 c).arrAt_in 4 rfl _).trans (Vout_ne V c main_v10 (by decide) (by decide)).symm
        · exact (states_out V c).trans (Vout_states V c).symm
        · exact (bits_out V c).trans (Vout_bits V c).symm)
      (fun b hb => Vout_ne V c b (fun h => hb (h ▸ Finset.mem_image.mpr ⟨5, Finset.mem_univ _, rfl⟩)) (fun h => hb (h ▸ Finset.mem_image.mpr ⟨6, Finset.mem_univ _, rfl⟩)))
    iintro ⟨Ha, HO, -, Hrest⟩
    imodintro
    isplitl [Ha Hrest]
    · iapply hjoin; isplitl [Ha] <;> iassumption
    unfold Pipeline.Dat.owesAt Pipeline.owesWithin owesMid
    icases HO with ⟨%W, %hW, HO⟩; iexists W; isplitr
    · ipureintro
      intro p hp
      rcases hW hp with h | h
      · exact h
      · obtain ⟨w, s, rfl⟩ := h
        exact Nat.zero_le _
    iexact HO

end Cert.Proof

end
-- ==== Proof.Host.lean ====
/-
  The host's own operations in @main, as four lists with the three calls between them, and the contents of the
  host's arrays after each stretch.
-/
module

public import proofs.«01_k».proof.Proof.Counts
public import proofs.«01_k».proof.Proof.Compact
public import proofs.«01_k».proof.Proof.LifRegion

@[expose] public section

noncomputable section

namespace Cert.Proof

open Cert.KernelIdeal Cert.KernelIdeal.Gen
open Idealize.ShloMosaic
open Idealize.ShloMosaic.ValueIdx hiding ix1 ix2 ix3
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The lists -/

/-- Up to the counting call: the valid ids, 1024 elsewhere, laid out as padded rows. -/
def opsA : List (HloOp τ sig (Elt F)) :=
  [StableHlo.nullary main_v0 (iotaInDim S64 32 0),
   StableHlo.unary main_v0 main_v1 (broadcastInDim S1x1x64 ![2] bcast_S64_S1x1x64_2 : (⟨S64, .i32⟩ : BufTy).Contents (Elt F) → (⟨S1x1x64, .i32⟩ : BufTy).Contents (Elt F)),
   StableHlo.unary main_v1 main_v2 (broadcastInDim S100x32x64 ![0, 1, 2] bcast_S1x1x64_S100x32x64_0_1_2 : (⟨S1x1x64, .i32⟩ : BufTy).Contents (Elt F) → (⟨S100x32x64, .i32⟩ : BufTy).Contents (Elt F)),
   StableHlo.unary main_arg1 main_v3 (broadcastInDim S100x32x64 ![0, 1, 2] bcast_S100x32x1_S100x32x64_0_1_2 : (⟨S100x32x1, .i32⟩ : BufTy).Contents (Elt F) → (⟨S100x32x64, .i32⟩ : BufTy).Contents (Elt F)),
   StableHlo.binary main_v2 main_v3 main_v4 (cmpi .slt : (⟨S100x32x64, .i32⟩ : BufTy).Contents (Elt F) → (⟨S100x32x64, .i32⟩ : BufTy).Contents (Elt F) → (⟨S100x32x64, .i1⟩ : BufTy).Contents (Elt F)),
   StableHlo.nullary main_c (constantI S_ 32 1024#32),
   StableHlo.TRef.unary (.of main_c : StableHlo.TRef sig ⟨S_, .i32⟩) main_call0.v0 id,
   StableHlo.TRef.unary main_call0.v0 main_call0.v1 (broadcastInDim S100x32x64 ![] bcast_S_S100x32x64),
   StableHlo.TRef.ternary (.of main_v4 : StableHlo.TRef sig ⟨S100x32x64, .i1⟩) (.of main_arg0 : StableHlo.TRef sig ⟨S100x32x64, .i32⟩) main_call0.v1 main_call0.v2 select,
   StableHlo.reshape main_v5 main_v6 (rfl : (.i32 : EltTy) = .i32) shapeCasts_S100x32x64_S3200x64,
   StableHlo.nullary main_c_0 (constantI S_ 32 1024#32),
   StableHlo.TRef.unary (.of main_c_0 : StableHlo.TRef sig ⟨S_, .i32⟩) main_call1.v0 id,
   StableHlo.TRef.binary (.of main_v6 : StableHlo.TRef sig ⟨S3200x64, .i32⟩) main_call1.v0 main_call1.v1 (fun x v => pad S3328x64 ![0, 0] ![128, 0] ![0, 0] x v pads_S3200x64_S3328x64_01280_000 h_S_)]

/-- Between the counting call and the recurrence: the two parameter vectors as rows. -/
def opsB : List (HloOp τ sig (Elt F)) :=
  [StableHlo.reshape main_arg4 main_v9 (rfl : (.f32 : EltTy) = .f32) shapeCasts_S1024_S1x1024,
   StableHlo.reshape main_arg5 main_v10 (rfl : (.f32 : EltTy) = .f32) shapeCasts_S1024_S1x1024]

/-- Between the recurrence and the compaction: the count of each row, one line of 128 per tile. -/
def opsC : List (HloOp τ sig (Elt F)) :=
  [StableHlo.unary main_v11_1 main_v12 ((extractStridedSlice S3328x1 ![0, 64] · slices_S3328x72_S3328x1_0_64) : (⟨S3328x72, .i32⟩ : BufTy).Contents (Elt F) → (⟨S3328x1, .i32⟩ : BufTy).Contents (Elt F)),
   StableHlo.reshape main_v12 main_v13 (rfl : (.i32 : EltTy) = .i32) shapeCasts_S3328x1_S3328,
   StableHlo.reshape main_v13 main_v14 (rfl : (.i32 : EltTy) = .i32) shapeCasts_S3328_S32x104,
   StableHlo.nullary main_c_1 (constantI S_ 32 0#32),
   StableHlo.TRef.unary (.of main_c_1 : StableHlo.TRef sig ⟨S_, .i32⟩) main_call2.v0 id,
   StableHlo.TRef.binary (.of main_v14 : StableHlo.TRef sig ⟨S32x104, .i32⟩) main_call2.v0 main_call2.v1 (fun x v => pad S32x128 ![0, 0] ![0, 24] ![0, 0] x v pads_S32x104_S32x128_000_0240 h_S_)]

/-- After the compaction: the two results in their shapes. -/
def opsE : List (HloOp τ sig (Elt F)) :=
  [StableHlo.reshape main_v16_0 main_v17 (rfl : (.i32 : EltTy) = .i32) shapeCasts_S3200x128_S100x32x128,
   StableHlo.unary main_v16_1 main_v18 ((extractStridedSlice S32x104 ![0, 0] · slices_S32x128_S32x104_0_0) : (⟨S32x128, .i32⟩ : BufTy).Contents (Elt F) → (⟨S32x104, .i32⟩ : BufTy).Contents (Elt F)),
   StableHlo.reshape main_v18 main_v19 (rfl : (.i32 : EltTy) = .i32) shapeCasts_S32x104_S3328,
   StableHlo.unary main_v19 main_v20 ((extractStridedSlice S3200 ![0] · slices_S3328_S3200_0) : (⟨S3328, .i32⟩ : BufTy).Contents (Elt F) → (⟨S3200, .i32⟩ : BufTy).Contents (Elt F)),
   StableHlo.reshape main_v20 main_v21 (rfl : (.i32 : EltTy) = .i32) shapeCasts_S3200_S100x32x1]

set_option maxHeartbeats 2000000 in
theorem main_eq (d : Dev nD) : main (F := F) d
    = (StableHlo.seq opsA >>= fun _ => (K (F := F)).run d 0 >>= fun _ => StableHlo.seq opsB >>= fun _ =>
        SparseCore.liftProg (.op (.customCall (Pipeline.entry 0) ()) .ret) >>= fun _ => StableHlo.seq opsC >>= fun _ =>
          (K (F := F)).run d 1 >>= fun _ => StableHlo.seq opsE >>= fun _ => pure ⟨⟩) := rfl

/-! ## The operations touch only the host's own arrays -/

theorem opsA_sub : ∀ op ∈ opsA (F := F), op.bufs ⊆ Pipeline.ucRefs τ sig :=
  fun op h => Pipeline.sub_ucRefs op (List.forall_iff_forall_mem.1 (show List.Forall (fun op => op.bufs ⊆ StableHlo.tcRefs τ sig) (opsA (F := F)) from
    ⟨StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.reshape_bufs_sub .., StableHlo.nullary_bufs_sub .., StableHlo.unary_bufs_sub .., StableHlo.binary_bufs_sub ..⟩) op h)

theorem opsB_sub : ∀ op ∈ opsB (F := F), op.bufs ⊆ Pipeline.ucRefs τ sig :=
  fun op h => Pipeline.sub_ucRefs op (List.forall_iff_forall_mem.1 (show List.Forall (fun op => op.bufs ⊆ StableHlo.tcRefs τ sig) (opsB (F := F)) from
    ⟨StableHlo.reshape_bufs_sub .., StableHlo.reshape_bufs_sub ..⟩) op h)

theorem opsC_sub : ∀ op ∈ opsC (F := F), op.bufs ⊆ Pipeline.ucRefs τ sig :=
  fun op h => Pipeline.sub_ucRefs op (List.forall_iff_forall_mem.1 (show List.Forall (fun op => op.bufs ⊆ StableHlo.tcRefs τ sig) (opsC (F := F)) from
    ⟨StableHlo.unary_bufs_sub .., StableHlo.reshape_bufs_sub .., StableHlo.reshape_bufs_sub .., StableHlo.nullary_bufs_sub .., StableHlo.unary_bufs_sub .., StableHlo.binary_bufs_sub ..⟩) op h)

theorem opsE_sub : ∀ op ∈ opsE (F := F), op.bufs ⊆ Pipeline.ucRefs τ sig :=
  fun op h => Pipeline.sub_ucRefs op (List.forall_iff_forall_mem.1 (show List.Forall (fun op => op.bufs ⊆ StableHlo.tcRefs τ sig) (opsE (F := F)) from
    ⟨StableHlo.reshape_bufs_sub .., StableHlo.unary_bufs_sub .., StableHlo.reshape_bufs_sub .., StableHlo.unary_bufs_sub .., StableHlo.reshape_bufs_sub ..⟩) op h)

theorem opsA_fresh : ∀ op ∈ opsA (F := F), op.fresh = ∅ :=
  fun op h => List.forall_iff_forall_mem.1 (show List.Forall (fun op => op.fresh = ∅) (opsA (F := F)) from
    ⟨rfl, rfl, rfl, rfl, rfl, rfl, rfl, rfl, rfl, rfl, rfl, rfl, rfl⟩) op h

theorem opsB_fresh : ∀ op ∈ opsB (F := F), op.fresh = ∅ :=
  fun op h => List.forall_iff_forall_mem.1 (show List.Forall (fun op => op.fresh = ∅) (opsB (F := F)) from
    ⟨rfl, rfl⟩) op h

theorem opsC_fresh : ∀ op ∈ opsC (F := F), op.fresh = ∅ :=
  fun op h => List.forall_iff_forall_mem.1 (show List.Forall (fun op => op.fresh = ∅) (opsC (F := F)) from
    ⟨rfl, rfl, rfl, rfl, rfl, rfl⟩) op h

theorem opsE_fresh : ∀ op ∈ opsE (F := F), op.fresh = ∅ :=
  fun op h => List.forall_iff_forall_mem.1 (show List.Forall (fun op => op.fresh = ∅) (opsE (F := F)) from
    ⟨rfl, rfl, rfl, rfl, rfl⟩) op h

/-! ## The contents of the host's arrays after each stretch -/

abbrev dv (b : Ref sig .tc) : DevRef τ sig := Proc.devRef .tc b

section Stages

variable (V0 : Valuation τ sig (Elt F))

def VA : Valuation τ sig (Elt F) := StableHlo.after opsA V0

/-- The padded ids. -/
def X7 : S3328x64.Idx → BitVec 32 := VA V0 (dv main_v7)

def VB : Valuation τ sig (Elt F) := Function.update (VA V0) (dv main_v8) (cntG (F := F) (X7 V0) 3328)
def VC : Valuation τ sig (Elt F) := StableHlo.after opsB (VB V0)

def statesX : Vec F S100x32x1024 .f32 :=
  statesV (VC V0 (dv main_v8)) (VC V0 (dv main_arg3)) (VC V0 (dv main_arg2)) (VC V0 (dv main_v9)) (VC V0 (dv main_v10))
def bitsX : Vec F S3328x72 .i32 :=
  bitsV (VC V0 (dv main_v8)) (VC V0 (dv main_arg3)) (VC V0 (dv main_arg2)) (VC V0 (dv main_v9)) (VC V0 (dv main_v10)) (VC V0 (dv main_v11_1))

def VD : Valuation τ sig (Elt F) := Function.update (Function.update (VC V0) (dv main_v11_0) (statesX V0)) (dv main_v11_1) (bitsX V0)
def VE : Valuation τ sig (Elt F) := StableHlo.after opsC (VD V0)

end Stages

end Cert.Proof

end
-- ==== Proof.ScObl.lean ====
/-
  What the two SparseCore calls hand their vector subcores and get back, each subcore's obligation, and the arrays
  as the disjoint union of the subcores' rows.
-/
module

public import proofs.«01_k».proof.Proof.Host

@[expose] public section

noncomputable section

namespace Cert.Proof

open Cert.KernelIdeal Cert.KernelIdeal.Gen
open Idealize.ShloMosaic
open Idealize.ShloMosaic.ValueIdx hiding ix1 ix2 ix3
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (V0 : Dev nD → Valuation τ sig (Elt F))

/-! ## The contents the calls find and leave -/

/-- The words that the compaction reads. -/
def X11 (d : Dev nD) : S3328x72.Idx → BitVec 32 := VE (V0 d) (dv main_v11_1)
/-- The counts that the compaction reads. -/
def X15 (d : Dev nD) : S32x128.Idx → BitVec 32 := VE (V0 d) (dv main_v15)

abbrev goA (d : Dev nD) (L : grid0.Coords) : sProp 𝕄 := goC d L (X7 (V0 d)) (VA (V0 d) (dv main_v8))
abbrev tdA (d : Dev nD) (L : grid0.Coords) : sProp 𝕄 := goC d L (X7 (V0 d)) (cntG (X7 (V0 d)) 3328)
abbrev goB (d : Dev nD) (L : grid0.Coords) : sProp 𝕄 :=
  goQ d L (X11 V0 d) (X15 V0 d) (VE (V0 d) (dv main_v16_0)) (fun f => f = VE (V0 d) (dv main_v16_1))
abbrev tdB (d : Dev nD) (L : grid0.Coords) : sProp 𝕄 :=
  goQ d L (X11 V0 d) (X15 V0 d) (oidS (X11 V0 d) (X15 V0 d)) (fun f => ∀ i, (i 0).val = wid L → (i 1).val < 104 → f i = nG (X15 V0 d) i)

def P : (K (F := F)).Pay (nD := nD) (Val := Elt F) (Name := ℕ) (U := UU) where
  st q d c := match q with
    | 0 => bigSep Finset.univ fun i : Fin 16 => goA V0 d (coordsV c i)
    | 1 => bigSep Finset.univ fun i : Fin 16 => goB V0 d (coordsV c i)
  dn q d c := match q with
    | 0 => bigSep Finset.univ fun i : Fin 16 => tdA V0 d (coordsV c i)
    | 1 => bigSep Finset.univ fun i : Fin 16 => tdB V0 d (coordsV c i)
  go q d c i := match q with
    | 0 => goA V0 d (coordsV c i)
    | 1 => goB V0 d (coordsV c i)
  td q d c i := match q with
    | 0 => tdA V0 d (coordsV c i)
    | 1 => tdB V0 d (coordsV c i)
  x _ _ := iprop(emp)

instance : (P V0).IsStorable where
  st q d c := match q with
    | 0 => by unfold P; infer_instance
    | 1 => by unfold P; infer_instance
  dn q d c := match q with
    | 0 => by unfold P; infer_instance
    | 1 => by unfold P; infer_instance
  go q d c i := match q with
    | 0 => by unfold P; infer_instance
    | 1 => by unfold P; infer_instance
  td q d c i := match q with
    | 0 => by unfold P; infer_instance
    | 1 => by unfold P; infer_instance

/-! ## The obligations -/

theorem defs₀_counts (c : Fin τ.nSC) (s : Fin τ.nSub) :
    defs₀ (F := F) (.scVector c s) 0 ()
      = SparseCore.onTile hcore0 hsub0 (fun c s => cc0_counts_kernel (coordsV c s) (Memref.whole main_v7_scv) (Memref.isWhole_whole _) (Memref.whole main_v8_scv) (Memref.isWhole_whole _)
            idM (Memref.isWhole_whole _) hM (Memref.isWhole_whole _) cc0_scratch2 cc0_scratch3 cc0_scoped0) ⟨⟩ c s := rfl

theorem defs₀_compact (c : Fin τ.nSC) (s : Fin τ.nSub) :
    defs₀ (F := F) (.scVector c s) 2 ()
      = SparseCore.onTile hcore2 hsub2 (fun c s => cc2_compact_kernel (coordsV c s) (Memref.whole main_v11_1_scv) (Memref.isWhole_whole _) (Memref.whole main_v15_scv) (Memref.isWhole_whole _)
            (Memref.whole main_v16_0_scv) (Memref.isWhole_whole _) (Memref.whole main_v16_1_scv) (Memref.isWhole_whole _)
            bM (Memref.isWhole_whole _) cM (Memref.isWhole_whole _) oM (Memref.isWhole_whole _) nM (Memref.isWhole_whole _) cc2_scoped0 cc2_scoped1 cc2_scoped2 cc2_scoped3 cc2_scoped4) ⟨⟩ c s := rfl

theorem obl_post' {thr : Thread nD τ} {A B C : sProp 𝕄} {O : CellTallies nD τ sig (HIx 2)} {W : Waits sig (HIx 2)} {B' : HIx 2 → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ B' p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem drop_emp {A G G' R : sProp 𝕄} (h : G ⊢ G') : iprop(A ∗ emp ∗ G ∗ R) ⊢ iprop(A ∗ G' ∗ R) := by
  iintro ⟨HA, -, HG, HR⟩
  isplitl [HA]; · iexact HA
  isplitl [HG]; · iapply h; iexact HG
  iexact HR

set_option maxRecDepth 1024 in
theorem oblA (hv7 : ∀ d i, (X7 (V0 d) i).toNat ≤ 1024) : (K (F := F)).TileObl (D (F := F)) 𝒱 (P V0) v₀ 0 := by
  intro d c i O W hO _ _
  simp only [show (P V0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_counts]; simp only [SparseCore.onTile, hc, and_self, ↓reduceDIte]
  exact (drop_emp (BI.Entails.refl _)).trans <| (counts_body d (coordsV ⟨_, hc.1⟩ ⟨_, hc.2⟩) facts (X7 (V0 d)) (hv7 d) (VA (V0 d) (dv main_v8)) O W hO).trans (wp_mono frame _ _ fun _ => obl_post')

theorem goB_weak (d : Dev nD) (L : grid0.Coords) : goB V0 d L ⊢ goQ d L (X11 V0 d) (X15 V0 d) (VE (V0 d) (dv main_v16_0)) (fun _ => True) := by
  iintro ⟨H1, H2, H3, %f, -, H4⟩
  isplitl [H1]; · iexact H1
  isplitl [H2]; · iexact H2
  isplitl [H3]; · iexact H3
  iexists f
  isplitr; · ipureintro; trivial
  iexact H4

set_option maxRecDepth 1024 in
theorem oblB : (K (F := F)).TileObl (D (F := F)) 𝒱 (P V0) v₀ 1 := by
  intro d c i O W hO _ _
  simp only [show (P V0).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_compact]; simp only [SparseCore.onTile, hc, and_self, ↓reduceDIte]
  refine BI.Entails.trans ?_ ((compact_body d (coordsV ⟨_, hc.1⟩ ⟨_, hc.2⟩) facts (X11 V0 d) (X15 V0 d) (VE (V0 d) (dv main_v16_0)) O W hO).trans (wp_mono frame _ _ fun _ => obl_post'))
  exact drop_emp (goB_weak V0 d _)

theorem splitA : (K (F := F)).VecSplit' (P V0) 0 := by
  intro d c
  show (bigSep Finset.univ fun i : Fin 16 => goA V0 d (coordsV c i)) ⊢ |={Set.univ}=> iprop((bigSep Finset.univ fun i : Fin 16 => goA V0 d (coordsV c i))
    ∗ ((bigSep Finset.univ fun i : Fin 16 => tdA V0 d (coordsV c i)) -∗ bigSep Finset.univ fun i : Fin 16 => tdA V0 d (coordsV c i)))
  iintro H; imodintro
  isplitl [H]; · iexact H
  iintro H; iexact H

theorem splitB : (K (F := F)).VecSplit' (P V0) 1 := by
  intro d c
  show (bigSep Finset.univ fun i : Fin 16 => goB V0 d (coordsV c i)) ⊢ |={Set.univ}=> iprop((bigSep Finset.univ fun i : Fin 16 => goB V0 d (coordsV c i))
    ∗ ((bigSep Finset.univ fun i : Fin 16 => tdB V0 d (coordsV c i)) -∗ bigSep Finset.univ fun i : Fin 16 => tdB V0 d (coordsV c i)))
  iintro H; imodintro
  isplitl [H]; · iexact H
  iintro H; iexact H

end Cert.Proof

end
-- ==== Proof.ScPieces.lean ====
/-
  The four arrays of each SparseCore call as the subcores' rows, and the rows joined again after the call.
-/
module

public import proofs.«01_k».proof.Proof.ScObl

@[expose] public section

noncomputable section

namespace Cert.Proof

open Cert.KernelIdeal Cert.KernelIdeal.Gen
open Idealize.ShloMosaic
open Idealize.ShloMosaic.ValueIdx hiding ix1 ix2 ix3
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## Which rows -/

/-- The coordinates of the tile `p`. -/
abbrev tl (p : Fin 2 × Fin 16) : grid0.Coords := coordsV p.1 p.2

theorem wid_tl (p : Fin 2 × Fin 16) : wid (tl p) = 2 * p.2.val + p.1.val := rfl
theorem base_tl (p : Fin 2 × Fin 16) : base (tl p) = 208 * p.2.val + 104 * p.1.val := rfl

theorem wid_inj {p p' : Fin 2 × Fin 16} (h : wid (tl p) = wid (tl p')) : p = p' := by
  rw [wid_tl, wid_tl] at h
  have h1 := p.1.isLt; have h2 := p'.1.isLt
  refine Prod.ext (Fin.ext ?_) (Fin.ext ?_) <;> omega

theorem exists_wid {w : ℕ} (h : w < 32) : ∃ p : Fin 2 × Fin 16, wid (tl p) = w :=
  ⟨(⟨w % 2, Nat.mod_lt _ (by decide)⟩, ⟨w / 2, by omega⟩), by rw [wid_tl]; show 2 * (w / 2) + w % 2 = w; omega⟩

theorem big_disj {n k : Nat} : ∀ a ∈ (Finset.univ : Finset (Fin 2 × Fin 16)), ∀ b ∈ (Finset.univ : Finset (Fin 2 × Fin 16)), a ≠ b →
    Disjoint (rows (base (tl a)) 104 : Finset (⟨2, ![n, k]⟩ : Shape).Idx) (rows (base (tl b)) 104) := by
  intro a _ b _ hab
  refine Finset.disjoint_left.2 fun i hi hj => hab (wid_inj ?_)
  rw [mem_rows, base_tl] at hi hj
  rw [wid_tl, wid_tl]
  have h1 := a.1.isLt; have h2 := b.1.isLt
  omega

theorem big_cover {n k : Nat} (hn : n ≤ 3328) :
    ((Finset.univ : Finset (Fin 2 × Fin 16)).biUnion fun p => (rows (base (tl p)) 104 : Finset (⟨2, ![n, k]⟩ : Shape).Idx)) = Finset.univ := by
  refine Finset.eq_univ_iff_forall.2 fun i => Finset.mem_biUnion.2 ?_
  have hi : (i 0).val < n := (i 0).isLt
  obtain ⟨p, hp⟩ := exists_wid (w := (i 0).val / 104) (by omega)
  refine ⟨p, Finset.mem_univ _, mem_rows.2 ?_⟩
  rw [wid_tl] at hp; rw [base_tl]
  omega

theorem small_disj {n k : Nat} : ∀ a ∈ (Finset.univ : Finset (Fin 2 × Fin 16)), ∀ b ∈ (Finset.univ : Finset (Fin 2 × Fin 16)), a ≠ b →
    Disjoint (rows (wid (tl a)) 1 : Finset (⟨2, ![n, k]⟩ : Shape).Idx) (rows (wid (tl b)) 1) := by
  intro a _ b _ hab
  refine Finset.disjoint_left.2 fun i hi hj => hab (wid_inj ?_)
  rw [mem_rows] at hi hj
  omega

theorem small_cover {n k : Nat} (hn : n ≤ 32) :
    ((Finset.univ : Finset (Fin 2 × Fin 16)).biUnion fun p => (rows (wid (tl p)) 1 : Finset (⟨2, ![n, k]⟩ : Shape).Idx)) = Finset.univ := by
  refine Finset.eq_univ_iff_forall.2 fun i => Finset.mem_biUnion.2 ?_
  have hi : (i 0).val < n := (i 0).isLt
  obtain ⟨p, hp⟩ := exists_wid (w := (i 0).val) (by omega)
  exact ⟨p, Finset.mem_univ _, mem_rows.2 (by omega)⟩

/-! ## The arrays in pieces -/

variable (d : Dev nD)

theorem p7 (f : S3328x64.Idx → BitVec 32) :
    (l7 d ↦{fullShare} f : sProp 𝕄) = bigSep Finset.univ fun p : Fin 2 × Fin 16 => l7 d ↦[rows (base (tl p)) 104]{fullShare} f := by
  rw [← pointsTo_biUnion Finset.univ (ℓ := l7 d) (fun p : Fin 2 × Fin 16 => rows (base (tl p)) 104) big_disj]
  exact congrArg (fun I => (l7 d ↦[I]{fullShare} f : sProp 𝕄)) (big_cover (n := 3328) (k := 64) (le_refl _)).symm

theorem p8 (f : S3328x1024.Idx → Elt F .f32) :
    (l8 d ↦{fullShare} f : sProp 𝕄) = bigSep Finset.univ fun p : Fin 2 × Fin 16 => l8 d ↦[rows (base (tl p)) 104]{fullShare} f := by
  rw [← pointsTo_biUnion Finset.univ (ℓ := l8 d) (fun p : Fin 2 × Fin 16 => rows (base (tl p)) 104) big_disj]
  exact congrArg (fun I => (l8 d ↦[I]{fullShare} f : sProp 𝕄)) (big_cover (n := 3328) (k := 1024) (le_refl _)).symm

theorem p11 (f : S3328x72.Idx → BitVec 32) :
    (l11 d ↦{fullShare} f : sProp 𝕄) = bigSep Finset.univ fun p : Fin 2 × Fin 16 => l11 d ↦[rows (base (tl p)) 104]{fullShare} f := by
  rw [← pointsTo_biUnion Finset.univ (ℓ := l11 d) (fun p : Fin 2 × Fin 16 => rows (base (tl p)) 104) big_disj]
  exact congrArg (fun I => (l11 d ↦[I]{fullShare} f : sProp 𝕄)) (big_cover (n := 3328) (k := 72) (le_refl _)).symm

theorem p15 (f : S32x128.Idx → BitVec 32) :
    (l15 d ↦{fullShare} f : sProp 𝕄) = bigSep Finset.univ fun p : Fin 2 × Fin 16 => l15 d ↦[rows (wid (tl p)) 1]{fullShare} f := by
  rw [← pointsTo_biUnion Finset.univ (ℓ := l15 d) (fun p : Fin 2 × Fin 16 => rows (wid (tl p)) 1) small_disj]
  exact congrArg (fun I => (l15 d ↦[I]{fullShare} f : sProp 𝕄)) (small_cover (n := 32) (k := 128) (le_refl _)).symm

theorem p16 (f : S3200x128.Idx → BitVec 32) :
    (l16 d ↦{fullShare} f : sProp 𝕄) = bigSep Finset.univ fun p : Fin 2 × Fin 16 => l16 d ↦[rows (base (tl p)) 104]{fullShare} f := by
  rw [← pointsTo_biUnion Finset.univ (ℓ := l16 d) (fun p : Fin 2 × Fin 16 => rows (base (tl p)) 104) big_disj]
  exact congrArg (fun I => (l16 d ↦[I]{fullShare} f : sProp 𝕄)) (big_cover (n := 3200) (k := 128) (by decide)).symm

theorem p17 (f : S32x128.Idx → BitVec 32) :
    (l17 d ↦{fullShare} f : sProp 𝕄) = bigSep Finset.univ fun p : Fin 2 × Fin 16 => l17 d ↦[rows (wid (tl p)) 1]{fullShare} f := by
  rw [← pointsTo_biUnion Finset.univ (ℓ := l17 d) (fun p : Fin 2 × Fin 16 => rows (wid (tl p)) 1) small_disj]
  exact congrArg (fun I => (l17 d ↦[I]{fullShare} f : sProp 𝕄)) (small_cover (n := 32) (k := 128) (le_refl _)).symm

/-- The last result's rows joined: each row as its subcore left it. -/
theorem j17 (Φ : Fin 2 × Fin 16 → (S32x128.Idx → BitVec 32) → Prop)
    (hΦ : ∀ p f g, Φ p f → (∀ i, (i 0).val = wid (tl p) → g i = f i) → Φ p g) :
    (bigSep Finset.univ fun p : Fin 2 × Fin 16 => iprop(∃ f : S32x128.Idx → BitVec 32, ⌜Φ p f⌝ ∗ l17 d ↦[rows (wid (tl p)) 1]{fullShare} f))
      ⊢ (iprop(∃ f : S32x128.Idx → BitVec 32, ⌜∀ p, Φ p f⌝ ∗ l17 d ↦{fullShare} f) : sProp 𝕄) := by
  refine (bigSep_exists_pi Finset.univ (fun p (f : S32x128.Idx → BitVec 32) => (iprop(⌜Φ p f⌝ ∗ l17 d ↦[rows (wid (tl p)) 1]{fullShare} f) : sProp 𝕄))).trans ?_
  iintro ⟨%fs, H⟩
  ihave H' := (bigSep_pure_sep Finset.univ _ _) $$ H
  icases H' with ⟨%hp, H⟩
  ihave H' := (pointsTo_biUnion_join Finset.univ (ℓ := l17 d) (fun p : Fin 2 × Fin 16 => rows (wid (tl p)) 1) fs (fs 0) small_disj) $$ H
  icases H' with ⟨%g, %hg, Hg⟩
  iexists g
  isplitr
  · ipureintro
    intro p
    refine hΦ p (fs p) g (hp p (Finset.mem_univ p)) fun i hi => hg p (Finset.mem_univ p) i (mem_rows.2 (by omega))
  · iapply (Entails.of_eq (congrArg (fun I => (l17 d ↦[I]{fullShare} g : sProp 𝕄)) (small_cover (n := 32) (k := 128) (le_refl _))))
    iexact Hg

/-! ## What a call takes and gives, whole -/

variable (V0 : Dev nD → Valuation τ sig (Elt F))

theorem stA : (bigSep Finset.univ fun c : Fin ((K (F := F)).nCore 0) => (P V0).st 0 d c)
    = iprop((l7 d ↦{fullShare} X7 (V0 d)) ∗ l8 d ↦{fullShare} (VA (V0 d) (dv main_v8) : S3328x1024.Idx → Elt F .f32)) := by
  show (bigSep Finset.univ fun c : Fin 2 => bigSep Finset.univ fun i : Fin 16 => goA V0 d (coordsV c i)) = _
  rw [p7, p8, ← bigSep_sep', bigSep_univ_prod]

theorem dnA : (bigSep Finset.univ fun c : Fin ((K (F := F)).nCore 0) => (P V0).dn 0 d c)
    = iprop((l7 d ↦{fullShare} X7 (V0 d)) ∗ l8 d ↦{fullShare} (cntG (X7 (V0 d)) 3328 : S3328x1024.Idx → Elt F .f32)) := by
  show (bigSep Finset.univ fun c : Fin 2 => bigSep Finset.univ fun i : Fin 16 => tdA V0 d (coordsV c i)) = _
  rw [p7, p8, ← bigSep_sep', bigSep_univ_prod]

theorem goB_intro (L : grid0.Coords) : (iprop((l11 d ↦[rows (base L) 104]{fullShare} X11 V0 d) ∗ (l15 d ↦[rows (wid L) 1]{fullShare} X15 V0 d)
      ∗ (l16 d ↦[rows (base L) 104]{fullShare} (VE (V0 d) (dv main_v16_0) : S3200x128.Idx → BitVec 32))
      ∗ l17 d ↦[rows (wid L) 1]{fullShare} (VE (V0 d) (dv main_v16_1) : S32x128.Idx → BitVec 32)) : sProp 𝕄) ⊢ goB V0 d L := by
  iintro ⟨H1, H2, H3, H4⟩
  isplitl [H1]; · iexact H1
  isplitl [H2]; · iexact H2
  isplitl [H3]; · iexact H3
  iexists (VE (V0 d) (dv main_v16_1) : S32x128.Idx → BitVec 32)
  isplitr; · ipureintro; rfl
  iexact H4

theorem stB' : iprop((l11 d ↦{fullShare} X11 V0 d) ∗ (l15 d ↦{fullShare} X15 V0 d) ∗ (l16 d ↦{fullShare} (VE (V0 d) (dv main_v16_0) : S3200x128.Idx → BitVec 32))
      ∗ l17 d ↦{fullShare} (VE (V0 d) (dv main_v16_1) : S32x128.Idx → BitVec 32))
    ⊢ bigSep Finset.univ fun c : Fin ((K (F := F)).nCore 1) => (P V0).st 1 d c := by
  show _ ⊢ (bigSep Finset.univ fun c : Fin 2 => bigSep Finset.univ fun i : Fin 16 => goB V0 d (coordsV c i))
  rw [p11, p15, p16, p17, ← bigSep_sep', ← bigSep_sep', ← bigSep_sep', bigSep_univ_prod]
  exact bigSep_mono fun c _ => bigSep_mono fun i _ => goB_intro d V0 (coordsV c i)

/-- What the compaction leaves in the array of counts: in each row its first 104. -/
def NOK (f : S32x128.Idx → BitVec 32) : Prop := ∀ i, (i 1).val < 104 → f i = nG (X15 V0 d) i

theorem dnB : (bigSep Finset.univ fun c : Fin ((K (F := F)).nCore 1) => (P V0).dn 1 d c)
    ⊢ iprop((l11 d ↦{fullShare} X11 V0 d) ∗ (l15 d ↦{fullShare} X15 V0 d) ∗ (l16 d ↦{fullShare} oidS (X11 V0 d) (X15 V0 d))
      ∗ ∃ f : S32x128.Idx → BitVec 32, ⌜NOK d V0 f⌝ ∗ l17 d ↦{fullShare} f) := by
  show (bigSep Finset.univ fun c : Fin 2 => bigSep Finset.univ fun i : Fin 16 => tdB V0 d (coordsV c i)) ⊢ _
  rw [← bigSep_univ_prod (fun p : Fin 2 × Fin 16 => tdB V0 d (tl p)), bigSep_sep', bigSep_sep', bigSep_sep', ← p11, ← p15, ← p16]
  iintro ⟨H1, H2, H3, H4⟩
  isplitl [H1]; · iexact H1
  isplitl [H2]; · iexact H2
  isplitl [H3]; · iexact H3
  ihave H := (j17 d (fun p f => ∀ i : S32x128.Idx, (i 0).val = wid (tl p) → (i 1).val < 104 → f i = nG (X15 V0 d) i)
    (fun p f g hf hg i h0 h1 => (hg i h0).trans (hf i h0 h1))) $$ H4
  icases H with ⟨%f, %hf, H⟩
  iexists f
  isplitr
  · ipureintro
    intro i hi
    obtain ⟨p, hp⟩ := exists_wid (w := (i 0).val) (i 0).isLt
    exact hf p i hp.symm hi
  iexact H

end Cert.Proof

end
-- ==== Proof.ScRun.lean ====
/-
  The TensorCore's program: the host operations and the three calls in order, from the launch memory to the results.
-/
module

public import proofs.«01_k».proof.Proof.ScPieces

@[expose] public section

noncomputable section

namespace Cert.Proof

open Cert.KernelIdeal Cert.KernelIdeal.Gen
open Idealize.ShloMosaic
open Idealize.ShloMosaic.ValueIdx hiding ix1 ix2 ix3
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## One array taken out of the host's arrays, and put back -/

section Take

variable (d : Dev nD) (S : Finset (DevRef τ sig)) (V : Valuation τ sig (Elt F)) (a : DevRef τ sig)

theorem held_one (V : Valuation τ sig (Elt F)) : (StableHlo.held (SparseCore.T d) {a} V : sProp 𝕄) = (((d, a) : Loc nD τ sig) ↦{fullShare} V a) := by
  unfold StableHlo.held; rw [bigSep_singleton]

theorem held_take (ha : a ∈ S) : (StableHlo.held (SparseCore.T d) S V : sProp 𝕄)
    = iprop((((d, a) : Loc nD τ sig) ↦{fullShare} V a) ∗ StableHlo.held (SparseCore.T d) (S \ {a}) V) := by
  rw [StableHlo.held_sub_split _ (Finset.singleton_subset_iff.2 ha), held_one]

theorem held_put (ha : a ∈ S) (v : a.ty.Contents (Elt F)) :
    iprop((((d, a) : Loc nD τ sig) ↦{fullShare} v) ∗ StableHlo.held (SparseCore.T d) (S \ {a}) V)
      = (StableHlo.held (SparseCore.T d) S (Function.update V a v) : sProp 𝕄) := by
  rw [held_take d S (Function.update V a v) a ha, Function.update_self]
  refine congrArg (fun X : sProp 𝕄 => iprop((((d, a) : Loc nD τ sig) ↦{fullShare} v) ∗ X)) (StableHlo.held_congr _ fun b hb => ?_)
  rw [Function.update_of_ne (fun e => (Finset.mem_sdiff.1 hb).2 (Finset.mem_singleton.2 e))]

end Take

theorem mem_uc (b : Ref sig .tc) (hb : b.isScoped = false) : dv b ∈ Pipeline.ucRefs τ sig :=
  Finset.mem_filter.2 ⟨Finset.mem_map.2 ⟨b, Finset.mem_univ _, rfl⟩, by simpa using hb⟩

variable (V0 : Dev nD → Valuation τ sig (Elt F)) (d : Dev nD)

abbrev 𝒰 : Finset (DevRef τ sig) := Pipeline.ucRefs τ sig

theorem takeA (V : Valuation τ sig (Elt F)) : (StableHlo.held (SparseCore.T d) 𝒰 V : sProp 𝕄)
    = iprop((l8 d ↦{fullShare} (V (dv main_v8) : S3328x1024.Idx → Elt F .f32)) ∗ (l7 d ↦{fullShare} (V (dv main_v7) : S3328x64.Idx → BitVec 32))
      ∗ StableHlo.held (SparseCore.T d) ((𝒰 \ {dv main_v8}) \ {dv main_v7}) V) := by
  rw [held_take d 𝒰 V (dv main_v8) (mem_uc _ rfl),
    held_take d (𝒰 \ {dv main_v8}) V (dv main_v7) (Finset.mem_sdiff.2 ⟨mem_uc _ rfl, by decide⟩)]

theorem putA (V : Valuation τ sig (Elt F)) (v : S3328x1024.Idx → Elt F .f32) :
    iprop((l8 d ↦{fullShare} v) ∗ (l7 d ↦{fullShare} (V (dv main_v7) : S3328x64.Idx → BitVec 32))
      ∗ StableHlo.held (SparseCore.T d) ((𝒰 \ {dv main_v8}) \ {dv main_v7}) V)
    ⊢ (StableHlo.held (SparseCore.T d) 𝒰 (Function.update V (dv main_v8) v) : sProp 𝕄) := by
  rw [← held_put d 𝒰 V (dv main_v8) (mem_uc _ rfl) v,
    held_take d (𝒰 \ {dv main_v8}) V (dv main_v7) (Finset.mem_sdiff.2 ⟨mem_uc _ rfl, by decide⟩)]

abbrev restB : Finset (DevRef τ sig) := (((𝒰 \ {dv main_v16_1}) \ {dv main_v16_0}) \ {dv main_v15}) \ {dv main_v11_1}

theorem takeB (V : Valuation τ sig (Elt F)) : (StableHlo.held (SparseCore.T d) 𝒰 V : sProp 𝕄)
    = iprop((l17 d ↦{fullShare} (V (dv main_v16_1) : S32x128.Idx → BitVec 32)) ∗ (l16 d ↦{fullShare} (V (dv main_v16_0) : S3200x128.Idx → BitVec 32))
      ∗ (l15 d ↦{fullShare} (V (dv main_v15) : S32x128.Idx → BitVec 32)) ∗ (l11 d ↦{fullShare} (V (dv main_v11_1) : S3328x72.Idx → BitVec 32))
      ∗ StableHlo.held (SparseCore.T d) restB V) := by
  rw [held_take d 𝒰 V (dv main_v16_1) (mem_uc _ rfl),
    held_take d (𝒰 \ {dv main_v16_1}) V (dv main_v16_0) (Finset.mem_sdiff.2 ⟨mem_uc _ rfl, by decide⟩),
    held_take d ((𝒰 \ {dv main_v16_1}) \ {dv main_v16_0}) V (dv main_v15) (Finset.mem_sdiff.2 ⟨Finset.mem_sdiff.2 ⟨mem_uc _ rfl, by decide⟩, by decide⟩),
    held_take d (((𝒰 \ {dv main_v16_1}) \ {dv main_v16_0}) \ {dv main_v15}) V (dv main_v11_1)
      (Finset.mem_sdiff.2 ⟨Finset.mem_sdiff.2 ⟨Finset.mem_sdiff.2 ⟨mem_uc _ rfl, by decide⟩, by decide⟩, by decide⟩)]

/-- The host's arrays after the compaction, the counts it left `f`. -/
def VF (f : S32x128.Idx → BitVec 32) : Valuation τ sig (Elt F) :=
  Function.update (Function.update (VE (V0 d)) (dv main_v16_0) (oidS (X11 V0 d) (X15 V0 d))) (dv main_v16_1) f

theorem putB (V : Valuation τ sig (Elt F)) (v : S3200x128.Idx → BitVec 32) (f : S32x128.Idx → BitVec 32) :
    iprop((l17 d ↦{fullShare} f) ∗ (l16 d ↦{fullShare} v)
      ∗ (l15 d ↦{fullShare} (V (dv main_v15) : S32x128.Idx → BitVec 32)) ∗ (l11 d ↦{fullShare} (V (dv main_v11_1) : S3328x72.Idx → BitVec 32))
      ∗ StableHlo.held (SparseCore.T d) restB V)
    ⊢ (StableHlo.held (SparseCore.T d) 𝒰 (Function.update (Function.update V (dv main_v16_0) v) (dv main_v16_1) f) : sProp 𝕄) := by
  rw [← held_put d 𝒰 _ (dv main_v16_1) (mem_uc _ rfl) f,
    ← held_put d (𝒰 \ {dv main_v16_1}) V (dv main_v16_0) (Finset.mem_sdiff.2 ⟨mem_uc _ rfl, by decide⟩) v,
    held_take d ((𝒰 \ {dv main_v16_1}) \ {dv main_v16_0}) V (dv main_v15) (Finset.mem_sdiff.2 ⟨Finset.mem_sdiff.2 ⟨mem_uc _ rfl, by decide⟩, by decide⟩),
    held_take d (((𝒰 \ {dv main_v16_1}) \ {dv main_v16_0}) \ {dv main_v15}) V (dv main_v11_1)
      (Finset.mem_sdiff.2 ⟨Finset.mem_sdiff.2 ⟨Finset.mem_sdiff.2 ⟨mem_uc _ rfl, by decide⟩, by decide⟩, by decide⟩)]

/-! ## The recurrence's region between the calls -/

/-- The arrays as the region finds them. -/
abbrev VR (c : Dev nD) (b : Ref sig .tc) : Buf (Elt F) ((c.tc : Thread nD τ).loc b) := VC (V0 c) (dv b)

theorem VR_out (b : Ref sig .tc) : Vout (VR V0) d b = VD (V0 d) (dv b) := by
  unfold VD
  by_cases h1 : b = main_v11_1
  · subst h1; rw [Vout_bits, Function.update_self]; rfl
  · rw [Function.update_of_ne (fun e => h1 (Proc.devRef_injective .tc e))]
    by_cases h0 : b = main_v11_0
    · subst h0; rw [Vout_states, Function.update_self]; rfl
    · rw [Function.update_of_ne (fun e => h0 (Proc.devRef_injective .tc e)), Vout_ne _ _ _ h0 h1]

theorem held_uc (V : Valuation τ sig (Elt F)) : (unscopedBufs d (fun b => V (dv b)) : sProp 𝕄) = StableHlo.held (SparseCore.T d) 𝒰 V :=
  Pipeline.unscopedBufs_held (Ix := HIx 2) (Name := ℕ) (U := UU) (Lvl := ℕ) d V

/-- The ghost state that the region's staging cells are opened with. -/
def Gh (d : Dev nD) : sProp 𝕄 :=
  iprop(Pipeline.cellsGhost (Pipeline.pin (pcfgs (F := F)) adm) EP 0 d ∗ Pipeline.toksInit (Pipeline.pin (pcfgs (F := F)) adm) EP 0 d)

/-- What the core owes between the calls, lent to the region. -/
theorem mid_split : (K (F := F)).tcSt EH d ((0 : Fin 2).val + 1) ⊢ (iprop(owesMid d ∗ (owesMid d -∗ (K (F := F)).tcSt EH d 1)) : sProp 𝕄) := by
  unfold SparseCore.Cfg.tcSt owesMid
  iintro ⟨HO, H⟩
  isplitl [HO]; · iexact HO
  iintro HO
  isplitl [HO]; · iexact HO
  iexact H

theorem takeA' : (StableHlo.held (d.tc : Thread nD τ) 𝒰 (StableHlo.after opsA (V0 d)) : sProp 𝕄)
    ⊢ iprop((l8 d ↦{fullShare} (VA (V0 d) (dv main_v8) : S3328x1024.Idx → Elt F .f32)) ∗ (l7 d ↦{fullShare} X7 (V0 d))
      ∗ StableHlo.held (SparseCore.T d) ((𝒰 \ {dv main_v8}) \ {dv main_v7}) (VA (V0 d))) := Entails.of_eq (takeA d (VA (V0 d)))

theorem putA' : iprop((l8 d ↦{fullShare} (cntG (X7 (V0 d)) 3328 : S3328x1024.Idx → Elt F .f32)) ∗ (l7 d ↦{fullShare} X7 (V0 d))
      ∗ StableHlo.held (SparseCore.T d) ((𝒰 \ {dv main_v8}) \ {dv main_v7}) (VA (V0 d)))
    ⊢ (StableHlo.held (d.tc : Thread nD τ) 𝒰 (VB (V0 d)) : sProp 𝕄) := putA d (VA (V0 d)) (cntG (X7 (V0 d)) 3328)

theorem regIn : iprop(StableHlo.held (d.tc : Thread nD τ) 𝒰 (StableHlo.after opsB (VB (V0 d))) ∗ owesMid d) ⊢ ((reg (VR V0)).pre d : sProp 𝕄) := by
  show _ ⊢ iprop(unscopedBufs d (fun b => VC (V0 d) (dv b)) ∗ owesMid d)
  rw [held_uc]; exact BI.Entails.refl _

theorem regOut : ((reg (VR V0)).post d : sProp 𝕄) ⊢ iprop(StableHlo.held (d.tc : Thread nD τ) 𝒰 (VD (V0 d)) ∗ owesMid d) := by
  show iprop(unscopedBufs d (Vout (VR V0) d) ∗ owesMid d) ⊢ _
  rw [show Vout (VR V0) d = fun b => VD (V0 d) (dv b) from funext (VR_out V0 d), held_uc]

theorem takeB' : (StableHlo.held (d.tc : Thread nD τ) 𝒰 (StableHlo.after opsC (VD (V0 d))) : sProp 𝕄)
    ⊢ iprop((l17 d ↦{fullShare} (VE (V0 d) (dv main_v16_1) : S32x128.Idx → BitVec 32)) ∗ (l16 d ↦{fullShare} (VE (V0 d) (dv main_v16_0) : S3200x128.Idx → BitVec 32))
      ∗ (l15 d ↦{fullShare} X15 V0 d) ∗ (l11 d ↦{fullShare} X11 V0 d) ∗ StableHlo.held (SparseCore.T d) restB (VE (V0 d))) := Entails.of_eq (takeB d (VE (V0 d)))

theorem putB' (f : S32x128.Idx → BitVec 32) : iprop((l17 d ↦{fullShare} f) ∗ (l16 d ↦{fullShare} oidS (X11 V0 d) (X15 V0 d))
      ∗ (l15 d ↦{fullShare} X15 V0 d) ∗ (l11 d ↦{fullShare} X11 V0 d) ∗ StableHlo.held (SparseCore.T d) restB (VE (V0 d)))
    ⊢ (StableHlo.held (d.tc : Thread nD τ) 𝒰 (VF V0 d f) : sProp 𝕄) := putB d (VE (V0 d)) _ f

/-- What @main ends with: the last host operations over some counts that the compaction may have left. -/
abbrev FIN : sProp 𝕄 := iprop(∃ f : S32x128.Idx → BitVec 32, ⌜NOK d V0 f⌝ ∗ StableHlo.held (d.tc : Thread nD τ) 𝒰 (StableHlo.after opsE (VF V0 d f)))

theorem wand_conv {A B C R : sProp 𝕄} (h : B ⊢ C) : iprop((A -∗ B) ∗ R) ⊢ iprop((A -∗ C) ∗ R) := by
  iintro ⟨Hk, H⟩
  isplitl [Hk]
  · iintro H'
    iapply h
    iapply Hk; iexact H'
  iexact H

theorem ret_wp (thr : Thread nD τ) (Q : PUnit → sProp 𝕄) (E : Set ℕ) :
    Q ⟨⟩ ⊢ wp frame (wpE (D (F := F)) 𝒱 thr none) E (Prog.ret ⟨⟩) Q := by
  rw [wp_ret]
  iintro H; imodintro; iexact H

theorem reg_wp (Q : PUnit → sProp 𝕄) :
    iprop((iprop(boundary (d.tc : Thread nD τ) ∗ (reg (VR V0)).post d) -∗ Q ⟨⟩)
        ∗ boundary (d.tc : Thread nD τ) ∗ (reg (VR V0)).pre d ∗ levAts (K (F := F)).L (K (F := F)).lev ∗ Gh d)
      ⊢ wp frame (wpE ((K (F := F)).defs (D (F := F))) 𝒱 (SparseCore.T d) none) Set.univ
          (SparseCore.liftProg (.op (.customCall (Pipeline.entry 0) ()) .ret)) Q := by
  refine BI.Entails.trans ?_ (SparseCore.Cfg.wp_liftProg (K (F := F)) (D (F := F)) 𝒱 _ Set.univ none _ Q)
  refine BI.Entails.trans ?_ (Pipeline.RegionSeg.wp (pcfgs (F := F)) adm (pdats (VR V0)) none cellOf_inj EP defs₀ 𝒱₀ (K (F := F)).L (K (F := F)).lev (reg (VR V0)) d none
    (fun u hu => nomatch hu) .ret Q)
  exact wand_conv (ret_wp _ _ _)

set_option maxHeartbeats 4000000 in
theorem main_wp (κ : GSem nD τ sig → ℕ) :
    iprop((K (F := F)).ctx EH (P V0) κ ∗ (K (F := F)).tcSt EH d 0 ∗ (boundary (SparseCore.T d) ∗ StableHlo.held (SparseCore.T d) 𝒰 (V0 d) ∗ (K (F := F)).tcSems0 d) ∗ Gh d)
      ⊢ wp frame (wpE ((K (F := F)).defs (D (F := F))) 𝒱 (SparseCore.T d) none) Set.univ (main d)
          fun _ => iprop((K (F := F)).tcSt EH d 2 ∗ FIN V0 d ∗ (K (F := F)).tcEnd d) := by
  rw [main_eq]
  iintro ⟨#Hctx, Hst, ⟨Hb, Hh, Hts⟩, HG⟩
  iapply (StableHlo.wp_seq 𝒱 none Set.univ d 𝒰 _ opsA opsA_sub opsA_fresh (V0 d)) $$ [Hb Hh]
  · isplitl [Hb] <;> iassumption
  iintro ⟨Hb, Hh⟩
  rw [wp_bind]
  ihave Hh' := (takeA' V0 d) $$ Hh
  icases Hh' with ⟨H8, H7, Hh⟩
  iapply ((K (F := F)).wp_run (D (F := F)) 𝒱 (EH := EH) (P := P V0) κ d 0) $$ [Hst H8 H7 Hh Hb Hts HG]
  isplitr; · iexact Hctx
  isplitl [Hst]; · iexact Hst
  isplitl [H8 H7]
  · rw [stA]
    isplitl [H7]; · iexact H7
    iexact H8
  iintro ⟨Hst, Hdn⟩
  ihave Hdn' := (Entails.of_eq (dnA d V0)) $$ Hdn
  icases Hdn' with ⟨H7, H8⟩
  ihave Hh := (putA' V0 d) $$ [H7 H8 Hh]
  · isplitl [H8]; · iexact H8
    isplitl [H7]; · iexact H7
    iexact Hh
  iapply (StableHlo.wp_seq 𝒱 none Set.univ d 𝒰 _ opsB opsB_sub opsB_fresh (VB (V0 d))) $$ [Hb Hh]
  · isplitl [Hb] <;> iassumption
  iintro ⟨Hb, Hh⟩
  rw [wp_bind]
  ihave Hst' := (mid_split d) $$ Hst
  icases Hst' with ⟨Hmid, Hst⟩
  ihave Hlv := (SparseCore.Cfg.ctx_levAts κ) $$ Hctx
  ihave Hpre := (regIn V0 d) $$ [Hh Hmid]
  · isplitl [Hh] <;> iassumption
  iapply (reg_wp V0 d _) $$ [Hst Hpre Hb Hts HG Hlv]
  isplitl [Hst Hts]
  · iintro ⟨Hb, Hpost⟩
    ihave Hpost' := (regOut V0 d) $$ Hpost
    icases Hpost' with ⟨Hh, Hmid⟩
    ihave Hst := Hst $$ Hmid
    iapply (StableHlo.wp_seq 𝒱 none Set.univ d 𝒰 _ opsC opsC_sub opsC_fresh (VD (V0 d))) $$ [Hb Hh]
    · isplitl [Hb] <;> iassumption
    iintro ⟨Hb, Hh⟩
    rw [wp_bind]
    ihave Hh' := (takeB' V0 d) $$ Hh
    icases Hh' with ⟨H17, H16, H15, H11, Hh⟩
    iapply ((K (F := F)).wp_run (D (F := F)) 𝒱 (EH := EH) (P := P V0) κ d 1) $$ [Hst H17 H16 H15 H11 Hh Hb Hts]
    isplitr; · iexact Hctx
    isplitl [Hst]; · iexact Hst
    isplitl [H17 H16 H15 H11]
    · iapply (stB' d V0)
      isplitl [H11]; · iexact H11
      isplitl [H15]; · iexact H15
      isplitl [H16]; · iexact H16
      iexact H17
    iintro ⟨Hst, Hdn⟩
    ihave Hdn' := (dnB d V0) $$ Hdn
    icases Hdn' with ⟨H11, H15, H16, %f, %hf, H17⟩
    ihave Hh := (putB' V0 d f) $$ [H11 H15 H16 H17 Hh]
    · isplitl [H17]; · iexact H17
      isplitl [H16]; · iexact H16
      isplitl [H15]; · iexact H15
      isplitl [H11]; · iexact H11
      iexact Hh
    iapply (StableHlo.wp_seq 𝒱 none Set.univ d 𝒰 _ opsE opsE_sub opsE_fresh (VF V0 d f)) $$ [Hb Hh]
    · isplitl [Hb] <;> iassumption
    iintro ⟨Hb, Hh⟩
    rw [wp_pure]
    imodintro
    isplitl [Hst]; · iexact Hst
    isplitl [Hh]
    · iexists f
      isplitr; · ipureintro; exact hf
      iexact Hh
    unfold SparseCore.Cfg.tcEnd
    isplitl [Hb] <;> iassumption
  isplitl [Hb]; · iexact Hb
  isplitl [Hpre]; · iexact Hpre
  isplitl [Hlv]; · iexact Hlv
  iexact HG

end Cert.Proof

end
-- ==== Proof.ScLaunch.lean ====
/-
  The whole program's run: from a launch memory whose ids are in range, every thread stops, and the memory is the
  host's arrays after the last operation.
-/
module

public import proofs.«01_k».proof.Proof.ScRun

@[expose] public section

noncomputable section

namespace Cert.Proof

open Cert.KernelIdeal Cert.KernelIdeal.Gen
open Idealize.ShloMosaic
open Idealize.ShloMosaic.ValueIdx hiding ix1 ix2 ix3
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## Reading the memory off the arrays held -/

theorem held_reads (d : Dev nD) (s' : Phys nD τ sig (Elt F)) (V : Valuation τ sig (Elt F)) (S : Finset (DevRef τ sig)) :
    iprop(StableHlo.held (d.tc : Thread nD τ) S V ∗ SI s') ⊢ (iprop(⌜∀ b ∈ S, s'.mem.mem (d, b) = V b⌝ ∗ SI s') : sProp 𝕄) := by
  classical
  unfold StableHlo.held
  induction S using Finset.induction_on with
  | empty =>
    rw [bigSep_empty]
    iintro ⟨-, H⟩
    isplitr; · ipureintro; simp
    iexact H
  | insert a S ha ih =>
    rw [SparseCore.bigSep_insert' ha]
    iintro ⟨⟨Ha, HS⟩, HSI⟩
    ihave H := (persistent_entails_right (SI_pointsTo_agree (st := s') (ℓ := ((d.tc : Thread nD τ).1, a)) (I := Finset.univ) (q := fullShare) (f := V a))) $$ [HSI Ha]
    · isplitl [HSI] <;> iassumption
    icases H with ⟨%h1, HSI, -⟩
    ihave H := ih $$ [HS HSI]
    · isplitl [HS] <;> iassumption
    icases H with ⟨%h2, HSI⟩
    isplitr
    · ipureintro
      intro b hb
      rcases Finset.mem_insert.1 hb with rfl | hb
      · exact funext fun i => h1 i (Finset.mem_univ i)
      · exact h2 b hb
    iexact HSI

/-! ## The launch's ghost state -/

theorem hinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) hinj) (Pipeline.launchToks (Pipeline.pin (pcfgs (F := F)) adm) hinj), 1))

theorem ghosts : (BI.own (EP (initOf (Pipeline.cells (Pipeline.pin (pcfgs (F := F)) adm) hinj) (Pipeline.launchToks (Pipeline.pin (pcfgs (F := F)) adm) hinj))) : sProp 𝕄)
    ⊢ iprop(|==> bigSep Finset.univ fun d : Dev nD => Gh d) := by
  refine (Pipeline.fund_ghost (Pipeline.pin (pcfgs (F := F)) adm) EP hinj).trans (bupd_mono ?_)
  rw [← bigSep_sep']
  refine bigSep_mono fun d _ => ?_
  unfold Gh
  rw [bigSep_univ_of_subsingleton (0 : Fin 1), bigSep_univ_of_subsingleton (0 : Fin 1)]
  exact BI.Entails.refl _

variable (V0 : Dev nD → Valuation τ sig (Elt F))

theorem to_emp (A : sProp 𝕄) : A ⊢ iprop(emp) := by
  iintro -; iempintro

theorem own_right (a : URounds (GSem nD τ sig) Unit) : (BI.own ((embR : Emb (URounds (GSem nD τ sig) Unit × Counters) 𝕄) (a, (1 : Counters))) : sProp 𝕄)
    ⊢ iprop(BI.own (EP a) ∗ emp) := by
  refine (own_pair_emb (embR : Emb (URounds (GSem nD τ sig) Unit × Counters) 𝕄) a (1 : Counters)).trans ?_
  show iprop(BI.own (EP a) ∗ _) ⊢ _
  exact BI.sep_mono (BI.Entails.refl _) (to_emp _)

theorem res_cut {A B C E G H P' : sProp 𝕄} : iprop(A ∗ B ∗ (C ∗ E ∗ G ∗ H) ∗ P') ⊢ iprop(A ∗ B ∗ (C ∗ E ∗ G) ∗ P') := by
  iintro ⟨Hctx, Hst, ⟨Hb, Hh, Hts, -⟩, HG⟩
  isplitl [Hctx]; · iexact Hctx
  isplitl [Hst]; · iexact Hst
  isplitl [Hb Hh Hts]
  · isplitl [Hb]; · iexact Hb
    isplitl [Hh]; · iexact Hh
    iexact Hts
  iexact HG

theorem hu₀ : (ownU (u₀ (F := F)) : sProp 𝕄)
    ⊢ |={Set.univ}=> iprop(BI.own (EH (initOf (K (F := F)).hsCells (K (F := F)).hsToks)) ∗ (bigSep Finset.univ fun d : Dev nD => Gh d)
        ∗ bigSep Finset.univ fun thr : Thread nD τ => bigSep Finset.univ fun q : Fin 2 => (P V0).x q thr) := by
  unfold u₀
  iintro Hu
  ihave H := (ownU_pair _ _) $$ Hu
  icases H with ⟨HH, HR⟩
  ihave H := (own_right _) $$ HR
  icases H with ⟨HP, -⟩
  imod (ghosts (F := F)) $$ HP with HG
  imodintro
  isplitl [HH]; · iexact HH
  isplitl [HG]; · iexact HG
  rw [show (fun thr : Thread nD τ => bigSep Finset.univ fun q : Fin 2 => (P V0).x q thr) = fun _ => (iprop(emp) : sProp 𝕄) from
    funext fun thr => bigSep_emp_const _]
  rw [show (bigSep Finset.univ fun _ : Thread nD τ => (iprop(emp) : sProp 𝕄)) = iprop(emp) from bigSep_emp_const _]
  iempintro

/-! ## The run -/

variable (m : (ℓ : Loc nD τ sig) → Buf (Elt F) ℓ) (ρ : Dev nD → PrngReg)

/-- The host's arrays at the launch. -/
abbrev V00 (d : Dev nD) : Valuation τ sig (Elt F) := fun b => m (d, b)

theorem hmain (κ : GSem nD τ sig → ℕ) (d : Dev nD) :
    iprop((K (F := F)).ctx EH (P (V00 m)) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 2 ∗ FIN (V00 m) d ∗ (K (F := F)).tcEnd d) := by
  refine BI.Entails.trans ?_ (main_wp (V00 m) d κ)
  unfold SparseCore.Cfg.tcRes
  rw [← held_uc]
  exact res_cut

/-- What the memory holds at the end, on device `d`. -/
def Ends (d : Dev nD) (mem : (ℓ : Loc nD τ sig) → Buf (Elt F) ℓ) : Prop :=
  ∃ f, NOK d (V00 m) f ∧ ∀ b ∈ 𝒰, mem (d, b) = StableHlo.after opsE (VF (V00 m) d f) b

theorem hfin (d : Dev nD) (s' : Phys nD τ sig (Elt F)) : iprop(FIN (V00 m) d ∗ SI s') ⊢ (⌜Ends m d s'.mem.mem⌝ : sProp 𝕄) := by
  iintro ⟨⟨%f, %hf, Hh⟩, HSI⟩
  ihave H := (held_reads d s' _ 𝒰) $$ [Hh HSI]
  · isplitl [Hh] <;> iassumption
  icases H with ⟨%h, -⟩
  ipureintro; exact ⟨f, hf, h⟩

theorem run_main [∀ e, Nonempty (Elt F e)] (hv7 : ∀ d i, (X7 (V00 m d) i).toNat ≤ 1024) :
    θ_run (Cert.KernelIdeal.defs (F := F)) (Cert.KernelIdeal.threads (F := F)) ⟨m, fun _ => 0, ρ⟩
      (fun r => (∀ d, Ends m d r.2.mem) ∧ r.2.sem = fun _ => 0) :=
  SparseCore.Cfg.θ_run_sc_quiescent (K := K (F := F)) (D := D (F := F)) (𝒱 := 𝒱) (EH := EH) (P := P (V00 m)) (A := ∅) facts v₀
    (fun q hq => match q with | 0 => nomatch hq | 1 => nomatch hq)
    (fun q _ => match q with | 0 => oblA (V00 m) hv7 | 1 => oblB (V00 m))
    (fun q _ => match q with | 0 => SparseCore.Cfg.VecSplit.of_plain (splitA (V00 m)) | 1 => SparseCore.Cfg.VecSplit.of_plain (splitB (V00 m)))
    m ρ main Gh (FIN (V00 m)) (u₀ (F := F)) (sep_elim_left.trans (hu₀ (V00 m))) (hmain m ρ) (fun d s' => Ends m d s'.mem.mem) (hfin m) _ (fun _ h hz => ⟨h, hz⟩)

end Cert.Proof

end
-- ==== Proof.HostVal.lean ====
/-
The values of the host's arrays around the three calls, read from the arguments' contents: the padded ids, the parameter rows, the
  counts of the rows, and the results in their shapes.
-/
module

public import proofs.«01_k».proof.Proof.ScLaunch
public import Idealize.ShloMosaic.Lib.KernelVsHost

@[expose] public section

noncomputable section

namespace Cert.Proof

open Cert.KernelIdeal Cert.KernelIdeal.Gen
open Idealize.ShloMosaic
open Idealize.ShloMosaic.ValueIdx hiding ix1 ix2 ix3
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (V0 : Valuation τ sig (Elt F))

theorem X7_eq : X7 V0 = pad S3328x64 ![0, 0] ![128, 0] ![0, 0]
    (shapeCast S3200x64 (select (cmpi .slt (broadcastInDim S100x32x64 ![0, 1, 2] bcast_S1x1x64_S100x32x64_0_1_2 (broadcastInDim S1x1x64 ![2] bcast_S64_S1x1x64_2 (iotaInDim S64 32 0)))
        (broadcastInDim S100x32x64 ![0, 1, 2] bcast_S100x32x1_S100x32x64_0_1_2 (V0 (dv main_arg1) : S100x32x1.Idx → BitVec 32)))
      (V0 (dv main_arg0) : S100x32x64.Idx → BitVec 32) (broadcastInDim S100x32x64 ![] bcast_S_S100x32x64 (constantI S_ 32 1024#32))) shapeCasts_S100x32x64_S3200x64)
    (constantI S_ 32 1024#32) pads_S3200x64_S3328x64_01280_000 h_S_ := by
  unfold X7 VA; delta opsA
  after_results_simp
  rfl

theorem VA_keep {r : Ref sig .tc} (hr : r = main_arg0 ∨ r = main_arg1 ∨ r = main_arg2 ∨ r = main_arg3 ∨ r = main_arg4 ∨ r = main_arg5) :
    VA V0 (dv r) = V0 (dv r) := by
  unfold VA; delta opsA
  rcases hr with rfl | rfl | rfl | rfl | rfl | rfl <;> after_results_simp

/-- One of the six arguments. -/
def IsArg (r : Ref sig .tc) : Prop := r = main_arg0 ∨ r = main_arg1 ∨ r = main_arg2 ∨ r = main_arg3 ∨ r = main_arg4 ∨ r = main_arg5

theorem VC_keep {r : Ref sig .tc} (hr : IsArg r) : VC V0 (dv r) = V0 (dv r) := by
  have h : VC V0 (dv r) = VB V0 (dv r) := by
    unfold VC; delta opsB
    rcases hr with rfl | rfl | rfl | rfl | rfl | rfl <;> after_results_simp
  rw [h, ← VA_keep V0 hr]
  unfold VB
  refine Function.update_of_ne ?_ _ _
  rcases hr with rfl | rfl | rfl | rfl | rfl | rfl <;> decide

theorem VE_keep {r : Ref sig .tc} (hr : IsArg r) : VE V0 (dv r) = V0 (dv r) := by
  have h : VE V0 (dv r) = VD V0 (dv r) := by
    unfold VE; delta opsC
    rcases hr with rfl | rfl | rfl | rfl | rfl | rfl <;> after_results_simp
  rw [h, ← VC_keep V0 hr]
  unfold VD
  rw [Function.update_of_ne, Function.update_of_ne]
  all_goals rcases hr with rfl | rfl | rfl | rfl | rfl | rfl <;> decide

theorem end_keep (V : Dev nD → Valuation τ sig (Elt F)) (d : Dev nD) (f : S32x128.Idx → BitVec 32) {r : Ref sig .tc} (hr : IsArg r) :
    StableHlo.after opsE (VF V d f) (dv r) = V d (dv r) := by
  have h : StableHlo.after opsE (VF V d f) (dv r) = VF V d f (dv r) := by
    delta opsE
    rcases hr with rfl | rfl | rfl | rfl | rfl | rfl <;> after_results_simp
  rw [h, ← VE_keep (V d) hr]
  unfold VF
  rw [Function.update_of_ne, Function.update_of_ne]
  all_goals rcases hr with rfl | rfl | rfl | rfl | rfl | rfl <;> decide

variable (m : (ℓ : Loc nD τ sig) → Buf (Elt F) ℓ)

theorem ends_keep {d : Dev nD} {mem : (ℓ : Loc nD τ sig) → Buf (Elt F) ℓ} (h : Ends m d mem) {r : Ref sig .tc} (hr : IsArg r) :
    mem (d, dv r) = m (d, dv r) := by
  obtain ⟨f, -, h⟩ := h
  rw [h (dv r) (mem_uc r (by rcases hr with rfl | rfl | rfl | rfl | rfl | rfl <;> rfl))]
  exact end_keep (V00 m) d f hr

/-! ## The padded ids at an index -/

/-- A row of the padded ids. -/
theorem reshape_rows {α : Type} (x : S100x32x64.Idx → α) (r : Fin 3200) (s : Fin 64) :
    shapeCast S3200x64 x shapeCasts_S100x32x64_S3200x64 (ix2 r s)
      = x (ix3 (⟨r.val / 32, by have := r.isLt; omega⟩ : Fin 100) (⟨r.val % 32, by omega⟩ : Fin 32) s) := by
  refine congrArg x (Shape.reshapeEquiv_eq_of_rowMajor _ ?_)
  rw [Shape.rowMajor_val_three, Shape.rowMajor_val_two]
  show (r.val / 32 * 32 + r.val % 32) * 64 + s.val = r.val * 64 + s.val
  omega

/-- The id in slot `s` of row `r`: the argument's where the slot is valid, 1024 elsewhere and in the rows added below. -/
theorem X7_at (r : Fin 3328) (s : Fin 64) : X7 V0 (ix2 r s) =
    if h : r.val < 3200 then
      (if IntOp.cmpi .slt (BitVec.ofNat 32 s.val) ((V0 (dv main_arg1) : S100x32x1.Idx → BitVec 32) (ix3 (⟨r.val / 32, by omega⟩ : Fin 100) (⟨r.val % 32, by omega⟩ : Fin 32) (0 : Fin 1))) = 1#1
        then (V0 (dv main_arg0) : S100x32x64.Idx → BitVec 32) (ix3 (⟨r.val / 32, by omega⟩ : Fin 100) (⟨r.val % 32, by omega⟩ : Fin 32) s) else 1024#32)
    else 1024#32 := by
  rw [X7_eq]
  split
  · rename_i h
    rw [pad_apply_of_inside _ _ _ _ _ _ _ (ix2 r s) (ix2 (⟨r.val, h⟩ : Fin 3200) s) (fun a => by
      match a with
      | ⟨0, _⟩ => show r.val = 0 + r.val * (0 + 1); omega
      | ⟨1, _⟩ => show s.val = 0 + s.val * (0 + 1); omega)]
    rw [reshape_rows]
    show Scalar.select (IntOp.cmpi .slt (BitVec.ofNat 32 s.val) (broadcastInDim S100x32x64 ![0, 1, 2] bcast_S100x32x1_S100x32x64_0_1_2 (V0 (dv main_arg1) : S100x32x1.Idx → BitVec 32) _)) _ _ = _
    rw [broadcastInDim_apply ![0, 1, 2] bcast_S100x32x1_S100x32x64_0_1_2 (V0 (dv main_arg1) : S100x32x1.Idx → BitVec 32) _ (ix3 (⟨r.val / 32, by omega⟩ : Fin 100) (⟨r.val % 32, by omega⟩ : Fin 32) (0 : Fin 1)) (by
      intro a
      match a with
      | ⟨0, _⟩ => rfl
      | ⟨1, _⟩ => rfl
      | ⟨2, _⟩ => rfl)]
    rfl
  · rename_i h
    rw [pad_apply_of_not_inside _ _ _ _ _ _ _ (ix2 r s) (0 : Fin 2) (fun hh => h (by
      have h3 : (r.val - 0) / (0 + 1) < 3200 := hh.2.2
      omega))]
    rfl

/-- Ids in range give padded ids of at most 1024. -/
theorem X7_le (hr : ∀ i, ((V0 (dv main_arg0) : S100x32x64.Idx → BitVec 32) i).toNat < 1024) (i : S3328x64.Idx) : (X7 V0 i).toNat ≤ 1024 := by
  have h := X7_at V0 (i 0) (i 1)
  rw [show X7 V0 (ix2 (i 0 : Fin 3328) (i 1 : Fin 64)) = X7 V0 i from congrArg (X7 V0) (ValueIdx.eq_ix2 (n0 := 3328) (n1 := 64) i).symm] at h
  rw [h]
  split
  · split
    · exact (hr _).le
    · decide
  · decide

end Cert.Proof

end
-- ==== Proof.RefFrame.lean ====
/-
  The reference's run: it has no semaphore, and its arguments end as they began.
-/
module

public import proofs.«01_k».proof.Proof.Gen.ReferenceIdeal.Run

@[expose] public section

noncomputable section

namespace Cert.Proof.Ref

open Cert.ReferenceIdeal Cert.ReferenceIdeal.Gen Cert.ReferenceIdeal.Value
open Idealize.ShloMosaic Idealize.ShloMosaic.TcCoe
open Idealize.SL.Sem

variable {F : FTy → Type} [FloatOps F]

/-- One of the six arguments. -/
def IsArg (r : Ref sig .tc) : Prop := r = main_arg0 ∨ r = main_arg1 ∨ r = main_arg2 ∨ r = main_arg3 ∨ r = main_arg4 ∨ r = main_arg5

/-- One of the values the loop carries unchanged. -/
def IsKept (r : Ref sig .tc) : Prop :=
  r = main_v10_0 ∨ r = main_v10_1 ∨ r = main_v10_2 ∨ r = main_v10_3 ∨ r = main_v10_4 ∨ r = main_v10_5 ∨ r = main_v10_6

variable (m : (ℓ : Loc nD τ sig) → Buf (Elt F) ℓ)

/-- A trip leaves a buffer alone that none of its operations writes. -/
theorem trip_keep (V : Valuation τ sig (Elt F)) {r : Ref sig .tc} (hr : IsArg r ∨ IsKept r) :
    StableHlo.afterL bodyI (StableHlo.after condOps V) (Proc.devRef .tc r) = V (Proc.devRef .tc r) := by
  simp only [StableHlo.afterL_cons, StableHlo.afterL_nil]
  rw [StableHlo.after_of_writes_sub while0Ops0_12 _ while0Ops0_12_writes, StableHlo.after_of_writes_sub while0Ops0_11 _ while0Ops0_11_writes,
    StableHlo.after_of_writes_sub while0Ops0_10 _ while0Ops0_10_writes, StableHlo.after_of_writes_sub while0Ops0_9 _ while0Ops0_9_writes,
    StableHlo.after_of_writes_sub while0Ops0_8 _ while0Ops0_8_writes, StableHlo.after_of_writes_sub while0Ops0_7 _ while0Ops0_7_writes,
    StableHlo.after_of_writes_sub while0Ops0_6 _ while0Ops0_6_writes, StableHlo.after_of_writes_sub while0Ops0_5 _ while0Ops0_5_writes,
    StableHlo.after_of_writes_sub while0Ops0_4 _ while0Ops0_4_writes, StableHlo.after_of_writes_sub while0Ops0_3 _ while0Ops0_3_writes,
    StableHlo.after_of_writes_sub while0Ops0_2 _ while0Ops0_2_writes, StableHlo.after_of_writes_sub while0Ops0_1 _ while0Ops0_1_writes,
    StableHlo.after_of_writes_sub while0Ops0 _ while0Ops0_writes, StableHlo.after_of_writes_sub condOps _ condOps_writes]
  all_goals rcases hr with (rfl | rfl | rfl | rfl | rfl | rfl) | (rfl | rfl | rfl | rfl | rfl | rfl | rfl) <;> decide +kernel

theorem atK_keep (c : Dev nD) {r : Ref sig .tc} (hr : IsArg r ∨ IsKept r) :
    ∀ k, atK m k c (Proc.devRef .tc r) = StableHlo.entryContents preI m c (Proc.devRef .tc r)
  | 0 => rfl
  | k + 1 => (trip_keep _ hr).trans (atK_keep c hr k)

theorem entry_arg (c : Dev nD) {r : Ref sig .tc} (hr : IsArg r) :
    StableHlo.entryContents preI m c (Proc.devRef .tc r) = m ((c.tc : Thread nD τ).loc r) := by
  simp only [StableHlo.entryContents, StableHlo.afterL_cons, StableHlo.afterL_nil]
  rw [StableHlo.after_of_writes_sub hostOps0 _ hostOps0_writes]
  rcases hr with rfl | rfl | rfl | rfl | rfl | rfl <;> decide +kernel

theorem final_arg (c : Dev nD) {r : Ref sig .tc} (hr : IsArg r) :
    StableHlo.finalContents condOps preI bodyI postI 100 m c (Proc.devRef .tc r) = m ((c.tc : Thread nD τ).loc r) := by
  show StableHlo.after condOps (atK m 100 c) (Proc.devRef .tc r) = _
  rw [StableHlo.after_of_writes_sub condOps _ condOps_writes]
  · rw [atK_keep m c (.inl hr), entry_arg m c hr]
  · rcases hr with rfl | rfl | rfl | rfl | rfl | rfl <;> decide +kernel

theorem sem_zero (s : MemSt nD τ sig (Elt F)) : s.sem = fun _ => 0 :=
  funext fun g => match g with
    | (_, .reg i) => i.elim0
    | (_, .dma i) => i.elim0

theorem run_keep (ρ : Dev nD → PrngReg) : θ_run (defs (F := F)) (onTc (τ := τ) (main (F := F))) ⟨m, fun _ => 0, ρ⟩
    (fun r => (∀ (c : Dev nD) (b : Ref sig .tc), IsArg b → r.2.mem ((c.tc : Thread nD τ).loc b) = m ((c.tc : Thread nD τ).loc b))
      ∧ r.2.sem = fun _ => 0) :=
  (θ_run _ _ _).mono (fun r h => ⟨fun c b hb => (h c b (by rcases hb with rfl | rfl | rfl | rfl | rfl | rfl <;> rfl)).trans (final_arg m c hb), sem_zero r.2⟩)
    (run_fold m ρ)

end Cert.Proof.Ref

end
-- ==== Proof.Same.lean ====
/-
  The two prints of the kernel, for machine words and for extended reals, are one program at machine words.
-/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.ShloMosaic.TcCoe

theorem body0 : @Cert.Kernel.cc0_counts_kernel Bits _ Cert.Kernel.Gen.facts = @Cert.KernelIdeal.cc0_counts_kernel Bits _ Cert.KernelIdeal.Gen.facts := rfl
theorem body1 : @Cert.Kernel.cc1_body Bits _ Cert.Kernel.Gen.facts = @Cert.KernelIdeal.cc1_body Bits _ Cert.KernelIdeal.Gen.facts := rfl
theorem body2 : @Cert.Kernel.cc2_compact_kernel Bits _ Cert.Kernel.Gen.facts = @Cert.KernelIdeal.cc2_compact_kernel Bits _ Cert.KernelIdeal.Gen.facts := rfl

set_option maxHeartbeats 2000000 in
/-- The two tables of bodies agree, label by label. -/
theorem bodies : Cert.Kernel.defs₀ (F := Bits) = Cert.KernelIdeal.defs₀ (F := Bits) := by
  funext p l a
  match p, l, a with
  | .scVector c s, 0, _ => rfl
  | .scVector c s, 1, _ => rfl
  | .scVector c s, 2, _ => rfl
  | .tc, 0, _ => rfl
  | .tc, 1, (t, s) => rfl
  | .tc, 2, _ => rfl
  | .scScalar c, 0, _ => rfl
  | .scScalar c, 1, _ => rfl
  | .scScalar c, 2, _ => rfl

theorem defs : Cert.Kernel.defs (F := Bits) = Cert.KernelIdeal.defs (F := Bits) :=
  congrArg (fun D => SparseCore.Cfg.defs (Cert.KernelIdeal.sc (F := Bits)) (Pipeline.defs (Cert.KernelIdeal.pcfgs (F := Bits)) D)) bodies

theorem threads : Cert.Kernel.threads (F := Bits) = Cert.KernelIdeal.threads (F := Bits) := rfl

end Cert.Proof.Same

end
-- ==== Proof.Frames.lean ====
/-
  The precondition read at an index, and the runs of the two prints of the kernel and of the reference: each ends with its
  arguments unchanged and every counter at zero.
-/
module

public import proofs.«01_k».proof.Proof.HostVal
public import proofs.«01_k».proof.Proof.RefFrame
public import proofs.«01_k».proof.Proof.Same
public import proofs.«01_k».proof.Defs
public import proofs.«01_k».proof.Proof.Gen.Kernel
public import Idealize.ShloMosaic.Lib.ReduceAll

@[expose] public section

noncomputable section

namespace Cert.Proof

open Idealize.ShloMosaic Idealize.ShloMosaic.TcCoe
open Idealize.SL.Sem

/-- Where the ids are in range, every one of them is below 1024. -/
theorem ids_lt {F : FTy → Type} [FloatOps F] [Cert.Pre_ids_in_range.Facts] (a0 : Cert.Pre_ids_in_range.S100x32x64.Idx → BitVec 32) (a1 a2 a3 a4 a5)
    (h : Cert.Pre_ids_in_range.fn (F := F) a0 a1 a2 a3 a4 a5 = fun _ => 1#1) (i : Cert.Pre_ids_in_range.S100x32x64.Idx) : (a0 i).toNat < 1024 := by
  have h0 := congrFun h (fun a => a.elim0)
  unfold Cert.Pre_ids_in_range.fn at h0
  haveI : Subsingleton Cert.Pre_ids_in_range.S_.Idx := ⟨fun a b => funext fun x => x.elim0⟩
  have h1 := Host.reduce_andi_all _ _ _ _ _ h0 i
  have h2 : IntOp.andi (IntOp.cmpi .sge (a0 i) 0#32) (IntOp.cmpi .slt (a0 i) 1024#32) = 1#1 := h1
  revert h2
  generalize a0 i = x
  unfold IntOp.cmpi IntOp.andi
  intro h2
  have h3 : (0#32).sle x = true ∧ x.slt 1024#32 = true := by
    by_cases ha : (0#32).sle x = true <;> by_cases hb : x.slt 1024#32 = true <;> simp_all
  rw [BitVec.sle_eq_decide, BitVec.slt_eq_decide, decide_eq_true_eq, decide_eq_true_eq] at h3
  have e1 : (0#32).toInt = 0 := by decide
  have e2 : (1024#32).toInt = 1024 := by decide
  rw [e1, e2, BitVec.toInt_eq_toNat_cond] at h3
  have := x.isLt
  split at h3 <;> omega

section Run
open Cert.KernelIdeal

variable {F : FTy → Type} [FloatOps F] (m : (ℓ : Loc nD τ sig) → Buf (Elt F) ℓ) (ρ : Dev nD → PrngReg)

/-- The kernel's run from ids in range. -/
theorem run_keep [∀ e, Nonempty (Elt F e)]
    (hr : ∀ (d : Dev nD) i, ((m ((d.tc : Thread nD τ).loc main_arg0) : S100x32x64.Idx → BitVec 32) i).toNat < 1024) :
    θ_run (Cert.KernelIdeal.defs (F := F)) (Cert.KernelIdeal.threads (F := F)) ⟨m, fun _ => 0, ρ⟩
      (fun r => (∀ (d : Dev nD) (b : Ref sig .tc), IsArg b → r.2.mem ((d.tc : Thread nD τ).loc b) = m ((d.tc : Thread nD τ).loc b))
        ∧ r.2.sem = fun _ => 0) :=
  (θ_run _ _ _).mono (fun _ h => ⟨fun d _ hb => ends_keep m (h.1 d) hb, h.2⟩)
    (run_main m ρ fun d i => X7_le (V00 m d) (hr d) i)

/-- The same with the six arguments named. -/
theorem run_args [∀ e, Nonempty (Elt F e)]
    (hr : ∀ (d : Dev nD) i, ((m ((d.tc : Thread nD τ).loc main_arg0) : S100x32x64.Idx → BitVec 32) i).toNat < 1024) :
    θ_run (Cert.KernelIdeal.defs (F := F)) (Cert.KernelIdeal.threads (F := F)) ⟨m, fun _ => 0, ρ⟩
      (fun r => (∀ d : Dev nD, r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)
        ∧ r.2.mem ((d.tc : Thread nD τ).loc main_arg4) = m ((d.tc : Thread nD τ).loc main_arg4)
        ∧ r.2.mem ((d.tc : Thread nD τ).loc main_arg5) = m ((d.tc : Thread nD τ).loc main_arg5))
        ∧ r.2.sem = fun _ => 0) :=
  (θ_run _ _ _).mono (fun _ h => ⟨fun c => ⟨h.1 c _ (.inl rfl), h.1 c _ (.inr (.inl rfl)), h.1 c _ (.inr (.inr (.inl rfl))),
      h.1 c _ (.inr (.inr (.inr (.inl rfl)))), h.1 c _ (.inr (.inr (.inr (.inr (.inl rfl))))), h.1 c _ (.inr (.inr (.inr (.inr (.inr rfl)))))⟩, h.2⟩)
    (run_keep m ρ hr)

end Run

section
variable [hf : Cert.Pre_ids_in_range.Facts]

theorem frame_ideal : Cert.quiescent_KernelIdeal (hKernelIdeal := Cert.KernelIdeal.Gen.facts) := fun m g hp =>
  run_args m g fun d i => ids_lt _ _ _ _ _ _ (hp d) i

/-- The two prints of the kernel are one program. -/
theorem frame_bits : Cert.quiescent_Kernel (hKernel := Cert.Kernel.Gen.facts) := fun m g hp => by
  have h := run_args (F := Bits) m g fun d i => ids_lt _ _ _ _ _ _ (hp d) i
  rw [← Same.defs] at h
  exact h

theorem frame_ref : Cert.quiescent_ReferenceIdeal (hReferenceIdeal := Cert.ReferenceIdeal.Gen.facts) := fun m g _ =>
  (θ_run _ _ _).mono (fun _ h => ⟨fun c => ⟨h.1 c _ (.inl rfl), h.1 c _ (.inr (.inl rfl)), h.1 c _ (.inr (.inr (.inl rfl))),
      h.1 c _ (.inr (.inr (.inr (.inl rfl)))), h.1 c _ (.inr (.inr (.inr (.inr (.inl rfl))))), h.1 c _ (.inr (.inr (.inr (.inr (.inr rfl)))))⟩, h.2⟩)
    (Ref.run_keep m g)

end

end Cert.Proof

end
-- ==== Proof.Spec.lean ====
/-
  One neuron over the steps: the potential leaks and takes its input, the neuron fires above its threshold, and
  a firing neuron is reset.
-/
module

public import Idealize.ShloMosaic.PureOps

@[expose] public section

noncomputable section

namespace Cert.Proof

open Idealize.ShloMosaic

variable {F : FTy → Type} [FloatOps F]

/-- The potential after leak and input. -/
def nrnNew (d s y : F .f32) : F .f32 :=
  FloatOps.addf (FloatOps.mulf s d) (FloatOps.mulf (FloatOps.subf (Scalar.ofBits .f32 0x3F800000#32) d) y)
/-- Whether the neuron fires. -/
def nrnFire (d th s y : F .f32) : BitVec 1 := FloatOps.cmpf .ogt (nrnNew d s y) th
/-- The state after the step. -/
def nrnSt (d th s y : F .f32) : F .f32 := Scalar.select (nrnFire d th s y) (Scalar.ofBits .f32 0x00000000#32) (nrnNew d s y)

/-- The state before step `t` when the inputs are `y`. -/
def nrn (d th : F .f32) (y : ℕ → F .f32) (s0 : F .f32) : ℕ → F .f32
  | 0 => s0
  | t + 1 => nrnSt d th (nrn d th y s0 t) (y t)

/-- Whether the neuron fires at step `t`. -/
def nrnSp (d th : F .f32) (y : ℕ → F .f32) (s0 : F .f32) (t : ℕ) : BitVec 1 := nrnFire d th (nrn d th y s0 t) (y t)

/-- The states depend on the inputs of the steps before only. -/
theorem nrn_congr (d th : F .f32) {y y' : ℕ → F .f32} (s0 : F .f32) : ∀ t, (∀ k, k < t → y k = y' k) → nrn d th y s0 t = nrn d th y' s0 t
  | 0, _ => rfl
  | t + 1, h => by
    show nrnSt d th (nrn d th y s0 t) (y t) = nrnSt d th (nrn d th y' s0 t) (y' t)
    rw [nrn_congr d th s0 t fun k hk => h k (by omega), h t (by omega)]

theorem nrnSp_congr (d th : F .f32) {y y' : ℕ → F .f32} (s0 : F .f32) (t : ℕ) (h : ∀ k, k < t + 1 → y k = y' k) :
    nrnSp d th y s0 t = nrnSp d th y' s0 t := by
  unfold nrnSp
  rw [nrn_congr d th s0 t fun k hk => h k (by omega), h t (by omega)]

/-- Steps from step `n` on. -/
theorem nrn_add (d th : F .f32) (y : ℕ → F .f32) (s0 : F .f32) (n : ℕ) : ∀ t, nrn d th y s0 (n + t) = nrn d th (fun k => y (n + k)) (nrn d th y s0 n) t
  | 0 => rfl
  | t + 1 => by
    show nrnSt d th (nrn d th y s0 (n + t)) (y (n + t)) = _
    rw [nrn_add d th y s0 n t]
    rfl

end Cert.Proof

end
-- ==== Proof.LifBits.lean ====
/-
  The words that a grid point of the main call leaves: bit l of word j of a row says whether neuron 64 l + j of
  the row fires, and column 64 is the number of the row's firing neurons.
-/
module

public import proofs.«01_k».proof.Proof.LifVal
public import proofs.«01_k».proof.Proof.CompactVal
public import Idealize.ShloMosaic.Lib.Pipeline.Value
public import Idealize.ShloMosaic.Lib.Pointwise.Reduce
public import Idealize.ShloMosaic.Lib.IndicatorCount

@[expose] public section

noncomputable section

namespace Cert.Proof

open Cert.KernelIdeal Cert.KernelIdeal.Gen
open Idealize.ShloMosaic

/-- One-bit words laid into a word, bit by bit. -/
def packW (b : ℕ → BitVec 1) : ℕ → BitVec 32
  | 0 => 0#32
  | l + 1 => packW b l + ((b l).setWidth 32 <<< l)

theorem packW_nat (b : ℕ → BitVec 1) : ∀ l, l ≤ 16 → (packW b l).toNat < 2 ^ l ∧ ∀ i, i < l → (packW b l).toNat.testBit i = (b i).getLsbD 0
  | 0, _ => ⟨Nat.one_pos, fun i h => absurd h (by omega)⟩
  | l + 1, hl => by
    obtain ⟨h1, h2⟩ := packW_nat b l (by omega)
    have hb : (b l).toNat < 2 := (b l).isLt
    have hp : 2 ^ (l + 1) ≤ 2 ^ 16 := Nat.pow_le_pow_right (by decide) hl
    have hps : 2 ^ (l + 1) = 2 ^ l * 2 := Nat.pow_succ 2 l
    have hle : 2 ^ l * (b l).toNat ≤ 2 ^ l := by
      calc 2 ^ l * (b l).toNat ≤ 2 ^ l * 1 := Nat.mul_le_mul_left _ (by omega)
        _ = 2 ^ l := Nat.mul_one _
    have e : (packW b (l + 1)).toNat = 2 ^ l * (b l).toNat + (packW b l).toNat := by
      show (packW b l + ((b l).setWidth 32 <<< l)).toNat = _
      rw [BitVec.toNat_add, BitVec.toNat_shiftLeft, BitVec.toNat_setWidth, Nat.shiftLeft_eq, Nat.mod_eq_of_lt (show (b l).toNat < 2 ^ 32 by omega),
        Nat.mul_comm (b l).toNat, Nat.mod_eq_of_lt (show 2 ^ l * (b l).toNat < 2 ^ 32 by omega), Nat.mod_eq_of_lt (by omega)]
      omega
    refine ⟨by rw [e]; omega, fun i hi => ?_⟩
    rw [e, Nat.testBit_two_pow_mul_add _ h1]
    by_cases h : i < l
    · rw [if_pos h, h2 i h]
    · rw [if_neg h]
      have : i = l := by omega
      subst this
      rw [Nat.sub_self]
      rfl

/-- Bit `i` of the packed word. -/
theorem packW_bit (b : ℕ → BitVec 1) (i : ℕ) (hi : i < 16) : (packW b 16).getLsbD i = (b i).getLsbD 0 := by
  rw [BitVec.getLsbD]
  exact (packW_nat b 16 le_rfl).2 i hi

variable {F : FTy → Type} [FloatOps F]

/-- A shift to the left by less than a word's width. -/
theorem shl_at {s : Shape} (x : IVec s 32) (n : ℕ) (hn : n < 32) (i : s.Idx) :
    shli x (broadcast s (BitVec.ofNat 32 n)) i = x i <<< n := by
  show (if (BitVec.ofNat 32 n).toNat < 32 then x i <<< BitVec.ofNat 32 n else _) = _
  have e : (BitVec.ofNat 32 n).toNat = n := by rw [BitVec.toNat_ofNat]; exact Nat.mod_eq_of_lt (by omega)
  rw [e, if_pos hn, BitVec.shiftLeft_eq', e]

theorem slice_at (v : IVec S800x1024 32) (o : ℕ) (h : S800x1024.Slices ![0, o] S800x64) (r : Fin 800) (j : Fin 64) (ho : o + 64 ≤ 1024) :
    extractStridedSlice S800x64 ![0, o] v h (ValueIdx.ix2 r j) = v (ValueIdx.ix2 r ⟨o + j.val, by omega⟩) := by
  refine congrArg v ?_
  funext a
  match a with
  | 0 => exact Fin.ext (by show 0 + r.val = r.val; omega)
  | 1 => rfl

/-- The bits of row `r`'s word `j`. -/
def qb (q : Fin 800 → Fin 1024 → BitVec 1) (r : Fin 800) (j : Fin 64) (l : ℕ) : BitVec 1 := q r ⟨(64 * l + j.val) % 1024, Nat.mod_lt _ (by decide)⟩

variable (sp : Vec F S800x1024 .i32) (q : Fin 800 → Fin 1024 → BitVec 1) (hq : ∀ r u, sp (ValueIdx.ix2 r u) = (q r u).setWidth 32)

include hq

theorem term_at (l : ℕ) (hl : l < 16) (h : S800x1024.Slices ![0, 64 * l] S800x64) (r : Fin 800) (j : Fin 64) :
    shli (extractStridedSlice S800x64 ![0, 64 * l] sp h) (broadcast S800x64 (BitVec.ofNat 32 l)) (ValueIdx.ix2 r j) = (qb q r j l).setWidth 32 <<< l := by
  rw [shl_at _ l (by omega), slice_at sp _ h r j (by omega), hq]
  unfold qb
  have e : (⟨64 * l + j.val, by omega⟩ : Fin 1024) = ⟨(64 * l + j.val) % 1024, Nat.mod_lt _ (by decide)⟩ := Fin.ext (Nat.mod_eq_of_lt (by omega)).symm
  rw [← e]

theorem bitO_word (r : Fin 800) (j : Fin 64) : bitO (F := F) sp (ValueIdx.ix2 r ⟨j.val, by omega⟩) = packW (qb q r j) 16 := by
  have T := fun l hl h => term_at sp q hq l hl h r j
  unfold bitO k1_pay1
  refine (concatenate_apply_piece (t := S800x72) 1 _ _ _ 0 (by simp) S800x64 _ rfl rfl 0 rfl (ValueIdx.ix2 r j) ?_ ?_).trans ?_
  · intro b hb
    match b with
    | 0 => rfl
    | 1 => exact absurd rfl hb
  · exact Nat.zero_add _
  · unfold k1_pay145 k1_pay146
    show _ = ((((((((((((((((0#32 + _) + _) + _) + _) + _) + _) + _) + _) + _) + _) + _) + _) + _) + _) + _) + _)
    rw [← T 0 (by omega) slices_S800x1024_o0_0_S800x64, ← T 1 (by omega) slices_S800x1024_o0_64_S800x64, ← T 2 (by omega) slices_S800x1024_o0_128_S800x64,
      ← T 3 (by omega) slices_S800x1024_o0_192_S800x64, ← T 4 (by omega) slices_S800x1024_o0_256_S800x64, ← T 5 (by omega) slices_S800x1024_o0_320_S800x64,
      ← T 6 (by omega) slices_S800x1024_o0_384_S800x64, ← T 7 (by omega) slices_S800x1024_o0_448_S800x64, ← T 8 (by omega) slices_S800x1024_o0_512_S800x64,
      ← T 9 (by omega) slices_S800x1024_o0_576_S800x64, ← T 10 (by omega) slices_S800x1024_o0_640_S800x64, ← T 11 (by omega) slices_S800x1024_o0_704_S800x64,
      ← T 12 (by omega) slices_S800x1024_o0_768_S800x64, ← T 13 (by omega) slices_S800x1024_o0_832_S800x64, ← T 14 (by omega) slices_S800x1024_o0_896_S800x64,
      ← T 15 (by omega) slices_S800x1024_o0_960_S800x64]
    rfl

theorem bitO_count (r : Fin 800) : bitO (F := F) sp (ValueIdx.ix2 r ⟨64, by decide⟩)
    = BitVec.ofNat 32 ((Finset.univ : Finset (Fin 1024)).filter fun u => q r u = 1#1).card := by
  unfold bitO k1_pay1
  refine (concatenate_apply_piece (t := S800x72) 1 _ _ _ 1 (by simp) S800x1 _ rfl rfl 64 rfl (ValueIdx.ix2 r 0) ?_ ?_).trans ?_
  · intro b hb
    match b with
    | 0 => rfl
    | 1 => exact absurd rfl hb
  · rfl
  · have e : ∀ v : IVec S800 32, shapeCast S800x1 v shapeCasts_S800_S800x1 (ValueIdx.ix2 r 0) = v (ValueIdx.ix1 r) := by
      intro v
      refine congrArg v (Shape.reshapeEquiv_eq_of_rowMajor _ ?_)
      rw [Shape.rowMajor_val_one, Shape.rowMajor_val_two]
      show r.val = r.val * 1 + 0
      omega
    rw [e]
    have e2 : multiReductionI .add [1] S800 sp 0#32 reduces_S800x1024_S800 rfl (ValueIdx.ix1 r)
        = Finset.univ.fold IntOp.addi 0#32 fun k : Fin 1024 => sp (ValueIdx.ix2 r k) := by
      refine (multiReductionI_eq_fold .add sp 0#32 reduces_S800x1024_S800 rfl (ValueIdx.ix1 r)).trans ?_
      exact Shape.Reduces.fold_fiber_r2_a1 reduces_S800x1024_S800 (ValueIdx.ix1 r) IntOp.addi 0#32 sp
    refine e2.trans ?_
    rw [show (fun k : Fin 1024 => sp (ValueIdx.ix2 r k)) = fun k => (q r k).setWidth 32 from funext fun k => hq r k]
    exact IndicatorCount.fold_addi_setWidth_eq_card _ _

end Cert.Proof

end
-- ==== Proof.LifSpec.lean ====
/-
  What the main call leaves, neuron by neuron: its states are the neuron's states over the hundred steps, and
  its words hold the neuron's spikes.
-/
module

public import proofs.«01_k».proof.Proof.Spec
public import proofs.«01_k».proof.Proof.LifBits
public import proofs.«01_k».proof.Proof.LifRegion
public import Idealize.ShloMosaic.Lib.KernelVsHost

@[expose] public section

noncomputable section

namespace Cert.Proof

open Cert.KernelIdeal Cert.KernelIdeal.Gen
open Idealize.ShloMosaic

variable {F : FTy → Type} [FloatOps F]

/-- A row laid over the batch. -/
theorem row_at (v : FVec F S1x1024 .f32) (b : Fin 32) (u : Fin 1024) :
    broadcastTo S32x1024 v broadcasts_S1x1024_S32x1024 (ValueIdx.ix2 b u) = v (ValueIdx.ix2 0 u) := by
  refine congrArg v ?_
  funext a
  match a with
  | 0 => rfl
  | 1 => rfl

theorem pay4_at (v : FVec F S1x1024 .f32) (u : Fin 1024) : k1_pay4 v (ValueIdx.ix2 0 u) = v (ValueIdx.ix2 0 u) :=
  congrFun (shapeCast_self v shapeCasts_S1x1024_S1x1024) _
theorem pay5_at (v : FVec F S1x1024 .f32) (u : Fin 1024) : k1_pay5 v (ValueIdx.ix2 0 u) = v (ValueIdx.ix2 0 u) :=
  congrFun (shapeCast_self v shapeCasts_S1x1024_S1x1024) _

theorem pay12_at (d : FVec F S1x1024 .f32) (st sy : FVec F S32x1024 .f32) (b : Fin 32) (u : Fin 1024) :
    k1_pay12 d st sy (ValueIdx.ix2 b u) = nrnNew (d (ValueIdx.ix2 0 u)) (st (ValueIdx.ix2 b u)) (sy (ValueIdx.ix2 b u)) := by
  unfold k1_pay12 nrnNew
  show FloatOps.addf (FloatOps.mulf _ (broadcastTo S32x1024 d broadcasts_S1x1024_S32x1024 (ValueIdx.ix2 b u)))
    (FloatOps.mulf (broadcastTo S32x1024 _ broadcasts_S1x1024_S32x1024 (ValueIdx.ix2 b u)) _) = _
  rw [row_at, row_at]
  rfl

theorem pay13_at (d th : FVec F S1x1024 .f32) (st sy : FVec F S32x1024 .f32) (b : Fin 32) (u : Fin 1024) :
    k1_pay13 d th st sy (ValueIdx.ix2 b u)
      = nrnFire (d (ValueIdx.ix2 0 u)) (th (ValueIdx.ix2 0 u)) (st (ValueIdx.ix2 b u)) (sy (ValueIdx.ix2 b u)) := by
  unfold k1_pay13 nrnFire
  show FloatOps.cmpf .ogt (k1_pay12 d st sy (ValueIdx.ix2 b u)) (broadcastTo S32x1024 th broadcasts_S1x1024_S32x1024 (ValueIdx.ix2 b u)) = _
  rw [row_at, pay12_at]

theorem pay14_at (d th : FVec F S1x1024 .f32) (st sy : FVec F S32x1024 .f32) (b : Fin 32) (u : Fin 1024) :
    k1_pay14 d th st sy (ValueIdx.ix2 b u)
      = nrnSt (d (ValueIdx.ix2 0 u)) (th (ValueIdx.ix2 0 u)) (st (ValueIdx.ix2 b u)) (sy (ValueIdx.ix2 b u)) := by
  unfold k1_pay14 nrnSt
  show Scalar.select (k1_pay13 d th st sy (ValueIdx.ix2 b u)) _ (k1_pay12 d st sy (ValueIdx.ix2 b u)) = _
  rw [pay13_at, pay12_at]
  rfl

/-- A block's states, neuron by neuron. -/
theorem stB_at (d th : FVec F S1x1024 .f32) (sy : Vec F S800x1024 .f32) (s0 : Vec F S32x1024 .f32) (b : Fin 32) (u : Fin 1024) : ∀ t,
    stB d th sy s0 t (ValueIdx.ix2 b u)
      = nrn (d (ValueIdx.ix2 0 u)) (th (ValueIdx.ix2 0 u)) (fun k => synT sy k (ValueIdx.ix2 b u)) (s0 (ValueIdx.ix2 b u)) t
  | 0 => rfl
  | t + 1 => by
    rw [stB_succ, pay14_at, stB_at d th sy s0 b u t]
    rfl

section Call
variable (X : Vec F S3328x1024 .f32) (w : Vec F S1024x1024 .f32) (s0 : Vec F S32x1024 .f32) (dv th : Vec F S1x1024 .f32)

/-- The input of neuron `u` of row `b` at step `t`. -/
def inY (b : Fin 32) (u : Fin 1024) (t : ℕ) : F .f32 := synT (synB X w (t / 25)) (t % 25) (ValueIdx.ix2 b u)

/-- The neuron's state before step `t`. -/
def kSt (b : Fin 32) (u : Fin 1024) (t : ℕ) : F .f32 :=
  nrn (dv (ValueIdx.ix2 0 u)) (th (ValueIdx.ix2 0 u)) (inY X w b u) (s0 (ValueIdx.ix2 b u)) t
/-- The neuron's spike at step `t`. -/
def kSp (b : Fin 32) (u : Fin 1024) (t : ℕ) : BitVec 1 :=
  nrnSp (dv (ValueIdx.ix2 0 u)) (th (ValueIdx.ix2 0 u)) (inY X w b u) (s0 (ValueIdx.ix2 b u)) t

theorem blk_at (b : Fin 32) (u : Fin 1024) (k : ℕ) (hk : Sst X w s0 dv th k (ValueIdx.ix2 b u) = kSt X w s0 dv th b u (25 * k)) (t : ℕ) (ht : t ≤ 25) :
    stB (k1_pay4 dv) (k1_pay5 th) (synB X w k) (Sst X w s0 dv th k) t (ValueIdx.ix2 b u) = kSt X w s0 dv th b u (25 * k + t) := by
  rw [stB_at, pay4_at, pay5_at, hk]
  unfold kSt
  rw [nrn_add]
  refine nrn_congr _ _ _ t fun j hj => ?_
  unfold inY
  rw [show (25 * k + j) / 25 = k by omega, show (25 * k + j) % 25 = j by omega]

theorem Sst_at (b : Fin 32) (u : Fin 1024) : ∀ k, Sst X w s0 dv th k (ValueIdx.ix2 b u) = kSt X w s0 dv th b u (25 * k)
  | 0 => rfl
  | k + 1 => blk_at X w s0 dv th b u k (Sst_at b u k) 25 le_rfl

theorem statesV_at (t : Fin 100) (b : Fin 32) (u : Fin 1024) :
    statesV X w s0 dv th (ValueIdx.ix3 t b u) = kSt X w s0 dv th b u (t.val + 1) := by
  show stB (k1_pay4 dv) (k1_pay5 th) (synB X w (t.val / 25)) (Sst X w s0 dv th (t.val / 25)) (t.val % 25 + 1) (ValueIdx.ix2 b u) = _
  rw [blk_at X w s0 dv th b u _ (Sst_at X w s0 dv th b u _) _ (by omega)]
  rw [show 25 * (t.val / 25) + (t.val % 25 + 1) = t.val + 1 by omega]

/-- The spikes of a block's rows. -/
def kq (k : ℕ) (r : Fin 800) (u : Fin 1024) : BitVec 1 :=
  kSp X w s0 dv th ⟨r.val % 32, Nat.mod_lt _ (by decide)⟩ u (25 * k + r.val / 32)

theorem spO_at (k : ℕ) (r : Fin 800) (u : Fin 1024) :
    spO (k1_pay4 dv) (k1_pay5 th) (synB X w k) (Sst X w s0 dv th k) (ValueIdx.ix2 r u) = (kq X w s0 dv th k r u).setWidth 32 := by
  show (k1_pay13 (k1_pay4 dv) (k1_pay5 th) (stB (k1_pay4 dv) (k1_pay5 th) (synB X w k) (Sst X w s0 dv th k) (r.val / 32)) (synT (synB X w k) (r.val / 32))
    (ValueIdx.ix2 ⟨r.val % 32, Nat.mod_lt _ (by decide)⟩ u)).setWidth 32 = _
  have hr := r.isLt
  rw [pay13_at, pay4_at, pay5_at, blk_at X w s0 dv th _ u k (Sst_at X w s0 dv th _ u k) _ (by omega)]
  unfold kq kSp nrnSp kSt inY
  rw [show (25 * k + r.val / 32) / 25 = k by omega, show (25 * k + r.val / 32) % 25 = r.val / 32 by omega]

/-- The spikes of row `p`. -/
def pq (p : ℕ) (u : Fin 1024) : BitVec 1 := kSp X w s0 dv th ⟨p % 32, Nat.mod_lt _ (by decide)⟩ u (p / 32)

theorem kq_pq (p : ℕ) (u : Fin 1024) : kq X w s0 dv th (p / 800) ⟨p % 800, Nat.mod_lt _ (by decide)⟩ u = pq X w s0 dv th p u := by
  unfold kq pq
  have e1 : (⟨p % 800 % 32, Nat.mod_lt _ (by decide)⟩ : Fin 32) = ⟨p % 32, Nat.mod_lt _ (by decide)⟩ := Fin.ext (by show p % 800 % 32 = p % 32; omega)
  rw [show 25 * (p / 800) + p % 800 / 32 = p / 32 by omega]
  exact congrArg (fun z => kSp X w s0 dv th z u (p / 32)) e1

variable (f : Vec F S3328x72 .i32)

theorem bitsV_word (p : Fin 3328) (hp : p.val < 3200) (j : Fin 64) :
    bitsV X w s0 dv th f (ValueIdx.ix2 p ⟨j.val, by omega⟩)
      = packW (fun l => pq X w s0 dv th p.val ⟨(64 * l + j.val) % 1024, Nat.mod_lt _ (by decide)⟩) 16 := by
  refine (if_pos hp).trans ?_
  refine (bitO_word _ (kq X w s0 dv th (p.val / 800)) (spO_at X w s0 dv th _) _ j).trans ?_
  refine congrArg (fun g => packW g 16) (funext fun l => ?_)
  exact kq_pq X w s0 dv th p.val _

theorem bitsV_count (p : Fin 3328) (hp : p.val < 3200) :
    bitsV X w s0 dv th f (ValueIdx.ix2 p ⟨64, by decide⟩)
      = BitVec.ofNat 32 ((Finset.univ : Finset (Fin 1024)).filter fun u => pq X w s0 dv th p.val u = 1#1).card := by
  refine (if_pos hp).trans ?_
  refine (bitO_count _ (kq X w s0 dv th (p.val / 800)) (spO_at X w s0 dv th _) _).trans ?_
  refine congrArg (fun S : Finset (Fin 1024) => BitVec.ofNat 32 S.card) (Finset.filter_congr fun u _ => ?_)
  rw [kq_pq X w s0 dv th p.val u]

end Call

end Cert.Proof

end
-- ==== Proof.HostRes.lean ====
/-
  The kernel's results in the host's arrays, read at an index from what the three calls leave.
-/
module

public import proofs.«01_k».proof.Proof.HostVal
public import proofs.«01_k».proof.Proof.LifSpec

@[expose] public section

noncomputable section

namespace Cert.Proof

open Cert.KernelIdeal Cert.KernelIdeal.Gen
open Idealize.ShloMosaic

variable {F : FTy → Type} [FloatOps F]

section Stage
variable (V0 : Valuation τ sig (Elt F))

theorem VC_counts : VC V0 (dv main_v8) = cntG (F := F) (X7 V0) 3328 := by
  unfold VC; delta opsB
  after_results_simp
  exact Function.update_self _ _ _

theorem VB_arg {r : Ref sig .tc} (hr : IsArg r) : VB V0 (dv r) = V0 (dv r) := by
  rw [← VA_keep V0 hr]
  unfold VB
  refine Function.update_of_ne ?_ _ _
  rcases hr with rfl | rfl | rfl | rfl | rfl | rfl <;> decide +kernel

/-- A vector as a row. -/
theorem row_cast {α : Type} (x : S1024.Idx → α) (u : Fin 1024) : shapeCast S1x1024 x shapeCasts_S1024_S1x1024 (ValueIdx.ix2 0 u) = x (ValueIdx.ix1 u) := by
  refine congrArg x (Shape.reshapeEquiv_eq_of_rowMajor _ ?_)
  rw [Shape.rowMajor_val_one, Shape.rowMajor_val_two]
  show u.val = 0 * 1024 + u.val
  omega

theorem VC_decay (u : Fin 1024) : (VC V0 (dv main_v9) : S1x1024.Idx → F .f32) (ValueIdx.ix2 0 u) = (V0 (dv main_arg4) : S1024.Idx → F .f32) (ValueIdx.ix1 u) := by
  have e : VC V0 (dv main_v9) = shapeCast S1x1024 (VB V0 (dv main_arg4) : S1024.Idx → F .f32) shapeCasts_S1024_S1x1024 := by
    unfold VC; delta opsB
    after_results_simp
    rfl
  rw [e, row_cast, VB_arg V0 (.inr (.inr (.inr (.inr (.inl rfl)))))]

theorem VC_thresh (u : Fin 1024) : (VC V0 (dv main_v10) : S1x1024.Idx → F .f32) (ValueIdx.ix2 0 u) = (V0 (dv main_arg5) : S1024.Idx → F .f32) (ValueIdx.ix1 u) := by
  have e : VC V0 (dv main_v10) = shapeCast S1x1024 (VB V0 (dv main_arg5) : S1024.Idx → F .f32) shapeCasts_S1024_S1x1024 := by
    unfold VC; delta opsB
    after_results_simp
    rfl
  rw [e, row_cast, VB_arg V0 (.inr (.inr (.inr (.inr (.inr rfl)))))]

theorem VE_states : VE V0 (dv main_v11_0) = statesX V0 := by
  have h : VE V0 (dv main_v11_0) = VD V0 (dv main_v11_0) := by
    unfold VE; delta opsC
    after_results_simp
  rw [h]
  unfold VD
  rw [Function.update_of_ne (by decide +kernel)]
  exact Function.update_self _ _ _

theorem VD_bits : VD V0 (dv main_v11_1) = bitsX V0 := Function.update_self _ _ _

theorem VE_bits : VE V0 (dv main_v11_1) = bitsX V0 := by
  have h : VE V0 (dv main_v11_1) = VD V0 (dv main_v11_1) := by
    unfold VE; delta opsC
    after_results_simp
  exact h.trans (VD_bits V0)

theorem lines_cast {α : Type} (y : S3328.Idx → α) (a : Fin 32) (k : Fin 104) :
    shapeCast S32x104 y shapeCasts_S3328_S32x104 (ValueIdx.ix2 a k) = y (ValueIdx.ix1 (⟨104 * a.val + k.val, by omega⟩ : Fin 3328)) := by
  refine congrArg y (Shape.reshapeEquiv_eq_of_rowMajor _ ?_)
  rw [Shape.rowMajor_val_one, Shape.rowMajor_val_two]
  show 104 * a.val + k.val = a.val * 104 + k.val
  omega

theorem col_cast {α : Type} (y : S3328x1.Idx → α) (p : Fin 3328) :
    shapeCast S3328 y shapeCasts_S3328x1_S3328 (ValueIdx.ix1 p) = y (ValueIdx.ix2 p 0) := by
  refine congrArg y (Shape.reshapeEquiv_eq_of_rowMajor _ ?_)
  rw [Shape.rowMajor_val_one, Shape.rowMajor_val_two]
  show p.val * 1 + 0 = p.val
  omega

/-- The count of row `104a + k` in line `a` of the compaction's counts. -/
theorem VE_counts (a : Fin 32) (k : Fin 128) (hk : k.val < 104) :
    (VE V0 (dv main_v15) : S32x128.Idx → BitVec 32) (ValueIdx.ix2 a k)
      = (bitsX V0 : S3328x72.Idx → BitVec 32) (ValueIdx.ix2 (⟨104 * a.val + k.val, by omega⟩ : Fin 3328) (⟨64, by decide⟩ : Fin 72)) := by
  have h : VE V0 (dv main_v15) = pad S32x128 ![0, 0] ![0, 24] ![0, 0]
      (shapeCast S32x104 (shapeCast S3328 (extractStridedSlice S3328x1 ![0, 64] (VD V0 (dv main_v11_1) : S3328x72.Idx → BitVec 32) slices_S3328x72_S3328x1_0_64) shapeCasts_S3328x1_S3328) shapeCasts_S3328_S32x104)
      (constantI S_ 32 0#32) pads_S32x104_S32x128_000_0240 h_S_ := by
    unfold VE; delta opsC
    after_results_simp
    rfl
  rw [h, VD_bits]
  generalize (bitsX V0 : S3328x72.Idx → BitVec 32) = B
  rw [pad_apply_of_inside _ _ _ _ _ _ _ (ValueIdx.ix2 a k) (ValueIdx.ix2 a (⟨k.val, hk⟩ : Fin 104)) (fun x => by
      match x with
      | ⟨0, _⟩ => show a.val = 0 + a.val * (0 + 1); omega
      | ⟨1, _⟩ => show k.val = 0 + k.val * (0 + 1); omega)]
  rw [lines_cast, col_cast]
  refine congrArg B (funext fun x => Fin.ext ?_)
  match x with
  | 0 => exact Nat.zero_add _
  | 1 => rfl

end Stage

variable (V : Dev nD → Valuation τ sig (Elt F)) (d : Dev nD) (f : S32x128.Idx → BitVec 32)

theorem end_states : StableHlo.after opsE (VF V d f) (dv main_v11_0) = statesX (V d) := by
  have h : StableHlo.after opsE (VF V d f) (dv main_v11_0) = VF V d f (dv main_v11_0) := by
    delta opsE
    after_results_simp
  rw [h, ← VE_states]
  unfold VF
  rw [Function.update_of_ne (by decide +kernel), Function.update_of_ne (by decide +kernel)]

theorem ids_cast {α : Type} (y : S3200x128.Idx → α) (t : Fin 100) (b : Fin 32) (k : Fin 128) :
    shapeCast S100x32x128 y shapeCasts_S3200x128_S100x32x128 (ValueIdx.ix3 t b k) = y (ValueIdx.ix2 (⟨32 * t.val + b.val, by omega⟩ : Fin 3200) k) := by
  refine congrArg y (Shape.reshapeEquiv_eq_of_rowMajor _ ?_)
  rw [Shape.rowMajor_val_three, Shape.rowMajor_val_two]
  show (32 * t.val + b.val) * 128 + k.val = (t.val * 32 + b.val) * 128 + k.val
  omega

theorem end_ids (t : Fin 100) (b : Fin 32) (k : Fin 128) :
    (StableHlo.after opsE (VF V d f) (dv main_v17) : S100x32x128.Idx → BitVec 32) (ValueIdx.ix3 t b k)
      = oidS (X11 V d) (X15 V d) (ValueIdx.ix2 (⟨32 * t.val + b.val, by omega⟩ : Fin 3200) k) := by
  have h : StableHlo.after opsE (VF V d f) (dv main_v17)
      = shapeCast S100x32x128 (VF V d f (dv main_v16_0) : S3200x128.Idx → BitVec 32) shapeCasts_S3200x128_S100x32x128 := by
    delta opsE
    after_results_simp
    rfl
  have e : VF V d f (dv main_v16_0) = oidS (X11 V d) (X15 V d) := by
    unfold VF
    rw [Function.update_of_ne (by decide +kernel)]
    exact Function.update_self _ _ _
  rw [h, e]
  exact ids_cast _ t b k

theorem end_num (t : Fin 100) (b : Fin 32) (j : Fin 1) :
    (StableHlo.after opsE (VF V d f) (dv main_v21) : S100x32x1.Idx → BitVec 32) (ValueIdx.ix3 t b j)
      = f (ValueIdx.ix2 (⟨(32 * t.val + b.val) / 104, by omega⟩ : Fin 32) (⟨(32 * t.val + b.val) % 104, by omega⟩ : Fin 128)) := by
  have h : StableHlo.after opsE (VF V d f) (dv main_v21)
      = shapeCast S100x32x1 (extractStridedSlice S3200 ![0] (shapeCast S3328 (extractStridedSlice S32x104 ![0, 0] (VF V d f (dv main_v16_1) : S32x128.Idx → BitVec 32)
          slices_S32x128_S32x104_0_0) shapeCasts_S32x104_S3328) slices_S3328_S3200_0) shapeCasts_S3200_S100x32x1 := by
    delta opsE
    after_results_simp
    rfl
  have e : VF V d f (dv main_v16_1) = f := Function.update_self _ _ _
  rw [h, e]
  have hb := b.isLt
  have e1 : ∀ y : S3200.Idx → BitVec 32, shapeCast S100x32x1 y shapeCasts_S3200_S100x32x1 (ValueIdx.ix3 t b j)
      = y (ValueIdx.ix1 (⟨32 * t.val + b.val, by omega⟩ : Fin 3200)) := by
    intro y
    obtain rfl : j = 0 := Subsingleton.elim _ _
    refine congrArg y (Shape.reshapeEquiv_eq_of_rowMajor _ ?_)
    rw [Shape.rowMajor_val_one, Shape.rowMajor_val_three]
    show 32 * t.val + b.val = (t.val * 32 + b.val) * 1 + 0
    omega
  have e2 : ∀ y : S3328.Idx → BitVec 32, extractStridedSlice S3200 ![0] y slices_S3328_S3200_0 (ValueIdx.ix1 (⟨32 * t.val + b.val, by omega⟩ : Fin 3200))
      = y (ValueIdx.ix1 (⟨32 * t.val + b.val, by omega⟩ : Fin 3328)) := by
    intro y
    refine congrArg y (funext fun x => Fin.ext ?_)
    match x with
    | 0 => exact Nat.zero_add _
  have e3 : ∀ y : S32x104.Idx → BitVec 32, shapeCast S3328 y shapeCasts_S32x104_S3328 (ValueIdx.ix1 (⟨32 * t.val + b.val, by omega⟩ : Fin 3328))
      = y (ValueIdx.ix2 (⟨(32 * t.val + b.val) / 104, by omega⟩ : Fin 32) (⟨(32 * t.val + b.val) % 104, by omega⟩ : Fin 104)) := by
    intro y
    refine congrArg y (Shape.reshapeEquiv_eq_of_rowMajor _ ?_)
    rw [Shape.rowMajor_val_one, Shape.rowMajor_val_two]
    show (32 * t.val + b.val) / 104 * 104 + (32 * t.val + b.val) % 104 = 32 * t.val + b.val
    omega
  rw [e1, e2, e3]
  refine congrArg f (funext fun x => Fin.ext ?_)
  match x with
  | 0 => exact Nat.zero_add _
  | 1 => exact Nat.zero_add _

end Cert.Proof

end
-- ==== Proof.Net.lean ====
/-
  The layer as plain mathematics over the ideal numbers: the input that a neuron gets from the valid spikes of
  its row, and the neuron's states and spikes over the steps.
-/
module

public import proofs.«01_k».proof.Proof.Spec
public import Idealize.ShloMosaic.Lib.KernelVsHost

@[expose] public section

noncomputable section

namespace Cert.Proof

open Idealize.ShloMosaic

section
variable (ids : (⟨3, ![100, 32, 64]⟩ : Shape).Idx → BitVec 32) (cnt : (⟨3, ![100, 32, 1]⟩ : Shape).Idx → BitVec 32)
  (s0 : (⟨2, ![32, 1024]⟩ : Shape).Idx → EReal) (w : (⟨2, ![1024, 1024]⟩ : Shape).Idx → EReal)
  (dc th : (⟨1, ![1024]⟩ : Shape).Idx → EReal)

/-- Whether slot `s` of row `b` holds a spike at step `t`. -/
def live (t : ℕ) (b : Fin 32) (s : ℕ) : Prop :=
  IntOp.cmpi .slt (BitVec.ofNat 32 s) (cnt (ValueIdx.ix3 ⟨t % 100, Nat.mod_lt _ (by decide)⟩ b 0)) = 1#1

instance (t : ℕ) (b : Fin 32) : DecidablePred (live cnt t b) := fun _ => inferInstanceAs (Decidable (_ = _))

/-- The source of slot `s`. -/
def src (t : ℕ) (b : Fin 32) (s : ℕ) : BitVec 32 :=
  ids (ValueIdx.ix3 ⟨t % 100, Nat.mod_lt _ (by decide)⟩ b ⟨s % 64, Nat.mod_lt _ (by decide)⟩)

/-- The input of neuron `u` of row `b` at step `t`. -/
def inp (b : Fin 32) (u : Fin 1024) (t : ℕ) : EReal :=
  ∑ s : Fin 64, w (ValueIdx.ix2 u ⟨(src ids t b s.val).toNat % 1024, Nat.mod_lt _ (by decide)⟩) * (if live cnt t b s.val then 1 else 0)

/-- The state of neuron `u` of row `b` before step `t`. -/
def netSt (b : Fin 32) (u : Fin 1024) (t : ℕ) : EReal :=
  nrn (F := Ideal) (dc (ValueIdx.ix1 u)) (th (ValueIdx.ix1 u)) (inp ids cnt w b u) (s0 (ValueIdx.ix2 b u)) t

/-- The spike of neuron `u` of row `b` at step `t`. -/
def netSp (b : Fin 32) (u : Fin 1024) (t : ℕ) : BitVec 1 :=
  nrnSp (F := Ideal) (dc (ValueIdx.ix1 u)) (th (ValueIdx.ix1 u)) (inp ids cnt w b u) (s0 (ValueIdx.ix2 b u)) t

end

end Cert.Proof

end
-- ==== Proof.MathSum.lean ====
/-
  The sum over the inputs of count times weight is the sum over the spikes of the weight of the spike's input.
-/
module

public import proofs.«01_k».proof.Proof.CountsVal
public import Idealize.ShloMosaic.Lib.IdealHost

@[expose] public section

noncomputable section

namespace Cert.Proof

open Idealize.ShloMosaic

/-- Whether slot value `x` counts towards input `j`. -/
def hits (x : BitVec 32) (j : ℕ) : Prop := IntOp.cmpi .slt x 1024#32 = 1 ∧ j = (IntOp.minsi x 1023#32).toNat

instance (x : BitVec 32) (j : ℕ) : Decidable (hits x j) := by unfold hits; infer_instance

theorem slotStep_eq (x : BitVec 32) (j : ℕ) (a : EReal) :
    (slotStep (F := Ideal) x j a : EReal) = a + if hits x j then 1 else 0 := by
  unfold slotStep
  by_cases h1 : IntOp.cmpi .slt x 1024#32 = 1
  · by_cases h2 : j = (IntOp.minsi x 1023#32).toNat
    · rw [if_pos h1, if_pos h2, if_pos (show hits x j from ⟨h1, h2⟩)]
      exact congrArg (a + ·) Ideal.ofBits_one_f32
    · rw [if_pos h1, if_neg h2, if_neg (fun h : hits x j => h2 h.2), add_zero]
  · rw [if_neg h1, if_neg (fun h : hits x j => h1 h.1), add_zero]

/-- A fold that adds a term at every step adds the sum. -/
theorem foldl_add (f : ℕ → EReal) : ∀ (k : ℕ) (a : EReal),
    (List.finRange k).foldl (fun a (x : Fin k) => a + f x.val) a = a + ∑ s ∈ Finset.range k, f s
  | 0, a => by simp
  | k + 1, a => by
    rw [List.finRange_succ_last, List.foldl_append, List.foldl_map]
    show _ + f k = _
    rw [Finset.sum_range_succ, ← add_assoc]
    exact congrArg (· + f k) (foldl_add f k a)

theorem histG_eq (w : ℕ → BitVec 32) (j : ℕ) : ∀ n,
    (histG (F := Ideal) w j n : EReal) = ∑ s ∈ Finset.range (16 * n), if hits (w s) j then 1 else 0
  | 0 => by
    exact Ideal.ofBits_zero_f32.trans (by simp)
  | n + 1 => by
    show (List.finRange 16).foldl (fun a x => slotStep (F := Ideal) (w (16 * n + x.val)) j a) (histG w j n) = _
    have e : (fun (a : EReal) (x : Fin 16) => (slotStep (F := Ideal) (w (16 * n + x.val)) j a : EReal))
        = fun a x => a + (fun s => if hits (w (16 * n + s)) j then (1 : EReal) else 0) x.val :=
      funext fun a => funext fun x => slotStep_eq _ j a
    refine (congrArg (fun g => (List.finRange 16).foldl g (histG (F := Ideal) w j n : EReal)) e).trans ?_
    refine (foldl_add (fun s => if hits (w (16 * n + s)) j then (1 : EReal) else 0) 16 _).trans ?_
    rw [histG_eq w j n, show 16 * (n + 1) = 16 * n + 16 by ring, Finset.sum_range_add]

theorem hist_eq (w : ℕ → BitVec 32) (j : ℕ) : (hist (F := Ideal) w j : EReal) = ∑ s ∈ Finset.range 64, if hits (w s) j then 1 else 0 :=
  histG_eq w j 4

/-- A sum of numbers that are not negative, times a number. -/
theorem sum_mul_ereal {ι : Type} (S : Finset ι) (f : ι → EReal) (hf : ∀ i, 0 ≤ f i) (c : EReal) :
    (∑ i ∈ S, f i) * c = ∑ i ∈ S, f i * c := by
  classical
  induction S using Finset.induction_on with
  | empty => simp
  | insert a S ha ih =>
    rw [Finset.sum_insert ha, Finset.sum_insert ha, EReal.right_distrib_of_nonneg (hf a) (Finset.sum_nonneg fun i _ => hf i), ih]

/-- What the histogram of a row of slots contributes to a neuron. -/
theorem sum_hist (x : ℕ → BitVec 32) (v : ℕ → Prop) [DecidablePred v] (id : ℕ → BitVec 32) (W : Fin 1024 → EReal)
    (hx : ∀ s, s < 64 → x s = if v s then id s else 1024#32) (hid : ∀ s, s < 64 → (id s).toNat < 1024) :
    (∑ i : Fin 1024, (hist (F := Ideal) x i.val : EReal) * W i)
      = ∑ s : Fin 64, W ⟨(id s.val).toNat % 1024, Nat.mod_lt _ (by decide)⟩ * (if v s.val then 1 else 0) := by
  have e : ∀ i : Fin 1024, (hist (F := Ideal) x i.val : EReal) * W i = ∑ s : Fin 64, (if hits (x s.val) i.val then 1 else 0) * W i := by
    intro i
    rw [hist_eq, Finset.sum_range fun s => if hits (x s) i.val then (1 : EReal) else 0]
    exact sum_mul_ereal _ _ (fun s => by split <;> simp) _
  rw [Finset.sum_congr rfl fun i _ => e i, Finset.sum_comm]
  refine Finset.sum_congr rfl fun s _ => ?_
  have hlt := hid s.val s.isLt
  rw [hx s.val s.isLt]
  by_cases hv : v s.val
  · rw [if_pos hv, if_pos hv, mul_one]
    have hh : ∀ i : Fin 1024, (if hits (id s.val) i.val then (1 : EReal) else 0) * W i
        = if i = ⟨(id s.val).toNat % 1024, Nat.mod_lt _ (by decide)⟩ then W i else 0 := by
      intro i
      have hi : (id s.val).toInt = ((id s.val).toNat : ℤ) := BitVec.toInt_eq_toNat_of_lt (by omega)
      have hm : (IntOp.minsi (id s.val) 1023#32).toNat = (id s.val).toNat := by
        have h1023 : (1023#32 : BitVec 32).toInt = 1023 := by decide
        unfold IntOp.minsi
        split
        · rfl
        · rename_i hn
          rw [BitVec.slt, hi, h1023] at hn
          have h2 : ¬ ((id s.val).toNat : ℤ) < 1023 := by simpa using hn
          show 1023 = _
          omega
      have hc : IntOp.cmpi .slt (id s.val) 1024#32 = 1 := by
        have h1024 : (1024#32 : BitVec 32).toInt = 1024 := by decide
        show BitVec.ofBool ((id s.val).slt 1024#32) = 1
        rw [BitVec.slt, hi, h1024, decide_eq_true (by omega)]
        rfl
      by_cases h : i.val = (id s.val).toNat
      · rw [if_pos (show hits _ _ from ⟨hc, by rw [hm]; exact h⟩), if_pos (Fin.ext (by rw [h]; exact (Nat.mod_eq_of_lt hlt).symm)), one_mul]
      · rw [if_neg (fun hh => h (by rw [← hm]; exact hh.2)), if_neg (fun hh => h (by rw [hh]; exact Nat.mod_eq_of_lt hlt)), zero_mul]
    rw [Finset.sum_congr rfl fun i _ => hh i, Finset.sum_ite_eq' Finset.univ, if_pos (Finset.mem_univ _)]
  · rw [if_neg hv, if_neg hv, mul_zero]
    refine Finset.sum_eq_zero fun i _ => ?_
    rw [if_neg (fun hh => absurd hh.1 (by decide)), zero_mul]

end Cert.Proof
-- ==== Proof.DotK.lean ====
/-
  The main call's product of counts and weights at an index, over the ideal numbers.
-/
module

public import proofs.«01_k».proof.Proof.LifSpec
public import proofs.«01_k».proof.Proof.MathSum
public import Idealize.ShloMosaic.Lib.Pointwise.Contract
public import Idealize.ShloMosaic.Lib.Pointwise.Tactic

@[expose] public section

noncomputable section

namespace Cert.Proof

open Cert.KernelIdeal Cert.KernelIdeal.Gen
open Idealize.ShloMosaic

set_option maxRecDepth 4000 in
theorem mm_at (l : FVec Ideal S800x1024 .f32) (w : FVec Ideal S1024x1024 .f32) (r : Fin 800) (u : Fin 1024) :
    matmul dot_S800x1024_S1024x1024_S800x1024_1_1_0_0_n_n none l w (constant S800x1024 .f32 0x00000000#32 : FVec Ideal S800x1024 .f32) (ValueIdx.ix2 r u)
      = ∑ k : Fin 1024, (l (ValueIdx.ix2 r k) : EReal) * w (ValueIdx.ix2 u k) := by
  simp only [pointwise]
  refine (zero_add _).trans (Finset.sum_congr rfl fun k _ => ?_)
  refine congrArg₂ (fun x y : EReal => x * y) (congrArg l ?_) (congrArg w ?_)
  all_goals
    funext a
    match a with
    | 0 => rfl
    | 1 => rfl

theorem pay3_at (l : FVec Ideal S800x1024 .f32) (w : FVec Ideal S1024x1024 .f32) (r : Fin 800) (u : Fin 1024) :
    k1_pay3 l w (ValueIdx.ix2 r u) = ∑ k : Fin 1024, (l (ValueIdx.ix2 r k) : EReal) * w (ValueIdx.ix2 u k) := by
  unfold k1_pay3
  rw [shapeCast_self, shapeCast_self]
  exact mm_at l w r u

end Cert.Proof

end
-- ==== Proof.LifInput.lean ====
/-
  The main call's inputs over the ideal numbers: the counts of a row times the weights are the sum of the
  weights of the row's valid spikes.
-/
module

public import proofs.«01_k».proof.Proof.Net
public import proofs.«01_k».proof.Proof.DotK
public import proofs.«01_k».proof.Proof.HostVal

@[expose] public section

noncomputable section

namespace Cert.Proof

open Cert.KernelIdeal Cert.KernelIdeal.Gen
open Idealize.ShloMosaic

theorem inY_sum (X : Vec Ideal S3328x1024 .f32) (w : Vec Ideal S1024x1024 .f32) (b : Fin 32) (u : Fin 1024) (t : ℕ) (ht : t < 100) :
    inY X w b u t = ∑ k : Fin 1024, (X (ValueIdx.ix2 (⟨32 * t + b.val, by omega⟩ : Fin 3328) k) : EReal) * w (ValueIdx.ix2 u k) := by
  refine (pay3_at _ w ⟨(32 * (t % 25) + b.val) % 800, Nat.mod_lt _ (by decide)⟩ u).trans (Finset.sum_congr rfl fun k _ => ?_)
  refine congrArg (fun z : Fin 3328 => (X (ValueIdx.ix2 z k) : EReal) * w (ValueIdx.ix2 u k)) (Fin.ext ?_)
  show (t / 25 * 800 + (32 * (t % 25) + b.val) % 800) % 3328 = 32 * t + b.val
  have := b.isLt
  omega

variable (V0 : Valuation τ sig (Elt Ideal))

/-- The argument arrays. -/
abbrev aIds : S100x32x64.Idx → BitVec 32 := V0 (dv main_arg0)
abbrev aCnt : S100x32x1.Idx → BitVec 32 := V0 (dv main_arg1)
abbrev aW : S1024x1024.Idx → EReal := V0 (dv main_arg3)

theorem slot_at (t : ℕ) (ht : t < 100) (b : Fin 32) (s : ℕ) (hs : s < 64) :
    nat2 (X7 V0) (32 * t + b.val) s = if live (aCnt V0) t b s then src (aIds V0) t b s else 1024#32 := by
  have hb := b.isLt
  have hr : 32 * t + b.val < 3328 := by omega
  refine (nat2_of_lt (X7 V0) hr hs).trans ((X7_at V0 ⟨32 * t + b.val, hr⟩ ⟨s, hs⟩).trans ?_)
  rw [dif_pos (show 32 * t + b.val < 3200 by omega)]
  have e1 : (⟨(32 * t + b.val) / 32, by omega⟩ : Fin 100) = ⟨t % 100, Nat.mod_lt _ (by decide)⟩ := Fin.ext (by show (32 * t + b.val) / 32 = t % 100; omega)
  have e2 : (⟨(32 * t + b.val) % 32, by omega⟩ : Fin 32) = b := Fin.ext (by show (32 * t + b.val) % 32 = b.val; omega)
  have e3 : (⟨s, hs⟩ : Fin 64) = ⟨s % 64, Nat.mod_lt _ (by decide)⟩ := Fin.ext (Nat.mod_eq_of_lt hs).symm
  unfold src live
  simp only [e1, e2]
  rw [← e3]
  rfl

theorem inY_inp (hid : ∀ i, (aIds V0 i).toNat < 1024) (b : Fin 32) (u : Fin 1024) (t : ℕ) (ht : t < 100) :
    (inY (F := Ideal) (cntG (F := Ideal) (X7 V0) 3328) (aW V0) b u t : EReal) = inp (aIds V0) (aCnt V0) (aW V0) b u t := by
  refine (inY_sum (cntG (F := Ideal) (X7 V0) 3328) (aW V0) b u t ht).trans ?_
  exact sum_hist (fun s => nat2 (X7 V0) (32 * t + b.val) s) (live (aCnt V0) t b) (src (aIds V0) t b) (fun k => aW V0 (ValueIdx.ix2 u k))
    (fun s hs => slot_at V0 t ht b s hs) (fun s _ => hid _)

end Cert.Proof

end
-- ==== Proof.MathSort.lean ====
/-
  A row's firing neurons in the order of a sort by score: the neuron of number i scores 1024 − i where it
  fires and 0 where it does not, so that the sort puts the firing neurons first, in ascending order.
-/
module

public import proofs.«01_k».proof.Proof.CompactVal

@[expose] public section

namespace Cert.Proof

/-- The rank of a neuron is the number of firing neurons before it. -/
theorem rank_eq_card (w : ℕ → BitVec 32) : ∀ n, rank w n = ((Finset.range n).filter fun u => bitB w u = true).card
  | 0 => rfl
  | n + 1 => by
    rw [Finset.range_add_one, Finset.filter_insert]
    by_cases h : bitB w n = true
    · rw [if_pos h, Finset.card_insert_of_notMem (fun hm => by simpa using (Finset.mem_filter.1 hm).1), ← rank_eq_card w n]
      show rank w n + (if bitB w n then 1 else 0) = _
      rw [if_pos h]
    · rw [if_neg h, ← rank_eq_card w n]
      show rank w n + (if bitB w n then 1 else 0) = _
      rw [if_neg h]
      rfl

/-- The pick of a rank that a firing neuron has. -/
theorem pick_at (w : ℕ → BitVec 32) (u k : ℕ) (hb : bitB w u = true) (hr : rank w u = k) : ∀ n, u < n → pick w n k = BitVec.ofNat 32 u
  | 0, h => absurd h (by omega)
  | n + 1, h => by
    show (if bitB w n = true ∧ rank w n = k then BitVec.ofNat 32 n else pick w n k) = _
    rcases Nat.lt_or_eq_of_le (Nat.lt_succ_iff.mp h) with h' | h'
    · rw [if_neg, pick_at w u k hb hr n h']
      rintro ⟨_, e⟩
      have h1 : rank w (u + 1) = rank w u + (if bitB w u then 1 else 0) := rfl
      rw [if_pos hb] at h1
      have h2 : rank w (u + 1) ≤ rank w n := rank_mono w (by omega)
      omega
    · subst h'
      rw [if_pos ⟨hb, hr⟩]

/-- The pick of a rank that no firing neuron has. -/
theorem pick_none (w : ℕ → BitVec 32) (k : ℕ) : ∀ n, (∀ u, u < n → ¬ (bitB w u = true ∧ rank w u = k)) → pick w n k = 0#32
  | 0, _ => rfl
  | n + 1, h => by
    show (if bitB w n = true ∧ rank w n = k then BitVec.ofNat 32 n else pick w n k) = _
    rw [if_neg (h n (by omega)), pick_none w k n fun u hu => h u (by omega)]

/-- A neuron's score. -/
def scoreN (w : ℕ → BitVec 32) (u : ℕ) : ℕ := if bitB w u = true then 1024 - u else 0

variable (w : ℕ → BitVec 32) (σ : Fin 1024 → Fin 1024) (hi : Function.Injective σ) (hs : Function.Surjective σ)
  (hm : ∀ i j, i < j → scoreN w (σ j).val ≤ scoreN w (σ i).val)

include hi hs hm

/-- A firing neuron stands at its rank. -/
theorem sort_rank (k : Fin 1024) (hb : bitB w (σ k).val = true) : rank w (σ k).val = k.val := by
  rw [rank_eq_card]
  have hk : scoreN w (σ k).val = 1024 - (σ k).val := if_pos hb
  have hlt := (σ k).isLt
  have e : ((Finset.range (σ k).val).filter fun u => bitB w u = true) = (Finset.Iio k).image fun j => (σ j).val := by
    ext u
    simp only [Finset.mem_filter, Finset.mem_range, Finset.mem_image, Finset.mem_Iio]
    constructor
    · rintro ⟨hu, hbu⟩
      obtain ⟨j, hj⟩ := hs ⟨u, by omega⟩
      have hju : (σ j).val = u := congrArg Fin.val hj
      refine ⟨j, ?_, hju⟩
      by_contra hc
      rcases lt_or_eq_of_le (not_lt.mp hc) with h | h
      · have := hm k j h
        rw [hk, hju] at this
        have hsu : scoreN w u = 1024 - u := if_pos hbu
        omega
      · subst h
        omega
    · rintro ⟨j, hj, hju⟩
      have h1 := hm j k hj
      rw [hk, hju] at h1
      have hne : (σ j).val ≠ (σ k).val := fun h => absurd (hi (Fin.ext h)) (ne_of_lt hj)
      by_cases hbu : bitB w u = true
      · have hsu : scoreN w u = 1024 - u := if_pos hbu
        refine ⟨?_, hbu⟩
        have := (σ j).isLt
        omega
      · have hsu : scoreN w u = 0 := if_neg hbu
        omega
  rw [e, Finset.card_image_of_injective _ (fun a b h => hi (Fin.ext h)), Fin.card_Iio]

/-- The sort's entry at a rank is the pick of the rank. -/
theorem pick_sorted (k : Fin 1024) : pick w 1024 k.val = if bitB w (σ k).val = true then BitVec.ofNat 32 (σ k).val else 0#32 := by
  by_cases hb : bitB w (σ k).val = true
  · rw [if_pos hb]
    exact pick_at w _ _ hb (sort_rank w σ hi hs hm k hb) 1024 (σ k).isLt
  · rw [if_neg hb]
    refine pick_none w _ 1024 ?_
    rintro u hu ⟨hbu, hr⟩
    obtain ⟨j, hj⟩ := hs ⟨u, hu⟩
    have hju : (σ j).val = u := congrArg Fin.val hj
    have h := sort_rank w σ hi hs hm j (by rw [hju]; exact hbu)
    rw [hju, hr] at h
    have : k = j := Fin.ext h
    subst this
    exact hb (by rw [hju]; exact hbu)

end Cert.Proof
-- ==== Proof.KernVal.lean ====
/-
  The kernel's results over the ideal numbers, as the layer's plain mathematics.
-/
module

public import proofs.«01_k».proof.Proof.HostRes
public import proofs.«01_k».proof.Proof.LifInput
public import proofs.«01_k».proof.Proof.MathSort

@[expose] public section

noncomputable section

namespace Cert.Proof

open Cert.KernelIdeal Cert.KernelIdeal.Gen
open Idealize.ShloMosaic

section
variable (V0 : Valuation τ sig (Elt Ideal))

abbrev aS : S32x1024.Idx → EReal := V0 (dv main_arg2)
abbrev aD : S1024.Idx → EReal := V0 (dv main_arg4)
abbrev aT : S1024.Idx → EReal := V0 (dv main_arg5)

/-- The layer's states and spikes on the arguments. -/
abbrev aSt (b : Fin 32) (u : Fin 1024) (t : ℕ) : EReal := netSt (aIds V0) (aCnt V0) (aS V0) (aW V0) (aD V0) (aT V0) b u t
abbrev aSp (b : Fin 32) (u : Fin 1024) (t : ℕ) : BitVec 1 := netSp (aIds V0) (aCnt V0) (aS V0) (aW V0) (aD V0) (aT V0) b u t

/-- The rows of leaks and thresholds. -/
abbrev dRow : S1x1024.Idx → EReal := VC V0 (dv main_v9)
abbrev tRow : S1x1024.Idx → EReal := VC V0 (dv main_v10)
/-- The counts. -/
abbrev cMat : S3328x1024.Idx → EReal := cntG (F := Ideal) (X7 V0) 3328

theorem statesX_eq : (statesX V0 : S100x32x1024.Idx → EReal) = statesV (F := Ideal) (cMat V0) (aW V0) (aS V0) (dRow V0) (tRow V0) := by
  unfold statesX
  rw [VC_counts, VC_keep V0 (.inr (.inr (.inr (.inl rfl)))), VC_keep V0 (.inr (.inr (.inl rfl)))]

theorem bitsX_eq : (bitsX V0 : S3328x72.Idx → BitVec 32) = bitsV (F := Ideal) (cMat V0) (aW V0) (aS V0) (dRow V0) (tRow V0) (VC V0 (dv main_v11_1)) := by
  unfold bitsX
  rw [VC_counts, VC_keep V0 (.inr (.inr (.inr (.inl rfl)))), VC_keep V0 (.inr (.inr (.inl rfl)))]

variable (hid : ∀ i, (aIds V0 i).toNat < 1024)
include hid

theorem kSt_net (b : Fin 32) (u : Fin 1024) (t : ℕ) (ht : t ≤ 100) :
    (kSt (F := Ideal) (cMat V0) (aW V0) (aS V0) (dRow V0) (tRow V0) b u t : EReal) = aSt V0 b u t := by
  unfold kSt
  rw [show dRow V0 (ValueIdx.ix2 0 u) = aD V0 (ValueIdx.ix1 u) from VC_decay V0 u, show tRow V0 (ValueIdx.ix2 0 u) = aT V0 (ValueIdx.ix1 u) from VC_thresh V0 u]
  exact nrn_congr _ _ _ t fun k hk => inY_inp V0 hid b u k (by omega)

theorem kSp_net (b : Fin 32) (u : Fin 1024) (t : ℕ) (ht : t < 100) :
    kSp (F := Ideal) (cMat V0) (aW V0) (aS V0) (dRow V0) (tRow V0) b u t = aSp V0 b u t := by
  unfold kSp
  rw [show dRow V0 (ValueIdx.ix2 0 u) = aD V0 (ValueIdx.ix1 u) from VC_decay V0 u, show tRow V0 (ValueIdx.ix2 0 u) = aT V0 (ValueIdx.ix1 u) from VC_thresh V0 u]
  exact nrnSp_congr _ _ _ t fun k hk => inY_inp V0 hid b u k (by omega)

theorem pq_net (t : Fin 100) (b : Fin 32) (u : Fin 1024) :
    pq (F := Ideal) (cMat V0) (aW V0) (aS V0) (dRow V0) (tRow V0) (32 * t.val + b.val) u = aSp V0 b u t.val := by
  have hb := b.isLt
  unfold pq
  have e1 : (⟨(32 * t.val + b.val) % 32, Nat.mod_lt _ (by decide)⟩ : Fin 32) = b := Fin.ext (by show (32 * t.val + b.val) % 32 = b.val; omega)
  have e2 : (32 * t.val + b.val) / 32 = t.val := by omega
  rw [e1, e2]
  exact kSp_net V0 hid b u t.val t.isLt

/-- The states. -/
theorem states_net (t : Fin 100) (b : Fin 32) (u : Fin 1024) : (statesX V0 : S100x32x1024.Idx → EReal) (ValueIdx.ix3 t b u) = aSt V0 b u (t.val + 1) := by
  rw [statesX_eq]
  exact (statesV_at _ _ _ _ _ t b u).trans (kSt_net V0 hid b u _ (by omega))

/-- The words of a row hold the row's spikes. -/
theorem word_net (t : Fin 100) (b : Fin 32) (u : Fin 1024) :
    bitB (wd (bitsX V0) (32 * t.val + b.val)) u.val = true ↔ aSp V0 b u t.val = 1#1 := by
  have hb := b.isLt
  have hu := u.isLt
  have hp : 32 * t.val + b.val < 3328 := by omega
  unfold bitB
  have e : wd (bitsX V0) (32 * t.val + b.val) (u.val % 64)
      = packW (fun l => pq (F := Ideal) (cMat V0) (aW V0) (aS V0) (dRow V0) (tRow V0) (32 * t.val + b.val) ⟨(64 * l + u.val % 64) % 1024, Nat.mod_lt _ (by decide)⟩) 16 := by
    unfold wd
    rw [bitsX_eq]
    exact (nat2_of_lt _ hp (show u.val % 64 < 72 by omega)).trans
      (bitsV_word (F := Ideal) _ _ _ _ _ _ ⟨32 * t.val + b.val, hp⟩ (by show 32 * t.val + b.val < 3200; omega) ⟨u.val % 64, Nat.mod_lt _ (by decide)⟩)
  rw [e, packW_bit _ _ (by omega)]
  have eu : (⟨(64 * (u.val / 64) + u.val % 64) % 1024, Nat.mod_lt _ (by decide)⟩ : Fin 1024) = u :=
    Fin.ext (by show (64 * (u.val / 64) + u.val % 64) % 1024 = u.val; omega)
  rw [eu, pq_net V0 hid]
  generalize aSp V0 b u t.val = z
  revert z
  decide

/-- The spikes of a row. -/
abbrev fired (t : Fin 100) (b : Fin 32) : Finset (Fin 1024) := Finset.univ.filter fun u => aSp V0 b u t.val = 1#1

theorem count_net (t : Fin 100) (b : Fin 32) :
    (VE V0 (dv main_v15) : S32x128.Idx → BitVec 32) (ValueIdx.ix2 (⟨(32 * t.val + b.val) / 104, by omega⟩ : Fin 32) (⟨(32 * t.val + b.val) % 104, by omega⟩ : Fin 128))
      = BitVec.ofNat 32 (fired V0 t b).card := by
  have hb := b.isLt
  have hp : 32 * t.val + b.val < 3328 := by omega
  rw [VE_counts V0 _ _ (by show (32 * t.val + b.val) % 104 < 104; omega)]
  have ep : (⟨104 * ((32 * t.val + b.val) / 104) + (32 * t.val + b.val) % 104, by omega⟩ : Fin 3328) = ⟨32 * t.val + b.val, hp⟩ :=
    Fin.ext (by show 104 * ((32 * t.val + b.val) / 104) + (32 * t.val + b.val) % 104 = 32 * t.val + b.val; omega)
  refine (congrArg (fun z : Fin 3328 => (bitsX V0 : S3328x72.Idx → BitVec 32) (ValueIdx.ix2 z (⟨64, by decide⟩ : Fin 72))) ep).trans ?_
  rw [bitsX_eq]
  refine (bitsV_count (F := Ideal) _ _ _ _ _ _ ⟨32 * t.val + b.val, hp⟩ (by show 32 * t.val + b.val < 3200; omega)).trans ?_
  refine congrArg (fun S : Finset (Fin 1024) => BitVec.ofNat 32 S.card) (Finset.filter_congr fun u _ => ?_)
  rw [pq_net V0 hid]

end

section
variable (V : Dev nD → Valuation τ sig (Elt Ideal)) (d : Dev nD) (hid : ∀ i, (aIds (V d) i).toNat < 1024)
include hid

/-- The spike ids. -/
theorem ids_net (t : Fin 100) (b : Fin 32) (k : Fin 128) :
    oidS (X11 V d) (X15 V d) (ValueIdx.ix2 (⟨32 * t.val + b.val, by omega⟩ : Fin 3200) k) = pick (wd (bitsX (V d)) (32 * t.val + b.val)) 1024 k.val := by
  have hb := b.isLt
  have e11 : X11 V d = bitsX (V d) := VE_bits (V d)
  have ec : nat2 (X15 V d) ((32 * t.val + b.val) / 104) ((32 * t.val + b.val) % 104) = BitVec.ofNat 32 (fired (V d) t b).card :=
    (nat2_of_lt (X15 V d) (show (32 * t.val + b.val) / 104 < 32 by omega) (show (32 * t.val + b.val) % 104 < 128 by omega)).trans (count_net (V d) hid t b)
  have hc : (fired (V d) t b).card ≤ 1024 := (Finset.card_le_univ _).trans (by simp)
  show (if 0 < (nat2 (X15 V d) ((32 * t.val + b.val) / 104) ((32 * t.val + b.val) % 104)).toInt then pick (wd (X11 V d) (32 * t.val + b.val)) 1024 k.val else 0#32) = _
  rw [ec, e11, BitVec.toInt_eq_toNat_of_lt (by rw [BitVec.toNat_ofNat]; omega), BitVec.toNat_ofNat]
  split
  · rfl
  · next h =>
    refine (pick_none _ _ _ fun u hu hk => h ?_).symm
    have hm : (⟨u, hu⟩ : Fin 1024) ∈ fired (V d) t b := Finset.mem_filter.2 ⟨Finset.mem_univ _, (word_net (V d) hid t b ⟨u, hu⟩).1 hk.1⟩
    have := Finset.card_pos.2 ⟨_, hm⟩
    omega

/-- The spike numbers. -/
theorem num_net (f : S32x128.Idx → BitVec 32) (hf : NOK d V f) (t : Fin 100) (b : Fin 32) :
    f (ValueIdx.ix2 (⟨(32 * t.val + b.val) / 104, by omega⟩ : Fin 32) (⟨(32 * t.val + b.val) % 104, by omega⟩ : Fin 128))
      = IntOp.minsi (BitVec.ofNat 32 (fired (V d) t b).card) 128#32 := by
  have hb := b.isLt
  refine (hf _ (by show (32 * t.val + b.val) % 104 < 104; omega)).trans ?_
  refine congrArg (fun z => IntOp.minsi z 128#32) ?_
  refine (if_pos (show 104 * ((32 * t.val + b.val) / 104) + (32 * t.val + b.val) % 104 < 3200 by omega)).trans ?_
  exact count_net (V d) hid t b

end

end Cert.Proof

end
-- ==== Proof.RefTrip.lean ====
/-
  What one trip of the reference's loop leaves in the values the loop carries: the new states, and the three result
  arrays with the trip's slab replaced.
-/
module

public import proofs.«01_k».proof.Proof.RefFrame
public import Idealize.ShloMosaic.Lib.StableHlo.RunClose
public import Idealize.ShloMosaic.Lib.StableHlo.RunRead

@[expose] public section

noncomputable section

namespace Cert.Proof.Ref

open Cert.ReferenceIdeal Cert.ReferenceIdeal.Gen Cert.ReferenceIdeal.Value
open Idealize.ShloMosaic Idealize.ShloMosaic.TcCoe

variable {F : FTy → Type} [FloatOps F]

/-! ## The trip's values, operation by operation -/

/-- The trip number as a slice's start. -/
def starts (k : S_.Idx → BitVec 32) : Fin 3 → Int := fun a => ((![k, constantI S_ 32 0#32, constantI S_ 32 0#32] : Fin 3 → S_.Idx → BitVec 32) a (Shape.Idx.first h_S_)).toInt

def rIds (x : IVec S100x32x64 32) (k : S_.Idx → BitVec 32) : IVec S32x64 32 :=
  shapeCast S32x64 (Host.dynamicSlice S1x32x64 x (starts k) sliceFits_S100x32x64_S1x32x64) shapeCasts_S1x32x64_S32x64
def rCnt (x : IVec S100x32x1 32) (k : S_.Idx → BitVec 32) : IVec S32x1 32 :=
  shapeCast S32x1 (Host.dynamicSlice S1x32x1 x (starts k) sliceFits_S100x32x1_S1x32x1) shapeCasts_S1x32x1_S32x1
def rVal (slot : IVec S1x64 32) (n : IVec S32x1 32) : FVec F S32x64 .f32 :=
  uitofp .f32 (cmpi .slt (broadcastInDim S32x64 ![0, 1] bcast_S1x64_S32x64_0_1 slot) (broadcastInDim S32x64 ![0, 1] bcast_S32x1_S32x64_0_1 n))

/-- The ids, those below zero wrapped. -/
def rWrap (ids : IVec S32x64 32) : IVec S32x64x1 32 :=
  broadcastInDim S32x64x1 ![0, 1] bcast_S32x64_S32x64x1_0_1
    (select (cmpi .slt ids (broadcastInDim S32x64 ![] bcast_S_S32x64 (constantI S_ 32 0#32)))
      (addi ids (broadcastInDim S32x64 ![] bcast_S_S32x64 (constantI S_ 32 1024#32))) ids)
/-- Whether an id is in range. -/
def rIn (i : IVec S32x64x1 32) : IVec S32x64 1 :=
  Host.reduce IntOp.andi
    (andi (cmpi .sge i (broadcastInDim S32x64x1 ![] bcast_S_S32x64x1 (constantI S_ 32 0#32)))
      (cmpi .sle i (broadcastInDim S32x64x1 ![0, 1, 2] bcast_S1x1x1_S32x64x1_0_1_2 (broadcastInDim S1x1x1 ![2] bcast_S1_S1x1x1_2 (constantI S1 32 1023#32)))))
    (constantI S_ 1 1#1) reducesTo_S32x64x1_S32x64_d2 h_S_
def rTake (w : FVec F S1024x1024 .f32) (ids : IVec S32x64 32) : FVec F S1024x32x64 .f32 :=
  select (broadcastInDim S1024x32x64 ![1, 2] bcast_S32x64_S1024x32x64_1_2 (rIn (rWrap ids)))
    (Host.gather gather_S1024x1024_S32x64x1_S1024x32x64_0_1_n_n_1_2_10241 w (rWrap ids))
    (broadcastInDim S1024x32x64 ![] bcast_S_S1024x32x64 (constant S_ .f32 0x7FC00000#32))
def rSyn (tk : FVec F S1024x32x64 .f32) (v : FVec F S32x64 .f32) : FVec F S32x1024 .f32 :=
  Host.dotGeneral dot_S1024x32x64_S32x64_S32x1024_2_1_0_n_1_0 none tk v
/-- A vector of the neurons in every row. -/
def rRow (d : FVec F S1024 .f32) : FVec F S32x1024 .f32 :=
  broadcastInDim S32x1024 ![0, 1] bcast_S1x1024_S32x1024_0_1 (broadcastInDim S1x1024 ![1] bcast_S1024_S1x1024_1 d)
def rNew (st syn : FVec F S32x1024 .f32) (d : FVec F S1024 .f32) : FVec F S32x1024 .f32 :=
  addf (mulf st (rRow d)) (mulf (rRow (subf (broadcastInDim S1024 ![] bcast_S_S1024 (constant S_ .f32 0x3F800000#32)) d)) syn)
def rSpk (nw : FVec F S32x1024 .f32) (th : FVec F S1024 .f32) : IVec S32x1024 1 := cmpf .ogt nw (rRow th)
def rSt (sp : IVec S32x1024 1) (nw : FVec F S32x1024 .f32) : FVec F S32x1024 .f32 :=
  select sp (broadcastInDim S32x1024 ![] bcast_S_S32x1024 (constant S_ .f32 0x00000000#32)) nw
/-- The score of a neuron: its rank where it fires. -/
def rScore (sp : IVec S32x1024 1) (rk : FVec F S1x1024 .f32) : FVec F S32x1024 .f32 :=
  mulf (uitofp .f32 sp) (broadcastInDim S32x1024 ![0, 1] bcast_S1x1024_S32x1024_0_1 rk)
def rOid (sc : FVec F S32x1024 .f32) : IVec S32x128 32 :=
  select (cmpf .ogt (Host.topK S32x128 1 (FloatOps.cmpfTotal .gt) sc sliceFits_S32x1024_S32x128).1
      (broadcastInDim S32x128 ![] bcast_S_S32x128 (constant S_ .f32 0x00000000#32) : FVec F S32x128 .f32))
    (Host.topK S32x128 1 (FloatOps.cmpfTotal .gt) sc sliceFits_S32x1024_S32x128).2
    (broadcastInDim S32x128 ![] bcast_S_S32x128 (constantI S_ 32 0#32))
def rN (sp : IVec S32x1024 1) : IVec S32x1 32 :=
  broadcastInDim S32x1 ![0] bcast_S32_S32x1_0
    (minsi (Host.reduce IntOp.addi (extui 32 sp natLt_1_32) (constantI S_ 32 0#32) reducesTo_S32x1024_S32_d1 h_S_)
      (broadcastInDim S32 ![] bcast_S_S32 (constantI S_ 32 128#32)))

/-! ## The stretches of the trip -/

variable (V : Valuation τ sig (Elt F))

/-- A buffer of the host as a buffer of the device. -/
abbrev dv (b : Ref sig .tc) : DevRef τ sig := Proc.devRef .tc b

theorem s0_v11 : StableHlo.after while0Ops0 V (dv main_while0b_v11) = rIds (V (dv main_v10_0)) (V (dv main_v10_7)) := by
  after_results_simp_entrywise
  rfl

theorem s1_v12 : StableHlo.after while0Ops0_1 V (dv main_while0b_v12) = rCnt (V (dv main_v10_1)) (V (dv main_v10_7)) := by
  after_results_simp_entrywise
  rfl

theorem s2_v16 : StableHlo.after while0Ops0_2 V (dv main_while0b_v16) = rVal (F := F) (V (dv main_v10_2)) (V (dv main_while0b_v12)) := by
  after_results_simp
  rfl

theorem s3_v17 : StableHlo.after while0Ops0_3 V (dv main_while0b_v17) = rTake (V (dv main_v10_3)) (V (dv main_while0b_v11)) := by
  after_results_simp
  rfl

theorem s4_v27 : StableHlo.after while0Ops0_4 V (dv main_while0b_v27) = (rNew (V (dv main_v10_8)) (rSyn (V (dv main_while0b_v17)) (V (dv main_while0b_v16))) (V (dv main_v10_4))) := by
  after_results_simp
  rfl

theorem s4_v30 : StableHlo.after while0Ops0_4 V (dv main_while0b_v30) = rSpk (rNew (V (dv main_v10_8)) (rSyn (V (dv main_while0b_v17)) (V (dv main_while0b_v16))) (V (dv main_v10_4))) (V (dv main_v10_5)) := by
  after_results_simp
  rfl

theorem s4_cst : StableHlo.after while0Ops0_4 V (dv main_while0b_cst_15) = constant S_ .f32 0x00000000#32 := by
  after_results_simp

theorem s5_v31 (h : V (dv main_while0b_cst_15) = (constant S_ .f32 0x00000000#32 : FVec F S_ .f32)) :
    StableHlo.after while0Ops0_5 V (dv main_while0b_v31) = rSt (V (dv main_while0b_v30)) (V (dv main_while0b_v27)) := by
  after_results_simp
  rw [h]
  rfl

theorem s6_v36 : StableHlo.after while0Ops0_6 V (dv main_while0b_v36) = cmpf .ogt (Host.topK S32x128 1 (FloatOps.cmpfTotal .gt) (rScore (V (dv main_while0b_v30)) (V (dv main_v10_6))) sliceFits_S32x1024_S32x128).1 (broadcastInDim S32x128 ![] bcast_S_S32x128 (constant S_ .f32 0x00000000#32) : FVec F S32x128 .f32) := by
  after_results_simp
  rfl

theorem s6_indices : StableHlo.after while0Ops0_6 V (dv main_while0b_indices) = (Host.topK S32x128 1 (FloatOps.cmpfTotal .gt) (rScore (V (dv main_while0b_v30)) (V (dv main_v10_6))) sliceFits_S32x1024_S32x128).2 := by
  after_results_simp
  rfl

theorem s6_c : StableHlo.after while0Ops0_6 V (dv main_while0b_c_17) = constantI S_ 32 0#32 := by
  after_results_simp

theorem s7_v37 (sc : FVec F S32x1024 .f32)
    (h0 : V (dv main_while0b_v36) = cmpf .ogt (Host.topK S32x128 1 (FloatOps.cmpfTotal .gt) sc sliceFits_S32x1024_S32x128).1 (broadcastInDim S32x128 ![] bcast_S_S32x128 (constant S_ .f32 0x00000000#32) : FVec F S32x128 .f32))
    (h1 : V (dv main_while0b_indices) = (Host.topK S32x128 1 (FloatOps.cmpfTotal .gt) sc sliceFits_S32x1024_S32x128).2)
    (h2 : V (dv main_while0b_c_17) = constantI S_ 32 0#32) :
    StableHlo.after while0Ops0_7 V (dv main_while0b_v37) = rOid sc := by
  after_results_simp
  rw [h0, h1, h2]
  rfl

theorem s8_v42 : StableHlo.after while0Ops0_8 V (dv main_while0b_v42) = rN (V (dv main_while0b_v30)) := by
  after_results_simp
  rfl

theorem s9_v43 : StableHlo.after while0Ops0_9 V (dv main_while0b_v43) = Host.dynamicUpdateSlice (V (dv main_v10_9)) (broadcastInDim S1x32x128 ![1, 2] bcast_S32x128_S1x32x128_1_2 (V (dv main_while0b_v37))) (starts (V (dv main_v10_7))) updateFits_S100x32x128_S1x32x128 := by
  after_results_simp_entrywise
  rfl

theorem s10_v44 : StableHlo.after while0Ops0_10 V (dv main_while0b_v44) = Host.dynamicUpdateSlice (V (dv main_v10_10)) (broadcastInDim S1x32x1 ![1, 2] bcast_S32x1_S1x32x1_1_2 (V (dv main_while0b_v42))) (starts (V (dv main_v10_7))) updateFits_S100x32x1_S1x32x1 := by
  after_results_simp_entrywise
  rfl

theorem s11_v45 : StableHlo.after while0Ops0_11 V (dv main_while0b_v45) = Host.dynamicUpdateSlice (V (dv main_v10_11)) (broadcastInDim S1x32x1024 ![1, 2] bcast_S32x1024_S1x32x1024_1_2 (V (dv main_while0b_v31))) (starts (V (dv main_v10_7))) updateFits_S100x32x1024_S1x32x1024 := by
  after_results_simp_entrywise
  rfl

theorem s12_8 : StableHlo.after while0Ops0_12 V (dv main_v10_8) = V (dv main_while0b_v31) := by
  after_results_simp
  rfl

theorem s12_9 : StableHlo.after while0Ops0_12 V (dv main_v10_9) = V (dv main_while0b_v43) := by
  after_results_simp
  rfl

theorem s12_10 : StableHlo.after while0Ops0_12 V (dv main_v10_10) = V (dv main_while0b_v44) := by
  after_results_simp
  rfl

theorem s12_11 : StableHlo.after while0Ops0_12 V (dv main_v10_11) = V (dv main_while0b_v45) := by
  after_results_simp
  rfl

end Cert.Proof.Ref

end
-- ==== Proof.RefRec.lean ====
/-
  One trip of the reference's loop as a whole: what it leaves in the values that it carries, over what it
  found in them.
-/
module

public import proofs.«01_k».proof.Proof.RefTrip

@[expose] public section

noncomputable section

namespace Cert.Proof.Ref

open Cert.ReferenceIdeal Cert.ReferenceIdeal.Gen Cert.ReferenceIdeal.Value
open Idealize.ShloMosaic Idealize.ShloMosaic.TcCoe

variable {F : FTy → Type} [FloatOps F]

variable (V : Valuation τ sig (Elt F))

/-! ## The contents after each stretch of the trip -/

def T0 : Valuation τ sig (Elt F) := StableHlo.after condOps V
def T1 : Valuation τ sig (Elt F) := StableHlo.after while0Ops0 (T0 V)
def T2 : Valuation τ sig (Elt F) := StableHlo.after while0Ops0_1 (T1 V)
def T3 : Valuation τ sig (Elt F) := StableHlo.after while0Ops0_2 (T2 V)
def T4 : Valuation τ sig (Elt F) := StableHlo.after while0Ops0_3 (T3 V)
def T5 : Valuation τ sig (Elt F) := StableHlo.after while0Ops0_4 (T4 V)
def T6 : Valuation τ sig (Elt F) := StableHlo.after while0Ops0_5 (T5 V)
def T7 : Valuation τ sig (Elt F) := StableHlo.after while0Ops0_6 (T6 V)
def T8 : Valuation τ sig (Elt F) := StableHlo.after while0Ops0_7 (T7 V)
def T9 : Valuation τ sig (Elt F) := StableHlo.after while0Ops0_8 (T8 V)
def T10 : Valuation τ sig (Elt F) := StableHlo.after while0Ops0_9 (T9 V)
def T11 : Valuation τ sig (Elt F) := StableHlo.after while0Ops0_10 (T10 V)
def T12 : Valuation τ sig (Elt F) := StableHlo.after while0Ops0_11 (T11 V)
def T13 : Valuation τ sig (Elt F) := StableHlo.after while0Ops0_12 (T12 V)

theorem trip_eq : StableHlo.afterL bodyI (StableHlo.after condOps V) = T13 V := by
  simp only [StableHlo.afterL_cons, StableHlo.afterL_nil]
  rfl

/-! ## The trip's values over what it found -/

def tVal : FVec F S32x64 .f32 := rVal (V (dv main_v10_2)) (rCnt (V (dv main_v10_1)) (V (dv main_v10_7)))
def tTake : FVec F S1024x32x64 .f32 := rTake (V (dv main_v10_3)) (rIds (V (dv main_v10_0)) (V (dv main_v10_7)))
def tNew : FVec F S32x1024 .f32 := rNew (V (dv main_v10_8)) (rSyn (tTake V) (tVal V)) (V (dv main_v10_4))
def tSpk : IVec S32x1024 1 := rSpk (tNew V) (V (dv main_v10_5))
def tSt : FVec F S32x1024 .f32 := rSt (tSpk V) (tNew V)
def tOid : IVec S32x128 32 := rOid (rScore (tSpk V) (V (dv main_v10_6)) : FVec F S32x1024 .f32)

theorem c0_0 : T0 V (dv main_v10_0) = V (dv main_v10_0) :=
  (StableHlo.after_of_writes_sub condOps _ condOps_writes (by decide +kernel))

theorem c7_0 : T0 V (dv main_v10_7) = V (dv main_v10_7) :=
  (StableHlo.after_of_writes_sub condOps _ condOps_writes (by decide +kernel))

theorem c1_1 : T1 V (dv main_v10_1) = V (dv main_v10_1) :=
  (StableHlo.after_of_writes_sub while0Ops0 _ while0Ops0_writes (by decide +kernel)).trans
    ((StableHlo.after_of_writes_sub condOps _ condOps_writes (by decide +kernel)))

theorem c7_1 : T1 V (dv main_v10_7) = V (dv main_v10_7) :=
  (StableHlo.after_of_writes_sub while0Ops0 _ while0Ops0_writes (by decide +kernel)).trans
    ((StableHlo.after_of_writes_sub condOps _ condOps_writes (by decide +kernel)))

theorem c2_2 : T2 V (dv main_v10_2) = V (dv main_v10_2) :=
  (StableHlo.after_of_writes_sub while0Ops0_1 _ while0Ops0_1_writes (by decide +kernel)).trans
    ((StableHlo.after_of_writes_sub while0Ops0 _ while0Ops0_writes (by decide +kernel)).trans
    ((StableHlo.after_of_writes_sub condOps _ condOps_writes (by decide +kernel))))

theorem c3_3 : T3 V (dv main_v10_3) = V (dv main_v10_3) :=
  (StableHlo.after_of_writes_sub while0Ops0_2 _ while0Ops0_2_writes (by decide +kernel)).trans
    ((StableHlo.after_of_writes_sub while0Ops0_1 _ while0Ops0_1_writes (by decide +kernel)).trans
    ((StableHlo.after_of_writes_sub while0Ops0 _ while0Ops0_writes (by decide +kernel)).trans
    ((StableHlo.after_of_writes_sub condOps _ condOps_writes (by decide +kernel)))))

theorem c8_4 : T4 V (dv main_v10_8) = V (dv main_v10_8) :=
  (StableHlo.after_of_writes_sub while0Ops0_3 _ while0Ops0_3_writes (by decide +kernel)).trans
    ((StableHlo.after_of_writes_sub while0Ops0_2 _ while0Ops0_2_writes (by decide +kernel)).trans
    ((StableHlo.after_of_writes_sub while0Ops0_1 _ while0Ops0_1_writes (by decide +kernel)).trans
    ((StableHlo.after_of_writes_sub while0Ops0 _ while0Ops0_writes (by decide +kernel)).trans
    ((StableHlo.after_of_writes_sub condOps _ condOps_writes (by decide +kernel))))))

theorem c4_4 : T4 V (dv main_v10_4) = V (dv main_v10_4) :=
  (StableHlo.after_of_writes_sub while0Ops0_3 _ while0Ops0_3_writes (by decide +kernel)).trans
    ((StableHlo.after_of_writes_sub while0Ops0_2 _ while0Ops0_2_writes (by decide +kernel)).trans
    ((StableHlo.after_of_writes_sub while0Ops0_1 _ while0Ops0_1_writes (by decide +kernel)).trans
    ((StableHlo.after_of_writes_sub while0Ops0 _ while0Ops0_writes (by decide +kernel)).trans
    ((StableHlo.after_of_writes_sub condOps _ condOps_writes (by decide +kernel))))))

theorem c5_4 : T4 V (dv main_v10_5) = V (dv main_v10_5) :=
  (StableHlo.after_of_writes_sub while0Ops0_3 _ while0Ops0_3_writes (by decide +kernel)).trans
    ((StableHlo.after_of_writes_sub while0Ops0_2 _ while0Ops0_2_writes (by decide +kernel)).trans
    ((StableHlo.after_of_writes_sub while0Ops0_1 _ while0Ops0_1_writes (by decide +kernel)).trans
    ((StableHlo.after_of_writes_sub while0Ops0 _ while0Ops0_writes (by decide +kernel)).trans
    ((StableHlo.after_of_writes_sub condOps _ condOps_writes (by decide +kernel))))))

theorem c6_6 : T6 V (dv main_v10_6) = V (dv main_v10_6) :=
  (StableHlo.after_of_writes_sub while0Ops0_5 _ while0Ops0_5_writes (by decide +kernel)).trans
    ((StableHlo.after_of_writes_sub while0Ops0_4 _ while0Ops0_4_writes (by decide +kernel)).trans
    ((StableHlo.after_of_writes_sub while0Ops0_3 _ while0Ops0_3_writes (by decide +kernel)).trans
    ((StableHlo.after_of_writes_sub while0Ops0_2 _ while0Ops0_2_writes (by decide +kernel)).trans
    ((StableHlo.after_of_writes_sub while0Ops0_1 _ while0Ops0_1_writes (by decide +kernel)).trans
    ((StableHlo.after_of_writes_sub while0Ops0 _ while0Ops0_writes (by decide +kernel)).trans
    ((StableHlo.after_of_writes_sub condOps _ condOps_writes (by decide +kernel))))))))

theorem c9_9 : T9 V (dv main_v10_9) = V (dv main_v10_9) :=
  (StableHlo.after_of_writes_sub while0Ops0_8 _ while0Ops0_8_writes (by decide +kernel)).trans
    ((StableHlo.after_of_writes_sub while0Ops0_7 _ while0Ops0_7_writes (by decide +kernel)).trans
    ((StableHlo.after_of_writes_sub while0Ops0_6 _ while0Ops0_6_writes (by decide +kernel)).trans
    ((StableHlo.after_of_writes_sub while0Ops0_5 _ while0Ops0_5_writes (by decide +kernel)).trans
    ((StableHlo.after_of_writes_sub while0Ops0_4 _ while0Ops0_4_writes (by decide +kernel)).trans
    ((StableHlo.after_of_writes_sub while0Ops0_3 _ while0Ops0_3_writes (by decide +kernel)).trans
    ((StableHlo.after_of_writes_sub while0Ops0_2 _ while0Ops0_2_writes (by decide +kernel)).trans
    ((StableHlo.after_of_writes_sub while0Ops0_1 _ while0Ops0_1_writes (by decide +kernel)).trans
    ((StableHlo.after_of_writes_sub while0Ops0 _ while0Ops0_writes (by decide +kernel)).trans
    ((StableHlo.after_of_writes_sub condOps _ condOps_writes (by decide +kernel)))))))))))

theorem c7_9 : T9 V (dv main_v10_7) = V (dv main_v10_7) :=
  (StableHlo.after_of_writes_sub while0Ops0_8 _ while0Ops0_8_writes (by decide +kernel)).trans
    ((StableHlo.after_of_writes_sub while0Ops0_7 _ while0Ops0_7_writes (by decide +kernel)).trans
    ((StableHlo.after_of_writes_sub while0Ops0_6 _ while0Ops0_6_writes (by decide +kernel)).trans
    ((StableHlo.after_of_writes_sub while0Ops0_5 _ while0Ops0_5_writes (by decide +kernel)).trans
    ((StableHlo.after_of_writes_sub while0Ops0_4 _ while0Ops0_4_writes (by decide +kernel)).trans
    ((StableHlo.after_of_writes_sub while0Ops0_3 _ while0Ops0_3_writes (by decide +kernel)).trans
    ((StableHlo.after_of_writes_sub while0Ops0_2 _ while0Ops0_2_writes (by decide +kernel)).trans
    ((StableHlo.after_of_writes_sub while0Ops0_1 _ while0Ops0_1_writes (by decide +kernel)).trans
    ((StableHlo.after_of_writes_sub while0Ops0 _ while0Ops0_writes (by decide +kernel)).trans
    ((StableHlo.after_of_writes_sub condOps _ condOps_writes (by decide +kernel)))))))))))

theorem c10_10 : T10 V (dv main_v10_10) = V (dv main_v10_10) :=
  (StableHlo.after_of_writes_sub while0Ops0_9 _ while0Ops0_9_writes (by decide +kernel)).trans
    ((StableHlo.after_of_writes_sub while0Ops0_8 _ while0Ops0_8_writes (by decide +kernel)).trans
    ((StableHlo.after_of_writes_sub while0Ops0_7 _ while0Ops0_7_writes (by decide +kernel)).trans
    ((StableHlo.after_of_writes_sub while0Ops0_6 _ while0Ops0_6_writes (by decide +kernel)).trans
    ((StableHlo.after_of_writes_sub while0Ops0_5 _ while0Ops0_5_writes (by decide +kernel)).trans
    ((StableHlo.after_of_writes_sub while0Ops0_4 _ while0Ops0_4_writes (by decide +kernel)).trans
    ((StableHlo.after_of_writes_sub while0Ops0_3 _ while0Ops0_3_writes (by decide +kernel)).trans
    ((StableHlo.after_of_writes_sub while0Ops0_2 _ while0Ops0_2_writes (by decide +kernel)).trans
    ((StableHlo.after_of_writes_sub while0Ops0_1 _ while0Ops0_1_writes (by decide +kernel)).trans
    ((StableHlo.after_of_writes_sub while0Ops0 _ while0Ops0_writes (by decide +kernel)).trans
    ((StableHlo.after_of_writes_sub condOps _ condOps_writes (by decide +kernel))))))))))))

theorem c7_10 : T10 V (dv main_v10_7) = V (dv main_v10_7) :=
  (StableHlo.after_of_writes_sub while0Ops0_9 _ while0Ops0_9_writes (by decide +kernel)).trans
    ((StableHlo.after_of_writes_sub while0Ops0_8 _ while0Ops0_8_writes (by decide +kernel)).trans
    ((StableHlo.after_of_writes_sub while0Ops0_7 _ while0Ops0_7_writes (by decide +kernel)).trans
    ((StableHlo.after_of_writes_sub while0Ops0_6 _ while0Ops0_6_writes (by decide +kernel)).trans
    ((StableHlo.after_of_writes_sub while0Ops0_5 _ while0Ops0_5_writes (by decide +kernel)).trans
    ((StableHlo.after_of_writes_sub while0Ops0_4 _ while0Ops0_4_writes (by decide +kernel)).trans
    ((StableHlo.after_of_writes_sub while0Ops0_3 _ while0Ops0_3_writes (by decide +kernel)).trans
    ((StableHlo.after_of_writes_sub while0Ops0_2 _ while0Ops0_2_writes (by decide +kernel)).trans
    ((StableHlo.after_of_writes_sub while0Ops0_1 _ while0Ops0_1_writes (by decide +kernel)).trans
    ((StableHlo.after_of_writes_sub while0Ops0 _ while0Ops0_writes (by decide +kernel)).trans
    ((StableHlo.after_of_writes_sub condOps _ condOps_writes (by decide +kernel))))))))))))

theorem c11_11 : T11 V (dv main_v10_11) = V (dv main_v10_11) :=
  (StableHlo.after_of_writes_sub while0Ops0_10 _ while0Ops0_10_writes (by decide +kernel)).trans
    ((StableHlo.after_of_writes_sub while0Ops0_9 _ while0Ops0_9_writes (by decide +kernel)).trans
    ((StableHlo.after_of_writes_sub while0Ops0_8 _ while0Ops0_8_writes (by decide +kernel)).trans
    ((StableHlo.after_of_writes_sub while0Ops0_7 _ while0Ops0_7_writes (by decide +kernel)).trans
    ((StableHlo.after_of_writes_sub while0Ops0_6 _ while0Ops0_6_writes (by decide +kernel)).trans
    ((StableHlo.after_of_writes_sub while0Ops0_5 _ while0Ops0_5_writes (by decide +kernel)).trans
    ((StableHlo.after_of_writes_sub while0Ops0_4 _ while0Ops0_4_writes (by decide +kernel)).trans
    ((StableHlo.after_of_writes_sub while0Ops0_3 _ while0Ops0_3_writes (by decide +kernel)).trans
    ((StableHlo.after_of_writes_sub while0Ops0_2 _ while0Ops0_2_writes (by decide +kernel)).trans
    ((StableHlo.after_of_writes_sub while0Ops0_1 _ while0Ops0_1_writes (by decide +kernel)).trans
    ((StableHlo.after_of_writes_sub while0Ops0 _ while0Ops0_writes (by decide +kernel)).trans
    ((StableHlo.after_of_writes_sub condOps _ condOps_writes (by decide +kernel)))))))))))))

theorem c7_11 : T11 V (dv main_v10_7) = V (dv main_v10_7) :=
  (StableHlo.after_of_writes_sub while0Ops0_10 _ while0Ops0_10_writes (by decide +kernel)).trans
    ((StableHlo.after_of_writes_sub while0Ops0_9 _ while0Ops0_9_writes (by decide +kernel)).trans
    ((StableHlo.after_of_writes_sub while0Ops0_8 _ while0Ops0_8_writes (by decide +kernel)).trans
    ((StableHlo.after_of_writes_sub while0Ops0_7 _ while0Ops0_7_writes (by decide +kernel)).trans
    ((StableHlo.after_of_writes_sub while0Ops0_6 _ while0Ops0_6_writes (by decide +kernel)).trans
    ((StableHlo.after_of_writes_sub while0Ops0_5 _ while0Ops0_5_writes (by decide +kernel)).trans
    ((StableHlo.after_of_writes_sub while0Ops0_4 _ while0Ops0_4_writes (by decide +kernel)).trans
    ((StableHlo.after_of_writes_sub while0Ops0_3 _ while0Ops0_3_writes (by decide +kernel)).trans
    ((StableHlo.after_of_writes_sub while0Ops0_2 _ while0Ops0_2_writes (by decide +kernel)).trans
    ((StableHlo.after_of_writes_sub while0Ops0_1 _ while0Ops0_1_writes (by decide +kernel)).trans
    ((StableHlo.after_of_writes_sub while0Ops0 _ while0Ops0_writes (by decide +kernel)).trans
    ((StableHlo.after_of_writes_sub condOps _ condOps_writes (by decide +kernel)))))))))))))

theorem t_v11 : T1 V (dv main_while0b_v11) = rIds (V (dv main_v10_0)) (V (dv main_v10_7)) := by
  refine (s0_v11 _).trans ?_
  rw [c0_0, c7_0]

theorem t_v12 : T2 V (dv main_while0b_v12) = rCnt (V (dv main_v10_1)) (V (dv main_v10_7)) := by
  refine (s1_v12 _).trans ?_
  rw [c1_1, c7_1]

theorem t_v16 : T3 V (dv main_while0b_v16) = tVal V := by
  refine (s2_v16 _).trans ?_
  rw [c2_2, t_v12]
  rfl

theorem t_v11_3 : T3 V (dv main_while0b_v11) = rIds (V (dv main_v10_0)) (V (dv main_v10_7)) :=
  (StableHlo.after_of_writes_sub while0Ops0_2 _ while0Ops0_2_writes (by decide +kernel)).trans
    ((StableHlo.after_of_writes_sub while0Ops0_1 _ while0Ops0_1_writes (by decide +kernel)).trans
    (t_v11 V))

theorem t_v17 : T4 V (dv main_while0b_v17) = tTake V := by
  refine (s3_v17 _).trans ?_
  rw [c3_3, t_v11_3]
  rfl

theorem t_v16_4 : T4 V (dv main_while0b_v16) = tVal V :=
  (StableHlo.after_of_writes_sub while0Ops0_3 _ while0Ops0_3_writes (by decide +kernel)).trans
    (t_v16 V)

theorem t_v27 : T5 V (dv main_while0b_v27) = tNew V := by
  refine (s4_v27 _).trans ?_
  rw [c8_4, c4_4, t_v16_4, t_v17]
  rfl

theorem t_v30 : T5 V (dv main_while0b_v30) = tSpk V := by
  refine (s4_v30 _).trans ?_
  rw [c8_4, c4_4, c5_4, t_v16_4, t_v17]
  rfl

theorem t_v31 : T6 V (dv main_while0b_v31) = tSt V := by
  refine (s5_v31 (T5 V) (s4_cst _)).trans ?_
  rw [t_v30, t_v27]
  rfl

theorem t_v30_6 : T6 V (dv main_while0b_v30) = tSpk V :=
  (StableHlo.after_of_writes_sub while0Ops0_5 _ while0Ops0_5_writes (by decide +kernel)).trans
    (t_v30 V)

theorem t_v37 : T8 V (dv main_while0b_v37) = tOid V := by
  refine (s7_v37 (T7 V) _ (s6_v36 _) (s6_indices _) (s6_c _)).trans ?_
  rw [t_v30_6, c6_6]
  rfl

theorem t_v30_8 : T8 V (dv main_while0b_v30) = tSpk V :=
  (StableHlo.after_of_writes_sub while0Ops0_7 _ while0Ops0_7_writes (by decide +kernel)).trans
    ((StableHlo.after_of_writes_sub while0Ops0_6 _ while0Ops0_6_writes (by decide +kernel)).trans
    ((StableHlo.after_of_writes_sub while0Ops0_5 _ while0Ops0_5_writes (by decide +kernel)).trans
    (t_v30 V)))

theorem t_v42 : T9 V (dv main_while0b_v42) = rN (tSpk V) := by
  refine (s8_v42 _).trans ?_
  rw [t_v30_8]

theorem t_v37_9 : T9 V (dv main_while0b_v37) = tOid V :=
  (StableHlo.after_of_writes_sub while0Ops0_8 _ while0Ops0_8_writes (by decide +kernel)).trans
    (t_v37 V)

theorem t_v42_10 : T10 V (dv main_while0b_v42) = rN (tSpk V) :=
  (StableHlo.after_of_writes_sub while0Ops0_9 _ while0Ops0_9_writes (by decide +kernel)).trans
    (t_v42 V)

theorem t_v31_11 : T11 V (dv main_while0b_v31) = tSt V :=
  (StableHlo.after_of_writes_sub while0Ops0_10 _ while0Ops0_10_writes (by decide +kernel)).trans
    ((StableHlo.after_of_writes_sub while0Ops0_9 _ while0Ops0_9_writes (by decide +kernel)).trans
    ((StableHlo.after_of_writes_sub while0Ops0_8 _ while0Ops0_8_writes (by decide +kernel)).trans
    ((StableHlo.after_of_writes_sub while0Ops0_7 _ while0Ops0_7_writes (by decide +kernel)).trans
    ((StableHlo.after_of_writes_sub while0Ops0_6 _ while0Ops0_6_writes (by decide +kernel)).trans
    (t_v31 V)))))

theorem t_v43 : T10 V (dv main_while0b_v43) = Host.dynamicUpdateSlice (V (dv main_v10_9)) (broadcastInDim S1x32x128 ![1, 2] bcast_S32x128_S1x32x128_1_2 (tOid V)) (starts (V (dv main_v10_7))) updateFits_S100x32x128_S1x32x128 := by
  refine (s9_v43 _).trans ?_
  rw [c9_9, c7_9, t_v37_9]

theorem t_v43_12 : T12 V (dv main_while0b_v43) = Host.dynamicUpdateSlice (V (dv main_v10_9)) (broadcastInDim S1x32x128 ![1, 2] bcast_S32x128_S1x32x128_1_2 (tOid V)) (starts (V (dv main_v10_7))) updateFits_S100x32x128_S1x32x128 :=
  (StableHlo.after_of_writes_sub while0Ops0_11 _ while0Ops0_11_writes (by decide +kernel)).trans
    ((StableHlo.after_of_writes_sub while0Ops0_10 _ while0Ops0_10_writes (by decide +kernel)).trans
    (t_v43 V))

/-- What the trip leaves in result array 0. -/
theorem trip_9 : StableHlo.afterL bodyI (StableHlo.after condOps V) (dv main_v10_9) = Host.dynamicUpdateSlice (V (dv main_v10_9)) (broadcastInDim S1x32x128 ![1, 2] bcast_S32x128_S1x32x128_1_2 (tOid V)) (starts (V (dv main_v10_7))) updateFits_S100x32x128_S1x32x128 := by
  rw [trip_eq]
  exact (s12_9 _).trans (t_v43_12 V)

theorem t_v44 : T11 V (dv main_while0b_v44) = Host.dynamicUpdateSlice (V (dv main_v10_10)) (broadcastInDim S1x32x1 ![1, 2] bcast_S32x1_S1x32x1_1_2 (rN (tSpk V))) (starts (V (dv main_v10_7))) updateFits_S100x32x1_S1x32x1 := by
  refine (s10_v44 _).trans ?_
  rw [c10_10, c7_10, t_v42_10]

theorem t_v44_12 : T12 V (dv main_while0b_v44) = Host.dynamicUpdateSlice (V (dv main_v10_10)) (broadcastInDim S1x32x1 ![1, 2] bcast_S32x1_S1x32x1_1_2 (rN (tSpk V))) (starts (V (dv main_v10_7))) updateFits_S100x32x1_S1x32x1 :=
  (StableHlo.after_of_writes_sub while0Ops0_11 _ while0Ops0_11_writes (by decide +kernel)).trans
    (t_v44 V)

/-- What the trip leaves in result array 1. -/
theorem trip_10 : StableHlo.afterL bodyI (StableHlo.after condOps V) (dv main_v10_10) = Host.dynamicUpdateSlice (V (dv main_v10_10)) (broadcastInDim S1x32x1 ![1, 2] bcast_S32x1_S1x32x1_1_2 (rN (tSpk V))) (starts (V (dv main_v10_7))) updateFits_S100x32x1_S1x32x1 := by
  rw [trip_eq]
  exact (s12_10 _).trans (t_v44_12 V)

theorem t_v45 : T12 V (dv main_while0b_v45) = Host.dynamicUpdateSlice (V (dv main_v10_11)) (broadcastInDim S1x32x1024 ![1, 2] bcast_S32x1024_S1x32x1024_1_2 (tSt V)) (starts (V (dv main_v10_7))) updateFits_S100x32x1024_S1x32x1024 := by
  refine (s11_v45 _).trans ?_
  rw [c11_11, c7_11, t_v31_11]

theorem t_v45_12 : T12 V (dv main_while0b_v45) = Host.dynamicUpdateSlice (V (dv main_v10_11)) (broadcastInDim S1x32x1024 ![1, 2] bcast_S32x1024_S1x32x1024_1_2 (tSt V)) (starts (V (dv main_v10_7))) updateFits_S100x32x1024_S1x32x1024 :=
  t_v45 V

/-- What the trip leaves in result array 2. -/
theorem trip_11 : StableHlo.afterL bodyI (StableHlo.after condOps V) (dv main_v10_11) = Host.dynamicUpdateSlice (V (dv main_v10_11)) (broadcastInDim S1x32x1024 ![1, 2] bcast_S32x1024_S1x32x1024_1_2 (tSt V)) (starts (V (dv main_v10_7))) updateFits_S100x32x1024_S1x32x1024 := by
  rw [trip_eq]
  exact (s12_11 _).trans (t_v45_12 V)

theorem t_v31_12 : T12 V (dv main_while0b_v31) = tSt V :=
  (StableHlo.after_of_writes_sub while0Ops0_11 _ while0Ops0_11_writes (by decide +kernel)).trans
    ((StableHlo.after_of_writes_sub while0Ops0_10 _ while0Ops0_10_writes (by decide +kernel)).trans
    ((StableHlo.after_of_writes_sub while0Ops0_9 _ while0Ops0_9_writes (by decide +kernel)).trans
    ((StableHlo.after_of_writes_sub while0Ops0_8 _ while0Ops0_8_writes (by decide +kernel)).trans
    ((StableHlo.after_of_writes_sub while0Ops0_7 _ while0Ops0_7_writes (by decide +kernel)).trans
    ((StableHlo.after_of_writes_sub while0Ops0_6 _ while0Ops0_6_writes (by decide +kernel)).trans
    (t_v31 V))))))

/-- The states that the trip leaves. -/
theorem trip_8 : StableHlo.afterL bodyI (StableHlo.after condOps V) (dv main_v10_8) = tSt V := by
  rw [trip_eq]
  exact (s12_8 _).trans (t_v31_12 V)

end Cert.Proof.Ref

end
-- ==== Proof.RefSlab.lean ====
/-
  The reference's slices and updates at the trip number: a slice is the slab of that number, an update
  replaces it.
-/
module

public import proofs.«01_k».proof.Proof.RefRec
public import Idealize.ShloMosaic.Lib.DynamicIndex
public import Idealize.ShloMosaic.Lib.WordCmp
public import Idealize.ShloMosaic.Lib.KernelVsHost

@[expose] public section

noncomputable section

namespace Cert.Proof.Ref

open Cert.ReferenceIdeal Cert.ReferenceIdeal.Gen Cert.ReferenceIdeal.Value
open Idealize.ShloMosaic Idealize.ShloMosaic.TcCoe

/-- The trip number as the loop holds it. -/
def kw (k : ℕ) : S_.Idx → BitVec 32 := fun _ => Scf.iv 0#32 1#32 k

theorem iv_eq (k : ℕ) : Scf.iv 0#32 1#32 k = BitVec.ofNat 32 k := by
  simp [Scf.iv]

theorem starts_eq {k : ℕ} (hk : k < 100) : ∀ a : Fin 3, starts (kw k) a = ((![k, 0, 0] : Fin 3 → ℕ) a : ℤ)
  | 0 => (congrArg BitVec.toInt (iv_eq k)).trans (WordCmp.toInt_ofNat_of_lt (by show k < 2 ^ 31; omega))
  | 1 => rfl
  | 2 => rfl

theorem slab_put {α : Type} (M : ℕ) (x : (⟨3, ![100, 32, M]⟩ : Shape).Idx → α) (u : (⟨2, ![32, M]⟩ : Shape).Idx → α)
    (hb : Shape.BroadcastsInDim ⟨2, ![32, M]⟩ ⟨3, ![1, 32, M]⟩ ![1, 2]) (hf : Shape.Slices ⟨3, ![100, 32, M]⟩ (fun _ => 0) ⟨3, ![1, 32, M]⟩)
    {k : ℕ} (hk : k < 100) (t : Fin 100) (b : Fin 32) (j : Fin M) :
    Host.dynamicUpdateSlice x (broadcastInDim ⟨3, ![1, 32, M]⟩ ![1, 2] hb u) (starts (kw k)) hf (ValueIdx.ix3 t b j)
      = if t.val = k then u (ValueIdx.ix2 b j) else x (ValueIdx.ix3 t b j) := by
  have hs : Shape.Slices ⟨3, ![100, 32, M]⟩ (![k, 0, 0] : Fin 3 → ℕ) ⟨3, ![1, 32, M]⟩ :=
    ⟨rfl, fun a => match a with | 0 => (by show k + 1 ≤ 100; omega) | 1 => (by show 0 + 32 ≤ 32; omega) | 2 => (by show 0 + M ≤ M; omega)⟩
  rw [WordCmp.dynamicUpdateSlice_eq_update x _ _ hf ![k, 0, 0] hs (starts_eq hk)]
  unfold updateSlice
  by_cases h : t.val = k
  · rw [if_pos h, dif_pos]
    · refine broadcastInDim_apply _ _ _ _ (ValueIdx.ix2 b j) ?_
      intro a
      match a with
      | 0 => rfl
      | 1 => exact (by
          show j.val = if M = 1 then 0 else j.val
          have := j.isLt
          split <;> omega)
    · intro a
      match a with
      | 0 => exact (by show k ≤ t.val ∧ t.val < k + 1; omega)
      | 1 => exact (by show 0 ≤ b.val ∧ b.val < 0 + 32; omega)
      | 2 => exact (by show 0 ≤ j.val ∧ j.val < 0 + M; omega)
  · rw [if_neg h, dif_neg]
    intro hc
    have := hc 0
    change k ≤ t.val ∧ t.val < k + 1 at this
    omega

theorem slab_get {α : Type} (M : ℕ) (x : (⟨3, ![100, 32, M]⟩ : Shape).Idx → α)
    (hf : Shape.Slices ⟨3, ![100, 32, M]⟩ (fun _ => 0) ⟨3, ![1, 32, M]⟩) (hc : Shape.ShapeCasts ⟨3, ![1, 32, M]⟩ ⟨2, ![32, M]⟩)
    {k : ℕ} (hk : k < 100) (b : Fin 32) (j : Fin M) :
    shapeCast ⟨2, ![32, M]⟩ (Host.dynamicSlice ⟨3, ![1, 32, M]⟩ x (starts (kw k)) hf) hc (ValueIdx.ix2 b j) = x (ValueIdx.ix3 ⟨k, hk⟩ b j) := by
  have hs : Shape.Slices ⟨3, ![100, 32, M]⟩ (![k, 0, 0] : Fin 3 → ℕ) ⟨3, ![1, 32, M]⟩ :=
    ⟨rfl, fun a => match a with | 0 => (by show k + 1 ≤ 100; omega) | 1 => (by show 0 + 32 ≤ 32; omega) | 2 => (by show 0 + M ≤ M; omega)⟩
  rw [WordCmp.dynamicSlice_eq_extract _ x _ hf ![k, 0, 0] hs (starts_eq hk)]
  have e : shapeCast ⟨2, ![32, M]⟩ (extractStridedSlice ⟨3, ![1, 32, M]⟩ ![k, 0, 0] x hs) hc (ValueIdx.ix2 b j)
      = extractStridedSlice ⟨3, ![1, 32, M]⟩ ![k, 0, 0] x hs (ValueIdx.ix3 0 b j) := by
    refine congrArg _ (Shape.reshapeEquiv_eq_of_rowMajor _ ?_)
    rw [Shape.rowMajor_val_three, Shape.rowMajor_val_two]
    show (0 * 32 + b.val) * M + j.val = b.val * M + j.val
    rw [Nat.zero_mul, Nat.zero_add]
  rw [e]
  refine congrArg x ?_
  funext a
  match a with
  | 0 => rfl
  | 1 => exact Fin.ext (by show 0 + b.val = b.val; omega)
  | 2 => exact Fin.ext (by show 0 + j.val = j.val; omega)

end Cert.Proof.Ref

end
-- ==== Proof.RefFinal.lean ====
/-
  The reference's results at an index: the slab of a step is what the trip of that step computes.
-/
module

public import proofs.«01_k».proof.Proof.RefSlab

@[expose] public section

noncomputable section

namespace Cert.Proof.Ref

open Cert.ReferenceIdeal Cert.ReferenceIdeal.Gen Cert.ReferenceIdeal.Value
open Idealize.ShloMosaic Idealize.ShloMosaic.TcCoe

variable {F : FTy → Type} [FloatOps F]

variable (m : (ℓ : Loc nD τ sig) → Buf (Elt F) ℓ) (c : Dev nD)

/-! ## The values on entry -/

theorem entry_0 : StableHlo.entryContents preI m c (dv main_v10_0) = m ((c.tc : Thread nD τ).loc main_arg0) := by
  simp only [StableHlo.entryContents, StableHlo.afterL_cons, StableHlo.afterL_nil]
  after_results_simp
  rfl
theorem entry_1 : StableHlo.entryContents preI m c (dv main_v10_1) = m ((c.tc : Thread nD τ).loc main_arg1) := by
  simp only [StableHlo.entryContents, StableHlo.afterL_cons, StableHlo.afterL_nil]
  after_results_simp
  rfl
theorem entry_3 : StableHlo.entryContents preI m c (dv main_v10_3) = m ((c.tc : Thread nD τ).loc main_arg3) := by
  simp only [StableHlo.entryContents, StableHlo.afterL_cons, StableHlo.afterL_nil]
  after_results_simp
  rfl
theorem entry_4 : StableHlo.entryContents preI m c (dv main_v10_4) = m ((c.tc : Thread nD τ).loc main_arg4) := by
  simp only [StableHlo.entryContents, StableHlo.afterL_cons, StableHlo.afterL_nil]
  after_results_simp
  rfl
theorem entry_5 : StableHlo.entryContents preI m c (dv main_v10_5) = m ((c.tc : Thread nD τ).loc main_arg5) := by
  simp only [StableHlo.entryContents, StableHlo.afterL_cons, StableHlo.afterL_nil]
  after_results_simp
  rfl
theorem entry_8 : StableHlo.entryContents preI m c (dv main_v10_8) = m ((c.tc : Thread nD τ).loc main_arg2) := by
  simp only [StableHlo.entryContents, StableHlo.afterL_cons, StableHlo.afterL_nil]
  after_results_simp
  rfl

/-- The slot numbers. -/
def slots : IVec S1x64 32 := broadcastInDim S1x64 ![1] bcast_S64_S1x64_1 (iotaInDim S64 32 0)
/-- The ranks of the neurons, 1024 − i. -/
def ranks : FVec F S1x1024 .f32 :=
  broadcastInDim S1x1024 ![1] bcast_S1024_S1x1024_1 (sitofp .f32 (subi (broadcastInDim S1024 ![] bcast_S_S1024 (constantI S_ 32 1024#32)) (iotaInDim S1024 32 0)))

theorem entry_2 : StableHlo.entryContents preI m c (dv main_v10_2) = slots := by
  simp only [StableHlo.entryContents, StableHlo.afterL_cons, StableHlo.afterL_nil]
  after_results_simp
  rfl
theorem entry_6 : StableHlo.entryContents preI m c (dv main_v10_6) = (ranks : FVec F S1x1024 .f32) := by
  simp only [StableHlo.entryContents, StableHlo.afterL_cons, StableHlo.afterL_nil]
  after_results_simp
  rfl

/-! ## The trips -/

theorem atK_succ (k : ℕ) : atK m (k + 1) c = StableHlo.afterL bodyI (StableHlo.after condOps (atK m k c)) := rfl

theorem atK_7 (k : ℕ) : atK m k c (dv main_v10_7) = kw k := atK_ctr m c k
theorem atK_8 (k : ℕ) : atK m (k + 1) c (dv main_v10_8) = tSt (atK m k c) := by
  rw [atK_succ]
  exact trip_8 _

theorem slab_9 (t : Fin 100) (b : Fin 32) (j : Fin 128) : ∀ n, n ≤ 100 → t.val < n →
    atK m n c (dv main_v10_9) (ValueIdx.ix3 t b j) = tOid (atK m t.val c) (ValueIdx.ix2 b j)
  | 0, _, h => absurd h (by omega)
  | n + 1, hn, h => by
    rw [atK_succ, trip_9, atK_7]
    refine (slab_put 128 _ _ _ _ (by omega) t b j).trans ?_
    by_cases e : t.val = n
    · rw [if_pos e, e]
    · rw [if_neg e]
      exact slab_9 t b j n (by omega) (by omega)

theorem slab_10 (t : Fin 100) (b : Fin 32) (j : Fin 1) : ∀ n, n ≤ 100 → t.val < n →
    atK m n c (dv main_v10_10) (ValueIdx.ix3 t b j) = rN (tSpk (atK m t.val c)) (ValueIdx.ix2 b j)
  | 0, _, h => absurd h (by omega)
  | n + 1, hn, h => by
    rw [atK_succ, trip_10, atK_7]
    refine (slab_put 1 _ _ _ _ (by omega) t b j).trans ?_
    by_cases e : t.val = n
    · rw [if_pos e, e]
    · rw [if_neg e]
      exact slab_10 t b j n (by omega) (by omega)

theorem slab_11 (t : Fin 100) (b : Fin 32) (j : Fin 1024) : ∀ n, n ≤ 100 → t.val < n →
    atK m n c (dv main_v10_11) (ValueIdx.ix3 t b j) = tSt (atK m t.val c) (ValueIdx.ix2 b j)
  | 0, _, h => absurd h (by omega)
  | n + 1, hn, h => by
    rw [atK_succ, trip_11, atK_7]
    refine (slab_put 1024 _ _ _ _ (by omega) t b j).trans ?_
    by_cases e : t.val = n
    · rw [if_pos e, e]
    · rw [if_neg e]
      exact slab_11 t b j n (by omega) (by omega)

theorem final_eq {r : Ref sig .tc} (hr : r = main_v10_9 ∨ r = main_v10_10 ∨ r = main_v10_11) :
    StableHlo.finalContents condOps preI bodyI postI 100 m c (Proc.devRef .tc r) = atK m 100 c (Proc.devRef .tc r) := by
  show StableHlo.after condOps (atK m 100 c) (Proc.devRef .tc r) = _
  rw [StableHlo.after_of_writes_sub condOps _ condOps_writes]
  rcases hr with rfl | rfl | rfl <;> decide +kernel

theorem final_9 (t : Fin 100) (b : Fin 32) (j : Fin 128) :
    StableHlo.finalContents condOps preI bodyI postI 100 m c (dv main_v10_9) (ValueIdx.ix3 t b j) = tOid (atK m t.val c) (ValueIdx.ix2 b j) :=
  (congrFun (final_eq m c (.inl rfl)) _).trans (slab_9 m c t b j 100 le_rfl t.isLt)
theorem final_10 (t : Fin 100) (b : Fin 32) (j : Fin 1) :
    StableHlo.finalContents condOps preI bodyI postI 100 m c (dv main_v10_10) (ValueIdx.ix3 t b j) = rN (tSpk (atK m t.val c)) (ValueIdx.ix2 b j) :=
  (congrFun (final_eq m c (.inr (.inl rfl))) _).trans (slab_10 m c t b j 100 le_rfl t.isLt)
theorem final_11 (t : Fin 100) (b : Fin 32) (j : Fin 1024) :
    StableHlo.finalContents condOps preI bodyI postI 100 m c (dv main_v10_11) (ValueIdx.ix3 t b j) = tSt (atK m t.val c) (ValueIdx.ix2 b j) :=
  (congrFun (final_eq m c (.inr (.inr rfl))) _).trans (slab_11 m c t b j 100 le_rfl t.isLt)

end Cert.Proof.Ref

end
-- ==== Proof.RefTake.lean ====
/-
  The reference's gather of weight columns at an index: for ids in range it reads the weight of the neuron from
  the slot's source.
-/
module

public import proofs.«01_k».proof.Proof.RefFinal
public import Idealize.ShloMosaic.Lib.KernelVsHost
public import Idealize.ShloMosaic.Lib.Pipeline.Value
public import Idealize.ShloMosaic.Lib.Pointwise.Reduce

@[expose] public section

noncomputable section

namespace Cert.Proof.Ref

open Cert.ReferenceIdeal Cert.ReferenceIdeal.Gen Cert.ReferenceIdeal.Value
open Idealize.ShloMosaic Idealize.ShloMosaic.TcCoe

variable {F : FTy → Type} [FloatOps F]

/-- The gather's index of a slot. -/
abbrev slotIx (b : Fin 32) (s : Fin 64) : S32x64x1.Idx := ValueIdx.ix3 b s 0

theorem gather_at (w : FVec F S1024x1024 .f32) (idx : IVec S32x64x1 32) (u : Fin 1024) (b : Fin 32) (s : Fin 64) :
    Host.gather gather_S1024x1024_S32x64x1_S1024x32x64_0_1_n_n_1_2_10241 w idx (ValueIdx.ix3 u b s)
      = w (ValueIdx.ix2 u ⟨min (idx (slotIx b s)).toInt.toNat (1024 - 1), by omega⟩) := by
  unfold Host.gather
  refine congrArg w (funext fun a => Fin.ext ?_)
  match a with
  | ⟨0, _⟩ =>
    show GatherDims.start _ (ValueIdx.ix3 u b s) idx 0 + GatherDims.batchCoord _ (ValueIdx.ix3 u b s) 0 + GatherDims.offCoord _ (ValueIdx.ix3 u b s) 0 = u.val
    rw [GatherDims.batchCoord_eq_zero _ _ _ List.not_mem_nil]
    have e1 : GatherDims.start gather_S1024x1024_S32x64x1_S1024x32x64_0_1_n_n_1_2_10241 (ValueIdx.ix3 u b s) idx 0 = 0 := by
      unfold GatherDims.start
      exact dif_neg (show ¬ (0 : Fin 2) ∈ [(1 : Fin 2)] by decide)
    rw [e1]
    simp only [Nat.zero_add, Nat.add_zero]
    rfl
  | ⟨1, _⟩ =>
    show GatherDims.start _ (ValueIdx.ix3 u b s) idx 1 + GatherDims.batchCoord _ (ValueIdx.ix3 u b s) 1 + GatherDims.offCoord _ (ValueIdx.ix3 u b s) 1
      = min (idx (slotIx b s)).toInt.toNat (1024 - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    refine (dif_pos (show (1 : Fin 2) ∈ [(1 : Fin 2)] from List.mem_singleton.mpr rfl)).trans ?_
    have hsi : GatherDims.siIdx gather_S1024x1024_S32x64x1_S1024x32x64_0_1_n_n_1_2_10241 (ValueIdx.ix3 u b s)
        ⟨List.idxOf (1 : Fin 2) [(1 : Fin 2)], List.idxOf_lt_length_iff.2 (List.mem_singleton.mpr rfl)⟩ = slotIx b s := by
      funext c; refine Fin.ext ?_
      match c with
      | ⟨0, _⟩ => rfl
      | ⟨1, _⟩ => rfl
      | ⟨2, _⟩ => rfl
    exact congrArg (fun i => min (idx i).toInt.toNat (1024 - 1)) hsi

theorem rWrap_at (ids : IVec S32x64 32) (b : Fin 32) (s : Fin 64) (h : (ids (ValueIdx.ix2 b s)).toNat < 1024) :
    rWrap ids (slotIx b s) = ids (ValueIdx.ix2 b s) := by
  unfold rWrap
  refine (broadcastInDim_apply _ _ _ _ (ValueIdx.ix2 b s) (by intro a; match a with | 0 => rfl | 1 => rfl)).trans ?_
  show Scalar.select (IntOp.cmpi .slt (ids (ValueIdx.ix2 b s)) 0#32) _ (ids (ValueIdx.ix2 b s)) = _
  have e : IntOp.cmpi .slt (ids (ValueIdx.ix2 b s)) 0#32 = 0#1 := by
    show BitVec.ofBool (BitVec.slt (ids (ValueIdx.ix2 b s)) 0#32) = 0#1
    have : BitVec.slt (ids (ValueIdx.ix2 b s)) 0#32 = false := by
      rw [BitVec.slt_eq_decide, decide_eq_false_iff_not, BitVec.toInt_eq_toNat_of_lt (by omega)]
      simp
    rw [this]; rfl
  rw [e]; rfl

theorem fold_ones (n : ℕ) (f : Fin n → BitVec 1) (hf : ∀ k, f k = 1#1) : (Finset.univ : Finset (Fin n)).fold IntOp.andi 1#1 f = 1#1 := by
  have : f = fun _ => 1#1 := funext hf
  rw [this]
  refine Finset.induction_on (Finset.univ : Finset (Fin n)) rfl fun a S ha ih => ?_
  rw [Finset.fold_insert ha, ih]
  rfl

theorem rIn_at (i : IVec S32x64x1 32) (h : ∀ b s, (i (slotIx b s)).toNat < 1024) (b : Fin 32) (s : Fin 64) : rIn i (ValueIdx.ix2 b s) = 1#1 := by
  unfold rIn
  rw [Host.reduce_eq_fold, Shape.ReducesTo.fold_fiber_r3_a2]
  refine fold_ones 1 _ fun k => ?_
  obtain rfl : k = 0 := Subsingleton.elim _ _
  have hb := h b s
  show IntOp.andi (IntOp.cmpi .sge (i (slotIx b s)) 0#32) (IntOp.cmpi .sle (i (slotIx b s)) 1023#32) = 1#1
  generalize i (slotIx b s) = z at hb ⊢
  have e1 : IntOp.cmpi .sge z 0#32 = 1#1 := by
    show BitVec.ofBool (BitVec.sle 0#32 z) = 1#1
    have : BitVec.sle 0#32 z = true := by
      rw [BitVec.sle_eq_decide, decide_eq_true_eq, BitVec.toInt_eq_toNat_of_lt (x := z) (by omega)]
      simp
    rw [this]; rfl
  have e2 : IntOp.cmpi .sle z 1023#32 = 1#1 := by
    show BitVec.ofBool (BitVec.sle z 1023#32) = 1#1
    have : BitVec.sle z 1023#32 = true := by
      rw [BitVec.sle_eq_decide, decide_eq_true_eq, BitVec.toInt_eq_toNat_of_lt (x := z) (by omega)]
      have : (1023#32 : BitVec 32).toInt = 1023 := by decide
      omega
    rw [this]; rfl
  rw [e1, e2]; rfl

theorem rTake_at (w : FVec F S1024x1024 .f32) (ids : IVec S32x64 32) (h : ∀ b s, (ids (ValueIdx.ix2 b s)).toNat < 1024) (u : Fin 1024) (b : Fin 32) (s : Fin 64) :
    rTake w ids (ValueIdx.ix3 u b s) = w (ValueIdx.ix2 u ⟨(ids (ValueIdx.ix2 b s)).toNat % 1024, Nat.mod_lt _ (by decide)⟩) := by
  have hb := h b s
  unfold rTake
  have e : broadcastInDim S1024x32x64 ![1, 2] bcast_S32x64_S1024x32x64_1_2 (rIn (rWrap ids)) (ValueIdx.ix3 u b s) = 1#1 :=
    (broadcastInDim_apply _ _ _ _ (ValueIdx.ix2 b s) (by intro a; match a with | 0 => rfl | 1 => rfl)).trans
      (rIn_at _ (fun b s => by rw [rWrap_at ids b s (h b s)]; exact h b s) b s)
  show Scalar.select (broadcastInDim S1024x32x64 ![1, 2] bcast_S32x64_S1024x32x64_1_2 (rIn (rWrap ids)) (ValueIdx.ix3 u b s)) (Host.gather _ w (rWrap ids) (ValueIdx.ix3 u b s)) _ = _
  rw [e]
  refine (gather_at w (rWrap ids) u b s).trans ?_
  refine congrArg (fun z : Fin 1024 => w (ValueIdx.ix2 u z)) (Fin.ext ?_)
  show min (rWrap ids (slotIx b s)).toInt.toNat (1024 - 1) = (ids (ValueIdx.ix2 b s)).toNat % 1024
  rw [rWrap_at ids b s hb, BitVec.toInt_eq_toNat_of_lt (by omega)]
  omega

end Cert.Proof.Ref

end
-- ==== Proof.RefTop.lean ====
/-
  The reference's top-k over the ideal numbers: the scores rank the firing neurons by their ids, so that the
  sorted positions are the firing neurons in ascending order.
-/
module

public import proofs.«01_k».proof.Proof.RefFinal
public import proofs.«01_k».proof.Proof.MathSort
public import Idealize.ShloMosaic.Lib.SortFacts
public import Idealize.ShloMosaic.Lib.IdealHost
public import Idealize.ShloMosaic.Lib.KernelVsHost
public import Idealize.ShloMosaic.Lib.Pipeline.Value

@[expose] public section

noncomputable section

namespace Cert.Proof.Ref

open Cert.ReferenceIdeal Cert.ReferenceIdeal.Gen Cert.ReferenceIdeal.Value
open Idealize.ShloMosaic Idealize.ShloMosaic.TcCoe

theorem ranks_at (u : Fin 1024) : (ranks (F := Ideal) (ValueIdx.ix2 0 u) : EReal) = (((1024 - u.val : ℕ) : ℝ) : EReal) := by
  have hu := u.isLt
  unfold ranks
  refine (broadcastInDim_apply _ _ _ _ (ValueIdx.ix1 u) (by intro a; match a with | 0 => rfl)).trans ?_
  show (((1024#32 - BitVec.ofNat 32 u.val).toInt : ℝ) : EReal) = _
  have e : (1024#32 - BitVec.ofNat 32 u.val) = BitVec.ofNat 32 (1024 - u.val) := by
    apply BitVec.eq_of_toNat_eq
    simp only [BitVec.toNat_sub, BitVec.toNat_ofNat]
    omega
  rw [e, WordCmp.toInt_ofNat_of_lt (by omega)]
  simp

theorem rScore_at (sp : IVec S32x1024 1) (wd : ℕ → BitVec 32) (b : Fin 32) (u : Fin 1024)
    (hw : bitB wd u.val = true ↔ sp (ValueIdx.ix2 b u) = 1#1) :
    (rScore (F := Ideal) sp ranks (ValueIdx.ix2 b u) : EReal) = ((scoreN wd u.val : ℝ) : EReal) := by
  have e : (rScore (F := Ideal) sp ranks (ValueIdx.ix2 b u) : EReal)
      = (((sp (ValueIdx.ix2 b u)).toNat : ℝ) : EReal) * (ranks (F := Ideal) (ValueIdx.ix2 0 u) : EReal) := by
    unfold rScore
    refine congrArg (fun z : EReal => (((sp (ValueIdx.ix2 b u)).toNat : ℝ) : EReal) * z) ?_
    exact broadcastInDim_apply _ _ _ _ (ValueIdx.ix2 0 u) (by intro a; match a with | 0 => rfl | 1 => rfl)
  rw [e, ranks_at]
  unfold scoreN
  split
  · next h => rw [hw.1 h]; simp
  · next h =>
    have h0 : sp (ValueIdx.ix2 b u) = 0#1 := by
      have h1 : sp (ValueIdx.ix2 b u) ≠ 1#1 := fun e => h (hw.2 e)
      revert h1; generalize sp (ValueIdx.ix2 b u) = z; revert z; decide
    rw [h0]; simp

/-- The order of a row's scores. -/
def before (sc : FVec Ideal S32x1024 .f32) (b : Fin 32) (k k' : Fin 1024) : Bool :=
  FloatOps.cmpfTotal CmpDirection.gt (sc (ValueIdx.ix2 b k)) (sc (ValueIdx.ix2 b k')) == 1#1

theorem before_iff (sc : FVec Ideal S32x1024 .f32) (b : Fin 32) (k k' : Fin 1024) :
    before sc b k k' = true ↔ (sc (ValueIdx.ix2 b k') : EReal) < sc (ValueIdx.ix2 b k) := by
  unfold before
  rw [Ideal.cmpfTotal_def]
  show (BitVec.ofBool (decide ((sc (ValueIdx.ix2 b k') : EReal) < sc (ValueIdx.ix2 b k))) == 1#1) = true ↔ _
  by_cases h : (sc (ValueIdx.ix2 b k') : EReal) < sc (ValueIdx.ix2 b k) <;> simp [h]

theorem along_eq (b : Fin 32) (k k' : Fin 1024) : Shape.Idx.along (s := S32x1024) (ValueIdx.ix2 b k) 1 k' = ValueIdx.ix2 b k' := by
  funext a
  match a with
  | 0 => rfl
  | 1 => rfl

/-- The first 128 columns. -/
theorem cut_at {α : Type} (x : S32x1024.Idx → α) (b : Fin 32) (k : Fin 128) :
    extractStridedSlice S32x128 (fun _ => 0) x sliceFits_S32x1024_S32x128 (ValueIdx.ix2 b k) = x (ValueIdx.ix2 b (⟨k.val, by omega⟩ : Fin 1024)) := by
  refine congrArg x (funext fun a => Fin.ext ?_)
  match a with
  | 0 => exact Nat.zero_add _
  | 1 => exact Nat.zero_add _

/-- The positions of a row. -/
def posT : IVec S32x1024 32 := fun i => if hd : 1 < S32x1024.rank then iotaInDim S32x1024 32 ⟨1, hd⟩ i else 0#32
/-- The sort behind the top-k. -/
def sortT (sc : FVec Ideal S32x1024 .f32) : FVec Ideal S32x1024 .f32 × IVec S32x1024 32 :=
  Host.sort2 S32x1024 1 (fun l r => FloatOps.cmpfTotal CmpDirection.gt l.1 r.1) sc posT

theorem topK_val (sc : FVec Ideal S32x1024 .f32) (b : Fin 32) (k : Fin 128) :
    (Host.topK S32x128 1 (FloatOps.cmpfTotal .gt) sc sliceFits_S32x1024_S32x128).1 (ValueIdx.ix2 b k)
      = sc (ValueIdx.ix2 b (sortedFrom (before sc b) ⟨k.val, by omega⟩)) := by
  refine (show _ = (sortT sc).1 _ from cut_at (sortT sc).1 b k).trans ?_
  unfold sortT Host.sort2
  rw [dif_pos (show 1 < S32x1024.rank by decide)]
  refine congrArg sc ((along_eq b _ _).trans (congrArg (ValueIdx.ix2 b) ?_))
  refine congrArg (fun g => sortedFrom g (⟨k.val, by omega⟩ : Fin 1024)) (funext fun x => funext fun y => ?_)
  unfold before
  exact congrArg₂ (fun p q => FloatOps.cmpfTotal CmpDirection.gt (sc p) (sc q) == 1#1) (along_eq b _ x) (along_eq b _ y)

theorem topK_pos (sc : FVec Ideal S32x1024 .f32) (b : Fin 32) (k : Fin 128) :
    (Host.topK S32x128 1 (FloatOps.cmpfTotal .gt) sc sliceFits_S32x1024_S32x128).2 (ValueIdx.ix2 b k)
      = BitVec.ofNat 32 (sortedFrom (before sc b) ⟨k.val, by omega⟩).val := by
  refine (show _ = (sortT sc).2 _ from cut_at (sortT sc).2 b k).trans ?_
  unfold sortT Host.sort2
  rw [dif_pos (show 1 < S32x1024.rank by decide)]
  have e : ∀ x : Fin 1024, posT (ValueIdx.ix2 b x) = BitVec.ofNat 32 x.val :=
    fun x => dif_pos (show 1 < S32x1024.rank by decide)
  refine Eq.trans (congrArg posT (along_eq b _ _)) ((e _).trans (congrArg (fun z : Fin 1024 => BitVec.ofNat 32 z.val) ?_))
  refine congrArg (fun g => sortedFrom g (⟨k.val, by omega⟩ : Fin 1024)) (funext fun x => funext fun y => ?_)
  unfold before
  exact congrArg₂ (fun p q => FloatOps.cmpfTotal CmpDirection.gt (sc p) (sc q) == 1#1) (along_eq b _ x) (along_eq b _ y)

theorem rOid_at (sp : IVec S32x1024 1) (wd : ℕ → BitVec 32) (b : Fin 32) (k : Fin 128)
    (hw : ∀ u : Fin 1024, bitB wd u.val = true ↔ sp (ValueIdx.ix2 b u) = 1#1) :
    rOid (F := Ideal) (rScore sp ranks) (ValueIdx.ix2 b k) = pick wd 1024 k.val := by
  have hsc : ∀ u : Fin 1024, (rScore (F := Ideal) sp ranks (ValueIdx.ix2 b u) : EReal) = ((scoreN wd u.val : ℝ) : EReal) := fun u => rScore_at sp wd b u (hw u)
  generalize hS : (rScore (F := Ideal) sp ranks) = sc at hsc ⊢
  have hm : ∀ i j : Fin 1024, i < j → scoreN wd (sortedFrom (before sc b) j).val ≤ scoreN wd (sortedFrom (before sc b) i).val := by
    intro i j hij
    have h := sortedFrom_noInversion (before sc b) (before sc b)
      (fun x y h => by
        rw [Bool.eq_false_iff]; intro h'
        exact lt_asymm ((before_iff sc b x y).1 h) ((before_iff sc b y x).1 h'))
      (fun _ _ h => h)
      (fun x y z h h' => by
        rw [Bool.eq_false_iff] at h h' ⊢
        intro h''
        have h1 := not_lt.1 (fun q => h ((before_iff sc b x y).2 q))
        have h2 := not_lt.1 (fun q => h' ((before_iff sc b y z).2 q))
        exact absurd ((before_iff sc b x z).1 h'') (not_lt.2 (h1.trans h2))) i j hij
    rw [Bool.eq_false_iff] at h
    have h1 := not_lt.1 (fun q => h ((before_iff sc b _ _).2 q))
    rw [hsc, hsc] at h1
    exact_mod_cast h1
  have hp := pick_sorted wd (sortedFrom (before sc b)) (sortedFrom_injective _) (sortedFrom_surjective _) hm ⟨k.val, by omega⟩
  refine Eq.trans ?_ hp.symm
  show Scalar.select (Ideal.cmp .ogt ((Host.topK S32x128 1 (FloatOps.cmpfTotal .gt) sc sliceFits_S32x1024_S32x128).1 (ValueIdx.ix2 b k)) (Scalar.ofBits (F := Ideal) .f32 0x00000000#32))
    ((Host.topK S32x128 1 (FloatOps.cmpfTotal .gt) sc sliceFits_S32x1024_S32x128).2 (ValueIdx.ix2 b k)) 0#32 = _
  rw [topK_val, topK_pos, hsc]
  have h0 : (Scalar.ofBits (F := Ideal) .f32 0x00000000#32 : EReal) = 0 := Ideal.ofBits_zero_f32
  rw [h0]
  generalize sortedFrom (before sc b) ⟨k.val, by omega⟩ = x
  have hx := x.isLt
  unfold scoreN
  by_cases hb : bitB wd x.val = true
  · rw [if_pos hb, if_pos hb]
    have : (0 : EReal) < (((1024 - x.val : ℕ) : ℝ) : EReal) := by
      have : 0 < 1024 - x.val := by omega
      exact_mod_cast this
    have e : Ideal.cmp .ogt (((1024 - x.val : ℕ) : ℝ) : EReal) 0 = 1#1 := by
      show BitVec.ofBool (decide ((0 : EReal) < (((1024 - x.val : ℕ) : ℝ) : EReal))) = 1#1
      rw [decide_eq_true this]; rfl
    rw [e]; rfl
  · rw [if_neg hb, if_neg hb]
    have e : Ideal.cmp .ogt (((0 : ℕ) : ℝ) : EReal) 0 = 0#1 := by
      show BitVec.ofBool (decide ((0 : EReal) < (((0 : ℕ) : ℝ) : EReal))) = 0#1
      simp
    rw [e]; rfl

end Cert.Proof.Ref

end
-- ==== Proof.DotR.lean ====
/-
  The reference's sum over the spikes at an index, over the ideal numbers.
-/
module

public import proofs.«01_k».proof.Proof.RefFinal
public import Idealize.ShloMosaic.Lib.Pointwise.Contract
public import Idealize.ShloMosaic.Lib.Pointwise.Tactic

@[expose] public section

noncomputable section

namespace Cert.Proof.Ref

open Cert.ReferenceIdeal Cert.ReferenceIdeal.Gen Cert.ReferenceIdeal.Value
open Idealize.ShloMosaic Idealize.ShloMosaic.TcCoe

theorem rSyn_at (tk : FVec Ideal S1024x32x64 .f32) (v : FVec Ideal S32x64 .f32) (b : Fin 32) (u : Fin 1024) :
    rSyn tk v (ValueIdx.ix2 b u) = ∑ s : Fin 64, (tk (ValueIdx.ix3 u b s) : EReal) * v (ValueIdx.ix2 b s) := by
  unfold rSyn
  simp only [pointwise]
  refine (zero_add _).trans (Finset.sum_congr rfl fun k _ => ?_)
  refine congrArg₂ (fun x y : EReal => x * y) (congrArg tk ?_) (congrArg v ?_)
  · funext a
    match a with
    | 0 => rfl
    | 1 => rfl
    | 2 => rfl
  · funext a
    match a with
    | 0 => rfl
    | 1 => rfl

end Cert.Proof.Ref

end
-- ==== Proof.RefPoint.lean ====
/-
  The reference's elementwise steps at an index, over the ideal numbers.
-/
module

public import proofs.«01_k».proof.Proof.RefTake
public import proofs.«01_k».proof.Proof.RefTop
public import proofs.«01_k».proof.Proof.DotR
public import proofs.«01_k».proof.Proof.Net
public import Idealize.ShloMosaic.Lib.IndicatorCount

@[expose] public section

noncomputable section

namespace Cert.Proof.Ref

open Cert.ReferenceIdeal Cert.ReferenceIdeal.Gen Cert.ReferenceIdeal.Value
open Idealize.ShloMosaic Idealize.ShloMosaic.TcCoe

theorem slots_at (s : Fin 64) : slots (ValueIdx.ix2 0 s) = BitVec.ofNat 32 s.val := by
  unfold slots
  exact (broadcastInDim_apply _ _ _ _ (ValueIdx.ix1 s) (by intro a; match a with | 0 => rfl)).trans rfl

theorem rVal_at (n : IVec S32x1 32) (b : Fin 32) (s : Fin 64) :
    (rVal (F := Ideal) slots n (ValueIdx.ix2 b s) : EReal) = if IntOp.cmpi .slt (BitVec.ofNat 32 s.val) (n (ValueIdx.ix2 b 0)) = 1#1 then 1 else 0 := by
  have e1 : broadcastInDim S32x64 ![0, 1] bcast_S1x64_S32x64_0_1 slots (ValueIdx.ix2 b s) = BitVec.ofNat 32 s.val :=
    (broadcastInDim_apply _ _ _ _ (ValueIdx.ix2 0 s) (by intro a; match a with | 0 => rfl | 1 => rfl)).trans (slots_at s)
  have e2 : broadcastInDim S32x64 ![0, 1] bcast_S32x1_S32x64_0_1 n (ValueIdx.ix2 b s) = n (ValueIdx.ix2 b 0) :=
    broadcastInDim_apply _ _ _ _ (ValueIdx.ix2 b 0) (by intro a; match a with | 0 => rfl | 1 => rfl)
  show (((IntOp.cmpi .slt (broadcastInDim S32x64 ![0, 1] bcast_S1x64_S32x64_0_1 slots (ValueIdx.ix2 b s))
    (broadcastInDim S32x64 ![0, 1] bcast_S32x1_S32x64_0_1 n (ValueIdx.ix2 b s))).toNat : ℝ) : EReal) = _
  rw [e1, e2]
  generalize IntOp.cmpi .slt (BitVec.ofNat 32 s.val) (n (ValueIdx.ix2 b 0)) = z
  have hz : z = 0#1 ∨ z = 1#1 := by revert z; decide
  rcases hz with rfl | rfl <;> simp

theorem rRow_at (d : FVec Ideal S1024 .f32) (b : Fin 32) (u : Fin 1024) : rRow d (ValueIdx.ix2 b u) = d (ValueIdx.ix1 u) := by
  unfold rRow
  refine (broadcastInDim_apply _ _ _ _ (ValueIdx.ix2 0 u) (by intro a; match a with | 0 => rfl | 1 => rfl)).trans ?_
  exact broadcastInDim_apply _ _ _ _ (ValueIdx.ix1 u) (by intro a; match a with | 0 => rfl)

theorem rNew_at (st syn : FVec Ideal S32x1024 .f32) (d : FVec Ideal S1024 .f32) (b : Fin 32) (u : Fin 1024) :
    rNew st syn d (ValueIdx.ix2 b u) = nrnNew (F := Ideal) (d (ValueIdx.ix1 u)) (st (ValueIdx.ix2 b u)) (syn (ValueIdx.ix2 b u)) := by
  unfold rNew nrnNew
  show FloatOps.addf (FloatOps.mulf _ (rRow d (ValueIdx.ix2 b u))) (FloatOps.mulf (rRow (subf _ d) (ValueIdx.ix2 b u)) _) = _
  rw [rRow_at, rRow_at]
  rfl

theorem rSpk_at (st syn : FVec Ideal S32x1024 .f32) (d th : FVec Ideal S1024 .f32) (b : Fin 32) (u : Fin 1024) :
    rSpk (rNew st syn d) th (ValueIdx.ix2 b u)
      = nrnFire (F := Ideal) (d (ValueIdx.ix1 u)) (th (ValueIdx.ix1 u)) (st (ValueIdx.ix2 b u)) (syn (ValueIdx.ix2 b u)) := by
  unfold rSpk nrnFire
  show FloatOps.cmpf .ogt (rNew st syn d (ValueIdx.ix2 b u)) (rRow th (ValueIdx.ix2 b u)) = _
  rw [rRow_at, rNew_at]

theorem rSt_at (st syn : FVec Ideal S32x1024 .f32) (d th : FVec Ideal S1024 .f32) (b : Fin 32) (u : Fin 1024) :
    rSt (rSpk (rNew st syn d) th) (rNew st syn d) (ValueIdx.ix2 b u)
      = nrnSt (F := Ideal) (d (ValueIdx.ix1 u)) (th (ValueIdx.ix1 u)) (st (ValueIdx.ix2 b u)) (syn (ValueIdx.ix2 b u)) := by
  unfold rSt nrnSt
  show Scalar.select (rSpk (rNew st syn d) th (ValueIdx.ix2 b u)) _ (rNew st syn d (ValueIdx.ix2 b u)) = _
  rw [rSpk_at, rNew_at]
  rfl

theorem rN_at (sp : IVec S32x1024 1) (b : Fin 32) (j : Fin 1) :
    rN sp (ValueIdx.ix2 b j) = IntOp.minsi (BitVec.ofNat 32 ((Finset.univ : Finset (Fin 1024)).filter fun u => sp (ValueIdx.ix2 b u) = 1#1).card) 128#32 := by
  unfold rN
  refine (broadcastInDim_apply _ _ _ _ (ValueIdx.ix1 b) (by intro a; match a with | 0 => rfl)).trans ?_
  refine congrArg (fun z : BitVec 32 => IntOp.minsi z 128#32) ?_
  rw [Host.reduce_eq_fold, Shape.ReducesTo.fold_fiber_r2_a1]
  exact IndicatorCount.fold_addi_setWidth_eq_card _ _

end Cert.Proof.Ref

end
-- ==== Proof.RefVal.lean ====
/-
  The reference's results over the ideal numbers, as the layer's plain mathematics.
-/
module

public import proofs.«01_k».proof.Proof.RefPoint

@[expose] public section

noncomputable section

namespace Cert.Proof.Ref

open Cert.ReferenceIdeal Cert.ReferenceIdeal.Gen Cert.ReferenceIdeal.Value
open Idealize.ShloMosaic Idealize.ShloMosaic.TcCoe

variable (m : (ℓ : Loc nD τ sig) → Buf (Elt Ideal) ℓ) (c : Dev nD)

/-- The argument arrays. -/
abbrev rI : S100x32x64.Idx → BitVec 32 := m ((c.tc : Thread nD τ).loc main_arg0)
abbrev rC : S100x32x1.Idx → BitVec 32 := m ((c.tc : Thread nD τ).loc main_arg1)
abbrev rS : S32x1024.Idx → EReal := m ((c.tc : Thread nD τ).loc main_arg2)
abbrev rW : S1024x1024.Idx → EReal := m ((c.tc : Thread nD τ).loc main_arg3)
abbrev rD : S1024.Idx → EReal := m ((c.tc : Thread nD τ).loc main_arg4)
abbrev rT : S1024.Idx → EReal := m ((c.tc : Thread nD τ).loc main_arg5)

theorem at0 (k : ℕ) : atK m k c (dv main_v10_0) = rI m c := (atK_keep m c (.inr (.inl rfl)) k).trans (entry_0 m c)
theorem at1 (k : ℕ) : atK m k c (dv main_v10_1) = rC m c := (atK_keep m c (.inr (.inr (.inl rfl))) k).trans (entry_1 m c)
theorem at2 (k : ℕ) : atK m k c (dv main_v10_2) = slots := (atK_keep m c (.inr (.inr (.inr (.inl rfl)))) k).trans (entry_2 m c)
theorem at3 (k : ℕ) : atK m k c (dv main_v10_3) = rW m c := (atK_keep m c (.inr (.inr (.inr (.inr (.inl rfl))))) k).trans (entry_3 m c)
theorem at4 (k : ℕ) : atK m k c (dv main_v10_4) = rD m c := (atK_keep m c (.inr (.inr (.inr (.inr (.inr (.inl rfl)))))) k).trans (entry_4 m c)
theorem at5 (k : ℕ) : atK m k c (dv main_v10_5) = rT m c := (atK_keep m c (.inr (.inr (.inr (.inr (.inr (.inr (.inl rfl))))))) k).trans (entry_5 m c)
theorem at6 (k : ℕ) : atK m k c (dv main_v10_6) = (ranks : FVec Ideal S1x1024 .f32) :=
  (atK_keep m c (.inr (.inr (.inr (.inr (.inr (.inr (.inr rfl))))))) k).trans (entry_6 m c)

theorem rIds_at (x : IVec S100x32x64 32) {k : ℕ} (hk : k < 100) (b : Fin 32) (s : Fin 64) :
    rIds x (kw k) (ValueIdx.ix2 b s) = x (ValueIdx.ix3 ⟨k, hk⟩ b s) := slab_get 64 x _ _ hk b s
theorem rCnt_at (x : IVec S100x32x1 32) {k : ℕ} (hk : k < 100) (b : Fin 32) (s : Fin 1) :
    rCnt x (kw k) (ValueIdx.ix2 b s) = x (ValueIdx.ix3 ⟨k, hk⟩ b s) := slab_get 1 x _ _ hk b s

variable (hid : ∀ i, (rI m c i).toNat < 1024)
include hid

/-- The trip's synaptic input. -/
theorem syn_at {k : ℕ} (hk : k < 100) (b : Fin 32) (u : Fin 1024) :
    (rSyn (tTake (atK m k c)) (tVal (atK m k c)) (ValueIdx.ix2 b u) : EReal) = inp (rI m c) (rC m c) (rW m c) b u k := by
  refine (rSyn_at _ _ b u).trans (Finset.sum_congr rfl fun s _ => ?_)
  have ek : (⟨k, hk⟩ : Fin 100) = ⟨k % 100, Nat.mod_lt _ (by decide)⟩ := Fin.ext (Nat.mod_eq_of_lt hk).symm
  have es : s = (⟨s.val % 64, Nat.mod_lt _ (by decide)⟩ : Fin 64) := Fin.ext (Nat.mod_eq_of_lt s.isLt).symm
  have hI : ∀ b s, rIds (rI m c) (kw k) (ValueIdx.ix2 b s) = rI m c (ValueIdx.ix3 ⟨k, hk⟩ b s) := rIds_at _ hk
  have e1 : tTake (atK m k c) (ValueIdx.ix3 u b s) = rW m c (ValueIdx.ix2 u ⟨(src (rI m c) k b s.val).toNat % 1024, Nat.mod_lt _ (by decide)⟩) := by
    unfold tTake
    rw [at0, at3, atK_7, rTake_at _ _ (fun b s => by rw [hI]; exact hid _)]
    have e : rIds (rI m c) (kw k) (ValueIdx.ix2 b s) = src (rI m c) k b s.val := by
      rw [hI]; unfold src; rw [← ek, ← es]
    simp only [e]
  have e2 : (tVal (atK m k c) (ValueIdx.ix2 b s) : EReal) = if live (rC m c) k b s.val then 1 else 0 := by
    unfold tVal
    rw [at1, at2, atK_7]
    refine (rVal_at _ b s).trans ?_
    rw [rCnt_at _ hk]
    have el : live (rC m c) k b s.val ↔ IntOp.cmpi .slt (BitVec.ofNat 32 s.val) (rC m c (ValueIdx.ix3 ⟨k, hk⟩ b 0)) = 1#1 := by
      unfold live; rw [← ek]
    exact if_congr el.symm rfl rfl
  exact congrArg₂ (fun x y : EReal => x * y) e1 e2

theorem state_at (b : Fin 32) (u : Fin 1024) : ∀ k, k ≤ 100 →
    (atK m k c (dv main_v10_8) : S32x1024.Idx → EReal) (ValueIdx.ix2 b u) = netSt (rI m c) (rC m c) (rS m c) (rW m c) (rD m c) (rT m c) b u k
  | 0, _ => congrFun (entry_8 m c) _
  | k + 1, hk => by
    rw [atK_8]
    unfold tSt tSpk tNew
    rw [at4, at5]
    refine (rSt_at _ _ _ _ b u).trans ?_
    rw [syn_at m c hid (by omega) b u]
    have ih := state_at b u k (by omega)
    show nrnSt (F := Ideal) _ _ (atK m k c (dv main_v10_8) (ValueIdx.ix2 b u)) _ = _
    refine (congrArg (fun z => nrnSt (F := Ideal) _ _ z _) ih).trans ?_
    rfl

theorem spk_at {k : ℕ} (hk : k < 100) (b : Fin 32) (u : Fin 1024) :
    tSpk (atK m k c) (ValueIdx.ix2 b u) = netSp (rI m c) (rC m c) (rS m c) (rW m c) (rD m c) (rT m c) b u k := by
  unfold tSpk tNew
  rw [at4, at5]
  refine (rSpk_at _ _ _ _ b u).trans ?_
  rw [syn_at m c hid hk b u]
  exact congrArg (fun z => nrnFire (F := Ideal) _ _ z _) (state_at m c hid b u k (by omega))

/-- The states. -/
theorem res_states (t : Fin 100) (b : Fin 32) (u : Fin 1024) :
    (StableHlo.finalContents condOps preI bodyI postI 100 m c (dv main_v10_11) : S100x32x1024.Idx → EReal) (ValueIdx.ix3 t b u)
      = netSt (rI m c) (rC m c) (rS m c) (rW m c) (rD m c) (rT m c) b u (t.val + 1) :=
  (final_11 m c t b u).trans ((congrFun (atK_8 m c t.val) _).symm.trans (state_at m c hid b u (t.val + 1) (by omega)))

/-- The spike numbers. -/
theorem res_num (t : Fin 100) (b : Fin 32) (j : Fin 1) :
    (StableHlo.finalContents condOps preI bodyI postI 100 m c (dv main_v10_10) : S100x32x1.Idx → BitVec 32) (ValueIdx.ix3 t b j)
      = IntOp.minsi (BitVec.ofNat 32 ((Finset.univ : Finset (Fin 1024)).filter fun u =>
          netSp (rI m c) (rC m c) (rS m c) (rW m c) (rD m c) (rT m c) b u t.val = 1#1).card) 128#32 := by
  refine (final_10 m c t b j).trans ((rN_at _ b j).trans ?_)
  refine congrArg (fun S : Finset (Fin 1024) => IntOp.minsi (BitVec.ofNat 32 S.card) 128#32) (Finset.filter_congr fun u _ => ?_)
  rw [spk_at m c hid t.isLt b u]

/-- The spike ids, for words that hold the row's spikes. -/
theorem res_ids (t : Fin 100) (b : Fin 32) (j : Fin 128) (wd : ℕ → BitVec 32)
    (hw : ∀ u : Fin 1024, bitB wd u.val = true ↔ netSp (rI m c) (rC m c) (rS m c) (rW m c) (rD m c) (rT m c) b u t.val = 1#1) :
    (StableHlo.finalContents condOps preI bodyI postI 100 m c (dv main_v10_9) : S100x32x128.Idx → BitVec 32) (ValueIdx.ix3 t b j)
      = pick wd 1024 j.val := by
  refine (final_9 m c t b j).trans ?_
  unfold tOid
  rw [at6]
  exact rOid_at _ wd b j fun u => by rw [hw u, spk_at m c hid t.isLt b u]

end Cert.Proof.Ref

end
-- ==== Proof.Algebraic.lean ====
/-
  The kernel and the reference leave equal results over the ideal numbers, and the reference keeps its arguments.
-/
module

public import proofs.«01_k».proof.Proof.Frames
public import proofs.«01_k».proof.Proof.KernVal
public import proofs.«01_k».proof.Proof.RefVal

@[expose] public section

noncomputable section

namespace Cert.Proof

open Idealize.ShloMosaic Idealize.ShloMosaic.TcCoe
open Idealize.SL.Sem

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' arguments agree on a device. -/
structure Agree : Prop where
  ids : Ref.rI m' c = aIds (V00 m c)
  cnt : Ref.rC m' c = aCnt (V00 m c)
  st : Ref.rS m' c = aS (V00 m c)
  w : Ref.rW m' c = aW (V00 m c)
  d : Ref.rD m' c = aD (V00 m c)
  th : Ref.rT m' c = aT (V00 m c)

/-- The reference's results. -/
abbrev rRes (r : Ref Cert.ReferenceIdeal.sig .tc) : (Ref.dv r).ty.Contents (Elt Ideal) :=
  StableHlo.finalContents Cert.ReferenceIdeal.Value.condOps Cert.ReferenceIdeal.Value.preI Cert.ReferenceIdeal.Value.bodyI Cert.ReferenceIdeal.Value.postI 100 m' c (Ref.dv r)

variable (A : Agree m m' c) (hid : ∀ i, (aIds (V00 m c) i).toNat < 1024) (f : Cert.KernelIdeal.S32x128.Idx → BitVec 32)
include A

theorem st_agree (b : Fin 32) (u : Fin 1024) (t : ℕ) :
    netSt (Ref.rI m' c) (Ref.rC m' c) (Ref.rS m' c) (Ref.rW m' c) (Ref.rD m' c) (Ref.rT m' c) b u t = aSt (V00 m c) b u t := by
  rw [A.ids, A.cnt, A.st, A.w, A.d, A.th]

theorem sp_agree (b : Fin 32) (u : Fin 1024) (t : ℕ) :
    netSp (Ref.rI m' c) (Ref.rC m' c) (Ref.rS m' c) (Ref.rW m' c) (Ref.rD m' c) (Ref.rT m' c) b u t = aSp (V00 m c) b u t := by
  rw [A.ids, A.cnt, A.st, A.w, A.d, A.th]

include hid

theorem hid_ref (i : Cert.ReferenceIdeal.S100x32x64.Idx) : (Ref.rI m' c i).toNat < 1024 := by rw [A.ids]; exact hid i

theorem ids_eq : (StableHlo.after opsE (VF (V00 m) c f) (dv Cert.KernelIdeal.main_v17) : Cert.KernelIdeal.S100x32x128.Idx → BitVec 32)
    = rRes m' c Cert.ReferenceIdeal.main_v10_9 := by
  funext i
  obtain ⟨t, b, k, rfl⟩ : ∃ t b k, i = ValueIdx.ix3 t b k := ⟨i 0, i 1, i 2, ValueIdx.eq_ix3 i⟩
  refine (end_ids (V00 m) c f t b k).trans ((ids_net (V00 m) c hid t b k).trans ?_)
  exact (Ref.res_ids m' c (hid_ref m m' c A hid) t b k _ fun u => by
    rw [sp_agree m m' c A]; exact word_net (V00 m c) hid t b u).symm

theorem num_eq (hf : NOK c (V00 m) f) : (StableHlo.after opsE (VF (V00 m) c f) (dv Cert.KernelIdeal.main_v21) : Cert.KernelIdeal.S100x32x1.Idx → BitVec 32)
    = rRes m' c Cert.ReferenceIdeal.main_v10_10 := by
  funext i
  obtain ⟨t, b, j, rfl⟩ : ∃ t b j, i = ValueIdx.ix3 t b j := ⟨i 0, i 1, i 2, ValueIdx.eq_ix3 i⟩
  refine (end_num (V00 m) c f t b j).trans ((num_net (V00 m) c hid f hf t b).trans ?_)
  refine Eq.trans ?_ (Ref.res_num m' c (hid_ref m m' c A hid) t b j).symm
  refine congrArg (fun S : Finset (Fin 1024) => IntOp.minsi (BitVec.ofNat 32 S.card) 128#32) (Finset.filter_congr fun u _ => ?_)
  rw [sp_agree m m' c A]

theorem st_eq : (StableHlo.after opsE (VF (V00 m) c f) (dv Cert.KernelIdeal.main_v11_0) : Cert.KernelIdeal.S100x32x1024.Idx → EReal)
    = rRes m' c Cert.ReferenceIdeal.main_v10_11 := by
  rw [end_states]
  funext i
  obtain ⟨t, b, u, rfl⟩ : ∃ t b u, i = ValueIdx.ix3 t b u := ⟨i 0, i 1, i 2, ValueIdx.eq_ix3 i⟩
  refine (states_net (V00 m c) hid t b u).trans ?_
  exact ((Ref.res_states m' c (hid_ref m m' c A hid) t b u).trans (st_agree m m' c A b u _)).symm

end

/-- The reference keeps its arguments, also where the ids are in range. -/
theorem frame_ref_pre [hPre : Cert.Pre_ids_in_range.Facts] : Cert.quiescent_ReferenceIdeal_pre_ids_in_range (hReferenceIdeal := Cert.ReferenceIdeal.Gen.facts) := fun m g _ =>
  (θ_run _ _ _).mono (fun _ h => ⟨fun c => ⟨h.1 c _ (.inl rfl), h.1 c _ (.inr (.inl rfl)), h.1 c _ (.inr (.inr (.inl rfl))),
      h.1 c _ (.inr (.inr (.inr (.inl rfl)))), h.1 c _ (.inr (.inr (.inr (.inr (.inl rfl))))), h.1 c _ (.inr (.inr (.inr (.inr (.inr rfl)))))⟩, h.2⟩)
    (Ref.run_keep m g)

/-- Equal results from equal arguments. -/
theorem algebraic [hPre : Cert.Pre_ids_in_range.Facts] :
    Cert.algebraic_KernelIdeal_ReferenceIdeal (hKernelIdeal := Cert.KernelIdeal.Gen.facts) (hReferenceIdeal := Cert.ReferenceIdeal.Gen.facts) := fun m g m' g' hp hm => by
  have hid : ∀ (c : Dev Cert.KernelIdeal.nD) i, (aIds (V00 m c) i).toNat < 1024 := fun c i => ids_lt _ _ _ _ _ _ (hp c) i
  have A : ∀ c : Dev Cert.KernelIdeal.nD, Agree m m' c := fun c =>
    ⟨(hm c).1, (hm c).2.1, (hm c).2.2.1, (hm c).2.2.2.1, (hm c).2.2.2.2.1, (hm c).2.2.2.2.2⟩
  refine ⟨fun c => rRes m' c Cert.ReferenceIdeal.main_v10_9, fun c => rRes m' c Cert.ReferenceIdeal.main_v10_10, fun c => rRes m' c Cert.ReferenceIdeal.main_v10_11, ?_, ?_⟩
  · refine (θ_run _ _ _).mono (fun r h c => ?_) (run_main m g fun d i => X7_le (V00 m d) (hid d) i)
    have hk := fun b hb => ends_keep m (h.1 c) (r := b) hb
    obtain ⟨f, hf, he⟩ := h.1 c
    exact ⟨(he _ (mem_uc Cert.KernelIdeal.main_v17 rfl)).trans (ids_eq m m' c (A c) (hid c) f),
      (he _ (mem_uc Cert.KernelIdeal.main_v21 rfl)).trans (num_eq m m' c (A c) (hid c) f hf),
      (he _ (mem_uc Cert.KernelIdeal.main_v11_0 rfl)).trans (st_eq m m' c (A c) (hid c) f),
      hk _ (.inl rfl), hk _ (.inr (.inl rfl)), hk _ (.inr (.inr (.inl rfl))), hk _ (.inr (.inr (.inr (.inl rfl)))),
      hk _ (.inr (.inr (.inr (.inr (.inl rfl))))), hk _ (.inr (.inr (.inr (.inr (.inr rfl)))))⟩
  · refine (θ_run _ _ _).mono (fun r h c => ?_) (Cert.ReferenceIdeal.Value.run_fold m' g')
    have hk : ∀ b, Ref.IsArg b → r.2.mem ((c.tc : Thread Cert.ReferenceIdeal.nD Cert.ReferenceIdeal.τ).loc b) = m' ((c.tc : Thread Cert.ReferenceIdeal.nD Cert.ReferenceIdeal.τ).loc b) :=
      fun b hb => (h c b (by rcases hb with rfl | rfl | rfl | rfl | rfl | rfl <;> rfl)).trans (Ref.final_arg m' c hb)
    exact ⟨h c Cert.ReferenceIdeal.main_v10_9 rfl, h c Cert.ReferenceIdeal.main_v10_10 rfl, h c Cert.ReferenceIdeal.main_v10_11 rfl,
      hk _ (.inl rfl), hk _ (.inr (.inl rfl)), hk _ (.inr (.inr (.inl rfl))), hk _ (.inr (.inr (.inr (.inl rfl)))),
      hk _ (.inr (.inr (.inr (.inr (.inl rfl))))), hk _ (.inr (.inr (.inr (.inr (.inr rfl)))))⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_ids_in_range
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ids_in_range.Gen.facts,
  frame_bits, frame_ideal, frame_ref, frame_ref_pre, trivial, algebraic⟩

end Cert.Proof

end
